-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S1x2048x1024 : Shape := ⟨3, ![1, 2048, 1024]⟩
abbrev S1024x1024 : Shape := ⟨2, ![1024, 1024]⟩
abbrev S1024x64 : Shape := ⟨2, ![1024, 64]⟩
abbrev S_ : Shape := ⟨0, ![]⟩
abbrev S1 : Shape := ⟨1, ![1]⟩
abbrev S2 : Shape := ⟨1, ![2]⟩
abbrev S1x2048x64 : Shape := ⟨3, ![1, 2048, 64]⟩
abbrev S1x2048x2048 : Shape := ⟨3, ![1, 2048, 2048]⟩
abbrev S1x1x1 : Shape := ⟨3, ![1, 1, 1]⟩
abbrev S1x2048x33 : Shape := ⟨3, ![1, 2048, 33]⟩
abbrev S1x2048x32 : Shape := ⟨3, ![1, 2048, 32]⟩
abbrev S1x2048x1 : Shape := ⟨3, ![1, 2048, 1]⟩
abbrev S1x2048x16x128 : Shape := ⟨4, ![1, 2048, 16, 128]⟩
abbrev S1x2048x128 : Shape := ⟨3, ![1, 2048, 128]⟩

class Facts : Prop where
  bcast_S_S1 : S_.BroadcastsInDim S1 (![] : Fin 0 → Fin S1.rank)
  concatenates_S1_S1_S2_d0 : Shape.Concatenates [S1, S1] S2 0
  bcast_S_S1x2048x1024 : S_.BroadcastsInDim S1x2048x1024 (![] : Fin 0 → Fin S1x2048x1024.rank)
  bcast_S_S1024x1024 : S_.BroadcastsInDim S1024x1024 (![] : Fin 0 → Fin S1024x1024.rank)
  slices_S2_S1_0 : S2.Slices ![0] S1
  shapeCasts_S1_S_ : S1.ShapeCasts S_
  slices_S2_S1_1 : S2.Slices ![1] S1
  bcast_S_S1x2048x2048 : S_.BroadcastsInDim S1x2048x2048 (![] : Fin 0 → Fin S1x2048x2048.rank)
  bcast_S_S1x1x1 : S_.BroadcastsInDim S1x1x1 (![] : Fin 0 → Fin S1x1x1.rank)
  natLt_32_64 : 32 < 64
  bcast_S1x1x1_S1x2048x2048_0_1_2 : S1x1x1.BroadcastsInDim S1x2048x2048 (![0, 1, 2] : Fin 3 → Fin S1x2048x2048.rank)
  sliceFits_S1x2048x2048_S1x2048x33 : S1x2048x2048.Slices (fun _ => 0) S1x2048x33
  slices_S1x2048x33_S1x2048x32_0_0_0 : S1x2048x33.Slices ![0, 0, 0] S1x2048x32
  slices_S1x2048x33_S1x2048x32_0_0_1 : S1x2048x33.Slices ![0, 0, 1] S1x2048x32
  slices_S1x2048x33_S1x2048x1_0_0_31 : S1x2048x33.Slices ![0, 0, 31] S1x2048x1
  bcast_S1x2048x1_S1x2048x2048_0_1_2 : S1x2048x1.BroadcastsInDim S1x2048x2048 (![0, 1, 2] : Fin 3 → Fin S1x2048x2048.rank)
  natLt_1_32 : 1 < 32
  shapeCasts_S1x2048x2048_S1x2048x16x128 : S1x2048x2048.ShapeCasts S1x2048x16x128
  reducesTo_S1x2048x16x128_S1x2048x128_d2 : S1x2048x16x128.ReducesTo [2] S1x2048x128
  h_S_ : 0 < S_.numel
  bcast_S_S1x2048x128 : S_.BroadcastsInDim S1x2048x128 (![] : Fin 0 → Fin S1x2048x128.rank)
  dot_S1x2048x1024_S1024x64_S1x2048x64_2_0_01_1_n_n_wf : DotDims.WF S1x2048x1024 S1024x64 S1x2048x64 [2] [0] [0, 1] [1] [] []
  dot_S1x2048x64_S1x2048x64_S1x2048x2048_2_2_1_1_0_0_wf : DotDims.WF S1x2048x64 S1x2048x64 S1x2048x2048 [2] [2] [1] [1] [0] [0]

variable [Facts]

def dot_S1x2048x1024_S1024x64_S1x2048x64_2_0_01_1_n_n : DotDims S1x2048x1024 S1024x64 S1x2048x64 where
  lhsContracting := [2]
  rhsContracting := [0]
  lhsNonContracting := [0, 1]
  rhsNonContracting := [1]
  lhsBatch := []
  rhsBatch := []
  wf := dot_S1x2048x1024_S1024x64_S1x2048x64_2_0_01_1_n_n_wf
def dot_S1x2048x64_S1x2048x64_S1x2048x2048_2_2_1_1_0_0 : DotDims S1x2048x64 S1x2048x64 S1x2048x2048 where
  lhsContracting := [2]
  rhsContracting := [2]
  lhsNonContracting := [1]
  rhsNonContracting := [1]
  lhsBatch := [0]
  rhsBatch := [0]
  wf := dot_S1x2048x64_S1x2048x64_S1x2048x2048_2_2_1_1_0_0_wf
def fn_threefry2x32_part9 {F : FTy → Type} [FloatOps F] (arg0 : IVec S_ 32) (v163 : IVec S1 32) (v169 : IVec S1 32) (v170 : IVec S1 32) : IVec S1 32 × IVec S1 32 :=
  let v171 : IVec S1 32 := addi v163 v170
  let v172 : IVec S1 32 := broadcastInDim S1 ![] bcast_S_S1 arg0
  let v173 : IVec S1 32 := addi v169 v172
  let c_44 : IVec S_ 32 := constantI S_ 32 5#32
  let v174 : IVec S1 32 := broadcastInDim S1 ![] bcast_S_S1 c_44
  let v175 : IVec S1 32 := addi v173 v174
  (v171, v175)

def fn_threefry2x32_part8 {F : FTy → Type} [FloatOps F] (arg0 : IVec S_ 32) (v1 : IVec S_ 32) (v148 : IVec S1 32) (v149 : IVec S1 32) (v151 : IVec S1 32) : IVec S1 32 × IVec S1 32 :=
  let c_39 : IVec S_ 32 := constantI S_ 32 17#32
  let v152 : IVec S1 32 := broadcastInDim S1 ![] bcast_S_S1 c_39
  let v153 : IVec S1 32 := Host.shrui v148 v152
  let v154 : IVec S1 32 := ori v151 v153
  let v155 : IVec S1 32 := xori v149 v154
  let v156 : IVec S1 32 := addi v149 v155
  let c_40 : IVec S_ 32 := constantI S_ 32 26#32
  let v157 : IVec S1 32 := broadcastInDim S1 ![] bcast_S_S1 c_40
  let v158 : IVec S1 32 := Host.shli v155 v157
  let c_41 : IVec S_ 32 := constantI S_ 32 6#32
  let v159 : IVec S1 32 := broadcastInDim S1 ![] bcast_S_S1 c_41
  let v160 : IVec S1 32 := Host.shrui v155 v159
  let v161 : IVec S1 32 := ori v158 v160
  let v162 : IVec S1 32 := xori v156 v161
  let v163 : IVec S1 32 := addi v156 v162
  let c_42 : IVec S_ 32 := constantI S_ 32 6#32
  let v164 : IVec S1 32 := broadcastInDim S1 ![] bcast_S_S1 c_42
  let v165 : IVec S1 32 := Host.shli v162 v164
  let c_43 : IVec S_ 32 := constantI S_ 32 26#32
  let v166 : IVec S1 32 := broadcastInDim S1 ![] bcast_S_S1 c_43
  let v167 : IVec S1 32 := Host.shrui v162 v166
  let v168 : IVec S1 32 := ori v165 v167
  let v169 : IVec S1 32 := xori v163 v168
  let v170 : IVec S1 32 := broadcastInDim S1 ![] bcast_S_S1 v1
  fn_threefry2x32_part9 (F := F) arg0 v163 v169 v170

def fn_threefry2x32_part7 {F : FTy → Type} [FloatOps F] (arg0 : IVec S_ 32) (arg1 : IVec S_ 32) (v1 : IVec S_ 32) (v128 : IVec S1 32) (v129 : IVec S1 32) (v131 : IVec S1 32) (c_34 : IVec S_ 32) : IVec S1 32 × IVec S1 32 :=
  let v132 : IVec S1 32 := broadcastInDim S1 ![] bcast_S_S1 c_34
  let v133 : IVec S1 32 := Host.shrui v128 v132
  let v134 : IVec S1 32 := ori v131 v133
  let v135 : IVec S1 32 := xori v129 v134
  let v136 : IVec S1 32 := broadcastInDim S1 ![] bcast_S_S1 arg1
  let v137 : IVec S1 32 := addi v129 v136
  let v138 : IVec S1 32 := broadcastInDim S1 ![] bcast_S_S1 v1
  let v139 : IVec S1 32 := addi v135 v138
  let c_35 : IVec S_ 32 := constantI S_ 32 4#32
  let v140 : IVec S1 32 := broadcastInDim S1 ![] bcast_S_S1 c_35
  let v141 : IVec S1 32 := addi v139 v140
  let v142 : IVec S1 32 := addi v137 v141
  let c_36 : IVec S_ 32 := constantI S_ 32 13#32
  let v143 : IVec S1 32 := broadcastInDim S1 ![] bcast_S_S1 c_36
  let v144 : IVec S1 32 := Host.shli v141 v143
  let c_37 : IVec S_ 32 := constantI S_ 32 19#32
  let v145 : IVec S1 32 := broadcastInDim S1 ![] bcast_S_S1 c_37
  let v146 : IVec S1 32 := Host.shrui v141 v145
  let v147 : IVec S1 32 := ori v144 v146
  let v148 : IVec S1 32 := xori v142 v147
  let v149 : IVec S1 32 := addi v142 v148
  let c_38 : IVec S_ 32 := constantI S_ 32 15#32
  let v150 : IVec S1 32 := broadcastInDim S1 ![] bcast_S_S1 c_38
  let v151 : IVec S1 32 := Host.shli v148 v150
  fn_threefry2x32_part8 (F := F) arg0 v1 v148 v149 v151

def fn_threefry2x32_part6 {F : FTy → Type} [FloatOps F] (arg0 : IVec S_ 32) (arg1 : IVec S_ 32) (v1 : IVec S_ 32) (v108 : IVec S1 32) (v113 : IVec S1 32) : IVec S1 32 × IVec S1 32 :=
  let v114 : IVec S1 32 := xori v108 v113
  let v115 : IVec S1 32 := addi v108 v114
  let c_29 : IVec S_ 32 := constantI S_ 32 29#32
  let v116 : IVec S1 32 := broadcastInDim S1 ![] bcast_S_S1 c_29
  let v117 : IVec S1 32 := Host.shli v114 v116
  let c_30 : IVec S_ 32 := constantI S_ 32 3#32
  let v118 : IVec S1 32 := broadcastInDim S1 ![] bcast_S_S1 c_30
  let v119 : IVec S1 32 := Host.shrui v114 v118
  let v120 : IVec S1 32 := ori v117 v119
  let v121 : IVec S1 32 := xori v115 v120
  let v122 : IVec S1 32 := addi v115 v121
  let c_31 : IVec S_ 32 := constantI S_ 32 16#32
  let v123 : IVec S1 32 := broadcastInDim S1 ![] bcast_S_S1 c_31
  let v124 : IVec S1 32 := Host.shli v121 v123
  let c_32 : IVec S_ 32 := constantI S_ 32 16#32
  let v125 : IVec S1 32 := broadcastInDim S1 ![] bcast_S_S1 c_32
  let v126 : IVec S1 32 := Host.shrui v121 v125
  let v127 : IVec S1 32 := ori v124 v126
  let v128 : IVec S1 32 := xori v122 v127
  let v129 : IVec S1 32 := addi v122 v128
  let c_33 : IVec S_ 32 := constantI S_ 32 24#32
  let v130 : IVec S1 32 := broadcastInDim S1 ![] bcast_S_S1 c_33
  let v131 : IVec S1 32 := Host.shli v128 v130
  let c_34 : IVec S_ 32 := constantI S_ 32 8#32
  fn_threefry2x32_part7 (F := F) arg0 arg1 v1 v128 v129 v131 c_34

def fn_threefry2x32_part5 {F : FTy → Type} [FloatOps F] (arg0 : IVec S_ 32) (arg1 : IVec S_ 32) (v1 : IVec S_ 32) (v88 : IVec S1 32) (v94 : IVec S1 32) : IVec S1 32 × IVec S1 32 :=
  let v95 : IVec S1 32 := addi v88 v94
  let c_24 : IVec S_ 32 := constantI S_ 32 6#32
  let v96 : IVec S1 32 := broadcastInDim S1 ![] bcast_S_S1 c_24
  let v97 : IVec S1 32 := Host.shli v94 v96
  let c_25 : IVec S_ 32 := constantI S_ 32 26#32
  let v98 : IVec S1 32 := broadcastInDim S1 ![] bcast_S_S1 c_25
  let v99 : IVec S1 32 := Host.shrui v94 v98
  let v100 : IVec S1 32 := ori v97 v99
  let v101 : IVec S1 32 := xori v95 v100
  let v102 : IVec S1 32 := broadcastInDim S1 ![] bcast_S_S1 arg0
  let v103 : IVec S1 32 := addi v95 v102
  let v104 : IVec S1 32 := broadcastInDim S1 ![] bcast_S_S1 arg1
  let v105 : IVec S1 32 := addi v101 v104
  let c_26 : IVec S_ 32 := constantI S_ 32 3#32
  let v106 : IVec S1 32 := broadcastInDim S1 ![] bcast_S_S1 c_26
  let v107 : IVec S1 32 := addi v105 v106
  let v108 : IVec S1 32 := addi v103 v107
  let c_27 : IVec S_ 32 := constantI S_ 32 17#32
  let v109 : IVec S1 32 := broadcastInDim S1 ![] bcast_S_S1 c_27
  let v110 : IVec S1 32 := Host.shli v107 v109
  let c_28 : IVec S_ 32 := constantI S_ 32 15#32
  let v111 : IVec S1 32 := broadcastInDim S1 ![] bcast_S_S1 c_28
  let v112 : IVec S1 32 := Host.shrui v107 v111
  let v113 : IVec S1 32 := ori v110 v112
  fn_threefry2x32_part6 (F := F) arg0 arg1 v1 v108 v113

def fn_threefry2x32_part4 {F : FTy → Type} [FloatOps F] (arg0 : IVec S_ 32) (arg1 : IVec S_ 32) (v1 : IVec S_ 32) (v73 : IVec S1 32) (v74 : IVec S1 32) (v75 : IVec S1 32) : IVec S1 32 × IVec S1 32 :=
  let v76 : IVec S1 32 := Host.shli v73 v75
  let c_19 : IVec S_ 32 := constantI S_ 32 19#32
  let v77 : IVec S1 32 := broadcastInDim S1 ![] bcast_S_S1 c_19
  let v78 : IVec S1 32 := Host.shrui v73 v77
  let v79 : IVec S1 32 := ori v76 v78
  let v80 : IVec S1 32 := xori v74 v79
  let v81 : IVec S1 32 := addi v74 v80
  let c_20 : IVec S_ 32 := constantI S_ 32 15#32
  let v82 : IVec S1 32 := broadcastInDim S1 ![] bcast_S_S1 c_20
  let v83 : IVec S1 32 := Host.shli v80 v82
  let c_21 : IVec S_ 32 := constantI S_ 32 17#32
  let v84 : IVec S1 32 := broadcastInDim S1 ![] bcast_S_S1 c_21
  let v85 : IVec S1 32 := Host.shrui v80 v84
  let v86 : IVec S1 32 := ori v83 v85
  let v87 : IVec S1 32 := xori v81 v86
  let v88 : IVec S1 32 := addi v81 v87
  let c_22 : IVec S_ 32 := constantI S_ 32 26#32
  let v89 : IVec S1 32 := broadcastInDim S1 ![] bcast_S_S1 c_22
  let v90 : IVec S1 32 := Host.shli v87 v89
  let c_23 : IVec S_ 32 := constantI S_ 32 6#32
  let v91 : IVec S1 32 := broadcastInDim S1 ![] bcast_S_S1 c_23
  let v92 : IVec S1 32 := Host.shrui v87 v91
  let v93 : IVec S1 32 := ori v90 v92
  let v94 : IVec S1 32 := xori v88 v93
  fn_threefry2x32_part5 (F := F) arg0 arg1 v1 v88 v94

def fn_threefry2x32_part3 {F : FTy → Type} [FloatOps F] (arg0 : IVec S_ 32) (arg1 : IVec S_ 32) (v1 : IVec S_ 32) (v53 : IVec S1 32) (v54 : IVec S1 32) (v56 : IVec S1 32) : IVec S1 32 × IVec S1 32 :=
  let c_14 : IVec S_ 32 := constantI S_ 32 16#32
  let v57 : IVec S1 32 := broadcastInDim S1 ![] bcast_S_S1 c_14
  let v58 : IVec S1 32 := Host.shrui v53 v57
  let v59 : IVec S1 32 := ori v56 v58
  let v60 : IVec S1 32 := xori v54 v59
  let v61 : IVec S1 32 := addi v54 v60
  let c_15 : IVec S_ 32 := constantI S_ 32 24#32
  let v62 : IVec S1 32 := broadcastInDim S1 ![] bcast_S_S1 c_15
  let v63 : IVec S1 32 := Host.shli v60 v62
  let c_16 : IVec S_ 32 := constantI S_ 32 8#32
  let v64 : IVec S1 32 := broadcastInDim S1 ![] bcast_S_S1 c_16
  let v65 : IVec S1 32 := Host.shrui v60 v64
  let v66 : IVec S1 32 := ori v63 v65
  let v67 : IVec S1 32 := xori v61 v66
  let v68 : IVec S1 32 := broadcastInDim S1 ![] bcast_S_S1 v1
  let v69 : IVec S1 32 := addi v61 v68
  let v70 : IVec S1 32 := broadcastInDim S1 ![] bcast_S_S1 arg0
  let v71 : IVec S1 32 := addi v67 v70
  let c_17 : IVec S_ 32 := constantI S_ 32 2#32
  let v72 : IVec S1 32 := broadcastInDim S1 ![] bcast_S_S1 c_17
  let v73 : IVec S1 32 := addi v71 v72
  let v74 : IVec S1 32 := addi v69 v73
  let c_18 : IVec S_ 32 := constantI S_ 32 13#32
  let v75 : IVec S1 32 := broadcastInDim S1 ![] bcast_S_S1 c_18
  fn_threefry2x32_part4 (F := F) arg0 arg1 v1 v73 v74 v75

def fn_threefry2x32_part2 {F : FTy → Type} [FloatOps F] (arg0 : IVec S_ 32) (arg1 : IVec S_ 32) (v1 : IVec S_ 32) (v35 : IVec S1 32) (v37 : IVec S1 32) (c_8 : IVec S_ 32) : IVec S1 32 × IVec S1 32 :=
  let v38 : IVec S1 32 := broadcastInDim S1 ![] bcast_S_S1 c_8
  let v39 : IVec S1 32 := addi v37 v38
  let v40 : IVec S1 32 := addi v35 v39
  let c_9 : IVec S_ 32 := constantI S_ 32 17#32
  let v41 : IVec S1 32 := broadcastInDim S1 ![] bcast_S_S1 c_9
  let v42 : IVec S1 32 := Host.shli v39 v41
  let c_10 : IVec S_ 32 := constantI S_ 32 15#32
  let v43 : IVec S1 32 := broadcastInDim S1 ![] bcast_S_S1 c_10
  let v44 : IVec S1 32 := Host.shrui v39 v43
  let v45 : IVec S1 32 := ori v42 v44
  let v46 : IVec S1 32 := xori v40 v45
  let v47 : IVec S1 32 := addi v40 v46
  let c_11 : IVec S_ 32 := constantI S_ 32 29#32
  let v48 : IVec S1 32 := broadcastInDim S1 ![] bcast_S_S1 c_11
  let v49 : IVec S1 32 := Host.shli v46 v48
  let c_12 : IVec S_ 32 := constantI S_ 32 3#32
  let v50 : IVec S1 32 := broadcastInDim S1 ![] bcast_S_S1 c_12
  let v51 : IVec S1 32 := Host.shrui v46 v50
  let v52 : IVec S1 32 := ori v49 v51
  let v53 : IVec S1 32 := xori v47 v52
  let v54 : IVec S1 32 := addi v47 v53
  let c_13 : IVec S_ 32 := constantI S_ 32 16#32
  let v55 : IVec S1 32 := broadcastInDim S1 ![] bcast_S_S1 c_13
  let v56 : IVec S1 32 := Host.shli v53 v55
  fn_threefry2x32_part3 (F := F) arg0 arg1 v1 v53 v54 v56

def fn_threefry2x32_part1 {F : FTy → Type} [FloatOps F] (arg0 : IVec S_ 32) (arg1 : IVec S_ 32) (v1 : IVec S_ 32) (v13 : IVec S1 32) (v18 : IVec S1 32) : IVec S1 32 × IVec S1 32 :=
  let v19 : IVec S1 32 := xori v13 v18
  let v20 : IVec S1 32 := addi v13 v19
  let c_4 : IVec S_ 32 := constantI S_ 32 26#32
  let v21 : IVec S1 32 := broadcastInDim S1 ![] bcast_S_S1 c_4
  let v22 : IVec S1 32 := Host.shli v19 v21
  let c_5 : IVec S_ 32 := constantI S_ 32 6#32
  let v23 : IVec S1 32 := broadcastInDim S1 ![] bcast_S_S1 c_5
  let v24 : IVec S1 32 := Host.shrui v19 v23
  let v25 : IVec S1 32 := ori v22 v24
  let v26 : IVec S1 32 := xori v20 v25
  let v27 : IVec S1 32 := addi v20 v26
  let c_6 : IVec S_ 32 := constantI S_ 32 6#32
  let v28 : IVec S1 32 := broadcastInDim S1 ![] bcast_S_S1 c_6
  let v29 : IVec S1 32 := Host.shli v26 v28
  let c_7 : IVec S_ 32 := constantI S_ 32 26#32
  let v30 : IVec S1 32 := broadcastInDim S1 ![] bcast_S_S1 c_7
  let v31 : IVec S1 32 := Host.shrui v26 v30
  let v32 : IVec S1 32 := ori v29 v31
  let v33 : IVec S1 32 := xori v27 v32
  let v34 : IVec S1 32 := broadcastInDim S1 ![] bcast_S_S1 arg1
  let v35 : IVec S1 32 := addi v27 v34
  let v36 : IVec S1 32 := broadcastInDim S1 ![] bcast_S_S1 v1
  let v37 : IVec S1 32 := addi v33 v36
  let c_8 : IVec S_ 32 := constantI S_ 32 1#32
  fn_threefry2x32_part2 (F := F) arg0 arg1 v1 v35 v37 c_8

def fn_threefry2x32 {F : FTy → Type} [FloatOps F] (arg0 : IVec S_ 32) (arg1 : IVec S_ 32) (arg2 : IVec S1 32) (arg3 : IVec S1 32) : IVec S1 32 × IVec S1 32 :=
  let v0 : IVec S_ 32 := xori arg0 arg1
  let c : IVec S_ 32 := constantI S_ 32 466688986#32
  let v1 : IVec S_ 32 := xori v0 c
  let v2 : IVec S1 32 := broadcastInDim S1 ![] bcast_S_S1 arg0
  let v3 : IVec S1 32 := addi arg2 v2
  let v4 : IVec S1 32 := broadcastInDim S1 ![] bcast_S_S1 arg1
  let v5 : IVec S1 32 := addi arg3 v4
  let v6 : IVec S1 32 := addi v3 v5
  let c_0 : IVec S_ 32 := constantI S_ 32 13#32
  let v7 : IVec S1 32 := broadcastInDim S1 ![] bcast_S_S1 c_0
  let v8 : IVec S1 32 := Host.shli v5 v7
  let c_1 : IVec S_ 32 := constantI S_ 32 19#32
  let v9 : IVec S1 32 := broadcastInDim S1 ![] bcast_S_S1 c_1
  let v10 : IVec S1 32 := Host.shrui v5 v9
  let v11 : IVec S1 32 := ori v8 v10
  let v12 : IVec S1 32 := xori v6 v11
  let v13 : IVec S1 32 := addi v6 v12
  let c_2 : IVec S_ 32 := constantI S_ 32 15#32
  let v14 : IVec S1 32 := broadcastInDim S1 ![] bcast_S_S1 c_2
  let v15 : IVec S1 32 := Host.shli v12 v14
  let c_3 : IVec S_ 32 := constantI S_ 32 17#32
  let v16 : IVec S1 32 := broadcastInDim S1 ![] bcast_S_S1 c_3
  let v17 : IVec S1 32 := Host.shrui v12 v16
  let v18 : IVec S1 32 := ori v15 v17
  fn_threefry2x32_part1 (F := F) arg0 arg1 v1 v13 v18

def fn_threefry_fold_in {F : FTy → Type} [FloatOps F] (arg0 : IVec S2 32) (arg1 : IVec S_ 32) : IVec S2 32 :=
  let c : IVec S_ 32 := constantI S_ 32 32#32
  let v0 : IVec S_ 32 := Host.shrui arg1 c
  let v1 : IVec S1 32 := broadcastInDim S1 ![] bcast_S_S1 v0
  let c_0 : IVec S_ 32 := constantI S_ 32 4294967295#32
  let v2 : IVec S_ 32 := andi arg1 c_0
  let v3 : IVec S1 32 := broadcastInDim S1 ![] bcast_S_S1 v2
  let v4 : IVec S2 32 := (fun a b => concatenate S2 0 [⟨S1, a⟩, ⟨S1, b⟩] concatenates_S1_S1_S2_d0) v1 v3
  let v5 : IVec S1 32 := (extractStridedSlice S1 ![0] · slices_S2_S1_0) arg0
  let v6 : IVec S_ 32 := shapeCast S_ v5 shapeCasts_S1_S_
  let v7 : IVec S1 32 := (extractStridedSlice S1 ![1] · slices_S2_S1_1) arg0
  let v8 : IVec S_ 32 := shapeCast S_ v7 shapeCasts_S1_S_
  let v9 : IVec S1 32 := (extractStridedSlice S1 ![0] · slices_S2_S1_0) v4
  let v10 : IVec S1 32 := (extractStridedSlice S1 ![1] · slices_S2_S1_1) v4
  let v11_0 : IVec S1 32 := (fn_threefry2x32 (F := F) v6 v8 v9 v10).1
  let v11_1 : IVec S1 32 := (fn_threefry2x32 (F := F) v6 v8 v9 v10).2
  let v12 : IVec S2 32 := (fun a b => concatenate S2 0 [⟨S1, a⟩, ⟨S1, b⟩] concatenates_S1_S1_S2_d0) v11_0 v11_1
  v12

def fn_threefry2x32_0_part9 {F : FTy → Type} [FloatOps F] (arg0 : IVec S_ 32) (v163 : IVec S1x2048x2048 32) (v169 : IVec S1x2048x2048 32) (v170 : IVec S1x2048x2048 32) : IVec S1x2048x2048 32 × IVec S1x2048x2048 32 :=
  let v171 : IVec S1x2048x2048 32 := addi v163 v170
  let v172 : IVec S1x2048x2048 32 := broadcastInDim S1x2048x2048 ![] bcast_S_S1x2048x2048 arg0
  let v173 : IVec S1x2048x2048 32 := addi v169 v172
  let c_44 : IVec S_ 32 := constantI S_ 32 5#32
  let v174 : IVec S1x2048x2048 32 := broadcastInDim S1x2048x2048 ![] bcast_S_S1x2048x2048 c_44
  let v175 : IVec S1x2048x2048 32 := addi v173 v174
  (v171, v175)

def fn_threefry2x32_0_part8 {F : FTy → Type} [FloatOps F] (arg0 : IVec S_ 32) (v1 : IVec S_ 32) (v148 : IVec S1x2048x2048 32) (v149 : IVec S1x2048x2048 32) (v151 : IVec S1x2048x2048 32) : IVec S1x2048x2048 32 × IVec S1x2048x2048 32 :=
  let c_39 : IVec S_ 32 := constantI S_ 32 17#32
  let v152 : IVec S1x2048x2048 32 := broadcastInDim S1x2048x2048 ![] bcast_S_S1x2048x2048 c_39
  let v153 : IVec S1x2048x2048 32 := Host.shrui v148 v152
  let v154 : IVec S1x2048x2048 32 := ori v151 v153
  let v155 : IVec S1x2048x2048 32 := xori v149 v154
  let v156 : IVec S1x2048x2048 32 := addi v149 v155
  let c_40 : IVec S_ 32 := constantI S_ 32 26#32
  let v157 : IVec S1x2048x2048 32 := broadcastInDim S1x2048x2048 ![] bcast_S_S1x2048x2048 c_40
  let v158 : IVec S1x2048x2048 32 := Host.shli v155 v157
  let c_41 : IVec S_ 32 := constantI S_ 32 6#32
  let v159 : IVec S1x2048x2048 32 := broadcastInDim S1x2048x2048 ![] bcast_S_S1x2048x2048 c_41
  let v160 : IVec S1x2048x2048 32 := Host.shrui v155 v159
  let v161 : IVec S1x2048x2048 32 := ori v158 v160
  let v162 : IVec S1x2048x2048 32 := xori v156 v161
  let v163 : IVec S1x2048x2048 32 := addi v156 v162
  let c_42 : IVec S_ 32 := constantI S_ 32 6#32
  let v164 : IVec S1x2048x2048 32 := broadcastInDim S1x2048x2048 ![] bcast_S_S1x2048x2048 c_42
  let v165 : IVec S1x2048x2048 32 := Host.shli v162 v164
  let c_43 : IVec S_ 32 := constantI S_ 32 26#32
  let v166 : IVec S1x2048x2048 32 := broadcastInDim S1x2048x2048 ![] bcast_S_S1x2048x2048 c_43
  let v167 : IVec S1x2048x2048 32 := Host.shrui v162 v166
  let v168 : IVec S1x2048x2048 32 := ori v165 v167
  let v169 : IVec S1x2048x2048 32 := xori v163 v168
  let v170 : IVec S1x2048x2048 32 := broadcastInDim S1x2048x2048 ![] bcast_S_S1x2048x2048 v1
  fn_threefry2x32_0_part9 (F := F) arg0 v163 v169 v170

def fn_threefry2x32_0_part7 {F : FTy → Type} [FloatOps F] (arg0 : IVec S_ 32) (arg1 : IVec S_ 32) (v1 : IVec S_ 32) (v128 : IVec S1x2048x2048 32) (v129 : IVec S1x2048x2048 32) (v131 : IVec S1x2048x2048 32) (c_34 : IVec S_ 32) : IVec S1x2048x2048 32 × IVec S1x2048x2048 32 :=
  let v132 : IVec S1x2048x2048 32 := broadcastInDim S1x2048x2048 ![] bcast_S_S1x2048x2048 c_34
  let v133 : IVec S1x2048x2048 32 := Host.shrui v128 v132
  let v134 : IVec S1x2048x2048 32 := ori v131 v133
  let v135 : IVec S1x2048x2048 32 := xori v129 v134
  let v136 : IVec S1x2048x2048 32 := broadcastInDim S1x2048x2048 ![] bcast_S_S1x2048x2048 arg1
  let v137 : IVec S1x2048x2048 32 := addi v129 v136
  let v138 : IVec S1x2048x2048 32 := broadcastInDim S1x2048x2048 ![] bcast_S_S1x2048x2048 v1
  let v139 : IVec S1x2048x2048 32 := addi v135 v138
  let c_35 : IVec S_ 32 := constantI S_ 32 4#32
  let v140 : IVec S1x2048x2048 32 := broadcastInDim S1x2048x2048 ![] bcast_S_S1x2048x2048 c_35
  let v141 : IVec S1x2048x2048 32 := addi v139 v140
  let v142 : IVec S1x2048x2048 32 := addi v137 v141
  let c_36 : IVec S_ 32 := constantI S_ 32 13#32
  let v143 : IVec S1x2048x2048 32 := broadcastInDim S1x2048x2048 ![] bcast_S_S1x2048x2048 c_36
  let v144 : IVec S1x2048x2048 32 := Host.shli v141 v143
  let c_37 : IVec S_ 32 := constantI S_ 32 19#32
  let v145 : IVec S1x2048x2048 32 := broadcastInDim S1x2048x2048 ![] bcast_S_S1x2048x2048 c_37
  let v146 : IVec S1x2048x2048 32 := Host.shrui v141 v145
  let v147 : IVec S1x2048x2048 32 := ori v144 v146
  let v148 : IVec S1x2048x2048 32 := xori v142 v147
  let v149 : IVec S1x2048x2048 32 := addi v142 v148
  let c_38 : IVec S_ 32 := constantI S_ 32 15#32
  let v150 : IVec S1x2048x2048 32 := broadcastInDim S1x2048x2048 ![] bcast_S_S1x2048x2048 c_38
  let v151 : IVec S1x2048x2048 32 := Host.shli v148 v150
  fn_threefry2x32_0_part8 (F := F) arg0 v1 v148 v149 v151

def fn_threefry2x32_0_part6 {F : FTy → Type} [FloatOps F] (arg0 : IVec S_ 32) (arg1 : IVec S_ 32) (v1 : IVec S_ 32) (v108 : IVec S1x2048x2048 32) (v113 : IVec S1x2048x2048 32) : IVec S1x2048x2048 32 × IVec S1x2048x2048 32 :=
  let v114 : IVec S1x2048x2048 32 := xori v108 v113
  let v115 : IVec S1x2048x2048 32 := addi v108 v114
  let c_29 : IVec S_ 32 := constantI S_ 32 29#32
  let v116 : IVec S1x2048x2048 32 := broadcastInDim S1x2048x2048 ![] bcast_S_S1x2048x2048 c_29
  let v117 : IVec S1x2048x2048 32 := Host.shli v114 v116
  let c_30 : IVec S_ 32 := constantI S_ 32 3#32
  let v118 : IVec S1x2048x2048 32 := broadcastInDim S1x2048x2048 ![] bcast_S_S1x2048x2048 c_30
  let v119 : IVec S1x2048x2048 32 := Host.shrui v114 v118
  let v120 : IVec S1x2048x2048 32 := ori v117 v119
  let v121 : IVec S1x2048x2048 32 := xori v115 v120
  let v122 : IVec S1x2048x2048 32 := addi v115 v121
  let c_31 : IVec S_ 32 := constantI S_ 32 16#32
  let v123 : IVec S1x2048x2048 32 := broadcastInDim S1x2048x2048 ![] bcast_S_S1x2048x2048 c_31
  let v124 : IVec S1x2048x2048 32 := Host.shli v121 v123
  let c_32 : IVec S_ 32 := constantI S_ 32 16#32
  let v125 : IVec S1x2048x2048 32 := broadcastInDim S1x2048x2048 ![] bcast_S_S1x2048x2048 c_32
  let v126 : IVec S1x2048x2048 32 := Host.shrui v121 v125
  let v127 : IVec S1x2048x2048 32 := ori v124 v126
  let v128 : IVec S1x2048x2048 32 := xori v122 v127
  let v129 : IVec S1x2048x2048 32 := addi v122 v128
  let c_33 : IVec S_ 32 := constantI S_ 32 24#32
  let v130 : IVec S1x2048x2048 32 := broadcastInDim S1x2048x2048 ![] bcast_S_S1x2048x2048 c_33
  let v131 : IVec S1x2048x2048 32 := Host.shli v128 v130
  let c_34 : IVec S_ 32 := constantI S_ 32 8#32
  fn_threefry2x32_0_part7 (F := F) arg0 arg1 v1 v128 v129 v131 c_34

def fn_threefry2x32_0_part5 {F : FTy → Type} [FloatOps F] (arg0 : IVec S_ 32) (arg1 : IVec S_ 32) (v1 : IVec S_ 32) (v88 : IVec S1x2048x2048 32) (v94 : IVec S1x2048x2048 32) : IVec S1x2048x2048 32 × IVec S1x2048x2048 32 :=
  let v95 : IVec S1x2048x2048 32 := addi v88 v94
  let c_24 : IVec S_ 32 := constantI S_ 32 6#32
  let v96 : IVec S1x2048x2048 32 := broadcastInDim S1x2048x2048 ![] bcast_S_S1x2048x2048 c_24
  let v97 : IVec S1x2048x2048 32 := Host.shli v94 v96
  let c_25 : IVec S_ 32 := constantI S_ 32 26#32
  let v98 : IVec S1x2048x2048 32 := broadcastInDim S1x2048x2048 ![] bcast_S_S1x2048x2048 c_25
  let v99 : IVec S1x2048x2048 32 := Host.shrui v94 v98
  let v100 : IVec S1x2048x2048 32 := ori v97 v99
  let v101 : IVec S1x2048x2048 32 := xori v95 v100
  let v102 : IVec S1x2048x2048 32 := broadcastInDim S1x2048x2048 ![] bcast_S_S1x2048x2048 arg0
  let v103 : IVec S1x2048x2048 32 := addi v95 v102
  let v104 : IVec S1x2048x2048 32 := broadcastInDim S1x2048x2048 ![] bcast_S_S1x2048x2048 arg1
  let v105 : IVec S1x2048x2048 32 := addi v101 v104
  let c_26 : IVec S_ 32 := constantI S_ 32 3#32
  let v106 : IVec S1x2048x2048 32 := broadcastInDim S1x2048x2048 ![] bcast_S_S1x2048x2048 c_26
  let v107 : IVec S1x2048x2048 32 := addi v105 v106
  let v108 : IVec S1x2048x2048 32 := addi v103 v107
  let c_27 : IVec S_ 32 := constantI S_ 32 17#32
  let v109 : IVec S1x2048x2048 32 := broadcastInDim S1x2048x2048 ![] bcast_S_S1x2048x2048 c_27
  let v110 : IVec S1x2048x2048 32 := Host.shli v107 v109
  let c_28 : IVec S_ 32 := constantI S_ 32 15#32
  let v111 : IVec S1x2048x2048 32 := broadcastInDim S1x2048x2048 ![] bcast_S_S1x2048x2048 c_28
  let v112 : IVec S1x2048x2048 32 := Host.shrui v107 v111
  let v113 : IVec S1x2048x2048 32 := ori v110 v112
  fn_threefry2x32_0_part6 (F := F) arg0 arg1 v1 v108 v113

def fn_threefry2x32_0_part4 {F : FTy → Type} [FloatOps F] (arg0 : IVec S_ 32) (arg1 : IVec S_ 32) (v1 : IVec S_ 32) (v73 : IVec S1x2048x2048 32) (v74 : IVec S1x2048x2048 32) (v75 : IVec S1x2048x2048 32) : IVec S1x2048x2048 32 × IVec S1x2048x2048 32 :=
  let v76 : IVec S1x2048x2048 32 := Host.shli v73 v75
  let c_19 : IVec S_ 32 := constantI S_ 32 19#32
  let v77 : IVec S1x2048x2048 32 := broadcastInDim S1x2048x2048 ![] bcast_S_S1x2048x2048 c_19
  let v78 : IVec S1x2048x2048 32 := Host.shrui v73 v77
  let v79 : IVec S1x2048x2048 32 := ori v76 v78
  let v80 : IVec S1x2048x2048 32 := xori v74 v79
  let v81 : IVec S1x2048x2048 32 := addi v74 v80
  let c_20 : IVec S_ 32 := constantI S_ 32 15#32
  let v82 : IVec S1x2048x2048 32 := broadcastInDim S1x2048x2048 ![] bcast_S_S1x2048x2048 c_20
  let v83 : IVec S1x2048x2048 32 := Host.shli v80 v82
  let c_21 : IVec S_ 32 := constantI S_ 32 17#32
  let v84 : IVec S1x2048x2048 32 := broadcastInDim S1x2048x2048 ![] bcast_S_S1x2048x2048 c_21
  let v85 : IVec S1x2048x2048 32 := Host.shrui v80 v84
  let v86 : IVec S1x2048x2048 32 := ori v83 v85
  let v87 : IVec S1x2048x2048 32 := xori v81 v86
  let v88 : IVec S1x2048x2048 32 := addi v81 v87
  let c_22 : IVec S_ 32 := constantI S_ 32 26#32
  let v89 : IVec S1x2048x2048 32 := broadcastInDim S1x2048x2048 ![] bcast_S_S1x2048x2048 c_22
  let v90 : IVec S1x2048x2048 32 := Host.shli v87 v89
  let c_23 : IVec S_ 32 := constantI S_ 32 6#32
  let v91 : IVec S1x2048x2048 32 := broadcastInDim S1x2048x2048 ![] bcast_S_S1x2048x2048 c_23
  let v92 : IVec S1x2048x2048 32 := Host.shrui v87 v91
  let v93 : IVec S1x2048x2048 32 := ori v90 v92
  let v94 : IVec S1x2048x2048 32 := xori v88 v93
  fn_threefry2x32_0_part5 (F := F) arg0 arg1 v1 v88 v94

def fn_threefry2x32_0_part3 {F : FTy → Type} [FloatOps F] (arg0 : IVec S_ 32) (arg1 : IVec S_ 32) (v1 : IVec S_ 32) (v53 : IVec S1x2048x2048 32) (v54 : IVec S1x2048x2048 32) (v56 : IVec S1x2048x2048 32) : IVec S1x2048x2048 32 × IVec S1x2048x2048 32 :=
  let c_14 : IVec S_ 32 := constantI S_ 32 16#32
  let v57 : IVec S1x2048x2048 32 := broadcastInDim S1x2048x2048 ![] bcast_S_S1x2048x2048 c_14
  let v58 : IVec S1x2048x2048 32 := Host.shrui v53 v57
  let v59 : IVec S1x2048x2048 32 := ori v56 v58
  let v60 : IVec S1x2048x2048 32 := xori v54 v59
  let v61 : IVec S1x2048x2048 32 := addi v54 v60
  let c_15 : IVec S_ 32 := constantI S_ 32 24#32
  let v62 : IVec S1x2048x2048 32 := broadcastInDim S1x2048x2048 ![] bcast_S_S1x2048x2048 c_15
  let v63 : IVec S1x2048x2048 32 := Host.shli v60 v62
  let c_16 : IVec S_ 32 := constantI S_ 32 8#32
  let v64 : IVec S1x2048x2048 32 := broadcastInDim S1x2048x2048 ![] bcast_S_S1x2048x2048 c_16
  let v65 : IVec S1x2048x2048 32 := Host.shrui v60 v64
  let v66 : IVec S1x2048x2048 32 := ori v63 v65
  let v67 : IVec S1x2048x2048 32 := xori v61 v66
  let v68 : IVec S1x2048x2048 32 := broadcastInDim S1x2048x2048 ![] bcast_S_S1x2048x2048 v1
  let v69 : IVec S1x2048x2048 32 := addi v61 v68
  let v70 : IVec S1x2048x2048 32 := broadcastInDim S1x2048x2048 ![] bcast_S_S1x2048x2048 arg0
  let v71 : IVec S1x2048x2048 32 := addi v67 v70
  let c_17 : IVec S_ 32 := constantI S_ 32 2#32
  let v72 : IVec S1x2048x2048 32 := broadcastInDim S1x2048x2048 ![] bcast_S_S1x2048x2048 c_17
  let v73 : IVec S1x2048x2048 32 := addi v71 v72
  let v74 : IVec S1x2048x2048 32 := addi v69 v73
  let c_18 : IVec S_ 32 := constantI S_ 32 13#32
  let v75 : IVec S1x2048x2048 32 := broadcastInDim S1x2048x2048 ![] bcast_S_S1x2048x2048 c_18
  fn_threefry2x32_0_part4 (F := F) arg0 arg1 v1 v73 v74 v75

def fn_threefry2x32_0_part2 {F : FTy → Type} [FloatOps F] (arg0 : IVec S_ 32) (arg1 : IVec S_ 32) (v1 : IVec S_ 32) (v35 : IVec S1x2048x2048 32) (v37 : IVec S1x2048x2048 32) (c_8 : IVec S_ 32) : IVec S1x2048x2048 32 × IVec S1x2048x2048 32 :=
  let v38 : IVec S1x2048x2048 32 := broadcastInDim S1x2048x2048 ![] bcast_S_S1x2048x2048 c_8
  let v39 : IVec S1x2048x2048 32 := addi v37 v38
  let v40 : IVec S1x2048x2048 32 := addi v35 v39
  let c_9 : IVec S_ 32 := constantI S_ 32 17#32
  let v41 : IVec S1x2048x2048 32 := broadcastInDim S1x2048x2048 ![] bcast_S_S1x2048x2048 c_9
  let v42 : IVec S1x2048x2048 32 := Host.shli v39 v41
  let c_10 : IVec S_ 32 := constantI S_ 32 15#32
  let v43 : IVec S1x2048x2048 32 := broadcastInDim S1x2048x2048 ![] bcast_S_S1x2048x2048 c_10
  let v44 : IVec S1x2048x2048 32 := Host.shrui v39 v43
  let v45 : IVec S1x2048x2048 32 := ori v42 v44
  let v46 : IVec S1x2048x2048 32 := xori v40 v45
  let v47 : IVec S1x2048x2048 32 := addi v40 v46
  let c_11 : IVec S_ 32 := constantI S_ 32 29#32
  let v48 : IVec S1x2048x2048 32 := broadcastInDim S1x2048x2048 ![] bcast_S_S1x2048x2048 c_11
  let v49 : IVec S1x2048x2048 32 := Host.shli v46 v48
  let c_12 : IVec S_ 32 := constantI S_ 32 3#32
  let v50 : IVec S1x2048x2048 32 := broadcastInDim S1x2048x2048 ![] bcast_S_S1x2048x2048 c_12
  let v51 : IVec S1x2048x2048 32 := Host.shrui v46 v50
  let v52 : IVec S1x2048x2048 32 := ori v49 v51
  let v53 : IVec S1x2048x2048 32 := xori v47 v52
  let v54 : IVec S1x2048x2048 32 := addi v47 v53
  let c_13 : IVec S_ 32 := constantI S_ 32 16#32
  let v55 : IVec S1x2048x2048 32 := broadcastInDim S1x2048x2048 ![] bcast_S_S1x2048x2048 c_13
  let v56 : IVec S1x2048x2048 32 := Host.shli v53 v55
  fn_threefry2x32_0_part3 (F := F) arg0 arg1 v1 v53 v54 v56

def fn_threefry2x32_0_part1 {F : FTy → Type} [FloatOps F] (arg0 : IVec S_ 32) (arg1 : IVec S_ 32) (v1 : IVec S_ 32) (v13 : IVec S1x2048x2048 32) (v18 : IVec S1x2048x2048 32) : IVec S1x2048x2048 32 × IVec S1x2048x2048 32 :=
  let v19 : IVec S1x2048x2048 32 := xori v13 v18
  let v20 : IVec S1x2048x2048 32 := addi v13 v19
  let c_4 : IVec S_ 32 := constantI S_ 32 26#32
  let v21 : IVec S1x2048x2048 32 := broadcastInDim S1x2048x2048 ![] bcast_S_S1x2048x2048 c_4
  let v22 : IVec S1x2048x2048 32 := Host.shli v19 v21
  let c_5 : IVec S_ 32 := constantI S_ 32 6#32
  let v23 : IVec S1x2048x2048 32 := broadcastInDim S1x2048x2048 ![] bcast_S_S1x2048x2048 c_5
  let v24 : IVec S1x2048x2048 32 := Host.shrui v19 v23
  let v25 : IVec S1x2048x2048 32 := ori v22 v24
  let v26 : IVec S1x2048x2048 32 := xori v20 v25
  let v27 : IVec S1x2048x2048 32 := addi v20 v26
  let c_6 : IVec S_ 32 := constantI S_ 32 6#32
  let v28 : IVec S1x2048x2048 32 := broadcastInDim S1x2048x2048 ![] bcast_S_S1x2048x2048 c_6
  let v29 : IVec S1x2048x2048 32 := Host.shli v26 v28
  let c_7 : IVec S_ 32 := constantI S_ 32 26#32
  let v30 : IVec S1x2048x2048 32 := broadcastInDim S1x2048x2048 ![] bcast_S_S1x2048x2048 c_7
  let v31 : IVec S1x2048x2048 32 := Host.shrui v26 v30
  let v32 : IVec S1x2048x2048 32 := ori v29 v31
  let v33 : IVec S1x2048x2048 32 := xori v27 v32
  let v34 : IVec S1x2048x2048 32 := broadcastInDim S1x2048x2048 ![] bcast_S_S1x2048x2048 arg1
  let v35 : IVec S1x2048x2048 32 := addi v27 v34
  let v36 : IVec S1x2048x2048 32 := broadcastInDim S1x2048x2048 ![] bcast_S_S1x2048x2048 v1
  let v37 : IVec S1x2048x2048 32 := addi v33 v36
  let c_8 : IVec S_ 32 := constantI S_ 32 1#32
  fn_threefry2x32_0_part2 (F := F) arg0 arg1 v1 v35 v37 c_8

def fn_threefry2x32_0 {F : FTy → Type} [FloatOps F] (arg0 : IVec S_ 32) (arg1 : IVec S_ 32) (arg2 : IVec S1x2048x2048 32) (arg3 : IVec S1x2048x2048 32) : IVec S1x2048x2048 32 × IVec S1x2048x2048 32 :=
  let v0 : IVec S_ 32 := xori arg0 arg1
  let c : IVec S_ 32 := constantI S_ 32 466688986#32
  let v1 : IVec S_ 32 := xori v0 c
  let v2 : IVec S1x2048x2048 32 := broadcastInDim S1x2048x2048 ![] bcast_S_S1x2048x2048 arg0
  let v3 : IVec S1x2048x2048 32 := addi arg2 v2
  let v4 : IVec S1x2048x2048 32 := broadcastInDim S1x2048x2048 ![] bcast_S_S1x2048x2048 arg1
  let v5 : IVec S1x2048x2048 32 := addi arg3 v4
  let v6 : IVec S1x2048x2048 32 := addi v3 v5
  let c_0 : IVec S_ 32 := constantI S_ 32 13#32
  let v7 : IVec S1x2048x2048 32 := broadcastInDim S1x2048x2048 ![] bcast_S_S1x2048x2048 c_0
  let v8 : IVec S1x2048x2048 32 := Host.shli v5 v7
  let c_1 : IVec S_ 32 := constantI S_ 32 19#32
  let v9 : IVec S1x2048x2048 32 := broadcastInDim S1x2048x2048 ![] bcast_S_S1x2048x2048 c_1
  let v10 : IVec S1x2048x2048 32 := Host.shrui v5 v9
  let v11 : IVec S1x2048x2048 32 := ori v8 v10
  let v12 : IVec S1x2048x2048 32 := xori v6 v11
  let v13 : IVec S1x2048x2048 32 := addi v6 v12
  let c_2 : IVec S_ 32 := constantI S_ 32 15#32
  let v14 : IVec S1x2048x2048 32 := broadcastInDim S1x2048x2048 ![] bcast_S_S1x2048x2048 c_2
  let v15 : IVec S1x2048x2048 32 := Host.shli v12 v14
  let c_3 : IVec S_ 32 := constantI S_ 32 17#32
  let v16 : IVec S1x2048x2048 32 := broadcastInDim S1x2048x2048 ![] bcast_S_S1x2048x2048 c_3
  let v17 : IVec S1x2048x2048 32 := Host.shrui v12 v16
  let v18 : IVec S1x2048x2048 32 := ori v15 v17
  fn_threefry2x32_0_part1 (F := F) arg0 arg1 v1 v13 v18

def fn_uniform_part1 {F : FTy → Type} [FloatOps F] (v2 : FVec F S1x1x1 .f32) (v3 : FVec F S1x1x1 .f32) (v5 : IVec S_ 32) (v7 : IVec S_ 32) (v18 : IVec S1x2048x2048 64) (v19 : IVec S1x2048x2048 64) : FVec F S1x2048x2048 .f32 :=
  let v20 : IVec S1x2048x2048 64 := Host.shrui v18 v19
  let v21 : IVec S1x2048x2048 32 := (trunci 32 · natLt_32_64) v18
  let v22 : IVec S1x2048x2048 32 := (trunci 32 · natLt_32_64) v20
  let v23_0 : IVec S1x2048x2048 32 := (fn_threefry2x32_0 (F := F) v5 v7 v22 v21).1
  let v23_1 : IVec S1x2048x2048 32 := (fn_threefry2x32_0 (F := F) v5 v7 v22 v21).2
  let v24 : IVec S1x2048x2048 32 := xori v23_0 v23_1
  let c_3 : IVec S_ 32 := constantI S_ 32 9#32
  let v25 : IVec S1x2048x2048 32 := broadcastInDim S1x2048x2048 ![] bcast_S_S1x2048x2048 c_3
  let v26 : IVec S1x2048x2048 32 := Host.shrui v24 v25
  let c_4 : IVec S_ 32 := constantI S_ 32 1065353216#32
  let v27 : IVec S1x2048x2048 32 := broadcastInDim S1x2048x2048 ![] bcast_S_S1x2048x2048 c_4
  let v28 : IVec S1x2048x2048 32 := ori v26 v27
  let v29 : FVec F S1x2048x2048 .f32 := bitcastToFloat .f32 v28
  let cst : FVec F S_ .f32 := constant S_ .f32 0x3F800000#32
  let v30 : FVec F S1x2048x2048 .f32 := broadcastInDim S1x2048x2048 ![] bcast_S_S1x2048x2048 cst
  let v31 : FVec F S1x2048x2048 .f32 := subf v29 v30
  let v32 : FVec F S1x1x1 .f32 := subf v3 v2
  let v33 : FVec F S1x2048x2048 .f32 := broadcastInDim S1x2048x2048 ![0, 1, 2] bcast_S1x1x1_S1x2048x2048_0_1_2 v32
  let v34 : FVec F S1x2048x2048 .f32 := mulf v31 v33
  let v35 : FVec F S1x2048x2048 .f32 := broadcastInDim S1x2048x2048 ![0, 1, 2] bcast_S1x1x1_S1x2048x2048_0_1_2 v2
  let v36 : FVec F S1x2048x2048 .f32 := addf v34 v35
  let v37 : FVec F S1x2048x2048 .f32 := broadcastInDim S1x2048x2048 ![0, 1, 2] bcast_S1x1x1_S1x2048x2048_0_1_2 v2
  let v38 : FVec F S1x2048x2048 .f32 := maximumf v37 v36
  v38

def fn_uniform {F : FTy → Type} [FloatOps F] (arg0 : IVec S2 32) (arg1 : FVec F S_ .f32) (arg2 : FVec F S_ .f32) : FVec F S1x2048x2048 .f32 :=
  let v0 : FVec F S_ .f32 := id arg1
  let v1 : FVec F S_ .f32 := id arg2
  let v2 : FVec F S1x1x1 .f32 := broadcastInDim S1x1x1 ![] bcast_S_S1x1x1 v0
  let v3 : FVec F S1x1x1 .f32 := broadcastInDim S1x1x1 ![] bcast_S_S1x1x1 v1
  let v4 : IVec S1 32 := (extractStridedSlice S1 ![0] · slices_S2_S1_0) arg0
  let v5 : IVec S_ 32 := shapeCast S_ v4 shapeCasts_S1_S_
  let v6 : IVec S1 32 := (extractStridedSlice S1 ![1] · slices_S2_S1_1) arg0
  let v7 : IVec S_ 32 := shapeCast S_ v6 shapeCasts_S1_S_
  let v8 : IVec S1x2048x2048 64 := iotaInDim S1x2048x2048 64 0
  let v9 : IVec S1x2048x2048 64 := iotaInDim S1x2048x2048 64 1
  let v10 : IVec S1x2048x2048 64 := iotaInDim S1x2048x2048 64 2
  let c : IVec S_ 64 := constantI S_ 64 4194304#64
  let v11 : IVec S1x2048x2048 64 := broadcastInDim S1x2048x2048 ![] bcast_S_S1x2048x2048 c
  let v12 : IVec S1x2048x2048 64 := muli v11 v8
  let c_0 : IVec S_ 64 := constantI S_ 64 2048#64
  let v13 : IVec S1x2048x2048 64 := broadcastInDim S1x2048x2048 ![] bcast_S_S1x2048x2048 c_0
  let v14 : IVec S1x2048x2048 64 := muli v13 v9
  let c_1 : IVec S_ 64 := constantI S_ 64 1#64
  let v15 : IVec S1x2048x2048 64 := broadcastInDim S1x2048x2048 ![] bcast_S_S1x2048x2048 c_1
  let v16 : IVec S1x2048x2048 64 := muli v15 v10
  let v17 : IVec S1x2048x2048 64 := addi v12 v14
  let v18 : IVec S1x2048x2048 64 := addi v17 v16
  let c_2 : IVec S_ 64 := constantI S_ 64 32#64
  let v19 : IVec S1x2048x2048 64 := broadcastInDim S1x2048x2048 ![] bcast_S_S1x2048x2048 c_2
  fn_uniform_part1 (F := F) v2 v3 v5 v7 v18 v19

def fn_part3 {F : FTy → Type} [FloatOps F] (main_v9 : IVec S1x2048x1024 1) (main_v12 : IVec S1024x1024 1) (main_v15 : IVec S1024x1024 1) (main_v18 : IVec S1024x1024 1) (main_v21 : IVec S1024x1024 1) (main_v37 : IVec S1x2048x32 1) (main_v45 : IVec S1x2048x128 1) (main_v46 : IVec S2 32) (main_v50 : FVec F S1x2048x2048 .f32) (main_cst_15 : FVec F S_ .f32) (main_cst_16 : FVec F S_ .f32) : IVec S1x2048x1024 1 × IVec S1024x1024 1 × IVec S1024x1024 1 × IVec S1024x1024 1 × IVec S1024x1024 1 × IVec S1x2048x32 1 × IVec S1x2048x128 1 × IVec S1x2048x32 1 × IVec S1x2048x128 1 :=
  let main_v51 : FVec F S1x2048x2048 .f32 := fn_uniform (F := F) main_v46 main_cst_15 main_cst_16
  let main_v52 : FVec F S1x2048x2048 .f32 := Host.log main_v51
  let main_v53 : FVec F S1x2048x2048 .f32 := Host.negf main_v52
  let main_v54 : FVec F S1x2048x2048 .f32 := Host.log main_v53
  let main_v55 : FVec F S1x2048x2048 .f32 := Host.negf main_v54
  let main_cst_17 : FVec F S_ .f32 := constant S_ .f32 0x41000000#32
  let main_v56 : FVec F S1x2048x2048 .f32 := broadcastInDim S1x2048x2048 ![] bcast_S_S1x2048x2048 main_cst_17
  let main_v57 : FVec F S1x2048x2048 .f32 := Host.divf main_v55 main_v56
  let main_v58 : FVec F S1x2048x2048 .f32 := addf main_v50 main_v57
  let main_values_18 : FVec F S1x2048x33 .f32 := (fun x => (Host.topK S1x2048x33 2 (FloatOps.cmpfTotal .gt) x sliceFits_S1x2048x2048_S1x2048x33).1) main_v58
  let main_indices_19 : IVec S1x2048x33 32 := (fun x => (Host.topK S1x2048x33 2 (FloatOps.cmpfTotal .gt) x sliceFits_S1x2048x2048_S1x2048x33).2) main_v58
  let main_v59 : FVec F S1x2048x32 .f32 := (extractStridedSlice S1x2048x32 ![0, 0, 0] · slices_S1x2048x33_S1x2048x32_0_0_0) main_values_18
  let main_v60 : FVec F S1x2048x32 .f32 := (extractStridedSlice S1x2048x32 ![0, 0, 1] · slices_S1x2048x33_S1x2048x32_0_0_1) main_values_18
  let main_v61 : IVec S1x2048x32 1 := cmpf .ogt main_v59 main_v60
  let main_v62 : FVec F S1x2048x1 .f32 := (extractStridedSlice S1x2048x1 ![0, 0, 31] · slices_S1x2048x33_S1x2048x1_0_0_31) main_values_18
  let main_v63 : FVec F S1x2048x2048 .f32 := broadcastInDim S1x2048x2048 ![0, 1, 2] bcast_S1x2048x1_S1x2048x2048_0_1_2 main_v62
  let main_v64 : IVec S1x2048x2048 1 := cmpf .oge main_v58 main_v63
  let main_v65 : IVec S1x2048x2048 32 := (extui 32 · natLt_1_32) main_v64
  let main_v66 : IVec S1x2048x16x128 32 := shapeCast S1x2048x16x128 main_v65 shapeCasts_S1x2048x2048_S1x2048x16x128
  let main_c_20 : IVec S_ 32 := constantI S_ 32 0#32
  let main_v67 : IVec S1x2048x128 32 := (fun x v => Host.reduce IntOp.addi x v reducesTo_S1x2048x16x128_S1x2048x128_d2 h_S_) main_v66 main_c_20
  let main_c_21 : IVec S_ 32 := constantI S_ 32 6#32
  let main_v68 : IVec S1x2048x128 32 := broadcastInDim S1x2048x128 ![] bcast_S_S1x2048x128 main_c_21
  let main_v69 : IVec S1x2048x128 1 := cmpi .sle main_v67 main_v68
  (main_v9, main_v12, main_v15, main_v18, main_v21, main_v37, main_v45, main_v61, main_v69)

def fn_part2 {F : FTy → Type} [FloatOps F] (main_arg0 : FVec F S1x2048x1024 .f32) (main_arg5 : FVec F S1024x64 .f32) (main_v6 : IVec S2 32) (main_v9 : IVec S1x2048x1024 1) (main_v12 : IVec S1024x1024 1) (main_v15 : IVec S1024x1024 1) (main_v18 : IVec S1024x1024 1) (main_v21 : IVec S1024x1024 1) (main_v34 : FVec F S1x2048x2048 .f32) : IVec S1x2048x1024 1 × IVec S1024x1024 1 × IVec S1024x1024 1 × IVec S1024x1024 1 × IVec S1024x1024 1 × IVec S1x2048x32 1 × IVec S1x2048x128 1 × IVec S1x2048x32 1 × IVec S1x2048x128 1 :=
  let main_values : FVec F S1x2048x33 .f32 := (fun x => (Host.topK S1x2048x33 2 (FloatOps.cmpfTotal .gt) x sliceFits_S1x2048x2048_S1x2048x33).1) main_v34
  let main_indices : IVec S1x2048x33 32 := (fun x => (Host.topK S1x2048x33 2 (FloatOps.cmpfTotal .gt) x sliceFits_S1x2048x2048_S1x2048x33).2) main_v34
  let main_v35 : FVec F S1x2048x32 .f32 := (extractStridedSlice S1x2048x32 ![0, 0, 0] · slices_S1x2048x33_S1x2048x32_0_0_0) main_values
  let main_v36 : FVec F S1x2048x32 .f32 := (extractStridedSlice S1x2048x32 ![0, 0, 1] · slices_S1x2048x33_S1x2048x32_0_0_1) main_values
  let main_v37 : IVec S1x2048x32 1 := cmpf .ogt main_v35 main_v36
  let main_v38 : FVec F S1x2048x1 .f32 := (extractStridedSlice S1x2048x1 ![0, 0, 31] · slices_S1x2048x33_S1x2048x1_0_0_31) main_values
  let main_v39 : FVec F S1x2048x2048 .f32 := broadcastInDim S1x2048x2048 ![0, 1, 2] bcast_S1x2048x1_S1x2048x2048_0_1_2 main_v38
  let main_v40 : IVec S1x2048x2048 1 := cmpf .oge main_v34 main_v39
  let main_v41 : IVec S1x2048x2048 32 := (extui 32 · natLt_1_32) main_v40
  let main_v42 : IVec S1x2048x16x128 32 := shapeCast S1x2048x16x128 main_v41 shapeCasts_S1x2048x2048_S1x2048x16x128
  let main_c_11 : IVec S_ 32 := constantI S_ 32 0#32
  let main_v43 : IVec S1x2048x128 32 := (fun x v => Host.reduce IntOp.addi x v reducesTo_S1x2048x16x128_S1x2048x128_d2 h_S_) main_v42 main_c_11
  let main_c_12 : IVec S_ 32 := constantI S_ 32 6#32
  let main_v44 : IVec S1x2048x128 32 := broadcastInDim S1x2048x128 ![] bcast_S_S1x2048x128 main_c_12
  let main_v45 : IVec S1x2048x128 1 := cmpi .sle main_v43 main_v44
  let main_c_13 : IVec S_ 32 := constantI S_ 32 1#32
  let main_v46 : IVec S2 32 := fn_threefry_fold_in (F := F) main_v6 main_c_13
  let main_v47 : FVec F S1x2048x64 .f32 := (fun l r => Host.dotGeneral dot_S1x2048x1024_S1024x64_S1x2048x64_2_0_01_1_n_n none l r) main_arg0 main_arg5
  let main_v48 : FVec F S1x2048x2048 .f32 := (fun l r => Host.dotGeneral dot_S1x2048x64_S1x2048x64_S1x2048x2048_2_2_1_1_0_0 none l r) main_v47 main_v47
  let main_cst_14 : FVec F S_ .f32 := constant S_ .f32 0x41000000#32
  let main_v49 : FVec F S1x2048x2048 .f32 := broadcastInDim S1x2048x2048 ![] bcast_S_S1x2048x2048 main_cst_14
  let main_v50 : FVec F S1x2048x2048 .f32 := Host.divf main_v48 main_v49
  let main_cst_15 : FVec F S_ .f32 := constant S_ .f32 0x358637BD#32
  let main_cst_16 : FVec F S_ .f32 := constant S_ .f32 0x3F7FFFEF#32
  fn_part3 (F := F) main_v9 main_v12 main_v15 main_v18 main_v21 main_v37 main_v45 main_v46 main_v50 main_cst_15 main_cst_16

def fn_part1 {F : FTy → Type} [FloatOps F] (main_arg0 : FVec F S1x2048x1024 .f32) (main_arg4 : FVec F S1024x1024 .f32) (main_arg5 : FVec F S1024x64 .f32) (main_v6 : IVec S2 32) (main_v9 : IVec S1x2048x1024 1) (main_v12 : IVec S1024x1024 1) (main_v15 : IVec S1024x1024 1) (main_v16 : FVec F S1024x1024 .f32) (main_cst_4 : FVec F S_ .f32) : IVec S1x2048x1024 1 × IVec S1024x1024 1 × IVec S1024x1024 1 × IVec S1024x1024 1 × IVec S1024x1024 1 × IVec S1x2048x32 1 × IVec S1x2048x128 1 × IVec S1x2048x32 1 × IVec S1x2048x128 1 :=
  let main_v17 : FVec F S1024x1024 .f32 := broadcastInDim S1024x1024 ![] bcast_S_S1024x1024 main_cst_4
  let main_v18 : IVec S1024x1024 1 := cmpf .olt main_v16 main_v17
  let main_v19 : FVec F S1024x1024 .f32 := Host.absf main_arg4
  let main_cst_5 : FVec F S_ .f32 := constant S_ .f32 0x7F800000#32
  let main_v20 : FVec F S1024x1024 .f32 := broadcastInDim S1024x1024 ![] bcast_S_S1024x1024 main_cst_5
  let main_v21 : IVec S1024x1024 1 := cmpf .olt main_v19 main_v20
  let main_c_6 : IVec S_ 32 := constantI S_ 32 0#32
  let main_v22 : IVec S2 32 := fn_threefry_fold_in (F := F) main_v6 main_c_6
  let main_v23 : FVec F S1x2048x64 .f32 := (fun l r => Host.dotGeneral dot_S1x2048x1024_S1024x64_S1x2048x64_2_0_01_1_n_n none l r) main_arg0 main_arg5
  let main_v24 : FVec F S1x2048x2048 .f32 := (fun l r => Host.dotGeneral dot_S1x2048x64_S1x2048x64_S1x2048x2048_2_2_1_1_0_0 none l r) main_v23 main_v23
  let main_cst_7 : FVec F S_ .f32 := constant S_ .f32 0x41000000#32
  let main_v25 : FVec F S1x2048x2048 .f32 := broadcastInDim S1x2048x2048 ![] bcast_S_S1x2048x2048 main_cst_7
  let main_v26 : FVec F S1x2048x2048 .f32 := Host.divf main_v24 main_v25
  let main_cst_8 : FVec F S_ .f32 := constant S_ .f32 0x358637BD#32
  let main_cst_9 : FVec F S_ .f32 := constant S_ .f32 0x3F7FFFEF#32
  let main_v27 : FVec F S1x2048x2048 .f32 := fn_uniform (F := F) main_v22 main_cst_8 main_cst_9
  let main_v28 : FVec F S1x2048x2048 .f32 := Host.log main_v27
  let main_v29 : FVec F S1x2048x2048 .f32 := Host.negf main_v28
  let main_v30 : FVec F S1x2048x2048 .f32 := Host.log main_v29
  let main_v31 : FVec F S1x2048x2048 .f32 := Host.negf main_v30
  let main_cst_10 : FVec F S_ .f32 := constant S_ .f32 0x41000000#32
  let main_v32 : FVec F S1x2048x2048 .f32 := broadcastInDim S1x2048x2048 ![] bcast_S_S1x2048x2048 main_cst_10
  let main_v33 : FVec F S1x2048x2048 .f32 := Host.divf main_v31 main_v32
  let main_v34 : FVec F S1x2048x2048 .f32 := addf main_v26 main_v33
  fn_part2 (F := F) main_arg0 main_arg5 main_v6 main_v9 main_v12 main_v15 main_v18 main_v21 main_v34

def fn {F : FTy → Type} [FloatOps F] (main_arg0 : FVec F S1x2048x1024 .f32) (main_arg1 : FVec F S1024x1024 .f32) (main_arg2 : FVec F S1024x1024 .f32) (main_arg3 : FVec F S1024x1024 .f32) (main_arg4 : FVec F S1024x1024 .f32) (main_arg5 : FVec F S1024x64 .f32) : IVec S1x2048x1024 1 × IVec S1024x1024 1 × IVec S1024x1024 1 × IVec S1024x1024 1 × IVec S1024x1024 1 × IVec S1x2048x32 1 × IVec S1x2048x128 1 × IVec S1x2048x32 1 × IVec S1x2048x128 1 :=
  let main_c : IVec S_ 32 := constantI S_ 32 42#32
  let main_c_0 : IVec S_ 32 := constantI S_ 32 32#32
  let main_v0 : IVec S_ 32 := Host.shrui main_c main_c_0
  let main_v1 : IVec S_ 32 := id main_v0
  let main_v2 : IVec S1 32 := broadcastInDim S1 ![] bcast_S_S1 main_v1
  let main_c_1 : IVec S_ 32 := constantI S_ 32 4294967295#32
  let main_v3 : IVec S_ 32 := andi main_c main_c_1
  let main_v4 : IVec S_ 32 := id main_v3
  let main_v5 : IVec S1 32 := broadcastInDim S1 ![] bcast_S_S1 main_v4
  let main_v6 : IVec S2 32 := (fun a b => concatenate S2 0 [⟨S1, a⟩, ⟨S1, b⟩] concatenates_S1_S1_S2_d0) main_v2 main_v5
  let main_v7 : FVec F S1x2048x1024 .f32 := Host.absf main_arg0
  let main_cst : FVec F S_ .f32 := constant S_ .f32 0x7F800000#32
  let main_v8 : FVec F S1x2048x1024 .f32 := broadcastInDim S1x2048x1024 ![] bcast_S_S1x2048x1024 main_cst
  let main_v9 : IVec S1x2048x1024 1 := cmpf .olt main_v7 main_v8
  let main_v10 : FVec F S1024x1024 .f32 := Host.absf main_arg1
  let main_cst_2 : FVec F S_ .f32 := constant S_ .f32 0x7F800000#32
  let main_v11 : FVec F S1024x1024 .f32 := broadcastInDim S1024x1024 ![] bcast_S_S1024x1024 main_cst_2
  let main_v12 : IVec S1024x1024 1 := cmpf .olt main_v10 main_v11
  let main_v13 : FVec F S1024x1024 .f32 := Host.absf main_arg2
  let main_cst_3 : FVec F S_ .f32 := constant S_ .f32 0x7F800000#32
  let main_v14 : FVec F S1024x1024 .f32 := broadcastInDim S1024x1024 ![] bcast_S_S1024x1024 main_cst_3
  let main_v15 : IVec S1024x1024 1 := cmpf .olt main_v13 main_v14
  let main_v16 : FVec F S1024x1024 .f32 := Host.absf main_arg3
  let main_cst_4 : FVec F S_ .f32 := constant S_ .f32 0x7F800000#32
  fn_part1 (F := F) main_arg0 main_arg4 main_arg5 main_v6 main_v9 main_v12 main_v15 main_v16 main_cst_4
-- ==== Kernel.lean ====
abbrev S1x2048x1024 : Shape := ⟨3, ![1, 2048, 1024]⟩
abbrev S1024x1024 : Shape := ⟨2, ![1024, 1024]⟩
abbrev S1024x64 : Shape := ⟨2, ![1024, 64]⟩
abbrev S2048x1024 : Shape := ⟨2, ![2048, 1024]⟩
abbrev S1024x3072 : Shape := ⟨2, ![1024, 3072]⟩
abbrev S_ : Shape := ⟨0, ![]⟩
abbrev S1 : Shape := ⟨1, ![1]⟩
abbrev S2 : Shape := ⟨1, ![2]⟩
abbrev S1x1x1 : Shape := ⟨3, ![1, 1, 1]⟩
abbrev S1x2048x2048 : Shape := ⟨3, ![1, 2048, 2048]⟩
abbrev S2048x2048 : Shape := ⟨2, ![2048, 2048]⟩
abbrev S2x2048x2048 : Shape := ⟨3, ![2, 2048, 2048]⟩
abbrev S2048x3072 : Shape := ⟨2, ![2048, 3072]⟩
abbrev S2048x64 : Shape := ⟨2, ![2048, 64]⟩
abbrev S256x1024 : Shape := ⟨2, ![256, 1024]⟩
abbrev S256x3072 : Shape := ⟨2, ![256, 3072]⟩
abbrev S256x64 : Shape := ⟨2, ![256, 64]⟩
abbrev S2x256x2048 : Shape := ⟨3, ![2, 256, 2048]⟩
abbrev S256x2048 : Shape := ⟨2, ![256, 2048]⟩
abbrev S1x256x2048 : Shape := ⟨3, ![1, 256, 2048]⟩
abbrev S256x128 : Shape := ⟨2, ![256, 128]⟩
abbrev S256x768 : Shape := ⟨2, ![256, 768]⟩
abbrev S256 : Shape := ⟨1, ![256]⟩
abbrev S256x1 : Shape := ⟨2, ![256, 1]⟩

abbrev nBuf : Space → Nat
  | .hbm => 1053
  | .vmem => 20
  | .smem => 0
  | _ => 0

abbrev hbmTy0_0 (i : Nat) : BufTy := match i % 128 with
  | 0 => ⟨S1x2048x1024, .f32⟩
  | 1 => ⟨S1024x1024, .f32⟩
  | 2 => ⟨S1024x1024, .f32⟩
  | 3 => ⟨S1024x1024, .f32⟩
  | 4 => ⟨S1024x1024, .f32⟩
  | 5 => ⟨S1024x64, .f32⟩
  | 6 => ⟨S2048x1024, .f32⟩
  | 7 => ⟨S1024x3072, .f32⟩
  | 8 => ⟨S_, .i32⟩
  | 9 => ⟨S_, .i32⟩
  | 10 => ⟨S_, .i32⟩
  | 11 => ⟨S_, .i32⟩
  | 12 => ⟨S1, .i32⟩
  | 13 => ⟨S_, .i32⟩
  | 14 => ⟨S_, .i32⟩
  | 15 => ⟨S_, .i32⟩
  | 16 => ⟨S1, .i32⟩
  | 17 => ⟨S2, .i32⟩
  | 18 => ⟨S_, .i32⟩
  | 19 => ⟨S_, .i32⟩
  | 20 => ⟨S_, .i32⟩
  | 21 => ⟨S1, .i32⟩
  | 22 => ⟨S_, .i32⟩
  | 23 => ⟨S_, .i32⟩
  | 24 => ⟨S1, .i32⟩
  | 25 => ⟨S2, .i32⟩
  | 26 => ⟨S1, .i32⟩
  | 27 => ⟨S_, .i32⟩
  | 28 => ⟨S1, .i32⟩
  | 29 => ⟨S_, .i32⟩
  | 30 => ⟨S1, .i32⟩
  | 31 => ⟨S1, .i32⟩
  | 32 => ⟨S_, .i32⟩
  | 33 => ⟨S_, .i32⟩
  | 34 => ⟨S_, .i32⟩
  | 35 => ⟨S1, .i32⟩
  | 36 => ⟨S1, .i32⟩
  | 37 => ⟨S1, .i32⟩
  | 38 => ⟨S1, .i32⟩
  | 39 => ⟨S1, .i32⟩
  | 40 => ⟨S_, .i32⟩
  | 41 => ⟨S1, .i32⟩
  | 42 => ⟨S1, .i32⟩
  | 43 => ⟨S_, .i32⟩
  | 44 => ⟨S1, .i32⟩
  | 45 => ⟨S1, .i32⟩
  | 46 => ⟨S1, .i32⟩
  | 47 => ⟨S1, .i32⟩
  | 48 => ⟨S1, .i32⟩
  | 49 => ⟨S_, .i32⟩
  | 50 => ⟨S1, .i32⟩
  | 51 => ⟨S1, .i32⟩
  | 52 => ⟨S_, .i32⟩
  | 53 => ⟨S1, .i32⟩
  | 54 => ⟨S1, .i32⟩
  | 55 => ⟨S1, .i32⟩
  | 56 => ⟨S1, .i32⟩
  | 57 => ⟨S1, .i32⟩
  | 58 => ⟨S_, .i32⟩
  | 59 => ⟨S1, .i32⟩
  | 60 => ⟨S1, .i32⟩
  | 61 => ⟨S_, .i32⟩
  | 62 => ⟨S1, .i32⟩
  | 63 => ⟨S1, .i32⟩
  | 64 => ⟨S1, .i32⟩
  | 65 => ⟨S1, .i32⟩
  | 66 => ⟨S1, .i32⟩
  | 67 => ⟨S_, .i32⟩
  | 68 => ⟨S1, .i32⟩
  | 69 => ⟨S1, .i32⟩
  | 70 => ⟨S_, .i32⟩
  | 71 => ⟨S1, .i32⟩
  | 72 => ⟨S1, .i32⟩
  | 73 => ⟨S1, .i32⟩
  | 74 => ⟨S1, .i32⟩
  | 75 => ⟨S1, .i32⟩
  | 76 => ⟨S1, .i32⟩
  | 77 => ⟨S1, .i32⟩
  | 78 => ⟨S1, .i32⟩
  | 79 => ⟨S_, .i32⟩
  | 80 => ⟨S1, .i32⟩
  | 81 => ⟨S1, .i32⟩
  | 82 => ⟨S1, .i32⟩
  | 83 => ⟨S_, .i32⟩
  | 84 => ⟨S1, .i32⟩
  | 85 => ⟨S1, .i32⟩
  | 86 => ⟨S_, .i32⟩
  | 87 => ⟨S1, .i32⟩
  | 88 => ⟨S1, .i32⟩
  | 89 => ⟨S1, .i32⟩
  | 90 => ⟨S1, .i32⟩
  | 91 => ⟨S1, .i32⟩
  | 92 => ⟨S_, .i32⟩
  | 93 => ⟨S1, .i32⟩
  | 94 => ⟨S1, .i32⟩
  | 95 => ⟨S_, .i32⟩
  | 96 => ⟨S1, .i32⟩
  | 97 => ⟨S1, .i32⟩
  | 98 => ⟨S1, .i32⟩
  | 99 => ⟨S1, .i32⟩
  | 100 => ⟨S1, .i32⟩
  | 101 => ⟨S_, .i32⟩
  | 102 => ⟨S1, .i32⟩
  | 103 => ⟨S1, .i32⟩
  | 104 => ⟨S_, .i32⟩
  | 105 => ⟨S1, .i32⟩
  | 106 => ⟨S1, .i32⟩
  | 107 => ⟨S1, .i32⟩
  | 108 => ⟨S1, .i32⟩
  | 109 => ⟨S1, .i32⟩
  | 110 => ⟨S_, .i32⟩
  | 111 => ⟨S1, .i32⟩
  | 112 => ⟨S1, .i32⟩
  | 113 => ⟨S_, .i32⟩
  | 114 => ⟨S1, .i32⟩
  | 115 => ⟨S1, .i32⟩
  | 116 => ⟨S1, .i32⟩
  | 117 => ⟨S1, .i32⟩
  | 118 => ⟨S1, .i32⟩
  | 119 => ⟨S1, .i32⟩
  | 120 => ⟨S1, .i32⟩
  | 121 => ⟨S1, .i32⟩
  | 122 => ⟨S_, .i32⟩
  | 123 => ⟨S1, .i32⟩
  | 124 => ⟨S1, .i32⟩
  | 125 => ⟨S1, .i32⟩
  | 126 => ⟨S_, .i32⟩
  | 127 => ⟨S1, .i32⟩
  | _ => ⟨S1x2048x1024, .f32⟩

abbrev hbmTy0_1 (i : Nat) : BufTy := match i % 128 with
  | 0 => ⟨S1, .i32⟩
  | 1 => ⟨S_, .i32⟩
  | 2 => ⟨S1, .i32⟩
  | 3 => ⟨S1, .i32⟩
  | 4 => ⟨S1, .i32⟩
  | 5 => ⟨S1, .i32⟩
  | 6 => ⟨S1, .i32⟩
  | 7 => ⟨S_, .i32⟩
  | 8 => ⟨S1, .i32⟩
  | 9 => ⟨S1, .i32⟩
  | 10 => ⟨S_, .i32⟩
  | 11 => ⟨S1, .i32⟩
  | 12 => ⟨S1, .i32⟩
  | 13 => ⟨S1, .i32⟩
  | 14 => ⟨S1, .i32⟩
  | 15 => ⟨S1, .i32⟩
  | 16 => ⟨S_, .i32⟩
  | 17 => ⟨S1, .i32⟩
  | 18 => ⟨S1, .i32⟩
  | 19 => ⟨S_, .i32⟩
  | 20 => ⟨S1, .i32⟩
  | 21 => ⟨S1, .i32⟩
  | 22 => ⟨S1, .i32⟩
  | 23 => ⟨S1, .i32⟩
  | 24 => ⟨S1, .i32⟩
  | 25 => ⟨S_, .i32⟩
  | 26 => ⟨S1, .i32⟩
  | 27 => ⟨S1, .i32⟩
  | 28 => ⟨S_, .i32⟩
  | 29 => ⟨S1, .i32⟩
  | 30 => ⟨S1, .i32⟩
  | 31 => ⟨S1, .i32⟩
  | 32 => ⟨S1, .i32⟩
  | 33 => ⟨S1, .i32⟩
  | 34 => ⟨S1, .i32⟩
  | 35 => ⟨S1, .i32⟩
  | 36 => ⟨S1, .i32⟩
  | 37 => ⟨S_, .i32⟩
  | 38 => ⟨S1, .i32⟩
  | 39 => ⟨S1, .i32⟩
  | 40 => ⟨S1, .i32⟩
  | 41 => ⟨S_, .i32⟩
  | 42 => ⟨S1, .i32⟩
  | 43 => ⟨S1, .i32⟩
  | 44 => ⟨S_, .i32⟩
  | 45 => ⟨S1, .i32⟩
  | 46 => ⟨S1, .i32⟩
  | 47 => ⟨S1, .i32⟩
  | 48 => ⟨S1, .i32⟩
  | 49 => ⟨S1, .i32⟩
  | 50 => ⟨S_, .i32⟩
  | 51 => ⟨S1, .i32⟩
  | 52 => ⟨S1, .i32⟩
  | 53 => ⟨S_, .i32⟩
  | 54 => ⟨S1, .i32⟩
  | 55 => ⟨S1, .i32⟩
  | 56 => ⟨S1, .i32⟩
  | 57 => ⟨S1, .i32⟩
  | 58 => ⟨S1, .i32⟩
  | 59 => ⟨S_, .i32⟩
  | 60 => ⟨S1, .i32⟩
  | 61 => ⟨S1, .i32⟩
  | 62 => ⟨S_, .i32⟩
  | 63 => ⟨S1, .i32⟩
  | 64 => ⟨S1, .i32⟩
  | 65 => ⟨S1, .i32⟩
  | 66 => ⟨S1, .i32⟩
  | 67 => ⟨S1, .i32⟩
  | 68 => ⟨S_, .i32⟩
  | 69 => ⟨S1, .i32⟩
  | 70 => ⟨S1, .i32⟩
  | 71 => ⟨S_, .i32⟩
  | 72 => ⟨S1, .i32⟩
  | 73 => ⟨S1, .i32⟩
  | 74 => ⟨S1, .i32⟩
  | 75 => ⟨S1, .i32⟩
  | 76 => ⟨S1, .i32⟩
  | 77 => ⟨S1, .i32⟩
  | 78 => ⟨S1, .i32⟩
  | 79 => ⟨S1, .i32⟩
  | 80 => ⟨S_, .i32⟩
  | 81 => ⟨S1, .i32⟩
  | 82 => ⟨S1, .i32⟩
  | 83 => ⟨S1, .i32⟩
  | 84 => ⟨S_, .i32⟩
  | 85 => ⟨S1, .i32⟩
  | 86 => ⟨S1, .i32⟩
  | 87 => ⟨S_, .i32⟩
  | 88 => ⟨S1, .i32⟩
  | 89 => ⟨S1, .i32⟩
  | 90 => ⟨S1, .i32⟩
  | 91 => ⟨S1, .i32⟩
  | 92 => ⟨S1, .i32⟩
  | 93 => ⟨S_, .i32⟩
  | 94 => ⟨S1, .i32⟩
  | 95 => ⟨S1, .i32⟩
  | 96 => ⟨S_, .i32⟩
  | 97 => ⟨S1, .i32⟩
  | 98 => ⟨S1, .i32⟩
  | 99 => ⟨S1, .i32⟩
  | 100 => ⟨S1, .i32⟩
  | 101 => ⟨S1, .i32⟩
  | 102 => ⟨S_, .i32⟩
  | 103 => ⟨S1, .i32⟩
  | 104 => ⟨S1, .i32⟩
  | 105 => ⟨S_, .i32⟩
  | 106 => ⟨S1, .i32⟩
  | 107 => ⟨S1, .i32⟩
  | 108 => ⟨S1, .i32⟩
  | 109 => ⟨S1, .i32⟩
  | 110 => ⟨S1, .i32⟩
  | 111 => ⟨S_, .i32⟩
  | 112 => ⟨S1, .i32⟩
  | 113 => ⟨S1, .i32⟩
  | 114 => ⟨S_, .i32⟩
  | 115 => ⟨S1, .i32⟩
  | 116 => ⟨S1, .i32⟩
  | 117 => ⟨S1, .i32⟩
  | 118 => ⟨S1, .i32⟩
  | 119 => ⟨S1, .i32⟩
  | 120 => ⟨S1, .i32⟩
  | 121 => ⟨S1, .i32⟩
  | 122 => ⟨S1, .i32⟩
  | 123 => ⟨S_, .i32⟩
  | 124 => ⟨S1, .i32⟩
  | 125 => ⟨S1, .i32⟩
  | 126 => ⟨S2, .i32⟩
  | 127 => ⟨S_, .f32⟩
  | _ => ⟨S1x2048x1024, .f32⟩

abbrev hbmTy0_2 (i : Nat) : BufTy := match i % 128 with
  | 0 => ⟨S_, .f32⟩
  | 1 => ⟨S_, .f32⟩
  | 2 => ⟨S_, .f32⟩
  | 3 => ⟨S1x1x1, .f32⟩
  | 4 => ⟨S1x1x1, .f32⟩
  | 5 => ⟨S1, .i32⟩
  | 6 => ⟨S_, .i32⟩
  | 7 => ⟨S1, .i32⟩
  | 8 => ⟨S_, .i32⟩
  | 9 => ⟨S1x2048x2048, .i64⟩
  | 10 => ⟨S1x2048x2048, .i64⟩
  | 11 => ⟨S1x2048x2048, .i64⟩
  | 12 => ⟨S_, .i64⟩
  | 13 => ⟨S1x2048x2048, .i64⟩
  | 14 => ⟨S1x2048x2048, .i64⟩
  | 15 => ⟨S_, .i64⟩
  | 16 => ⟨S1x2048x2048, .i64⟩
  | 17 => ⟨S1x2048x2048, .i64⟩
  | 18 => ⟨S_, .i64⟩
  | 19 => ⟨S1x2048x2048, .i64⟩
  | 20 => ⟨S1x2048x2048, .i64⟩
  | 21 => ⟨S1x2048x2048, .i64⟩
  | 22 => ⟨S1x2048x2048, .i64⟩
  | 23 => ⟨S_, .i64⟩
  | 24 => ⟨S1x2048x2048, .i64⟩
  | 25 => ⟨S1x2048x2048, .i64⟩
  | 26 => ⟨S1x2048x2048, .i32⟩
  | 27 => ⟨S1x2048x2048, .i32⟩
  | 28 => ⟨S_, .i32⟩
  | 29 => ⟨S_, .i32⟩
  | 30 => ⟨S_, .i32⟩
  | 31 => ⟨S1x2048x2048, .i32⟩
  | 32 => ⟨S1x2048x2048, .i32⟩
  | 33 => ⟨S1x2048x2048, .i32⟩
  | 34 => ⟨S1x2048x2048, .i32⟩
  | 35 => ⟨S1x2048x2048, .i32⟩
  | 36 => ⟨S_, .i32⟩
  | 37 => ⟨S1x2048x2048, .i32⟩
  | 38 => ⟨S1x2048x2048, .i32⟩
  | 39 => ⟨S_, .i32⟩
  | 40 => ⟨S1x2048x2048, .i32⟩
  | 41 => ⟨S1x2048x2048, .i32⟩
  | 42 => ⟨S1x2048x2048, .i32⟩
  | 43 => ⟨S1x2048x2048, .i32⟩
  | 44 => ⟨S1x2048x2048, .i32⟩
  | 45 => ⟨S_, .i32⟩
  | 46 => ⟨S1x2048x2048, .i32⟩
  | 47 => ⟨S1x2048x2048, .i32⟩
  | 48 => ⟨S_, .i32⟩
  | 49 => ⟨S1x2048x2048, .i32⟩
  | 50 => ⟨S1x2048x2048, .i32⟩
  | 51 => ⟨S1x2048x2048, .i32⟩
  | 52 => ⟨S1x2048x2048, .i32⟩
  | 53 => ⟨S1x2048x2048, .i32⟩
  | 54 => ⟨S_, .i32⟩
  | 55 => ⟨S1x2048x2048, .i32⟩
  | 56 => ⟨S1x2048x2048, .i32⟩
  | 57 => ⟨S_, .i32⟩
  | 58 => ⟨S1x2048x2048, .i32⟩
  | 59 => ⟨S1x2048x2048, .i32⟩
  | 60 => ⟨S1x2048x2048, .i32⟩
  | 61 => ⟨S1x2048x2048, .i32⟩
  | 62 => ⟨S1x2048x2048, .i32⟩
  | 63 => ⟨S_, .i32⟩
  | 64 => ⟨S1x2048x2048, .i32⟩
  | 65 => ⟨S1x2048x2048, .i32⟩
  | 66 => ⟨S_, .i32⟩
  | 67 => ⟨S1x2048x2048, .i32⟩
  | 68 => ⟨S1x2048x2048, .i32⟩
  | 69 => ⟨S1x2048x2048, .i32⟩
  | 70 => ⟨S1x2048x2048, .i32⟩
  | 71 => ⟨S1x2048x2048, .i32⟩
  | 72 => ⟨S1x2048x2048, .i32⟩
  | 73 => ⟨S1x2048x2048, .i32⟩
  | 74 => ⟨S1x2048x2048, .i32⟩
  | 75 => ⟨S_, .i32⟩
  | 76 => ⟨S1x2048x2048, .i32⟩
  | 77 => ⟨S1x2048x2048, .i32⟩
  | 78 => ⟨S1x2048x2048, .i32⟩
  | 79 => ⟨S_, .i32⟩
  | 80 => ⟨S1x2048x2048, .i32⟩
  | 81 => ⟨S1x2048x2048, .i32⟩
  | 82 => ⟨S_, .i32⟩
  | 83 => ⟨S1x2048x2048, .i32⟩
  | 84 => ⟨S1x2048x2048, .i32⟩
  | 85 => ⟨S1x2048x2048, .i32⟩
  | 86 => ⟨S1x2048x2048, .i32⟩
  | 87 => ⟨S1x2048x2048, .i32⟩
  | 88 => ⟨S_, .i32⟩
  | 89 => ⟨S1x2048x2048, .i32⟩
  | 90 => ⟨S1x2048x2048, .i32⟩
  | 91 => ⟨S_, .i32⟩
  | 92 => ⟨S1x2048x2048, .i32⟩
  | 93 => ⟨S1x2048x2048, .i32⟩
  | 94 => ⟨S1x2048x2048, .i32⟩
  | 95 => ⟨S1x2048x2048, .i32⟩
  | 96 => ⟨S1x2048x2048, .i32⟩
  | 97 => ⟨S_, .i32⟩
  | 98 => ⟨S1x2048x2048, .i32⟩
  | 99 => ⟨S1x2048x2048, .i32⟩
  | 100 => ⟨S_, .i32⟩
  | 101 => ⟨S1x2048x2048, .i32⟩
  | 102 => ⟨S1x2048x2048, .i32⟩
  | 103 => ⟨S1x2048x2048, .i32⟩
  | 104 => ⟨S1x2048x2048, .i32⟩
  | 105 => ⟨S1x2048x2048, .i32⟩
  | 106 => ⟨S_, .i32⟩
  | 107 => ⟨S1x2048x2048, .i32⟩
  | 108 => ⟨S1x2048x2048, .i32⟩
  | 109 => ⟨S_, .i32⟩
  | 110 => ⟨S1x2048x2048, .i32⟩
  | 111 => ⟨S1x2048x2048, .i32⟩
  | 112 => ⟨S1x2048x2048, .i32⟩
  | 113 => ⟨S1x2048x2048, .i32⟩
  | 114 => ⟨S1x2048x2048, .i32⟩
  | 115 => ⟨S1x2048x2048, .i32⟩
  | 116 => ⟨S1x2048x2048, .i32⟩
  | 117 => ⟨S1x2048x2048, .i32⟩
  | 118 => ⟨S_, .i32⟩
  | 119 => ⟨S1x2048x2048, .i32⟩
  | 120 => ⟨S1x2048x2048, .i32⟩
  | 121 => ⟨S1x2048x2048, .i32⟩
  | 122 => ⟨S_, .i32⟩
  | 123 => ⟨S1x2048x2048, .i32⟩
  | 124 => ⟨S1x2048x2048, .i32⟩
  | 125 => ⟨S_, .i32⟩
  | 126 => ⟨S1x2048x2048, .i32⟩
  | 127 => ⟨S1x2048x2048, .i32⟩
  | _ => ⟨S1x2048x1024, .f32⟩

abbrev hbmTy0_3 (i : Nat) : BufTy := match i % 128 with
  | 0 => ⟨S1x2048x2048, .i32⟩
  | 1 => ⟨S1x2048x2048, .i32⟩
  | 2 => ⟨S1x2048x2048, .i32⟩
  | 3 => ⟨S_, .i32⟩
  | 4 => ⟨S1x2048x2048, .i32⟩
  | 5 => ⟨S1x2048x2048, .i32⟩
  | 6 => ⟨S_, .i32⟩
  | 7 => ⟨S1x2048x2048, .i32⟩
  | 8 => ⟨S1x2048x2048, .i32⟩
  | 9 => ⟨S1x2048x2048, .i32⟩
  | 10 => ⟨S1x2048x2048, .i32⟩
  | 11 => ⟨S1x2048x2048, .i32⟩
  | 12 => ⟨S_, .i32⟩
  | 13 => ⟨S1x2048x2048, .i32⟩
  | 14 => ⟨S1x2048x2048, .i32⟩
  | 15 => ⟨S_, .i32⟩
  | 16 => ⟨S1x2048x2048, .i32⟩
  | 17 => ⟨S1x2048x2048, .i32⟩
  | 18 => ⟨S1x2048x2048, .i32⟩
  | 19 => ⟨S1x2048x2048, .i32⟩
  | 20 => ⟨S1x2048x2048, .i32⟩
  | 21 => ⟨S_, .i32⟩
  | 22 => ⟨S1x2048x2048, .i32⟩
  | 23 => ⟨S1x2048x2048, .i32⟩
  | 24 => ⟨S_, .i32⟩
  | 25 => ⟨S1x2048x2048, .i32⟩
  | 26 => ⟨S1x2048x2048, .i32⟩
  | 27 => ⟨S1x2048x2048, .i32⟩
  | 28 => ⟨S1x2048x2048, .i32⟩
  | 29 => ⟨S1x2048x2048, .i32⟩
  | 30 => ⟨S1x2048x2048, .i32⟩
  | 31 => ⟨S1x2048x2048, .i32⟩
  | 32 => ⟨S1x2048x2048, .i32⟩
  | 33 => ⟨S_, .i32⟩
  | 34 => ⟨S1x2048x2048, .i32⟩
  | 35 => ⟨S1x2048x2048, .i32⟩
  | 36 => ⟨S1x2048x2048, .i32⟩
  | 37 => ⟨S_, .i32⟩
  | 38 => ⟨S1x2048x2048, .i32⟩
  | 39 => ⟨S1x2048x2048, .i32⟩
  | 40 => ⟨S_, .i32⟩
  | 41 => ⟨S1x2048x2048, .i32⟩
  | 42 => ⟨S1x2048x2048, .i32⟩
  | 43 => ⟨S1x2048x2048, .i32⟩
  | 44 => ⟨S1x2048x2048, .i32⟩
  | 45 => ⟨S1x2048x2048, .i32⟩
  | 46 => ⟨S_, .i32⟩
  | 47 => ⟨S1x2048x2048, .i32⟩
  | 48 => ⟨S1x2048x2048, .i32⟩
  | 49 => ⟨S_, .i32⟩
  | 50 => ⟨S1x2048x2048, .i32⟩
  | 51 => ⟨S1x2048x2048, .i32⟩
  | 52 => ⟨S1x2048x2048, .i32⟩
  | 53 => ⟨S1x2048x2048, .i32⟩
  | 54 => ⟨S1x2048x2048, .i32⟩
  | 55 => ⟨S_, .i32⟩
  | 56 => ⟨S1x2048x2048, .i32⟩
  | 57 => ⟨S1x2048x2048, .i32⟩
  | 58 => ⟨S_, .i32⟩
  | 59 => ⟨S1x2048x2048, .i32⟩
  | 60 => ⟨S1x2048x2048, .i32⟩
  | 61 => ⟨S1x2048x2048, .i32⟩
  | 62 => ⟨S1x2048x2048, .i32⟩
  | 63 => ⟨S1x2048x2048, .i32⟩
  | 64 => ⟨S_, .i32⟩
  | 65 => ⟨S1x2048x2048, .i32⟩
  | 66 => ⟨S1x2048x2048, .i32⟩
  | 67 => ⟨S_, .i32⟩
  | 68 => ⟨S1x2048x2048, .i32⟩
  | 69 => ⟨S1x2048x2048, .i32⟩
  | 70 => ⟨S1x2048x2048, .i32⟩
  | 71 => ⟨S1x2048x2048, .i32⟩
  | 72 => ⟨S1x2048x2048, .i32⟩
  | 73 => ⟨S1x2048x2048, .i32⟩
  | 74 => ⟨S1x2048x2048, .i32⟩
  | 75 => ⟨S1x2048x2048, .i32⟩
  | 76 => ⟨S_, .i32⟩
  | 77 => ⟨S1x2048x2048, .i32⟩
  | 78 => ⟨S1x2048x2048, .i32⟩
  | 79 => ⟨S1x2048x2048, .i32⟩
  | 80 => ⟨S_, .i32⟩
  | 81 => ⟨S1x2048x2048, .i32⟩
  | 82 => ⟨S1x2048x2048, .i32⟩
  | 83 => ⟨S_, .i32⟩
  | 84 => ⟨S1x2048x2048, .i32⟩
  | 85 => ⟨S1x2048x2048, .i32⟩
  | 86 => ⟨S1x2048x2048, .i32⟩
  | 87 => ⟨S1x2048x2048, .i32⟩
  | 88 => ⟨S1x2048x2048, .i32⟩
  | 89 => ⟨S_, .i32⟩
  | 90 => ⟨S1x2048x2048, .i32⟩
  | 91 => ⟨S1x2048x2048, .i32⟩
  | 92 => ⟨S_, .i32⟩
  | 93 => ⟨S1x2048x2048, .i32⟩
  | 94 => ⟨S1x2048x2048, .i32⟩
  | 95 => ⟨S1x2048x2048, .i32⟩
  | 96 => ⟨S1x2048x2048, .i32⟩
  | 97 => ⟨S1x2048x2048, .i32⟩
  | 98 => ⟨S_, .i32⟩
  | 99 => ⟨S1x2048x2048, .i32⟩
  | 100 => ⟨S1x2048x2048, .i32⟩
  | 101 => ⟨S_, .i32⟩
  | 102 => ⟨S1x2048x2048, .i32⟩
  | 103 => ⟨S1x2048x2048, .i32⟩
  | 104 => ⟨S1x2048x2048, .i32⟩
  | 105 => ⟨S1x2048x2048, .i32⟩
  | 106 => ⟨S1x2048x2048, .i32⟩
  | 107 => ⟨S_, .i32⟩
  | 108 => ⟨S1x2048x2048, .i32⟩
  | 109 => ⟨S1x2048x2048, .i32⟩
  | 110 => ⟨S_, .i32⟩
  | 111 => ⟨S1x2048x2048, .i32⟩
  | 112 => ⟨S1x2048x2048, .i32⟩
  | 113 => ⟨S1x2048x2048, .i32⟩
  | 114 => ⟨S1x2048x2048, .i32⟩
  | 115 => ⟨S1x2048x2048, .i32⟩
  | 116 => ⟨S1x2048x2048, .i32⟩
  | 117 => ⟨S1x2048x2048, .i32⟩
  | 118 => ⟨S1x2048x2048, .i32⟩
  | 119 => ⟨S_, .i32⟩
  | 120 => ⟨S1x2048x2048, .i32⟩
  | 121 => ⟨S1x2048x2048, .i32⟩
  | 122 => ⟨S1x2048x2048, .i32⟩
  | 123 => ⟨S_, .i32⟩
  | 124 => ⟨S1x2048x2048, .i32⟩
  | 125 => ⟨S1x2048x2048, .i32⟩
  | 126 => ⟨S_, .i32⟩
  | 127 => ⟨S1x2048x2048, .i32⟩
  | _ => ⟨S1x2048x1024, .f32⟩

abbrev hbmTy0_4 (i : Nat) : BufTy := match i % 128 with
  | 0 => ⟨S1x2048x2048, .i32⟩
  | 1 => ⟨S1x2048x2048, .f32⟩
  | 2 => ⟨S_, .f32⟩
  | 3 => ⟨S1x2048x2048, .f32⟩
  | 4 => ⟨S1x2048x2048, .f32⟩
  | 5 => ⟨S1x1x1, .f32⟩
  | 6 => ⟨S1x2048x2048, .f32⟩
  | 7 => ⟨S1x2048x2048, .f32⟩
  | 8 => ⟨S1x2048x2048, .f32⟩
  | 9 => ⟨S1x2048x2048, .f32⟩
  | 10 => ⟨S1x2048x2048, .f32⟩
  | 11 => ⟨S1x2048x2048, .f32⟩
  | 12 => ⟨S1x2048x2048, .f32⟩
  | 13 => ⟨S1x2048x2048, .f32⟩
  | 14 => ⟨S1x2048x2048, .f32⟩
  | 15 => ⟨S1x2048x2048, .f32⟩
  | 16 => ⟨S_, .f32⟩
  | 17 => ⟨S1x2048x2048, .f32⟩
  | 18 => ⟨S1x2048x2048, .f32⟩
  | 19 => ⟨S2048x2048, .f32⟩
  | 20 => ⟨S_, .i32⟩
  | 21 => ⟨S_, .i32⟩
  | 22 => ⟨S_, .i32⟩
  | 23 => ⟨S1, .i32⟩
  | 24 => ⟨S_, .i32⟩
  | 25 => ⟨S_, .i32⟩
  | 26 => ⟨S1, .i32⟩
  | 27 => ⟨S2, .i32⟩
  | 28 => ⟨S1, .i32⟩
  | 29 => ⟨S_, .i32⟩
  | 30 => ⟨S1, .i32⟩
  | 31 => ⟨S_, .i32⟩
  | 32 => ⟨S1, .i32⟩
  | 33 => ⟨S1, .i32⟩
  | 34 => ⟨S_, .i32⟩
  | 35 => ⟨S_, .i32⟩
  | 36 => ⟨S_, .i32⟩
  | 37 => ⟨S1, .i32⟩
  | 38 => ⟨S1, .i32⟩
  | 39 => ⟨S1, .i32⟩
  | 40 => ⟨S1, .i32⟩
  | 41 => ⟨S1, .i32⟩
  | 42 => ⟨S_, .i32⟩
  | 43 => ⟨S1, .i32⟩
  | 44 => ⟨S1, .i32⟩
  | 45 => ⟨S_, .i32⟩
  | 46 => ⟨S1, .i32⟩
  | 47 => ⟨S1, .i32⟩
  | 48 => ⟨S1, .i32⟩
  | 49 => ⟨S1, .i32⟩
  | 50 => ⟨S1, .i32⟩
  | 51 => ⟨S_, .i32⟩
  | 52 => ⟨S1, .i32⟩
  | 53 => ⟨S1, .i32⟩
  | 54 => ⟨S_, .i32⟩
  | 55 => ⟨S1, .i32⟩
  | 56 => ⟨S1, .i32⟩
  | 57 => ⟨S1, .i32⟩
  | 58 => ⟨S1, .i32⟩
  | 59 => ⟨S1, .i32⟩
  | 60 => ⟨S_, .i32⟩
  | 61 => ⟨S1, .i32⟩
  | 62 => ⟨S1, .i32⟩
  | 63 => ⟨S_, .i32⟩
  | 64 => ⟨S1, .i32⟩
  | 65 => ⟨S1, .i32⟩
  | 66 => ⟨S1, .i32⟩
  | 67 => ⟨S1, .i32⟩
  | 68 => ⟨S1, .i32⟩
  | 69 => ⟨S_, .i32⟩
  | 70 => ⟨S1, .i32⟩
  | 71 => ⟨S1, .i32⟩
  | 72 => ⟨S_, .i32⟩
  | 73 => ⟨S1, .i32⟩
  | 74 => ⟨S1, .i32⟩
  | 75 => ⟨S1, .i32⟩
  | 76 => ⟨S1, .i32⟩
  | 77 => ⟨S1, .i32⟩
  | 78 => ⟨S1, .i32⟩
  | 79 => ⟨S1, .i32⟩
  | 80 => ⟨S1, .i32⟩
  | 81 => ⟨S_, .i32⟩
  | 82 => ⟨S1, .i32⟩
  | 83 => ⟨S1, .i32⟩
  | 84 => ⟨S1, .i32⟩
  | 85 => ⟨S_, .i32⟩
  | 86 => ⟨S1, .i32⟩
  | 87 => ⟨S1, .i32⟩
  | 88 => ⟨S_, .i32⟩
  | 89 => ⟨S1, .i32⟩
  | 90 => ⟨S1, .i32⟩
  | 91 => ⟨S1, .i32⟩
  | 92 => ⟨S1, .i32⟩
  | 93 => ⟨S1, .i32⟩
  | 94 => ⟨S_, .i32⟩
  | 95 => ⟨S1, .i32⟩
  | 96 => ⟨S1, .i32⟩
  | 97 => ⟨S_, .i32⟩
  | 98 => ⟨S1, .i32⟩
  | 99 => ⟨S1, .i32⟩
  | 100 => ⟨S1, .i32⟩
  | 101 => ⟨S1, .i32⟩
  | 102 => ⟨S1, .i32⟩
  | 103 => ⟨S_, .i32⟩
  | 104 => ⟨S1, .i32⟩
  | 105 => ⟨S1, .i32⟩
  | 106 => ⟨S_, .i32⟩
  | 107 => ⟨S1, .i32⟩
  | 108 => ⟨S1, .i32⟩
  | 109 => ⟨S1, .i32⟩
  | 110 => ⟨S1, .i32⟩
  | 111 => ⟨S1, .i32⟩
  | 112 => ⟨S_, .i32⟩
  | 113 => ⟨S1, .i32⟩
  | 114 => ⟨S1, .i32⟩
  | 115 => ⟨S_, .i32⟩
  | 116 => ⟨S1, .i32⟩
  | 117 => ⟨S1, .i32⟩
  | 118 => ⟨S1, .i32⟩
  | 119 => ⟨S1, .i32⟩
  | 120 => ⟨S1, .i32⟩
  | 121 => ⟨S1, .i32⟩
  | 122 => ⟨S1, .i32⟩
  | 123 => ⟨S1, .i32⟩
  | 124 => ⟨S_, .i32⟩
  | 125 => ⟨S1, .i32⟩
  | 126 => ⟨S1, .i32⟩
  | 127 => ⟨S1, .i32⟩
  | _ => ⟨S1x2048x1024, .f32⟩

abbrev hbmTy0_5 (i : Nat) : BufTy := match i % 128 with
  | 0 => ⟨S_, .i32⟩
  | 1 => ⟨S1, .i32⟩
  | 2 => ⟨S1, .i32⟩
  | 3 => ⟨S_, .i32⟩
  | 4 => ⟨S1, .i32⟩
  | 5 => ⟨S1, .i32⟩
  | 6 => ⟨S1, .i32⟩
  | 7 => ⟨S1, .i32⟩
  | 8 => ⟨S1, .i32⟩
  | 9 => ⟨S_, .i32⟩
  | 10 => ⟨S1, .i32⟩
  | 11 => ⟨S1, .i32⟩
  | 12 => ⟨S_, .i32⟩
  | 13 => ⟨S1, .i32⟩
  | 14 => ⟨S1, .i32⟩
  | 15 => ⟨S1, .i32⟩
  | 16 => ⟨S1, .i32⟩
  | 17 => ⟨S1, .i32⟩
  | 18 => ⟨S_, .i32⟩
  | 19 => ⟨S1, .i32⟩
  | 20 => ⟨S1, .i32⟩
  | 21 => ⟨S_, .i32⟩
  | 22 => ⟨S1, .i32⟩
  | 23 => ⟨S1, .i32⟩
  | 24 => ⟨S1, .i32⟩
  | 25 => ⟨S1, .i32⟩
  | 26 => ⟨S1, .i32⟩
  | 27 => ⟨S_, .i32⟩
  | 28 => ⟨S1, .i32⟩
  | 29 => ⟨S1, .i32⟩
  | 30 => ⟨S_, .i32⟩
  | 31 => ⟨S1, .i32⟩
  | 32 => ⟨S1, .i32⟩
  | 33 => ⟨S1, .i32⟩
  | 34 => ⟨S1, .i32⟩
  | 35 => ⟨S1, .i32⟩
  | 36 => ⟨S1, .i32⟩
  | 37 => ⟨S1, .i32⟩
  | 38 => ⟨S1, .i32⟩
  | 39 => ⟨S_, .i32⟩
  | 40 => ⟨S1, .i32⟩
  | 41 => ⟨S1, .i32⟩
  | 42 => ⟨S1, .i32⟩
  | 43 => ⟨S_, .i32⟩
  | 44 => ⟨S1, .i32⟩
  | 45 => ⟨S1, .i32⟩
  | 46 => ⟨S_, .i32⟩
  | 47 => ⟨S1, .i32⟩
  | 48 => ⟨S1, .i32⟩
  | 49 => ⟨S1, .i32⟩
  | 50 => ⟨S1, .i32⟩
  | 51 => ⟨S1, .i32⟩
  | 52 => ⟨S_, .i32⟩
  | 53 => ⟨S1, .i32⟩
  | 54 => ⟨S1, .i32⟩
  | 55 => ⟨S_, .i32⟩
  | 56 => ⟨S1, .i32⟩
  | 57 => ⟨S1, .i32⟩
  | 58 => ⟨S1, .i32⟩
  | 59 => ⟨S1, .i32⟩
  | 60 => ⟨S1, .i32⟩
  | 61 => ⟨S_, .i32⟩
  | 62 => ⟨S1, .i32⟩
  | 63 => ⟨S1, .i32⟩
  | 64 => ⟨S_, .i32⟩
  | 65 => ⟨S1, .i32⟩
  | 66 => ⟨S1, .i32⟩
  | 67 => ⟨S1, .i32⟩
  | 68 => ⟨S1, .i32⟩
  | 69 => ⟨S1, .i32⟩
  | 70 => ⟨S_, .i32⟩
  | 71 => ⟨S1, .i32⟩
  | 72 => ⟨S1, .i32⟩
  | 73 => ⟨S_, .i32⟩
  | 74 => ⟨S1, .i32⟩
  | 75 => ⟨S1, .i32⟩
  | 76 => ⟨S1, .i32⟩
  | 77 => ⟨S1, .i32⟩
  | 78 => ⟨S1, .i32⟩
  | 79 => ⟨S1, .i32⟩
  | 80 => ⟨S1, .i32⟩
  | 81 => ⟨S1, .i32⟩
  | 82 => ⟨S_, .i32⟩
  | 83 => ⟨S1, .i32⟩
  | 84 => ⟨S1, .i32⟩
  | 85 => ⟨S1, .i32⟩
  | 86 => ⟨S_, .i32⟩
  | 87 => ⟨S1, .i32⟩
  | 88 => ⟨S1, .i32⟩
  | 89 => ⟨S_, .i32⟩
  | 90 => ⟨S1, .i32⟩
  | 91 => ⟨S1, .i32⟩
  | 92 => ⟨S1, .i32⟩
  | 93 => ⟨S1, .i32⟩
  | 94 => ⟨S1, .i32⟩
  | 95 => ⟨S_, .i32⟩
  | 96 => ⟨S1, .i32⟩
  | 97 => ⟨S1, .i32⟩
  | 98 => ⟨S_, .i32⟩
  | 99 => ⟨S1, .i32⟩
  | 100 => ⟨S1, .i32⟩
  | 101 => ⟨S1, .i32⟩
  | 102 => ⟨S1, .i32⟩
  | 103 => ⟨S1, .i32⟩
  | 104 => ⟨S_, .i32⟩
  | 105 => ⟨S1, .i32⟩
  | 106 => ⟨S1, .i32⟩
  | 107 => ⟨S_, .i32⟩
  | 108 => ⟨S1, .i32⟩
  | 109 => ⟨S1, .i32⟩
  | 110 => ⟨S1, .i32⟩
  | 111 => ⟨S1, .i32⟩
  | 112 => ⟨S1, .i32⟩
  | 113 => ⟨S_, .i32⟩
  | 114 => ⟨S1, .i32⟩
  | 115 => ⟨S1, .i32⟩
  | 116 => ⟨S_, .i32⟩
  | 117 => ⟨S1, .i32⟩
  | 118 => ⟨S1, .i32⟩
  | 119 => ⟨S1, .i32⟩
  | 120 => ⟨S1, .i32⟩
  | 121 => ⟨S1, .i32⟩
  | 122 => ⟨S1, .i32⟩
  | 123 => ⟨S1, .i32⟩
  | 124 => ⟨S1, .i32⟩
  | 125 => ⟨S_, .i32⟩
  | 126 => ⟨S1, .i32⟩
  | 127 => ⟨S1, .i32⟩
  | _ => ⟨S1x2048x1024, .f32⟩

abbrev hbmTy0_6 (i : Nat) : BufTy := match i % 128 with
  | 0 => ⟨S2, .i32⟩
  | 1 => ⟨S_, .f32⟩
  | 2 => ⟨S_, .f32⟩
  | 3 => ⟨S_, .f32⟩
  | 4 => ⟨S_, .f32⟩
  | 5 => ⟨S1x1x1, .f32⟩
  | 6 => ⟨S1x1x1, .f32⟩
  | 7 => ⟨S1, .i32⟩
  | 8 => ⟨S_, .i32⟩
  | 9 => ⟨S1, .i32⟩
  | 10 => ⟨S_, .i32⟩
  | 11 => ⟨S1x2048x2048, .i64⟩
  | 12 => ⟨S1x2048x2048, .i64⟩
  | 13 => ⟨S1x2048x2048, .i64⟩
  | 14 => ⟨S_, .i64⟩
  | 15 => ⟨S1x2048x2048, .i64⟩
  | 16 => ⟨S1x2048x2048, .i64⟩
  | 17 => ⟨S_, .i64⟩
  | 18 => ⟨S1x2048x2048, .i64⟩
  | 19 => ⟨S1x2048x2048, .i64⟩
  | 20 => ⟨S_, .i64⟩
  | 21 => ⟨S1x2048x2048, .i64⟩
  | 22 => ⟨S1x2048x2048, .i64⟩
  | 23 => ⟨S1x2048x2048, .i64⟩
  | 24 => ⟨S1x2048x2048, .i64⟩
  | 25 => ⟨S_, .i64⟩
  | 26 => ⟨S1x2048x2048, .i64⟩
  | 27 => ⟨S1x2048x2048, .i64⟩
  | 28 => ⟨S1x2048x2048, .i32⟩
  | 29 => ⟨S1x2048x2048, .i32⟩
  | 30 => ⟨S_, .i32⟩
  | 31 => ⟨S_, .i32⟩
  | 32 => ⟨S_, .i32⟩
  | 33 => ⟨S1x2048x2048, .i32⟩
  | 34 => ⟨S1x2048x2048, .i32⟩
  | 35 => ⟨S1x2048x2048, .i32⟩
  | 36 => ⟨S1x2048x2048, .i32⟩
  | 37 => ⟨S1x2048x2048, .i32⟩
  | 38 => ⟨S_, .i32⟩
  | 39 => ⟨S1x2048x2048, .i32⟩
  | 40 => ⟨S1x2048x2048, .i32⟩
  | 41 => ⟨S_, .i32⟩
  | 42 => ⟨S1x2048x2048, .i32⟩
  | 43 => ⟨S1x2048x2048, .i32⟩
  | 44 => ⟨S1x2048x2048, .i32⟩
  | 45 => ⟨S1x2048x2048, .i32⟩
  | 46 => ⟨S1x2048x2048, .i32⟩
  | 47 => ⟨S_, .i32⟩
  | 48 => ⟨S1x2048x2048, .i32⟩
  | 49 => ⟨S1x2048x2048, .i32⟩
  | 50 => ⟨S_, .i32⟩
  | 51 => ⟨S1x2048x2048, .i32⟩
  | 52 => ⟨S1x2048x2048, .i32⟩
  | 53 => ⟨S1x2048x2048, .i32⟩
  | 54 => ⟨S1x2048x2048, .i32⟩
  | 55 => ⟨S1x2048x2048, .i32⟩
  | 56 => ⟨S_, .i32⟩
  | 57 => ⟨S1x2048x2048, .i32⟩
  | 58 => ⟨S1x2048x2048, .i32⟩
  | 59 => ⟨S_, .i32⟩
  | 60 => ⟨S1x2048x2048, .i32⟩
  | 61 => ⟨S1x2048x2048, .i32⟩
  | 62 => ⟨S1x2048x2048, .i32⟩
  | 63 => ⟨S1x2048x2048, .i32⟩
  | 64 => ⟨S1x2048x2048, .i32⟩
  | 65 => ⟨S_, .i32⟩
  | 66 => ⟨S1x2048x2048, .i32⟩
  | 67 => ⟨S1x2048x2048, .i32⟩
  | 68 => ⟨S_, .i32⟩
  | 69 => ⟨S1x2048x2048, .i32⟩
  | 70 => ⟨S1x2048x2048, .i32⟩
  | 71 => ⟨S1x2048x2048, .i32⟩
  | 72 => ⟨S1x2048x2048, .i32⟩
  | 73 => ⟨S1x2048x2048, .i32⟩
  | 74 => ⟨S1x2048x2048, .i32⟩
  | 75 => ⟨S1x2048x2048, .i32⟩
  | 76 => ⟨S1x2048x2048, .i32⟩
  | 77 => ⟨S_, .i32⟩
  | 78 => ⟨S1x2048x2048, .i32⟩
  | 79 => ⟨S1x2048x2048, .i32⟩
  | 80 => ⟨S1x2048x2048, .i32⟩
  | 81 => ⟨S_, .i32⟩
  | 82 => ⟨S1x2048x2048, .i32⟩
  | 83 => ⟨S1x2048x2048, .i32⟩
  | 84 => ⟨S_, .i32⟩
  | 85 => ⟨S1x2048x2048, .i32⟩
  | 86 => ⟨S1x2048x2048, .i32⟩
  | 87 => ⟨S1x2048x2048, .i32⟩
  | 88 => ⟨S1x2048x2048, .i32⟩
  | 89 => ⟨S1x2048x2048, .i32⟩
  | 90 => ⟨S_, .i32⟩
  | 91 => ⟨S1x2048x2048, .i32⟩
  | 92 => ⟨S1x2048x2048, .i32⟩
  | 93 => ⟨S_, .i32⟩
  | 94 => ⟨S1x2048x2048, .i32⟩
  | 95 => ⟨S1x2048x2048, .i32⟩
  | 96 => ⟨S1x2048x2048, .i32⟩
  | 97 => ⟨S1x2048x2048, .i32⟩
  | 98 => ⟨S1x2048x2048, .i32⟩
  | 99 => ⟨S_, .i32⟩
  | 100 => ⟨S1x2048x2048, .i32⟩
  | 101 => ⟨S1x2048x2048, .i32⟩
  | 102 => ⟨S_, .i32⟩
  | 103 => ⟨S1x2048x2048, .i32⟩
  | 104 => ⟨S1x2048x2048, .i32⟩
  | 105 => ⟨S1x2048x2048, .i32⟩
  | 106 => ⟨S1x2048x2048, .i32⟩
  | 107 => ⟨S1x2048x2048, .i32⟩
  | 108 => ⟨S_, .i32⟩
  | 109 => ⟨S1x2048x2048, .i32⟩
  | 110 => ⟨S1x2048x2048, .i32⟩
  | 111 => ⟨S_, .i32⟩
  | 112 => ⟨S1x2048x2048, .i32⟩
  | 113 => ⟨S1x2048x2048, .i32⟩
  | 114 => ⟨S1x2048x2048, .i32⟩
  | 115 => ⟨S1x2048x2048, .i32⟩
  | 116 => ⟨S1x2048x2048, .i32⟩
  | 117 => ⟨S1x2048x2048, .i32⟩
  | 118 => ⟨S1x2048x2048, .i32⟩
  | 119 => ⟨S1x2048x2048, .i32⟩
  | 120 => ⟨S_, .i32⟩
  | 121 => ⟨S1x2048x2048, .i32⟩
  | 122 => ⟨S1x2048x2048, .i32⟩
  | 123 => ⟨S1x2048x2048, .i32⟩
  | 124 => ⟨S_, .i32⟩
  | 125 => ⟨S1x2048x2048, .i32⟩
  | 126 => ⟨S1x2048x2048, .i32⟩
  | 127 => ⟨S_, .i32⟩
  | _ => ⟨S1x2048x1024, .f32⟩

abbrev hbmTy0_7 (i : Nat) : BufTy := match i % 128 with
  | 0 => ⟨S1x2048x2048, .i32⟩
  | 1 => ⟨S1x2048x2048, .i32⟩
  | 2 => ⟨S1x2048x2048, .i32⟩
  | 3 => ⟨S1x2048x2048, .i32⟩
  | 4 => ⟨S1x2048x2048, .i32⟩
  | 5 => ⟨S_, .i32⟩
  | 6 => ⟨S1x2048x2048, .i32⟩
  | 7 => ⟨S1x2048x2048, .i32⟩
  | 8 => ⟨S_, .i32⟩
  | 9 => ⟨S1x2048x2048, .i32⟩
  | 10 => ⟨S1x2048x2048, .i32⟩
  | 11 => ⟨S1x2048x2048, .i32⟩
  | 12 => ⟨S1x2048x2048, .i32⟩
  | 13 => ⟨S1x2048x2048, .i32⟩
  | 14 => ⟨S_, .i32⟩
  | 15 => ⟨S1x2048x2048, .i32⟩
  | 16 => ⟨S1x2048x2048, .i32⟩
  | 17 => ⟨S_, .i32⟩
  | 18 => ⟨S1x2048x2048, .i32⟩
  | 19 => ⟨S1x2048x2048, .i32⟩
  | 20 => ⟨S1x2048x2048, .i32⟩
  | 21 => ⟨S1x2048x2048, .i32⟩
  | 22 => ⟨S1x2048x2048, .i32⟩
  | 23 => ⟨S_, .i32⟩
  | 24 => ⟨S1x2048x2048, .i32⟩
  | 25 => ⟨S1x2048x2048, .i32⟩
  | 26 => ⟨S_, .i32⟩
  | 27 => ⟨S1x2048x2048, .i32⟩
  | 28 => ⟨S1x2048x2048, .i32⟩
  | 29 => ⟨S1x2048x2048, .i32⟩
  | 30 => ⟨S1x2048x2048, .i32⟩
  | 31 => ⟨S1x2048x2048, .i32⟩
  | 32 => ⟨S1x2048x2048, .i32⟩
  | 33 => ⟨S1x2048x2048, .i32⟩
  | 34 => ⟨S1x2048x2048, .i32⟩
  | 35 => ⟨S_, .i32⟩
  | 36 => ⟨S1x2048x2048, .i32⟩
  | 37 => ⟨S1x2048x2048, .i32⟩
  | 38 => ⟨S1x2048x2048, .i32⟩
  | 39 => ⟨S_, .i32⟩
  | 40 => ⟨S1x2048x2048, .i32⟩
  | 41 => ⟨S1x2048x2048, .i32⟩
  | 42 => ⟨S_, .i32⟩
  | 43 => ⟨S1x2048x2048, .i32⟩
  | 44 => ⟨S1x2048x2048, .i32⟩
  | 45 => ⟨S1x2048x2048, .i32⟩
  | 46 => ⟨S1x2048x2048, .i32⟩
  | 47 => ⟨S1x2048x2048, .i32⟩
  | 48 => ⟨S_, .i32⟩
  | 49 => ⟨S1x2048x2048, .i32⟩
  | 50 => ⟨S1x2048x2048, .i32⟩
  | 51 => ⟨S_, .i32⟩
  | 52 => ⟨S1x2048x2048, .i32⟩
  | 53 => ⟨S1x2048x2048, .i32⟩
  | 54 => ⟨S1x2048x2048, .i32⟩
  | 55 => ⟨S1x2048x2048, .i32⟩
  | 56 => ⟨S1x2048x2048, .i32⟩
  | 57 => ⟨S_, .i32⟩
  | 58 => ⟨S1x2048x2048, .i32⟩
  | 59 => ⟨S1x2048x2048, .i32⟩
  | 60 => ⟨S_, .i32⟩
  | 61 => ⟨S1x2048x2048, .i32⟩
  | 62 => ⟨S1x2048x2048, .i32⟩
  | 63 => ⟨S1x2048x2048, .i32⟩
  | 64 => ⟨S1x2048x2048, .i32⟩
  | 65 => ⟨S1x2048x2048, .i32⟩
  | 66 => ⟨S_, .i32⟩
  | 67 => ⟨S1x2048x2048, .i32⟩
  | 68 => ⟨S1x2048x2048, .i32⟩
  | 69 => ⟨S_, .i32⟩
  | 70 => ⟨S1x2048x2048, .i32⟩
  | 71 => ⟨S1x2048x2048, .i32⟩
  | 72 => ⟨S1x2048x2048, .i32⟩
  | 73 => ⟨S1x2048x2048, .i32⟩
  | 74 => ⟨S1x2048x2048, .i32⟩
  | 75 => ⟨S1x2048x2048, .i32⟩
  | 76 => ⟨S1x2048x2048, .i32⟩
  | 77 => ⟨S1x2048x2048, .i32⟩
  | 78 => ⟨S_, .i32⟩
  | 79 => ⟨S1x2048x2048, .i32⟩
  | 80 => ⟨S1x2048x2048, .i32⟩
  | 81 => ⟨S1x2048x2048, .i32⟩
  | 82 => ⟨S_, .i32⟩
  | 83 => ⟨S1x2048x2048, .i32⟩
  | 84 => ⟨S1x2048x2048, .i32⟩
  | 85 => ⟨S_, .i32⟩
  | 86 => ⟨S1x2048x2048, .i32⟩
  | 87 => ⟨S1x2048x2048, .i32⟩
  | 88 => ⟨S1x2048x2048, .i32⟩
  | 89 => ⟨S1x2048x2048, .i32⟩
  | 90 => ⟨S1x2048x2048, .i32⟩
  | 91 => ⟨S_, .i32⟩
  | 92 => ⟨S1x2048x2048, .i32⟩
  | 93 => ⟨S1x2048x2048, .i32⟩
  | 94 => ⟨S_, .i32⟩
  | 95 => ⟨S1x2048x2048, .i32⟩
  | 96 => ⟨S1x2048x2048, .i32⟩
  | 97 => ⟨S1x2048x2048, .i32⟩
  | 98 => ⟨S1x2048x2048, .i32⟩
  | 99 => ⟨S1x2048x2048, .i32⟩
  | 100 => ⟨S_, .i32⟩
  | 101 => ⟨S1x2048x2048, .i32⟩
  | 102 => ⟨S1x2048x2048, .i32⟩
  | 103 => ⟨S_, .i32⟩
  | 104 => ⟨S1x2048x2048, .i32⟩
  | 105 => ⟨S1x2048x2048, .i32⟩
  | 106 => ⟨S1x2048x2048, .i32⟩
  | 107 => ⟨S1x2048x2048, .i32⟩
  | 108 => ⟨S1x2048x2048, .i32⟩
  | 109 => ⟨S_, .i32⟩
  | 110 => ⟨S1x2048x2048, .i32⟩
  | 111 => ⟨S1x2048x2048, .i32⟩
  | 112 => ⟨S_, .i32⟩
  | 113 => ⟨S1x2048x2048, .i32⟩
  | 114 => ⟨S1x2048x2048, .i32⟩
  | 115 => ⟨S1x2048x2048, .i32⟩
  | 116 => ⟨S1x2048x2048, .i32⟩
  | 117 => ⟨S1x2048x2048, .i32⟩
  | 118 => ⟨S1x2048x2048, .i32⟩
  | 119 => ⟨S1x2048x2048, .i32⟩
  | 120 => ⟨S1x2048x2048, .i32⟩
  | 121 => ⟨S_, .i32⟩
  | 122 => ⟨S1x2048x2048, .i32⟩
  | 123 => ⟨S1x2048x2048, .i32⟩
  | 124 => ⟨S1x2048x2048, .i32⟩
  | 125 => ⟨S_, .i32⟩
  | 126 => ⟨S1x2048x2048, .i32⟩
  | 127 => ⟨S1x2048x2048, .i32⟩
  | _ => ⟨S1x2048x1024, .f32⟩

abbrev hbmTy0_8 (i : Nat) : BufTy := match i % 128 with
  | 0 => ⟨S_, .i32⟩
  | 1 => ⟨S1x2048x2048, .i32⟩
  | 2 => ⟨S1x2048x2048, .i32⟩
  | 3 => ⟨S1x2048x2048, .f32⟩
  | 4 => ⟨S_, .f32⟩
  | 5 => ⟨S1x2048x2048, .f32⟩
  | 6 => ⟨S1x2048x2048, .f32⟩
  | 7 => ⟨S1x1x1, .f32⟩
  | 8 => ⟨S1x2048x2048, .f32⟩
  | 9 => ⟨S1x2048x2048, .f32⟩
  | 10 => ⟨S1x2048x2048, .f32⟩
  | 11 => ⟨S1x2048x2048, .f32⟩
  | 12 => ⟨S1x2048x2048, .f32⟩
  | 13 => ⟨S1x2048x2048, .f32⟩
  | 14 => ⟨S1x2048x2048, .f32⟩
  | 15 => ⟨S1x2048x2048, .f32⟩
  | 16 => ⟨S1x2048x2048, .f32⟩
  | 17 => ⟨S1x2048x2048, .f32⟩
  | 18 => ⟨S_, .f32⟩
  | 19 => ⟨S1x2048x2048, .f32⟩
  | 20 => ⟨S1x2048x2048, .f32⟩
  | 21 => ⟨S2048x2048, .f32⟩
  | 22 => ⟨S1x2048x2048, .f32⟩
  | 23 => ⟨S1x2048x2048, .f32⟩
  | 24 => ⟨S2x2048x2048, .f32⟩
  | 25 => ⟨S2048x3072, .f32⟩
  | 26 => ⟨S2048x64, .f32⟩
  | 27 => ⟨S2048x1024, .f32⟩
  | 28 => ⟨S1x2048x1024, .f32⟩
  | _ => ⟨S1x2048x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S1x2048x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S1024x3072, .f32⟩
  | .local _ .vmem, ⟨3, _⟩ => ⟨S1024x64, .f32⟩
  | .local _ .vmem, ⟨4, _⟩ => ⟨S256x3072, .f32⟩
  | .local _ .vmem, ⟨5, _⟩ => ⟨S256x3072, .f32⟩
  | .local _ .vmem, ⟨6, _⟩ => ⟨S256x64, .f32⟩
  | .local _ .vmem, ⟨7, _⟩ => ⟨S256x64, .f32⟩
  | .local _ .vmem, ⟨8, _⟩ => ⟨S256x1024, .f32⟩
  | .local _ .vmem, ⟨9, _⟩ => ⟨S256x1024, .f32⟩
  | .local _ .vmem, ⟨10, _⟩ => ⟨S2048x1024, .f32⟩
  | .local _ .vmem, ⟨11, _⟩ => ⟨S2048x1024, .f32⟩
  | .local _ .vmem, ⟨12, _⟩ => ⟨S256x64, .f32⟩
  | .local _ .vmem, ⟨13, _⟩ => ⟨S256x64, .f32⟩
  | .local _ .vmem, ⟨14, _⟩ => ⟨S2048x64, .f32⟩
  | .local _ .vmem, ⟨15, _⟩ => ⟨S2x256x2048, .f32⟩
  | .local _ .vmem, ⟨16, _⟩ => ⟨S2x256x2048, .f32⟩
  | .local _ .vmem, ⟨17, _⟩ => ⟨S1024x1024, .f32⟩
  | .local _ .vmem, ⟨18, _⟩ => ⟨S256x1024, .f32⟩
  | .local _ .vmem, ⟨19, _⟩ => ⟨S256x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_call0_v0 : Ref sig .tc := ⟨.hbm, 32, rfl⟩
abbrev main_call0_call0_c : Ref sig .tc := ⟨.hbm, 33, rfl⟩
abbrev main_call0_call0_v1 : Ref sig .tc := ⟨.hbm, 34, rfl⟩
abbrev main_call0_call0_v2 : Ref sig .tc := ⟨.hbm, 35, rfl⟩
abbrev main_call0_call0_v3 : Ref sig .tc := ⟨.hbm, 36, rfl⟩
abbrev main_call0_call0_v4 : Ref sig .tc := ⟨.hbm, 37, rfl⟩
abbrev main_call0_call0_v5 : Ref sig .tc := ⟨.hbm, 38, rfl⟩
abbrev main_call0_call0_v6 : Ref sig .tc := ⟨.hbm, 39, rfl⟩
abbrev main_call0_call0_c_0 : Ref sig .tc := ⟨.hbm, 40, rfl⟩
abbrev main_call0_call0_v7 : Ref sig .tc := ⟨.hbm, 41, rfl⟩
abbrev main_call0_call0_v8 : Ref sig .tc := ⟨.hbm, 42, rfl⟩
abbrev main_call0_call0_c_1 : Ref sig .tc := ⟨.hbm, 43, rfl⟩
abbrev main_call0_call0_v9 : Ref sig .tc := ⟨.hbm, 44, rfl⟩
abbrev main_call0_call0_v10 : Ref sig .tc := ⟨.hbm, 45, rfl⟩
abbrev main_call0_call0_v11 : Ref sig .tc := ⟨.hbm, 46, rfl⟩
abbrev main_call0_call0_v12 : Ref sig .tc := ⟨.hbm, 47, rfl⟩
abbrev main_call0_call0_v13 : Ref sig .tc := ⟨.hbm, 48, rfl⟩
abbrev main_call0_call0_c_2 : Ref sig .tc := ⟨.hbm, 49, rfl⟩
abbrev main_call0_call0_v14 : Ref sig .tc := ⟨.hbm, 50, rfl⟩
abbrev main_call0_call0_v15 : Ref sig .tc := ⟨.hbm, 51, rfl⟩
abbrev main_call0_call0_c_3 : Ref sig .tc := ⟨.hbm, 52, rfl⟩
abbrev main_call0_call0_v16 : Ref sig .tc := ⟨.hbm, 53, rfl⟩
abbrev main_call0_call0_v17 : Ref sig .tc := ⟨.hbm, 54, rfl⟩
abbrev main_call0_call0_v18 : Ref sig .tc := ⟨.hbm, 55, rfl⟩
abbrev main_call0_call0_v19 : Ref sig .tc := ⟨.hbm, 56, rfl⟩
abbrev main_call0_call0_v20 : Ref sig .tc := ⟨.hbm, 57, rfl⟩
abbrev main_call0_call0_c_4 : Ref sig .tc := ⟨.hbm, 58, rfl⟩
abbrev main_call0_call0_v21 : Ref sig .tc := ⟨.hbm, 59, rfl⟩
abbrev main_call0_call0_v22 : Ref sig .tc := ⟨.hbm, 60, rfl⟩
abbrev main_call0_call0_c_5 : Ref sig .tc := ⟨.hbm, 61, rfl⟩
abbrev main_call0_call0_v23 : Ref sig .tc := ⟨.hbm, 62, rfl⟩
abbrev main_call0_call0_v24 : Ref sig .tc := ⟨.hbm, 63, rfl⟩
abbrev main_call0_call0_v25 : Ref sig .tc := ⟨.hbm, 64, rfl⟩
abbrev main_call0_call0_v26 : Ref sig .tc := ⟨.hbm, 65, rfl⟩
abbrev main_call0_call0_v27 : Ref sig .tc := ⟨.hbm, 66, rfl⟩
abbrev main_call0_call0_c_6 : Ref sig .tc := ⟨.hbm, 67, rfl⟩
abbrev main_call0_call0_v28 : Ref sig .tc := ⟨.hbm, 68, rfl⟩
abbrev main_call0_call0_v29 : Ref sig .tc := ⟨.hbm, 69, rfl⟩
abbrev main_call0_call0_c_7 : Ref sig .tc := ⟨.hbm, 70, rfl⟩
abbrev main_call0_call0_v30 : Ref sig .tc := ⟨.hbm, 71, rfl⟩
abbrev main_call0_call0_v31 : Ref sig .tc := ⟨.hbm, 72, rfl⟩
abbrev main_call0_call0_v32 : Ref sig .tc := ⟨.hbm, 73, rfl⟩
abbrev main_call0_call0_v33 : Ref sig .tc := ⟨.hbm, 74, rfl⟩
abbrev main_call0_call0_v34 : Ref sig .tc := ⟨.hbm, 75, rfl⟩
abbrev main_call0_call0_v35 : Ref sig .tc := ⟨.hbm, 76, rfl⟩
abbrev main_call0_call0_v36 : Ref sig .tc := ⟨.hbm, 77, rfl⟩
abbrev main_call0_call0_v37 : Ref sig .tc := ⟨.hbm, 78, rfl⟩
abbrev main_call0_call0_c_8 : Ref sig .tc := ⟨.hbm, 79, rfl⟩
abbrev main_call0_call0_v38 : Ref sig .tc := ⟨.hbm, 80, rfl⟩
abbrev main_call0_call0_v39 : Ref sig .tc := ⟨.hbm, 81, rfl⟩
abbrev main_call0_call0_v40 : Ref sig .tc := ⟨.hbm, 82, rfl⟩
abbrev main_call0_call0_c_9 : Ref sig .tc := ⟨.hbm, 83, rfl⟩
abbrev main_call0_call0_v41 : Ref sig .tc := ⟨.hbm, 84, rfl⟩
abbrev main_call0_call0_v42 : Ref sig .tc := ⟨.hbm, 85, rfl⟩
abbrev main_call0_call0_c_10 : Ref sig .tc := ⟨.hbm, 86, rfl⟩
abbrev main_call0_call0_v43 : Ref sig .tc := ⟨.hbm, 87, rfl⟩
abbrev main_call0_call0_v44 : Ref sig .tc := ⟨.hbm, 88, rfl⟩
abbrev main_call0_call0_v45 : Ref sig .tc := ⟨.hbm, 89, rfl⟩
abbrev main_call0_call0_v46 : Ref sig .tc := ⟨.hbm, 90, rfl⟩
abbrev main_call0_call0_v47 : Ref sig .tc := ⟨.hbm, 91, rfl⟩
abbrev main_call0_call0_c_11 : Ref sig .tc := ⟨.hbm, 92, rfl⟩
abbrev main_call0_call0_v48 : Ref sig .tc := ⟨.hbm, 93, rfl⟩
abbrev main_call0_call0_v49 : Ref sig .tc := ⟨.hbm, 94, rfl⟩
abbrev main_call0_call0_c_12 : Ref sig .tc := ⟨.hbm, 95, rfl⟩
abbrev main_call0_call0_v50 : Ref sig .tc := ⟨.hbm, 96, rfl⟩
abbrev main_call0_call0_v51 : Ref sig .tc := ⟨.hbm, 97, rfl⟩
abbrev main_call0_call0_v52 : Ref sig .tc := ⟨.hbm, 98, rfl⟩
abbrev main_call0_call0_v53 : Ref sig .tc := ⟨.hbm, 99, rfl⟩
abbrev main_call0_call0_v54 : Ref sig .tc := ⟨.hbm, 100, rfl⟩
abbrev main_call0_call0_c_13 : Ref sig .tc := ⟨.hbm, 101, rfl⟩
abbrev main_call0_call0_v55 : Ref sig .tc := ⟨.hbm, 102, rfl⟩
abbrev main_call0_call0_v56 : Ref sig .tc := ⟨.hbm, 103, rfl⟩
abbrev main_call0_call0_c_14 : Ref sig .tc := ⟨.hbm, 104, rfl⟩
abbrev main_call0_call0_v57 : Ref sig .tc := ⟨.hbm, 105, rfl⟩
abbrev main_call0_call0_v58 : Ref sig .tc := ⟨.hbm, 106, rfl⟩
abbrev main_call0_call0_v59 : Ref sig .tc := ⟨.hbm, 107, rfl⟩
abbrev main_call0_call0_v60 : Ref sig .tc := ⟨.hbm, 108, rfl⟩
abbrev main_call0_call0_v61 : Ref sig .tc := ⟨.hbm, 109, rfl⟩
abbrev main_call0_call0_c_15 : Ref sig .tc := ⟨.hbm, 110, rfl⟩
abbrev main_call0_call0_v62 : Ref sig .tc := ⟨.hbm, 111, rfl⟩
abbrev main_call0_call0_v63 : Ref sig .tc := ⟨.hbm, 112, rfl⟩
abbrev main_call0_call0_c_16 : Ref sig .tc := ⟨.hbm, 113, rfl⟩
abbrev main_call0_call0_v64 : Ref sig .tc := ⟨.hbm, 114, rfl⟩
abbrev main_call0_call0_v65 : Ref sig .tc := ⟨.hbm, 115, rfl⟩
abbrev main_call0_call0_v66 : Ref sig .tc := ⟨.hbm, 116, rfl⟩
abbrev main_call0_call0_v67 : Ref sig .tc := ⟨.hbm, 117, rfl⟩
abbrev main_call0_call0_v68 : Ref sig .tc := ⟨.hbm, 118, rfl⟩
abbrev main_call0_call0_v69 : Ref sig .tc := ⟨.hbm, 119, rfl⟩
abbrev main_call0_call0_v70 : Ref sig .tc := ⟨.hbm, 120, rfl⟩
abbrev main_call0_call0_v71 : Ref sig .tc := ⟨.hbm, 121, rfl⟩
abbrev main_call0_call0_c_17 : Ref sig .tc := ⟨.hbm, 122, rfl⟩
abbrev main_call0_call0_v72 : Ref sig .tc := ⟨.hbm, 123, rfl⟩
abbrev main_call0_call0_v73 : Ref sig .tc := ⟨.hbm, 124, rfl⟩
abbrev main_call0_call0_v74 : Ref sig .tc := ⟨.hbm, 125, rfl⟩
abbrev main_call0_call0_c_18 : Ref sig .tc := ⟨.hbm, 126, rfl⟩
abbrev main_call0_call0_v75 : Ref sig .tc := ⟨.hbm, 127, rfl⟩
abbrev main_call0_call0_v76 : Ref sig .tc := ⟨.hbm, 128, rfl⟩
abbrev main_call0_call0_c_19 : Ref sig .tc := ⟨.hbm, 129, rfl⟩
abbrev main_call0_call0_v77 : Ref sig .tc := ⟨.hbm, 130, rfl⟩
abbrev main_call0_call0_v78 : Ref sig .tc := ⟨.hbm, 131, rfl⟩
abbrev main_call0_call0_v79 : Ref sig .tc := ⟨.hbm, 132, rfl⟩
abbrev main_call0_call0_v80 : Ref sig .tc := ⟨.hbm, 133, rfl⟩
abbrev main_call0_call0_v81 : Ref sig .tc := ⟨.hbm, 134, rfl⟩
abbrev main_call0_call0_c_20 : Ref sig .tc := ⟨.hbm, 135, rfl⟩
abbrev main_call0_call0_v82 : Ref sig .tc := ⟨.hbm, 136, rfl⟩
abbrev main_call0_call0_v83 : Ref sig .tc := ⟨.hbm, 137, rfl⟩
abbrev main_call0_call0_c_21 : Ref sig .tc := ⟨.hbm, 138, rfl⟩
abbrev main_call0_call0_v84 : Ref sig .tc := ⟨.hbm, 139, rfl⟩
abbrev main_call0_call0_v85 : Ref sig .tc := ⟨.hbm, 140, rfl⟩
abbrev main_call0_call0_v86 : Ref sig .tc := ⟨.hbm, 141, rfl⟩
abbrev main_call0_call0_v87 : Ref sig .tc := ⟨.hbm, 142, rfl⟩
abbrev main_call0_call0_v88 : Ref sig .tc := ⟨.hbm, 143, rfl⟩
abbrev main_call0_call0_c_22 : Ref sig .tc := ⟨.hbm, 144, rfl⟩
abbrev main_call0_call0_v89 : Ref sig .tc := ⟨.hbm, 145, rfl⟩
abbrev main_call0_call0_v90 : Ref sig .tc := ⟨.hbm, 146, rfl⟩
abbrev main_call0_call0_c_23 : Ref sig .tc := ⟨.hbm, 147, rfl⟩
abbrev main_call0_call0_v91 : Ref sig .tc := ⟨.hbm, 148, rfl⟩
abbrev main_call0_call0_v92 : Ref sig .tc := ⟨.hbm, 149, rfl⟩
abbrev main_call0_call0_v93 : Ref sig .tc := ⟨.hbm, 150, rfl⟩
abbrev main_call0_call0_v94 : Ref sig .tc := ⟨.hbm, 151, rfl⟩
abbrev main_call0_call0_v95 : Ref sig .tc := ⟨.hbm, 152, rfl⟩
abbrev main_call0_call0_c_24 : Ref sig .tc := ⟨.hbm, 153, rfl⟩
abbrev main_call0_call0_v96 : Ref sig .tc := ⟨.hbm, 154, rfl⟩
abbrev main_call0_call0_v97 : Ref sig .tc := ⟨.hbm, 155, rfl⟩
abbrev main_call0_call0_c_25 : Ref sig .tc := ⟨.hbm, 156, rfl⟩
abbrev main_call0_call0_v98 : Ref sig .tc := ⟨.hbm, 157, rfl⟩
abbrev main_call0_call0_v99 : Ref sig .tc := ⟨.hbm, 158, rfl⟩
abbrev main_call0_call0_v100 : Ref sig .tc := ⟨.hbm, 159, rfl⟩
abbrev main_call0_call0_v101 : Ref sig .tc := ⟨.hbm, 160, rfl⟩
abbrev main_call0_call0_v102 : Ref sig .tc := ⟨.hbm, 161, rfl⟩
abbrev main_call0_call0_v103 : Ref sig .tc := ⟨.hbm, 162, rfl⟩
abbrev main_call0_call0_v104 : Ref sig .tc := ⟨.hbm, 163, rfl⟩
abbrev main_call0_call0_v105 : Ref sig .tc := ⟨.hbm, 164, rfl⟩
abbrev main_call0_call0_c_26 : Ref sig .tc := ⟨.hbm, 165, rfl⟩
abbrev main_call0_call0_v106 : Ref sig .tc := ⟨.hbm, 166, rfl⟩
abbrev main_call0_call0_v107 : Ref sig .tc := ⟨.hbm, 167, rfl⟩
abbrev main_call0_call0_v108 : Ref sig .tc := ⟨.hbm, 168, rfl⟩
abbrev main_call0_call0_c_27 : Ref sig .tc := ⟨.hbm, 169, rfl⟩
abbrev main_call0_call0_v109 : Ref sig .tc := ⟨.hbm, 170, rfl⟩
abbrev main_call0_call0_v110 : Ref sig .tc := ⟨.hbm, 171, rfl⟩
abbrev main_call0_call0_c_28 : Ref sig .tc := ⟨.hbm, 172, rfl⟩
abbrev main_call0_call0_v111 : Ref sig .tc := ⟨.hbm, 173, rfl⟩
abbrev main_call0_call0_v112 : Ref sig .tc := ⟨.hbm, 174, rfl⟩
abbrev main_call0_call0_v113 : Ref sig .tc := ⟨.hbm, 175, rfl⟩
abbrev main_call0_call0_v114 : Ref sig .tc := ⟨.hbm, 176, rfl⟩
abbrev main_call0_call0_v115 : Ref sig .tc := ⟨.hbm, 177, rfl⟩
abbrev main_call0_call0_c_29 : Ref sig .tc := ⟨.hbm, 178, rfl⟩
abbrev main_call0_call0_v116 : Ref sig .tc := ⟨.hbm, 179, rfl⟩
abbrev main_call0_call0_v117 : Ref sig .tc := ⟨.hbm, 180, rfl⟩
abbrev main_call0_call0_c_30 : Ref sig .tc := ⟨.hbm, 181, rfl⟩
abbrev main_call0_call0_v118 : Ref sig .tc := ⟨.hbm, 182, rfl⟩
abbrev main_call0_call0_v119 : Ref sig .tc := ⟨.hbm, 183, rfl⟩
abbrev main_call0_call0_v120 : Ref sig .tc := ⟨.hbm, 184, rfl⟩
abbrev main_call0_call0_v121 : Ref sig .tc := ⟨.hbm, 185, rfl⟩
abbrev main_call0_call0_v122 : Ref sig .tc := ⟨.hbm, 186, rfl⟩
abbrev main_call0_call0_c_31 : Ref sig .tc := ⟨.hbm, 187, rfl⟩
abbrev main_call0_call0_v123 : Ref sig .tc := ⟨.hbm, 188, rfl⟩
abbrev main_call0_call0_v124 : Ref sig .tc := ⟨.hbm, 189, rfl⟩
abbrev main_call0_call0_c_32 : Ref sig .tc := ⟨.hbm, 190, rfl⟩
abbrev main_call0_call0_v125 : Ref sig .tc := ⟨.hbm, 191, rfl⟩
abbrev main_call0_call0_v126 : Ref sig .tc := ⟨.hbm, 192, rfl⟩
abbrev main_call0_call0_v127 : Ref sig .tc := ⟨.hbm, 193, rfl⟩
abbrev main_call0_call0_v128 : Ref sig .tc := ⟨.hbm, 194, rfl⟩
abbrev main_call0_call0_v129 : Ref sig .tc := ⟨.hbm, 195, rfl⟩
abbrev main_call0_call0_c_33 : Ref sig .tc := ⟨.hbm, 196, rfl⟩
abbrev main_call0_call0_v130 : Ref sig .tc := ⟨.hbm, 197, rfl⟩
abbrev main_call0_call0_v131 : Ref sig .tc := ⟨.hbm, 198, rfl⟩
abbrev main_call0_call0_c_34 : Ref sig .tc := ⟨.hbm, 199, rfl⟩
abbrev main_call0_call0_v132 : Ref sig .tc := ⟨.hbm, 200, rfl⟩
abbrev main_call0_call0_v133 : Ref sig .tc := ⟨.hbm, 201, rfl⟩
abbrev main_call0_call0_v134 : Ref sig .tc := ⟨.hbm, 202, rfl⟩
abbrev main_call0_call0_v135 : Ref sig .tc := ⟨.hbm, 203, rfl⟩
abbrev main_call0_call0_v136 : Ref sig .tc := ⟨.hbm, 204, rfl⟩
abbrev main_call0_call0_v137 : Ref sig .tc := ⟨.hbm, 205, rfl⟩
abbrev main_call0_call0_v138 : Ref sig .tc := ⟨.hbm, 206, rfl⟩
abbrev main_call0_call0_v139 : Ref sig .tc := ⟨.hbm, 207, rfl⟩
abbrev main_call0_call0_c_35 : Ref sig .tc := ⟨.hbm, 208, rfl⟩
abbrev main_call0_call0_v140 : Ref sig .tc := ⟨.hbm, 209, rfl⟩
abbrev main_call0_call0_v141 : Ref sig .tc := ⟨.hbm, 210, rfl⟩
abbrev main_call0_call0_v142 : Ref sig .tc := ⟨.hbm, 211, rfl⟩
abbrev main_call0_call0_c_36 : Ref sig .tc := ⟨.hbm, 212, rfl⟩
abbrev main_call0_call0_v143 : Ref sig .tc := ⟨.hbm, 213, rfl⟩
abbrev main_call0_call0_v144 : Ref sig .tc := ⟨.hbm, 214, rfl⟩
abbrev main_call0_call0_c_37 : Ref sig .tc := ⟨.hbm, 215, rfl⟩
abbrev main_call0_call0_v145 : Ref sig .tc := ⟨.hbm, 216, rfl⟩
abbrev main_call0_call0_v146 : Ref sig .tc := ⟨.hbm, 217, rfl⟩
abbrev main_call0_call0_v147 : Ref sig .tc := ⟨.hbm, 218, rfl⟩
abbrev main_call0_call0_v148 : Ref sig .tc := ⟨.hbm, 219, rfl⟩
abbrev main_call0_call0_v149 : Ref sig .tc := ⟨.hbm, 220, rfl⟩
abbrev main_call0_call0_c_38 : Ref sig .tc := ⟨.hbm, 221, rfl⟩
abbrev main_call0_call0_v150 : Ref sig .tc := ⟨.hbm, 222, rfl⟩
abbrev main_call0_call0_v151 : Ref sig .tc := ⟨.hbm, 223, rfl⟩
abbrev main_call0_call0_c_39 : Ref sig .tc := ⟨.hbm, 224, rfl⟩
abbrev main_call0_call0_v152 : Ref sig .tc := ⟨.hbm, 225, rfl⟩
abbrev main_call0_call0_v153 : Ref sig .tc := ⟨.hbm, 226, rfl⟩
abbrev main_call0_call0_v154 : Ref sig .tc := ⟨.hbm, 227, rfl⟩
abbrev main_call0_call0_v155 : Ref sig .tc := ⟨.hbm, 228, rfl⟩
abbrev main_call0_call0_v156 : Ref sig .tc := ⟨.hbm, 229, rfl⟩
abbrev main_call0_call0_c_40 : Ref sig .tc := ⟨.hbm, 230, rfl⟩
abbrev main_call0_call0_v157 : Ref sig .tc := ⟨.hbm, 231, rfl⟩
abbrev main_call0_call0_v158 : Ref sig .tc := ⟨.hbm, 232, rfl⟩
abbrev main_call0_call0_c_41 : Ref sig .tc := ⟨.hbm, 233, rfl⟩
abbrev main_call0_call0_v159 : Ref sig .tc := ⟨.hbm, 234, rfl⟩
abbrev main_call0_call0_v160 : Ref sig .tc := ⟨.hbm, 235, rfl⟩
abbrev main_call0_call0_v161 : Ref sig .tc := ⟨.hbm, 236, rfl⟩
abbrev main_call0_call0_v162 : Ref sig .tc := ⟨.hbm, 237, rfl⟩
abbrev main_call0_call0_v163 : Ref sig .tc := ⟨.hbm, 238, rfl⟩
abbrev main_call0_call0_c_42 : Ref sig .tc := ⟨.hbm, 239, rfl⟩
abbrev main_call0_call0_v164 : Ref sig .tc := ⟨.hbm, 240, rfl⟩
abbrev main_call0_call0_v165 : Ref sig .tc := ⟨.hbm, 241, rfl⟩
abbrev main_call0_call0_c_43 : Ref sig .tc := ⟨.hbm, 242, rfl⟩
abbrev main_call0_call0_v166 : Ref sig .tc := ⟨.hbm, 243, rfl⟩
abbrev main_call0_call0_v167 : Ref sig .tc := ⟨.hbm, 244, rfl⟩
abbrev main_call0_call0_v168 : Ref sig .tc := ⟨.hbm, 245, rfl⟩
abbrev main_call0_call0_v169 : Ref sig .tc := ⟨.hbm, 246, rfl⟩
abbrev main_call0_call0_v170 : Ref sig .tc := ⟨.hbm, 247, rfl⟩
abbrev main_call0_v11_0 : Ref sig .tc := ⟨.hbm, 248, rfl⟩
abbrev main_call0_call0_v172 : Ref sig .tc := ⟨.hbm, 249, rfl⟩
abbrev main_call0_call0_v173 : Ref sig .tc := ⟨.hbm, 250, rfl⟩
abbrev main_call0_call0_c_44 : Ref sig .tc := ⟨.hbm, 251, rfl⟩
abbrev main_call0_call0_v174 : Ref sig .tc := ⟨.hbm, 252, rfl⟩
abbrev main_call0_v11_1 : Ref sig .tc := ⟨.hbm, 253, rfl⟩
abbrev main_v9 : Ref sig .tc := ⟨.hbm, 254, rfl⟩
abbrev main_cst : Ref sig .tc := ⟨.hbm, 255, rfl⟩
abbrev main_cst_3 : Ref sig .tc := ⟨.hbm, 256, rfl⟩
abbrev main_call1_v0 : Ref sig .tc := ⟨.hbm, 257, rfl⟩
abbrev main_call1_v1 : Ref sig .tc := ⟨.hbm, 258, rfl⟩
abbrev main_call1_v2 : Ref sig .tc := ⟨.hbm, 259, rfl⟩
abbrev main_call1_v3 : Ref sig .tc := ⟨.hbm, 260, rfl⟩
abbrev main_call1_v4 : Ref sig .tc := ⟨.hbm, 261, rfl⟩
abbrev main_call1_v5 : Ref sig .tc := ⟨.hbm, 262, rfl⟩
abbrev main_call1_v6 : Ref sig .tc := ⟨.hbm, 263, rfl⟩
abbrev main_call1_v7 : Ref sig .tc := ⟨.hbm, 264, rfl⟩
abbrev main_call1_v8 : Ref sig .tc := ⟨.hbm, 265, rfl⟩
abbrev main_call1_v9 : Ref sig .tc := ⟨.hbm, 266, rfl⟩
abbrev main_call1_v10 : Ref sig .tc := ⟨.hbm, 267, rfl⟩
abbrev main_call1_c : Ref sig .tc := ⟨.hbm, 268, rfl⟩
abbrev main_call1_v11 : Ref sig .tc := ⟨.hbm, 269, rfl⟩
abbrev main_call1_v12 : Ref sig .tc := ⟨.hbm, 270, rfl⟩
abbrev main_call1_c_0 : Ref sig .tc := ⟨.hbm, 271, rfl⟩
abbrev main_call1_v13 : Ref sig .tc := ⟨.hbm, 272, rfl⟩
abbrev main_call1_v14 : Ref sig .tc := ⟨.hbm, 273, rfl⟩
abbrev main_call1_c_1 : Ref sig .tc := ⟨.hbm, 274, rfl⟩
abbrev main_call1_v15 : Ref sig .tc := ⟨.hbm, 275, rfl⟩
abbrev main_call1_v16 : Ref sig .tc := ⟨.hbm, 276, rfl⟩
abbrev main_call1_v17 : Ref sig .tc := ⟨.hbm, 277, rfl⟩
abbrev main_call1_v18 : Ref sig .tc := ⟨.hbm, 278, rfl⟩
abbrev main_call1_c_2 : Ref sig .tc := ⟨.hbm, 279, rfl⟩
abbrev main_call1_v19 : Ref sig .tc := ⟨.hbm, 280, rfl⟩
abbrev main_call1_v20 : Ref sig .tc := ⟨.hbm, 281, rfl⟩
abbrev main_call1_v21 : Ref sig .tc := ⟨.hbm, 282, rfl⟩
abbrev main_call1_v22 : Ref sig .tc := ⟨.hbm, 283, rfl⟩
abbrev main_call1_call0_v0 : Ref sig .tc := ⟨.hbm, 284, rfl⟩
abbrev main_call1_call0_c : Ref sig .tc := ⟨.hbm, 285, rfl⟩
abbrev main_call1_call0_v1 : Ref sig .tc := ⟨.hbm, 286, rfl⟩
abbrev main_call1_call0_v2 : Ref sig .tc := ⟨.hbm, 287, rfl⟩
abbrev main_call1_call0_v3 : Ref sig .tc := ⟨.hbm, 288, rfl⟩
abbrev main_call1_call0_v4 : Ref sig .tc := ⟨.hbm, 289, rfl⟩
abbrev main_call1_call0_v5 : Ref sig .tc := ⟨.hbm, 290, rfl⟩
abbrev main_call1_call0_v6 : Ref sig .tc := ⟨.hbm, 291, rfl⟩
abbrev main_call1_call0_c_0 : Ref sig .tc := ⟨.hbm, 292, rfl⟩
abbrev main_call1_call0_v7 : Ref sig .tc := ⟨.hbm, 293, rfl⟩
abbrev main_call1_call0_v8 : Ref sig .tc := ⟨.hbm, 294, rfl⟩
abbrev main_call1_call0_c_1 : Ref sig .tc := ⟨.hbm, 295, rfl⟩
abbrev main_call1_call0_v9 : Ref sig .tc := ⟨.hbm, 296, rfl⟩
abbrev main_call1_call0_v10 : Ref sig .tc := ⟨.hbm, 297, rfl⟩
abbrev main_call1_call0_v11 : Ref sig .tc := ⟨.hbm, 298, rfl⟩
abbrev main_call1_call0_v12 : Ref sig .tc := ⟨.hbm, 299, rfl⟩
abbrev main_call1_call0_v13 : Ref sig .tc := ⟨.hbm, 300, rfl⟩
abbrev main_call1_call0_c_2 : Ref sig .tc := ⟨.hbm, 301, rfl⟩
abbrev main_call1_call0_v14 : Ref sig .tc := ⟨.hbm, 302, rfl⟩
abbrev main_call1_call0_v15 : Ref sig .tc := ⟨.hbm, 303, rfl⟩
abbrev main_call1_call0_c_3 : Ref sig .tc := ⟨.hbm, 304, rfl⟩
abbrev main_call1_call0_v16 : Ref sig .tc := ⟨.hbm, 305, rfl⟩
abbrev main_call1_call0_v17 : Ref sig .tc := ⟨.hbm, 306, rfl⟩
abbrev main_call1_call0_v18 : Ref sig .tc := ⟨.hbm, 307, rfl⟩
abbrev main_call1_call0_v19 : Ref sig .tc := ⟨.hbm, 308, rfl⟩
abbrev main_call1_call0_v20 : Ref sig .tc := ⟨.hbm, 309, rfl⟩
abbrev main_call1_call0_c_4 : Ref sig .tc := ⟨.hbm, 310, rfl⟩
abbrev main_call1_call0_v21 : Ref sig .tc := ⟨.hbm, 311, rfl⟩
abbrev main_call1_call0_v22 : Ref sig .tc := ⟨.hbm, 312, rfl⟩
abbrev main_call1_call0_c_5 : Ref sig .tc := ⟨.hbm, 313, rfl⟩
abbrev main_call1_call0_v23 : Ref sig .tc := ⟨.hbm, 314, rfl⟩
abbrev main_call1_call0_v24 : Ref sig .tc := ⟨.hbm, 315, rfl⟩
abbrev main_call1_call0_v25 : Ref sig .tc := ⟨.hbm, 316, rfl⟩
abbrev main_call1_call0_v26 : Ref sig .tc := ⟨.hbm, 317, rfl⟩
abbrev main_call1_call0_v27 : Ref sig .tc := ⟨.hbm, 318, rfl⟩
abbrev main_call1_call0_c_6 : Ref sig .tc := ⟨.hbm, 319, rfl⟩
abbrev main_call1_call0_v28 : Ref sig .tc := ⟨.hbm, 320, rfl⟩
abbrev main_call1_call0_v29 : Ref sig .tc := ⟨.hbm, 321, rfl⟩
abbrev main_call1_call0_c_7 : Ref sig .tc := ⟨.hbm, 322, rfl⟩
abbrev main_call1_call0_v30 : Ref sig .tc := ⟨.hbm, 323, rfl⟩
abbrev main_call1_call0_v31 : Ref sig .tc := ⟨.hbm, 324, rfl⟩
abbrev main_call1_call0_v32 : Ref sig .tc := ⟨.hbm, 325, rfl⟩
abbrev main_call1_call0_v33 : Ref sig .tc := ⟨.hbm, 326, rfl⟩
abbrev main_call1_call0_v34 : Ref sig .tc := ⟨.hbm, 327, rfl⟩
abbrev main_call1_call0_v35 : Ref sig .tc := ⟨.hbm, 328, rfl⟩
abbrev main_call1_call0_v36 : Ref sig .tc := ⟨.hbm, 329, rfl⟩
abbrev main_call1_call0_v37 : Ref sig .tc := ⟨.hbm, 330, rfl⟩
abbrev main_call1_call0_c_8 : Ref sig .tc := ⟨.hbm, 331, rfl⟩
abbrev main_call1_call0_v38 : Ref sig .tc := ⟨.hbm, 332, rfl⟩
abbrev main_call1_call0_v39 : Ref sig .tc := ⟨.hbm, 333, rfl⟩
abbrev main_call1_call0_v40 : Ref sig .tc := ⟨.hbm, 334, rfl⟩
abbrev main_call1_call0_c_9 : Ref sig .tc := ⟨.hbm, 335, rfl⟩
abbrev main_call1_call0_v41 : Ref sig .tc := ⟨.hbm, 336, rfl⟩
abbrev main_call1_call0_v42 : Ref sig .tc := ⟨.hbm, 337, rfl⟩
abbrev main_call1_call0_c_10 : Ref sig .tc := ⟨.hbm, 338, rfl⟩
abbrev main_call1_call0_v43 : Ref sig .tc := ⟨.hbm, 339, rfl⟩
abbrev main_call1_call0_v44 : Ref sig .tc := ⟨.hbm, 340, rfl⟩
abbrev main_call1_call0_v45 : Ref sig .tc := ⟨.hbm, 341, rfl⟩
abbrev main_call1_call0_v46 : Ref sig .tc := ⟨.hbm, 342, rfl⟩
abbrev main_call1_call0_v47 : Ref sig .tc := ⟨.hbm, 343, rfl⟩
abbrev main_call1_call0_c_11 : Ref sig .tc := ⟨.hbm, 344, rfl⟩
abbrev main_call1_call0_v48 : Ref sig .tc := ⟨.hbm, 345, rfl⟩
abbrev main_call1_call0_v49 : Ref sig .tc := ⟨.hbm, 346, rfl⟩
abbrev main_call1_call0_c_12 : Ref sig .tc := ⟨.hbm, 347, rfl⟩
abbrev main_call1_call0_v50 : Ref sig .tc := ⟨.hbm, 348, rfl⟩
abbrev main_call1_call0_v51 : Ref sig .tc := ⟨.hbm, 349, rfl⟩
abbrev main_call1_call0_v52 : Ref sig .tc := ⟨.hbm, 350, rfl⟩
abbrev main_call1_call0_v53 : Ref sig .tc := ⟨.hbm, 351, rfl⟩
abbrev main_call1_call0_v54 : Ref sig .tc := ⟨.hbm, 352, rfl⟩
abbrev main_call1_call0_c_13 : Ref sig .tc := ⟨.hbm, 353, rfl⟩
abbrev main_call1_call0_v55 : Ref sig .tc := ⟨.hbm, 354, rfl⟩
abbrev main_call1_call0_v56 : Ref sig .tc := ⟨.hbm, 355, rfl⟩
abbrev main_call1_call0_c_14 : Ref sig .tc := ⟨.hbm, 356, rfl⟩
abbrev main_call1_call0_v57 : Ref sig .tc := ⟨.hbm, 357, rfl⟩
abbrev main_call1_call0_v58 : Ref sig .tc := ⟨.hbm, 358, rfl⟩
abbrev main_call1_call0_v59 : Ref sig .tc := ⟨.hbm, 359, rfl⟩
abbrev main_call1_call0_v60 : Ref sig .tc := ⟨.hbm, 360, rfl⟩
abbrev main_call1_call0_v61 : Ref sig .tc := ⟨.hbm, 361, rfl⟩
abbrev main_call1_call0_c_15 : Ref sig .tc := ⟨.hbm, 362, rfl⟩
abbrev main_call1_call0_v62 : Ref sig .tc := ⟨.hbm, 363, rfl⟩
abbrev main_call1_call0_v63 : Ref sig .tc := ⟨.hbm, 364, rfl⟩
abbrev main_call1_call0_c_16 : Ref sig .tc := ⟨.hbm, 365, rfl⟩
abbrev main_call1_call0_v64 : Ref sig .tc := ⟨.hbm, 366, rfl⟩
abbrev main_call1_call0_v65 : Ref sig .tc := ⟨.hbm, 367, rfl⟩
abbrev main_call1_call0_v66 : Ref sig .tc := ⟨.hbm, 368, rfl⟩
abbrev main_call1_call0_v67 : Ref sig .tc := ⟨.hbm, 369, rfl⟩
abbrev main_call1_call0_v68 : Ref sig .tc := ⟨.hbm, 370, rfl⟩
abbrev main_call1_call0_v69 : Ref sig .tc := ⟨.hbm, 371, rfl⟩
abbrev main_call1_call0_v70 : Ref sig .tc := ⟨.hbm, 372, rfl⟩
abbrev main_call1_call0_v71 : Ref sig .tc := ⟨.hbm, 373, rfl⟩
abbrev main_call1_call0_c_17 : Ref sig .tc := ⟨.hbm, 374, rfl⟩
abbrev main_call1_call0_v72 : Ref sig .tc := ⟨.hbm, 375, rfl⟩
abbrev main_call1_call0_v73 : Ref sig .tc := ⟨.hbm, 376, rfl⟩
abbrev main_call1_call0_v74 : Ref sig .tc := ⟨.hbm, 377, rfl⟩
abbrev main_call1_call0_c_18 : Ref sig .tc := ⟨.hbm, 378, rfl⟩
abbrev main_call1_call0_v75 : Ref sig .tc := ⟨.hbm, 379, rfl⟩
abbrev main_call1_call0_v76 : Ref sig .tc := ⟨.hbm, 380, rfl⟩
abbrev main_call1_call0_c_19 : Ref sig .tc := ⟨.hbm, 381, rfl⟩
abbrev main_call1_call0_v77 : Ref sig .tc := ⟨.hbm, 382, rfl⟩
abbrev main_call1_call0_v78 : Ref sig .tc := ⟨.hbm, 383, rfl⟩
abbrev main_call1_call0_v79 : Ref sig .tc := ⟨.hbm, 384, rfl⟩
abbrev main_call1_call0_v80 : Ref sig .tc := ⟨.hbm, 385, rfl⟩
abbrev main_call1_call0_v81 : Ref sig .tc := ⟨.hbm, 386, rfl⟩
abbrev main_call1_call0_c_20 : Ref sig .tc := ⟨.hbm, 387, rfl⟩
abbrev main_call1_call0_v82 : Ref sig .tc := ⟨.hbm, 388, rfl⟩
abbrev main_call1_call0_v83 : Ref sig .tc := ⟨.hbm, 389, rfl⟩
abbrev main_call1_call0_c_21 : Ref sig .tc := ⟨.hbm, 390, rfl⟩
abbrev main_call1_call0_v84 : Ref sig .tc := ⟨.hbm, 391, rfl⟩
abbrev main_call1_call0_v85 : Ref sig .tc := ⟨.hbm, 392, rfl⟩
abbrev main_call1_call0_v86 : Ref sig .tc := ⟨.hbm, 393, rfl⟩
abbrev main_call1_call0_v87 : Ref sig .tc := ⟨.hbm, 394, rfl⟩
abbrev main_call1_call0_v88 : Ref sig .tc := ⟨.hbm, 395, rfl⟩
abbrev main_call1_call0_c_22 : Ref sig .tc := ⟨.hbm, 396, rfl⟩
abbrev main_call1_call0_v89 : Ref sig .tc := ⟨.hbm, 397, rfl⟩
abbrev main_call1_call0_v90 : Ref sig .tc := ⟨.hbm, 398, rfl⟩
abbrev main_call1_call0_c_23 : Ref sig .tc := ⟨.hbm, 399, rfl⟩
abbrev main_call1_call0_v91 : Ref sig .tc := ⟨.hbm, 400, rfl⟩
abbrev main_call1_call0_v92 : Ref sig .tc := ⟨.hbm, 401, rfl⟩
abbrev main_call1_call0_v93 : Ref sig .tc := ⟨.hbm, 402, rfl⟩
abbrev main_call1_call0_v94 : Ref sig .tc := ⟨.hbm, 403, rfl⟩
abbrev main_call1_call0_v95 : Ref sig .tc := ⟨.hbm, 404, rfl⟩
abbrev main_call1_call0_c_24 : Ref sig .tc := ⟨.hbm, 405, rfl⟩
abbrev main_call1_call0_v96 : Ref sig .tc := ⟨.hbm, 406, rfl⟩
abbrev main_call1_call0_v97 : Ref sig .tc := ⟨.hbm, 407, rfl⟩
abbrev main_call1_call0_c_25 : Ref sig .tc := ⟨.hbm, 408, rfl⟩
abbrev main_call1_call0_v98 : Ref sig .tc := ⟨.hbm, 409, rfl⟩
abbrev main_call1_call0_v99 : Ref sig .tc := ⟨.hbm, 410, rfl⟩
abbrev main_call1_call0_v100 : Ref sig .tc := ⟨.hbm, 411, rfl⟩
abbrev main_call1_call0_v101 : Ref sig .tc := ⟨.hbm, 412, rfl⟩
abbrev main_call1_call0_v102 : Ref sig .tc := ⟨.hbm, 413, rfl⟩
abbrev main_call1_call0_v103 : Ref sig .tc := ⟨.hbm, 414, rfl⟩
abbrev main_call1_call0_v104 : Ref sig .tc := ⟨.hbm, 415, rfl⟩
abbrev main_call1_call0_v105 : Ref sig .tc := ⟨.hbm, 416, rfl⟩
abbrev main_call1_call0_c_26 : Ref sig .tc := ⟨.hbm, 417, rfl⟩
abbrev main_call1_call0_v106 : Ref sig .tc := ⟨.hbm, 418, rfl⟩
abbrev main_call1_call0_v107 : Ref sig .tc := ⟨.hbm, 419, rfl⟩
abbrev main_call1_call0_v108 : Ref sig .tc := ⟨.hbm, 420, rfl⟩
abbrev main_call1_call0_c_27 : Ref sig .tc := ⟨.hbm, 421, rfl⟩
abbrev main_call1_call0_v109 : Ref sig .tc := ⟨.hbm, 422, rfl⟩
abbrev main_call1_call0_v110 : Ref sig .tc := ⟨.hbm, 423, rfl⟩
abbrev main_call1_call0_c_28 : Ref sig .tc := ⟨.hbm, 424, rfl⟩
abbrev main_call1_call0_v111 : Ref sig .tc := ⟨.hbm, 425, rfl⟩
abbrev main_call1_call0_v112 : Ref sig .tc := ⟨.hbm, 426, rfl⟩
abbrev main_call1_call0_v113 : Ref sig .tc := ⟨.hbm, 427, rfl⟩
abbrev main_call1_call0_v114 : Ref sig .tc := ⟨.hbm, 428, rfl⟩
abbrev main_call1_call0_v115 : Ref sig .tc := ⟨.hbm, 429, rfl⟩
abbrev main_call1_call0_c_29 : Ref sig .tc := ⟨.hbm, 430, rfl⟩
abbrev main_call1_call0_v116 : Ref sig .tc := ⟨.hbm, 431, rfl⟩
abbrev main_call1_call0_v117 : Ref sig .tc := ⟨.hbm, 432, rfl⟩
abbrev main_call1_call0_c_30 : Ref sig .tc := ⟨.hbm, 433, rfl⟩
abbrev main_call1_call0_v118 : Ref sig .tc := ⟨.hbm, 434, rfl⟩
abbrev main_call1_call0_v119 : Ref sig .tc := ⟨.hbm, 435, rfl⟩
abbrev main_call1_call0_v120 : Ref sig .tc := ⟨.hbm, 436, rfl⟩
abbrev main_call1_call0_v121 : Ref sig .tc := ⟨.hbm, 437, rfl⟩
abbrev main_call1_call0_v122 : Ref sig .tc := ⟨.hbm, 438, rfl⟩
abbrev main_call1_call0_c_31 : Ref sig .tc := ⟨.hbm, 439, rfl⟩
abbrev main_call1_call0_v123 : Ref sig .tc := ⟨.hbm, 440, rfl⟩
abbrev main_call1_call0_v124 : Ref sig .tc := ⟨.hbm, 441, rfl⟩
abbrev main_call1_call0_c_32 : Ref sig .tc := ⟨.hbm, 442, rfl⟩
abbrev main_call1_call0_v125 : Ref sig .tc := ⟨.hbm, 443, rfl⟩
abbrev main_call1_call0_v126 : Ref sig .tc := ⟨.hbm, 444, rfl⟩
abbrev main_call1_call0_v127 : Ref sig .tc := ⟨.hbm, 445, rfl⟩
abbrev main_call1_call0_v128 : Ref sig .tc := ⟨.hbm, 446, rfl⟩
abbrev main_call1_call0_v129 : Ref sig .tc := ⟨.hbm, 447, rfl⟩
abbrev main_call1_call0_c_33 : Ref sig .tc := ⟨.hbm, 448, rfl⟩
abbrev main_call1_call0_v130 : Ref sig .tc := ⟨.hbm, 449, rfl⟩
abbrev main_call1_call0_v131 : Ref sig .tc := ⟨.hbm, 450, rfl⟩
abbrev main_call1_call0_c_34 : Ref sig .tc := ⟨.hbm, 451, rfl⟩
abbrev main_call1_call0_v132 : Ref sig .tc := ⟨.hbm, 452, rfl⟩
abbrev main_call1_call0_v133 : Ref sig .tc := ⟨.hbm, 453, rfl⟩
abbrev main_call1_call0_v134 : Ref sig .tc := ⟨.hbm, 454, rfl⟩
abbrev main_call1_call0_v135 : Ref sig .tc := ⟨.hbm, 455, rfl⟩
abbrev main_call1_call0_v136 : Ref sig .tc := ⟨.hbm, 456, rfl⟩
abbrev main_call1_call0_v137 : Ref sig .tc := ⟨.hbm, 457, rfl⟩
abbrev main_call1_call0_v138 : Ref sig .tc := ⟨.hbm, 458, rfl⟩
abbrev main_call1_call0_v139 : Ref sig .tc := ⟨.hbm, 459, rfl⟩
abbrev main_call1_call0_c_35 : Ref sig .tc := ⟨.hbm, 460, rfl⟩
abbrev main_call1_call0_v140 : Ref sig .tc := ⟨.hbm, 461, rfl⟩
abbrev main_call1_call0_v141 : Ref sig .tc := ⟨.hbm, 462, rfl⟩
abbrev main_call1_call0_v142 : Ref sig .tc := ⟨.hbm, 463, rfl⟩
abbrev main_call1_call0_c_36 : Ref sig .tc := ⟨.hbm, 464, rfl⟩
abbrev main_call1_call0_v143 : Ref sig .tc := ⟨.hbm, 465, rfl⟩
abbrev main_call1_call0_v144 : Ref sig .tc := ⟨.hbm, 466, rfl⟩
abbrev main_call1_call0_c_37 : Ref sig .tc := ⟨.hbm, 467, rfl⟩
abbrev main_call1_call0_v145 : Ref sig .tc := ⟨.hbm, 468, rfl⟩
abbrev main_call1_call0_v146 : Ref sig .tc := ⟨.hbm, 469, rfl⟩
abbrev main_call1_call0_v147 : Ref sig .tc := ⟨.hbm, 470, rfl⟩
abbrev main_call1_call0_v148 : Ref sig .tc := ⟨.hbm, 471, rfl⟩
abbrev main_call1_call0_v149 : Ref sig .tc := ⟨.hbm, 472, rfl⟩
abbrev main_call1_call0_c_38 : Ref sig .tc := ⟨.hbm, 473, rfl⟩
abbrev main_call1_call0_v150 : Ref sig .tc := ⟨.hbm, 474, rfl⟩
abbrev main_call1_call0_v151 : Ref sig .tc := ⟨.hbm, 475, rfl⟩
abbrev main_call1_call0_c_39 : Ref sig .tc := ⟨.hbm, 476, rfl⟩
abbrev main_call1_call0_v152 : Ref sig .tc := ⟨.hbm, 477, rfl⟩
abbrev main_call1_call0_v153 : Ref sig .tc := ⟨.hbm, 478, rfl⟩
abbrev main_call1_call0_v154 : Ref sig .tc := ⟨.hbm, 479, rfl⟩
abbrev main_call1_call0_v155 : Ref sig .tc := ⟨.hbm, 480, rfl⟩
abbrev main_call1_call0_v156 : Ref sig .tc := ⟨.hbm, 481, rfl⟩
abbrev main_call1_call0_c_40 : Ref sig .tc := ⟨.hbm, 482, rfl⟩
abbrev main_call1_call0_v157 : Ref sig .tc := ⟨.hbm, 483, rfl⟩
abbrev main_call1_call0_v158 : Ref sig .tc := ⟨.hbm, 484, rfl⟩
abbrev main_call1_call0_c_41 : Ref sig .tc := ⟨.hbm, 485, rfl⟩
abbrev main_call1_call0_v159 : Ref sig .tc := ⟨.hbm, 486, rfl⟩
abbrev main_call1_call0_v160 : Ref sig .tc := ⟨.hbm, 487, rfl⟩
abbrev main_call1_call0_v161 : Ref sig .tc := ⟨.hbm, 488, rfl⟩
abbrev main_call1_call0_v162 : Ref sig .tc := ⟨.hbm, 489, rfl⟩
abbrev main_call1_call0_v163 : Ref sig .tc := ⟨.hbm, 490, rfl⟩
abbrev main_call1_call0_c_42 : Ref sig .tc := ⟨.hbm, 491, rfl⟩
abbrev main_call1_call0_v164 : Ref sig .tc := ⟨.hbm, 492, rfl⟩
abbrev main_call1_call0_v165 : Ref sig .tc := ⟨.hbm, 493, rfl⟩
abbrev main_call1_call0_c_43 : Ref sig .tc := ⟨.hbm, 494, rfl⟩
abbrev main_call1_call0_v166 : Ref sig .tc := ⟨.hbm, 495, rfl⟩
abbrev main_call1_call0_v167 : Ref sig .tc := ⟨.hbm, 496, rfl⟩
abbrev main_call1_call0_v168 : Ref sig .tc := ⟨.hbm, 497, rfl⟩
abbrev main_call1_call0_v169 : Ref sig .tc := ⟨.hbm, 498, rfl⟩
abbrev main_call1_call0_v170 : Ref sig .tc := ⟨.hbm, 499, rfl⟩
abbrev main_call1_v23_0 : Ref sig .tc := ⟨.hbm, 500, rfl⟩
abbrev main_call1_call0_v172 : Ref sig .tc := ⟨.hbm, 501, rfl⟩
abbrev main_call1_call0_v173 : Ref sig .tc := ⟨.hbm, 502, rfl⟩
abbrev main_call1_call0_c_44 : Ref sig .tc := ⟨.hbm, 503, rfl⟩
abbrev main_call1_call0_v174 : Ref sig .tc := ⟨.hbm, 504, rfl⟩
abbrev main_call1_v23_1 : Ref sig .tc := ⟨.hbm, 505, rfl⟩
abbrev main_call1_v24 : Ref sig .tc := ⟨.hbm, 506, rfl⟩
abbrev main_call1_c_3 : Ref sig .tc := ⟨.hbm, 507, rfl⟩
abbrev main_call1_v25 : Ref sig .tc := ⟨.hbm, 508, rfl⟩
abbrev main_call1_v26 : Ref sig .tc := ⟨.hbm, 509, rfl⟩
abbrev main_call1_c_4 : Ref sig .tc := ⟨.hbm, 510, rfl⟩
abbrev main_call1_v27 : Ref sig .tc := ⟨.hbm, 511, rfl⟩
abbrev main_call1_v28 : Ref sig .tc := ⟨.hbm, 512, rfl⟩
abbrev main_call1_v29 : Ref sig .tc := ⟨.hbm, 513, rfl⟩
abbrev main_call1_cst : Ref sig .tc := ⟨.hbm, 514, rfl⟩
abbrev main_call1_v30 : Ref sig .tc := ⟨.hbm, 515, rfl⟩
abbrev main_call1_v31 : Ref sig .tc := ⟨.hbm, 516, rfl⟩
abbrev main_call1_v32 : Ref sig .tc := ⟨.hbm, 517, rfl⟩
abbrev main_call1_v33 : Ref sig .tc := ⟨.hbm, 518, rfl⟩
abbrev main_call1_v34 : Ref sig .tc := ⟨.hbm, 519, rfl⟩
abbrev main_call1_v35 : Ref sig .tc := ⟨.hbm, 520, rfl⟩
abbrev main_call1_v36 : Ref sig .tc := ⟨.hbm, 521, rfl⟩
abbrev main_call1_v37 : Ref sig .tc := ⟨.hbm, 522, rfl⟩
abbrev main_v10 : Ref sig .tc := ⟨.hbm, 523, rfl⟩
abbrev main_v11 : Ref sig .tc := ⟨.hbm, 524, rfl⟩
abbrev main_v12 : Ref sig .tc := ⟨.hbm, 525, rfl⟩
abbrev main_v13 : Ref sig .tc := ⟨.hbm, 526, rfl⟩
abbrev main_v14 : Ref sig .tc := ⟨.hbm, 527, rfl⟩
abbrev main_cst_4 : Ref sig .tc := ⟨.hbm, 528, rfl⟩
abbrev main_v15 : Ref sig .tc := ⟨.hbm, 529, rfl⟩
abbrev main_v16 : Ref sig .tc := ⟨.hbm, 530, rfl⟩
abbrev main_v17 : Ref sig .tc := ⟨.hbm, 531, rfl⟩
abbrev main_c_5 : Ref sig .tc := ⟨.hbm, 532, rfl⟩
abbrev main_call2_c : Ref sig .tc := ⟨.hbm, 533, rfl⟩
abbrev main_call2_v0 : Ref sig .tc := ⟨.hbm, 534, rfl⟩
abbrev main_call2_v1 : Ref sig .tc := ⟨.hbm, 535, rfl⟩
abbrev main_call2_c_0 : Ref sig .tc := ⟨.hbm, 536, rfl⟩
abbrev main_call2_v2 : Ref sig .tc := ⟨.hbm, 537, rfl⟩
abbrev main_call2_v3 : Ref sig .tc := ⟨.hbm, 538, rfl⟩
abbrev main_call2_v4 : Ref sig .tc := ⟨.hbm, 539, rfl⟩
abbrev main_call2_v5 : Ref sig .tc := ⟨.hbm, 540, rfl⟩
abbrev main_call2_v6 : Ref sig .tc := ⟨.hbm, 541, rfl⟩
abbrev main_call2_v7 : Ref sig .tc := ⟨.hbm, 542, rfl⟩
abbrev main_call2_v8 : Ref sig .tc := ⟨.hbm, 543, rfl⟩
abbrev main_call2_v9 : Ref sig .tc := ⟨.hbm, 544, rfl⟩
abbrev main_call2_v10 : Ref sig .tc := ⟨.hbm, 545, rfl⟩
abbrev main_call2_call0_v0 : Ref sig .tc := ⟨.hbm, 546, rfl⟩
abbrev main_call2_call0_c : Ref sig .tc := ⟨.hbm, 547, rfl⟩
abbrev main_call2_call0_v1 : Ref sig .tc := ⟨.hbm, 548, rfl⟩
abbrev main_call2_call0_v2 : Ref sig .tc := ⟨.hbm, 549, rfl⟩
abbrev main_call2_call0_v3 : Ref sig .tc := ⟨.hbm, 550, rfl⟩
abbrev main_call2_call0_v4 : Ref sig .tc := ⟨.hbm, 551, rfl⟩
abbrev main_call2_call0_v5 : Ref sig .tc := ⟨.hbm, 552, rfl⟩
abbrev main_call2_call0_v6 : Ref sig .tc := ⟨.hbm, 553, rfl⟩
abbrev main_call2_call0_c_0 : Ref sig .tc := ⟨.hbm, 554, rfl⟩
abbrev main_call2_call0_v7 : Ref sig .tc := ⟨.hbm, 555, rfl⟩
abbrev main_call2_call0_v8 : Ref sig .tc := ⟨.hbm, 556, rfl⟩
abbrev main_call2_call0_c_1 : Ref sig .tc := ⟨.hbm, 557, rfl⟩
abbrev main_call2_call0_v9 : Ref sig .tc := ⟨.hbm, 558, rfl⟩
abbrev main_call2_call0_v10 : Ref sig .tc := ⟨.hbm, 559, rfl⟩
abbrev main_call2_call0_v11 : Ref sig .tc := ⟨.hbm, 560, rfl⟩
abbrev main_call2_call0_v12 : Ref sig .tc := ⟨.hbm, 561, rfl⟩
abbrev main_call2_call0_v13 : Ref sig .tc := ⟨.hbm, 562, rfl⟩
abbrev main_call2_call0_c_2 : Ref sig .tc := ⟨.hbm, 563, rfl⟩
abbrev main_call2_call0_v14 : Ref sig .tc := ⟨.hbm, 564, rfl⟩
abbrev main_call2_call0_v15 : Ref sig .tc := ⟨.hbm, 565, rfl⟩
abbrev main_call2_call0_c_3 : Ref sig .tc := ⟨.hbm, 566, rfl⟩
abbrev main_call2_call0_v16 : Ref sig .tc := ⟨.hbm, 567, rfl⟩
abbrev main_call2_call0_v17 : Ref sig .tc := ⟨.hbm, 568, rfl⟩
abbrev main_call2_call0_v18 : Ref sig .tc := ⟨.hbm, 569, rfl⟩
abbrev main_call2_call0_v19 : Ref sig .tc := ⟨.hbm, 570, rfl⟩
abbrev main_call2_call0_v20 : Ref sig .tc := ⟨.hbm, 571, rfl⟩
abbrev main_call2_call0_c_4 : Ref sig .tc := ⟨.hbm, 572, rfl⟩
abbrev main_call2_call0_v21 : Ref sig .tc := ⟨.hbm, 573, rfl⟩
abbrev main_call2_call0_v22 : Ref sig .tc := ⟨.hbm, 574, rfl⟩
abbrev main_call2_call0_c_5 : Ref sig .tc := ⟨.hbm, 575, rfl⟩
abbrev main_call2_call0_v23 : Ref sig .tc := ⟨.hbm, 576, rfl⟩
abbrev main_call2_call0_v24 : Ref sig .tc := ⟨.hbm, 577, rfl⟩
abbrev main_call2_call0_v25 : Ref sig .tc := ⟨.hbm, 578, rfl⟩
abbrev main_call2_call0_v26 : Ref sig .tc := ⟨.hbm, 579, rfl⟩
abbrev main_call2_call0_v27 : Ref sig .tc := ⟨.hbm, 580, rfl⟩
abbrev main_call2_call0_c_6 : Ref sig .tc := ⟨.hbm, 581, rfl⟩
abbrev main_call2_call0_v28 : Ref sig .tc := ⟨.hbm, 582, rfl⟩
abbrev main_call2_call0_v29 : Ref sig .tc := ⟨.hbm, 583, rfl⟩
abbrev main_call2_call0_c_7 : Ref sig .tc := ⟨.hbm, 584, rfl⟩
abbrev main_call2_call0_v30 : Ref sig .tc := ⟨.hbm, 585, rfl⟩
abbrev main_call2_call0_v31 : Ref sig .tc := ⟨.hbm, 586, rfl⟩
abbrev main_call2_call0_v32 : Ref sig .tc := ⟨.hbm, 587, rfl⟩
abbrev main_call2_call0_v33 : Ref sig .tc := ⟨.hbm, 588, rfl⟩
abbrev main_call2_call0_v34 : Ref sig .tc := ⟨.hbm, 589, rfl⟩
abbrev main_call2_call0_v35 : Ref sig .tc := ⟨.hbm, 590, rfl⟩
abbrev main_call2_call0_v36 : Ref sig .tc := ⟨.hbm, 591, rfl⟩
abbrev main_call2_call0_v37 : Ref sig .tc := ⟨.hbm, 592, rfl⟩
abbrev main_call2_call0_c_8 : Ref sig .tc := ⟨.hbm, 593, rfl⟩
abbrev main_call2_call0_v38 : Ref sig .tc := ⟨.hbm, 594, rfl⟩
abbrev main_call2_call0_v39 : Ref sig .tc := ⟨.hbm, 595, rfl⟩
abbrev main_call2_call0_v40 : Ref sig .tc := ⟨.hbm, 596, rfl⟩
abbrev main_call2_call0_c_9 : Ref sig .tc := ⟨.hbm, 597, rfl⟩
abbrev main_call2_call0_v41 : Ref sig .tc := ⟨.hbm, 598, rfl⟩
abbrev main_call2_call0_v42 : Ref sig .tc := ⟨.hbm, 599, rfl⟩
abbrev main_call2_call0_c_10 : Ref sig .tc := ⟨.hbm, 600, rfl⟩
abbrev main_call2_call0_v43 : Ref sig .tc := ⟨.hbm, 601, rfl⟩
abbrev main_call2_call0_v44 : Ref sig .tc := ⟨.hbm, 602, rfl⟩
abbrev main_call2_call0_v45 : Ref sig .tc := ⟨.hbm, 603, rfl⟩
abbrev main_call2_call0_v46 : Ref sig .tc := ⟨.hbm, 604, rfl⟩
abbrev main_call2_call0_v47 : Ref sig .tc := ⟨.hbm, 605, rfl⟩
abbrev main_call2_call0_c_11 : Ref sig .tc := ⟨.hbm, 606, rfl⟩
abbrev main_call2_call0_v48 : Ref sig .tc := ⟨.hbm, 607, rfl⟩
abbrev main_call2_call0_v49 : Ref sig .tc := ⟨.hbm, 608, rfl⟩
abbrev main_call2_call0_c_12 : Ref sig .tc := ⟨.hbm, 609, rfl⟩
abbrev main_call2_call0_v50 : Ref sig .tc := ⟨.hbm, 610, rfl⟩
abbrev main_call2_call0_v51 : Ref sig .tc := ⟨.hbm, 611, rfl⟩
abbrev main_call2_call0_v52 : Ref sig .tc := ⟨.hbm, 612, rfl⟩
abbrev main_call2_call0_v53 : Ref sig .tc := ⟨.hbm, 613, rfl⟩
abbrev main_call2_call0_v54 : Ref sig .tc := ⟨.hbm, 614, rfl⟩
abbrev main_call2_call0_c_13 : Ref sig .tc := ⟨.hbm, 615, rfl⟩
abbrev main_call2_call0_v55 : Ref sig .tc := ⟨.hbm, 616, rfl⟩
abbrev main_call2_call0_v56 : Ref sig .tc := ⟨.hbm, 617, rfl⟩
abbrev main_call2_call0_c_14 : Ref sig .tc := ⟨.hbm, 618, rfl⟩
abbrev main_call2_call0_v57 : Ref sig .tc := ⟨.hbm, 619, rfl⟩
abbrev main_call2_call0_v58 : Ref sig .tc := ⟨.hbm, 620, rfl⟩
abbrev main_call2_call0_v59 : Ref sig .tc := ⟨.hbm, 621, rfl⟩
abbrev main_call2_call0_v60 : Ref sig .tc := ⟨.hbm, 622, rfl⟩
abbrev main_call2_call0_v61 : Ref sig .tc := ⟨.hbm, 623, rfl⟩
abbrev main_call2_call0_c_15 : Ref sig .tc := ⟨.hbm, 624, rfl⟩
abbrev main_call2_call0_v62 : Ref sig .tc := ⟨.hbm, 625, rfl⟩
abbrev main_call2_call0_v63 : Ref sig .tc := ⟨.hbm, 626, rfl⟩
abbrev main_call2_call0_c_16 : Ref sig .tc := ⟨.hbm, 627, rfl⟩
abbrev main_call2_call0_v64 : Ref sig .tc := ⟨.hbm, 628, rfl⟩
abbrev main_call2_call0_v65 : Ref sig .tc := ⟨.hbm, 629, rfl⟩
abbrev main_call2_call0_v66 : Ref sig .tc := ⟨.hbm, 630, rfl⟩
abbrev main_call2_call0_v67 : Ref sig .tc := ⟨.hbm, 631, rfl⟩
abbrev main_call2_call0_v68 : Ref sig .tc := ⟨.hbm, 632, rfl⟩
abbrev main_call2_call0_v69 : Ref sig .tc := ⟨.hbm, 633, rfl⟩
abbrev main_call2_call0_v70 : Ref sig .tc := ⟨.hbm, 634, rfl⟩
abbrev main_call2_call0_v71 : Ref sig .tc := ⟨.hbm, 635, rfl⟩
abbrev main_call2_call0_c_17 : Ref sig .tc := ⟨.hbm, 636, rfl⟩
abbrev main_call2_call0_v72 : Ref sig .tc := ⟨.hbm, 637, rfl⟩
abbrev main_call2_call0_v73 : Ref sig .tc := ⟨.hbm, 638, rfl⟩
abbrev main_call2_call0_v74 : Ref sig .tc := ⟨.hbm, 639, rfl⟩
abbrev main_call2_call0_c_18 : Ref sig .tc := ⟨.hbm, 640, rfl⟩
abbrev main_call2_call0_v75 : Ref sig .tc := ⟨.hbm, 641, rfl⟩
abbrev main_call2_call0_v76 : Ref sig .tc := ⟨.hbm, 642, rfl⟩
abbrev main_call2_call0_c_19 : Ref sig .tc := ⟨.hbm, 643, rfl⟩
abbrev main_call2_call0_v77 : Ref sig .tc := ⟨.hbm, 644, rfl⟩
abbrev main_call2_call0_v78 : Ref sig .tc := ⟨.hbm, 645, rfl⟩
abbrev main_call2_call0_v79 : Ref sig .tc := ⟨.hbm, 646, rfl⟩
abbrev main_call2_call0_v80 : Ref sig .tc := ⟨.hbm, 647, rfl⟩
abbrev main_call2_call0_v81 : Ref sig .tc := ⟨.hbm, 648, rfl⟩
abbrev main_call2_call0_c_20 : Ref sig .tc := ⟨.hbm, 649, rfl⟩
abbrev main_call2_call0_v82 : Ref sig .tc := ⟨.hbm, 650, rfl⟩
abbrev main_call2_call0_v83 : Ref sig .tc := ⟨.hbm, 651, rfl⟩
abbrev main_call2_call0_c_21 : Ref sig .tc := ⟨.hbm, 652, rfl⟩
abbrev main_call2_call0_v84 : Ref sig .tc := ⟨.hbm, 653, rfl⟩
abbrev main_call2_call0_v85 : Ref sig .tc := ⟨.hbm, 654, rfl⟩
abbrev main_call2_call0_v86 : Ref sig .tc := ⟨.hbm, 655, rfl⟩
abbrev main_call2_call0_v87 : Ref sig .tc := ⟨.hbm, 656, rfl⟩
abbrev main_call2_call0_v88 : Ref sig .tc := ⟨.hbm, 657, rfl⟩
abbrev main_call2_call0_c_22 : Ref sig .tc := ⟨.hbm, 658, rfl⟩
abbrev main_call2_call0_v89 : Ref sig .tc := ⟨.hbm, 659, rfl⟩
abbrev main_call2_call0_v90 : Ref sig .tc := ⟨.hbm, 660, rfl⟩
abbrev main_call2_call0_c_23 : Ref sig .tc := ⟨.hbm, 661, rfl⟩
abbrev main_call2_call0_v91 : Ref sig .tc := ⟨.hbm, 662, rfl⟩
abbrev main_call2_call0_v92 : Ref sig .tc := ⟨.hbm, 663, rfl⟩
abbrev main_call2_call0_v93 : Ref sig .tc := ⟨.hbm, 664, rfl⟩
abbrev main_call2_call0_v94 : Ref sig .tc := ⟨.hbm, 665, rfl⟩
abbrev main_call2_call0_v95 : Ref sig .tc := ⟨.hbm, 666, rfl⟩
abbrev main_call2_call0_c_24 : Ref sig .tc := ⟨.hbm, 667, rfl⟩
abbrev main_call2_call0_v96 : Ref sig .tc := ⟨.hbm, 668, rfl⟩
abbrev main_call2_call0_v97 : Ref sig .tc := ⟨.hbm, 669, rfl⟩
abbrev main_call2_call0_c_25 : Ref sig .tc := ⟨.hbm, 670, rfl⟩
abbrev main_call2_call0_v98 : Ref sig .tc := ⟨.hbm, 671, rfl⟩
abbrev main_call2_call0_v99 : Ref sig .tc := ⟨.hbm, 672, rfl⟩
abbrev main_call2_call0_v100 : Ref sig .tc := ⟨.hbm, 673, rfl⟩
abbrev main_call2_call0_v101 : Ref sig .tc := ⟨.hbm, 674, rfl⟩
abbrev main_call2_call0_v102 : Ref sig .tc := ⟨.hbm, 675, rfl⟩
abbrev main_call2_call0_v103 : Ref sig .tc := ⟨.hbm, 676, rfl⟩
abbrev main_call2_call0_v104 : Ref sig .tc := ⟨.hbm, 677, rfl⟩
abbrev main_call2_call0_v105 : Ref sig .tc := ⟨.hbm, 678, rfl⟩
abbrev main_call2_call0_c_26 : Ref sig .tc := ⟨.hbm, 679, rfl⟩
abbrev main_call2_call0_v106 : Ref sig .tc := ⟨.hbm, 680, rfl⟩
abbrev main_call2_call0_v107 : Ref sig .tc := ⟨.hbm, 681, rfl⟩
abbrev main_call2_call0_v108 : Ref sig .tc := ⟨.hbm, 682, rfl⟩
abbrev main_call2_call0_c_27 : Ref sig .tc := ⟨.hbm, 683, rfl⟩
abbrev main_call2_call0_v109 : Ref sig .tc := ⟨.hbm, 684, rfl⟩
abbrev main_call2_call0_v110 : Ref sig .tc := ⟨.hbm, 685, rfl⟩
abbrev main_call2_call0_c_28 : Ref sig .tc := ⟨.hbm, 686, rfl⟩
abbrev main_call2_call0_v111 : Ref sig .tc := ⟨.hbm, 687, rfl⟩
abbrev main_call2_call0_v112 : Ref sig .tc := ⟨.hbm, 688, rfl⟩
abbrev main_call2_call0_v113 : Ref sig .tc := ⟨.hbm, 689, rfl⟩
abbrev main_call2_call0_v114 : Ref sig .tc := ⟨.hbm, 690, rfl⟩
abbrev main_call2_call0_v115 : Ref sig .tc := ⟨.hbm, 691, rfl⟩
abbrev main_call2_call0_c_29 : Ref sig .tc := ⟨.hbm, 692, rfl⟩
abbrev main_call2_call0_v116 : Ref sig .tc := ⟨.hbm, 693, rfl⟩
abbrev main_call2_call0_v117 : Ref sig .tc := ⟨.hbm, 694, rfl⟩
abbrev main_call2_call0_c_30 : Ref sig .tc := ⟨.hbm, 695, rfl⟩
abbrev main_call2_call0_v118 : Ref sig .tc := ⟨.hbm, 696, rfl⟩
abbrev main_call2_call0_v119 : Ref sig .tc := ⟨.hbm, 697, rfl⟩
abbrev main_call2_call0_v120 : Ref sig .tc := ⟨.hbm, 698, rfl⟩
abbrev main_call2_call0_v121 : Ref sig .tc := ⟨.hbm, 699, rfl⟩
abbrev main_call2_call0_v122 : Ref sig .tc := ⟨.hbm, 700, rfl⟩
abbrev main_call2_call0_c_31 : Ref sig .tc := ⟨.hbm, 701, rfl⟩
abbrev main_call2_call0_v123 : Ref sig .tc := ⟨.hbm, 702, rfl⟩
abbrev main_call2_call0_v124 : Ref sig .tc := ⟨.hbm, 703, rfl⟩
abbrev main_call2_call0_c_32 : Ref sig .tc := ⟨.hbm, 704, rfl⟩
abbrev main_call2_call0_v125 : Ref sig .tc := ⟨.hbm, 705, rfl⟩
abbrev main_call2_call0_v126 : Ref sig .tc := ⟨.hbm, 706, rfl⟩
abbrev main_call2_call0_v127 : Ref sig .tc := ⟨.hbm, 707, rfl⟩
abbrev main_call2_call0_v128 : Ref sig .tc := ⟨.hbm, 708, rfl⟩
abbrev main_call2_call0_v129 : Ref sig .tc := ⟨.hbm, 709, rfl⟩
abbrev main_call2_call0_c_33 : Ref sig .tc := ⟨.hbm, 710, rfl⟩
abbrev main_call2_call0_v130 : Ref sig .tc := ⟨.hbm, 711, rfl⟩
abbrev main_call2_call0_v131 : Ref sig .tc := ⟨.hbm, 712, rfl⟩
abbrev main_call2_call0_c_34 : Ref sig .tc := ⟨.hbm, 713, rfl⟩
abbrev main_call2_call0_v132 : Ref sig .tc := ⟨.hbm, 714, rfl⟩
abbrev main_call2_call0_v133 : Ref sig .tc := ⟨.hbm, 715, rfl⟩
abbrev main_call2_call0_v134 : Ref sig .tc := ⟨.hbm, 716, rfl⟩
abbrev main_call2_call0_v135 : Ref sig .tc := ⟨.hbm, 717, rfl⟩
abbrev main_call2_call0_v136 : Ref sig .tc := ⟨.hbm, 718, rfl⟩
abbrev main_call2_call0_v137 : Ref sig .tc := ⟨.hbm, 719, rfl⟩
abbrev main_call2_call0_v138 : Ref sig .tc := ⟨.hbm, 720, rfl⟩
abbrev main_call2_call0_v139 : Ref sig .tc := ⟨.hbm, 721, rfl⟩
abbrev main_call2_call0_c_35 : Ref sig .tc := ⟨.hbm, 722, rfl⟩
abbrev main_call2_call0_v140 : Ref sig .tc := ⟨.hbm, 723, rfl⟩
abbrev main_call2_call0_v141 : Ref sig .tc := ⟨.hbm, 724, rfl⟩
abbrev main_call2_call0_v142 : Ref sig .tc := ⟨.hbm, 725, rfl⟩
abbrev main_call2_call0_c_36 : Ref sig .tc := ⟨.hbm, 726, rfl⟩
abbrev main_call2_call0_v143 : Ref sig .tc := ⟨.hbm, 727, rfl⟩
abbrev main_call2_call0_v144 : Ref sig .tc := ⟨.hbm, 728, rfl⟩
abbrev main_call2_call0_c_37 : Ref sig .tc := ⟨.hbm, 729, rfl⟩
abbrev main_call2_call0_v145 : Ref sig .tc := ⟨.hbm, 730, rfl⟩
abbrev main_call2_call0_v146 : Ref sig .tc := ⟨.hbm, 731, rfl⟩
abbrev main_call2_call0_v147 : Ref sig .tc := ⟨.hbm, 732, rfl⟩
abbrev main_call2_call0_v148 : Ref sig .tc := ⟨.hbm, 733, rfl⟩
abbrev main_call2_call0_v149 : Ref sig .tc := ⟨.hbm, 734, rfl⟩
abbrev main_call2_call0_c_38 : Ref sig .tc := ⟨.hbm, 735, rfl⟩
abbrev main_call2_call0_v150 : Ref sig .tc := ⟨.hbm, 736, rfl⟩
abbrev main_call2_call0_v151 : Ref sig .tc := ⟨.hbm, 737, rfl⟩
abbrev main_call2_call0_c_39 : Ref sig .tc := ⟨.hbm, 738, rfl⟩
abbrev main_call2_call0_v152 : Ref sig .tc := ⟨.hbm, 739, rfl⟩
abbrev main_call2_call0_v153 : Ref sig .tc := ⟨.hbm, 740, rfl⟩
abbrev main_call2_call0_v154 : Ref sig .tc := ⟨.hbm, 741, rfl⟩
abbrev main_call2_call0_v155 : Ref sig .tc := ⟨.hbm, 742, rfl⟩
abbrev main_call2_call0_v156 : Ref sig .tc := ⟨.hbm, 743, rfl⟩
abbrev main_call2_call0_c_40 : Ref sig .tc := ⟨.hbm, 744, rfl⟩
abbrev main_call2_call0_v157 : Ref sig .tc := ⟨.hbm, 745, rfl⟩
abbrev main_call2_call0_v158 : Ref sig .tc := ⟨.hbm, 746, rfl⟩
abbrev main_call2_call0_c_41 : Ref sig .tc := ⟨.hbm, 747, rfl⟩
abbrev main_call2_call0_v159 : Ref sig .tc := ⟨.hbm, 748, rfl⟩
abbrev main_call2_call0_v160 : Ref sig .tc := ⟨.hbm, 749, rfl⟩
abbrev main_call2_call0_v161 : Ref sig .tc := ⟨.hbm, 750, rfl⟩
abbrev main_call2_call0_v162 : Ref sig .tc := ⟨.hbm, 751, rfl⟩
abbrev main_call2_call0_v163 : Ref sig .tc := ⟨.hbm, 752, rfl⟩
abbrev main_call2_call0_c_42 : Ref sig .tc := ⟨.hbm, 753, rfl⟩
abbrev main_call2_call0_v164 : Ref sig .tc := ⟨.hbm, 754, rfl⟩
abbrev main_call2_call0_v165 : Ref sig .tc := ⟨.hbm, 755, rfl⟩
abbrev main_call2_call0_c_43 : Ref sig .tc := ⟨.hbm, 756, rfl⟩
abbrev main_call2_call0_v166 : Ref sig .tc := ⟨.hbm, 757, rfl⟩
abbrev main_call2_call0_v167 : Ref sig .tc := ⟨.hbm, 758, rfl⟩
abbrev main_call2_call0_v168 : Ref sig .tc := ⟨.hbm, 759, rfl⟩
abbrev main_call2_call0_v169 : Ref sig .tc := ⟨.hbm, 760, rfl⟩
abbrev main_call2_call0_v170 : Ref sig .tc := ⟨.hbm, 761, rfl⟩
abbrev main_call2_v11_0 : Ref sig .tc := ⟨.hbm, 762, rfl⟩
abbrev main_call2_call0_v172 : Ref sig .tc := ⟨.hbm, 763, rfl⟩
abbrev main_call2_call0_v173 : Ref sig .tc := ⟨.hbm, 764, rfl⟩
abbrev main_call2_call0_c_44 : Ref sig .tc := ⟨.hbm, 765, rfl⟩
abbrev main_call2_call0_v174 : Ref sig .tc := ⟨.hbm, 766, rfl⟩
abbrev main_call2_v11_1 : Ref sig .tc := ⟨.hbm, 767, rfl⟩
abbrev main_v18 : Ref sig .tc := ⟨.hbm, 768, rfl⟩
abbrev main_cst_6 : Ref sig .tc := ⟨.hbm, 769, rfl⟩
abbrev main_cst_7 : Ref sig .tc := ⟨.hbm, 770, rfl⟩
abbrev main_call3_v0 : Ref sig .tc := ⟨.hbm, 771, rfl⟩
abbrev main_call3_v1 : Ref sig .tc := ⟨.hbm, 772, rfl⟩
abbrev main_call3_v2 : Ref sig .tc := ⟨.hbm, 773, rfl⟩
abbrev main_call3_v3 : Ref sig .tc := ⟨.hbm, 774, rfl⟩
abbrev main_call3_v4 : Ref sig .tc := ⟨.hbm, 775, rfl⟩
abbrev main_call3_v5 : Ref sig .tc := ⟨.hbm, 776, rfl⟩
abbrev main_call3_v6 : Ref sig .tc := ⟨.hbm, 777, rfl⟩
abbrev main_call3_v7 : Ref sig .tc := ⟨.hbm, 778, rfl⟩
abbrev main_call3_v8 : Ref sig .tc := ⟨.hbm, 779, rfl⟩
abbrev main_call3_v9 : Ref sig .tc := ⟨.hbm, 780, rfl⟩
abbrev main_call3_v10 : Ref sig .tc := ⟨.hbm, 781, rfl⟩
abbrev main_call3_c : Ref sig .tc := ⟨.hbm, 782, rfl⟩
abbrev main_call3_v11 : Ref sig .tc := ⟨.hbm, 783, rfl⟩
abbrev main_call3_v12 : Ref sig .tc := ⟨.hbm, 784, rfl⟩
abbrev main_call3_c_0 : Ref sig .tc := ⟨.hbm, 785, rfl⟩
abbrev main_call3_v13 : Ref sig .tc := ⟨.hbm, 786, rfl⟩
abbrev main_call3_v14 : Ref sig .tc := ⟨.hbm, 787, rfl⟩
abbrev main_call3_c_1 : Ref sig .tc := ⟨.hbm, 788, rfl⟩
abbrev main_call3_v15 : Ref sig .tc := ⟨.hbm, 789, rfl⟩
abbrev main_call3_v16 : Ref sig .tc := ⟨.hbm, 790, rfl⟩
abbrev main_call3_v17 : Ref sig .tc := ⟨.hbm, 791, rfl⟩
abbrev main_call3_v18 : Ref sig .tc := ⟨.hbm, 792, rfl⟩
abbrev main_call3_c_2 : Ref sig .tc := ⟨.hbm, 793, rfl⟩
abbrev main_call3_v19 : Ref sig .tc := ⟨.hbm, 794, rfl⟩
abbrev main_call3_v20 : Ref sig .tc := ⟨.hbm, 795, rfl⟩
abbrev main_call3_v21 : Ref sig .tc := ⟨.hbm, 796, rfl⟩
abbrev main_call3_v22 : Ref sig .tc := ⟨.hbm, 797, rfl⟩
abbrev main_call3_call0_v0 : Ref sig .tc := ⟨.hbm, 798, rfl⟩
abbrev main_call3_call0_c : Ref sig .tc := ⟨.hbm, 799, rfl⟩
abbrev main_call3_call0_v1 : Ref sig .tc := ⟨.hbm, 800, rfl⟩
abbrev main_call3_call0_v2 : Ref sig .tc := ⟨.hbm, 801, rfl⟩
abbrev main_call3_call0_v3 : Ref sig .tc := ⟨.hbm, 802, rfl⟩
abbrev main_call3_call0_v4 : Ref sig .tc := ⟨.hbm, 803, rfl⟩
abbrev main_call3_call0_v5 : Ref sig .tc := ⟨.hbm, 804, rfl⟩
abbrev main_call3_call0_v6 : Ref sig .tc := ⟨.hbm, 805, rfl⟩
abbrev main_call3_call0_c_0 : Ref sig .tc := ⟨.hbm, 806, rfl⟩
abbrev main_call3_call0_v7 : Ref sig .tc := ⟨.hbm, 807, rfl⟩
abbrev main_call3_call0_v8 : Ref sig .tc := ⟨.hbm, 808, rfl⟩
abbrev main_call3_call0_c_1 : Ref sig .tc := ⟨.hbm, 809, rfl⟩
abbrev main_call3_call0_v9 : Ref sig .tc := ⟨.hbm, 810, rfl⟩
abbrev main_call3_call0_v10 : Ref sig .tc := ⟨.hbm, 811, rfl⟩
abbrev main_call3_call0_v11 : Ref sig .tc := ⟨.hbm, 812, rfl⟩
abbrev main_call3_call0_v12 : Ref sig .tc := ⟨.hbm, 813, rfl⟩
abbrev main_call3_call0_v13 : Ref sig .tc := ⟨.hbm, 814, rfl⟩
abbrev main_call3_call0_c_2 : Ref sig .tc := ⟨.hbm, 815, rfl⟩
abbrev main_call3_call0_v14 : Ref sig .tc := ⟨.hbm, 816, rfl⟩
abbrev main_call3_call0_v15 : Ref sig .tc := ⟨.hbm, 817, rfl⟩
abbrev main_call3_call0_c_3 : Ref sig .tc := ⟨.hbm, 818, rfl⟩
abbrev main_call3_call0_v16 : Ref sig .tc := ⟨.hbm, 819, rfl⟩
abbrev main_call3_call0_v17 : Ref sig .tc := ⟨.hbm, 820, rfl⟩
abbrev main_call3_call0_v18 : Ref sig .tc := ⟨.hbm, 821, rfl⟩
abbrev main_call3_call0_v19 : Ref sig .tc := ⟨.hbm, 822, rfl⟩
abbrev main_call3_call0_v20 : Ref sig .tc := ⟨.hbm, 823, rfl⟩
abbrev main_call3_call0_c_4 : Ref sig .tc := ⟨.hbm, 824, rfl⟩
abbrev main_call3_call0_v21 : Ref sig .tc := ⟨.hbm, 825, rfl⟩
abbrev main_call3_call0_v22 : Ref sig .tc := ⟨.hbm, 826, rfl⟩
abbrev main_call3_call0_c_5 : Ref sig .tc := ⟨.hbm, 827, rfl⟩
abbrev main_call3_call0_v23 : Ref sig .tc := ⟨.hbm, 828, rfl⟩
abbrev main_call3_call0_v24 : Ref sig .tc := ⟨.hbm, 829, rfl⟩
abbrev main_call3_call0_v25 : Ref sig .tc := ⟨.hbm, 830, rfl⟩
abbrev main_call3_call0_v26 : Ref sig .tc := ⟨.hbm, 831, rfl⟩
abbrev main_call3_call0_v27 : Ref sig .tc := ⟨.hbm, 832, rfl⟩
abbrev main_call3_call0_c_6 : Ref sig .tc := ⟨.hbm, 833, rfl⟩
abbrev main_call3_call0_v28 : Ref sig .tc := ⟨.hbm, 834, rfl⟩
abbrev main_call3_call0_v29 : Ref sig .tc := ⟨.hbm, 835, rfl⟩
abbrev main_call3_call0_c_7 : Ref sig .tc := ⟨.hbm, 836, rfl⟩
abbrev main_call3_call0_v30 : Ref sig .tc := ⟨.hbm, 837, rfl⟩
abbrev main_call3_call0_v31 : Ref sig .tc := ⟨.hbm, 838, rfl⟩
abbrev main_call3_call0_v32 : Ref sig .tc := ⟨.hbm, 839, rfl⟩
abbrev main_call3_call0_v33 : Ref sig .tc := ⟨.hbm, 840, rfl⟩
abbrev main_call3_call0_v34 : Ref sig .tc := ⟨.hbm, 841, rfl⟩
abbrev main_call3_call0_v35 : Ref sig .tc := ⟨.hbm, 842, rfl⟩
abbrev main_call3_call0_v36 : Ref sig .tc := ⟨.hbm, 843, rfl⟩
abbrev main_call3_call0_v37 : Ref sig .tc := ⟨.hbm, 844, rfl⟩
abbrev main_call3_call0_c_8 : Ref sig .tc := ⟨.hbm, 845, rfl⟩
abbrev main_call3_call0_v38 : Ref sig .tc := ⟨.hbm, 846, rfl⟩
abbrev main_call3_call0_v39 : Ref sig .tc := ⟨.hbm, 847, rfl⟩
abbrev main_call3_call0_v40 : Ref sig .tc := ⟨.hbm, 848, rfl⟩
abbrev main_call3_call0_c_9 : Ref sig .tc := ⟨.hbm, 849, rfl⟩
abbrev main_call3_call0_v41 : Ref sig .tc := ⟨.hbm, 850, rfl⟩
abbrev main_call3_call0_v42 : Ref sig .tc := ⟨.hbm, 851, rfl⟩
abbrev main_call3_call0_c_10 : Ref sig .tc := ⟨.hbm, 852, rfl⟩
abbrev main_call3_call0_v43 : Ref sig .tc := ⟨.hbm, 853, rfl⟩
abbrev main_call3_call0_v44 : Ref sig .tc := ⟨.hbm, 854, rfl⟩
abbrev main_call3_call0_v45 : Ref sig .tc := ⟨.hbm, 855, rfl⟩
abbrev main_call3_call0_v46 : Ref sig .tc := ⟨.hbm, 856, rfl⟩
abbrev main_call3_call0_v47 : Ref sig .tc := ⟨.hbm, 857, rfl⟩
abbrev main_call3_call0_c_11 : Ref sig .tc := ⟨.hbm, 858, rfl⟩
abbrev main_call3_call0_v48 : Ref sig .tc := ⟨.hbm, 859, rfl⟩
abbrev main_call3_call0_v49 : Ref sig .tc := ⟨.hbm, 860, rfl⟩
abbrev main_call3_call0_c_12 : Ref sig .tc := ⟨.hbm, 861, rfl⟩
abbrev main_call3_call0_v50 : Ref sig .tc := ⟨.hbm, 862, rfl⟩
abbrev main_call3_call0_v51 : Ref sig .tc := ⟨.hbm, 863, rfl⟩
abbrev main_call3_call0_v52 : Ref sig .tc := ⟨.hbm, 864, rfl⟩
abbrev main_call3_call0_v53 : Ref sig .tc := ⟨.hbm, 865, rfl⟩
abbrev main_call3_call0_v54 : Ref sig .tc := ⟨.hbm, 866, rfl⟩
abbrev main_call3_call0_c_13 : Ref sig .tc := ⟨.hbm, 867, rfl⟩
abbrev main_call3_call0_v55 : Ref sig .tc := ⟨.hbm, 868, rfl⟩
abbrev main_call3_call0_v56 : Ref sig .tc := ⟨.hbm, 869, rfl⟩
abbrev main_call3_call0_c_14 : Ref sig .tc := ⟨.hbm, 870, rfl⟩
abbrev main_call3_call0_v57 : Ref sig .tc := ⟨.hbm, 871, rfl⟩
abbrev main_call3_call0_v58 : Ref sig .tc := ⟨.hbm, 872, rfl⟩
abbrev main_call3_call0_v59 : Ref sig .tc := ⟨.hbm, 873, rfl⟩
abbrev main_call3_call0_v60 : Ref sig .tc := ⟨.hbm, 874, rfl⟩
abbrev main_call3_call0_v61 : Ref sig .tc := ⟨.hbm, 875, rfl⟩
abbrev main_call3_call0_c_15 : Ref sig .tc := ⟨.hbm, 876, rfl⟩
abbrev main_call3_call0_v62 : Ref sig .tc := ⟨.hbm, 877, rfl⟩
abbrev main_call3_call0_v63 : Ref sig .tc := ⟨.hbm, 878, rfl⟩
abbrev main_call3_call0_c_16 : Ref sig .tc := ⟨.hbm, 879, rfl⟩
abbrev main_call3_call0_v64 : Ref sig .tc := ⟨.hbm, 880, rfl⟩
abbrev main_call3_call0_v65 : Ref sig .tc := ⟨.hbm, 881, rfl⟩
abbrev main_call3_call0_v66 : Ref sig .tc := ⟨.hbm, 882, rfl⟩
abbrev main_call3_call0_v67 : Ref sig .tc := ⟨.hbm, 883, rfl⟩
abbrev main_call3_call0_v68 : Ref sig .tc := ⟨.hbm, 884, rfl⟩
abbrev main_call3_call0_v69 : Ref sig .tc := ⟨.hbm, 885, rfl⟩
abbrev main_call3_call0_v70 : Ref sig .tc := ⟨.hbm, 886, rfl⟩
abbrev main_call3_call0_v71 : Ref sig .tc := ⟨.hbm, 887, rfl⟩
abbrev main_call3_call0_c_17 : Ref sig .tc := ⟨.hbm, 888, rfl⟩
abbrev main_call3_call0_v72 : Ref sig .tc := ⟨.hbm, 889, rfl⟩
abbrev main_call3_call0_v73 : Ref sig .tc := ⟨.hbm, 890, rfl⟩
abbrev main_call3_call0_v74 : Ref sig .tc := ⟨.hbm, 891, rfl⟩
abbrev main_call3_call0_c_18 : Ref sig .tc := ⟨.hbm, 892, rfl⟩
abbrev main_call3_call0_v75 : Ref sig .tc := ⟨.hbm, 893, rfl⟩
abbrev main_call3_call0_v76 : Ref sig .tc := ⟨.hbm, 894, rfl⟩
abbrev main_call3_call0_c_19 : Ref sig .tc := ⟨.hbm, 895, rfl⟩
abbrev main_call3_call0_v77 : Ref sig .tc := ⟨.hbm, 896, rfl⟩
abbrev main_call3_call0_v78 : Ref sig .tc := ⟨.hbm, 897, rfl⟩
abbrev main_call3_call0_v79 : Ref sig .tc := ⟨.hbm, 898, rfl⟩
abbrev main_call3_call0_v80 : Ref sig .tc := ⟨.hbm, 899, rfl⟩
abbrev main_call3_call0_v81 : Ref sig .tc := ⟨.hbm, 900, rfl⟩
abbrev main_call3_call0_c_20 : Ref sig .tc := ⟨.hbm, 901, rfl⟩
abbrev main_call3_call0_v82 : Ref sig .tc := ⟨.hbm, 902, rfl⟩
abbrev main_call3_call0_v83 : Ref sig .tc := ⟨.hbm, 903, rfl⟩
abbrev main_call3_call0_c_21 : Ref sig .tc := ⟨.hbm, 904, rfl⟩
abbrev main_call3_call0_v84 : Ref sig .tc := ⟨.hbm, 905, rfl⟩
abbrev main_call3_call0_v85 : Ref sig .tc := ⟨.hbm, 906, rfl⟩
abbrev main_call3_call0_v86 : Ref sig .tc := ⟨.hbm, 907, rfl⟩
abbrev main_call3_call0_v87 : Ref sig .tc := ⟨.hbm, 908, rfl⟩
abbrev main_call3_call0_v88 : Ref sig .tc := ⟨.hbm, 909, rfl⟩
abbrev main_call3_call0_c_22 : Ref sig .tc := ⟨.hbm, 910, rfl⟩
abbrev main_call3_call0_v89 : Ref sig .tc := ⟨.hbm, 911, rfl⟩
abbrev main_call3_call0_v90 : Ref sig .tc := ⟨.hbm, 912, rfl⟩
abbrev main_call3_call0_c_23 : Ref sig .tc := ⟨.hbm, 913, rfl⟩
abbrev main_call3_call0_v91 : Ref sig .tc := ⟨.hbm, 914, rfl⟩
abbrev main_call3_call0_v92 : Ref sig .tc := ⟨.hbm, 915, rfl⟩
abbrev main_call3_call0_v93 : Ref sig .tc := ⟨.hbm, 916, rfl⟩
abbrev main_call3_call0_v94 : Ref sig .tc := ⟨.hbm, 917, rfl⟩
abbrev main_call3_call0_v95 : Ref sig .tc := ⟨.hbm, 918, rfl⟩
abbrev main_call3_call0_c_24 : Ref sig .tc := ⟨.hbm, 919, rfl⟩
abbrev main_call3_call0_v96 : Ref sig .tc := ⟨.hbm, 920, rfl⟩
abbrev main_call3_call0_v97 : Ref sig .tc := ⟨.hbm, 921, rfl⟩
abbrev main_call3_call0_c_25 : Ref sig .tc := ⟨.hbm, 922, rfl⟩
abbrev main_call3_call0_v98 : Ref sig .tc := ⟨.hbm, 923, rfl⟩
abbrev main_call3_call0_v99 : Ref sig .tc := ⟨.hbm, 924, rfl⟩
abbrev main_call3_call0_v100 : Ref sig .tc := ⟨.hbm, 925, rfl⟩
abbrev main_call3_call0_v101 : Ref sig .tc := ⟨.hbm, 926, rfl⟩
abbrev main_call3_call0_v102 : Ref sig .tc := ⟨.hbm, 927, rfl⟩
abbrev main_call3_call0_v103 : Ref sig .tc := ⟨.hbm, 928, rfl⟩
abbrev main_call3_call0_v104 : Ref sig .tc := ⟨.hbm, 929, rfl⟩
abbrev main_call3_call0_v105 : Ref sig .tc := ⟨.hbm, 930, rfl⟩
abbrev main_call3_call0_c_26 : Ref sig .tc := ⟨.hbm, 931, rfl⟩
abbrev main_call3_call0_v106 : Ref sig .tc := ⟨.hbm, 932, rfl⟩
abbrev main_call3_call0_v107 : Ref sig .tc := ⟨.hbm, 933, rfl⟩
abbrev main_call3_call0_v108 : Ref sig .tc := ⟨.hbm, 934, rfl⟩
abbrev main_call3_call0_c_27 : Ref sig .tc := ⟨.hbm, 935, rfl⟩
abbrev main_call3_call0_v109 : Ref sig .tc := ⟨.hbm, 936, rfl⟩
abbrev main_call3_call0_v110 : Ref sig .tc := ⟨.hbm, 937, rfl⟩
abbrev main_call3_call0_c_28 : Ref sig .tc := ⟨.hbm, 938, rfl⟩
abbrev main_call3_call0_v111 : Ref sig .tc := ⟨.hbm, 939, rfl⟩
abbrev main_call3_call0_v112 : Ref sig .tc := ⟨.hbm, 940, rfl⟩
abbrev main_call3_call0_v113 : Ref sig .tc := ⟨.hbm, 941, rfl⟩
abbrev main_call3_call0_v114 : Ref sig .tc := ⟨.hbm, 942, rfl⟩
abbrev main_call3_call0_v115 : Ref sig .tc := ⟨.hbm, 943, rfl⟩
abbrev main_call3_call0_c_29 : Ref sig .tc := ⟨.hbm, 944, rfl⟩
abbrev main_call3_call0_v116 : Ref sig .tc := ⟨.hbm, 945, rfl⟩
abbrev main_call3_call0_v117 : Ref sig .tc := ⟨.hbm, 946, rfl⟩
abbrev main_call3_call0_c_30 : Ref sig .tc := ⟨.hbm, 947, rfl⟩
abbrev main_call3_call0_v118 : Ref sig .tc := ⟨.hbm, 948, rfl⟩
abbrev main_call3_call0_v119 : Ref sig .tc := ⟨.hbm, 949, rfl⟩
abbrev main_call3_call0_v120 : Ref sig .tc := ⟨.hbm, 950, rfl⟩
abbrev main_call3_call0_v121 : Ref sig .tc := ⟨.hbm, 951, rfl⟩
abbrev main_call3_call0_v122 : Ref sig .tc := ⟨.hbm, 952, rfl⟩
abbrev main_call3_call0_c_31 : Ref sig .tc := ⟨.hbm, 953, rfl⟩
abbrev main_call3_call0_v123 : Ref sig .tc := ⟨.hbm, 954, rfl⟩
abbrev main_call3_call0_v124 : Ref sig .tc := ⟨.hbm, 955, rfl⟩
abbrev main_call3_call0_c_32 : Ref sig .tc := ⟨.hbm, 956, rfl⟩
abbrev main_call3_call0_v125 : Ref sig .tc := ⟨.hbm, 957, rfl⟩
abbrev main_call3_call0_v126 : Ref sig .tc := ⟨.hbm, 958, rfl⟩
abbrev main_call3_call0_v127 : Ref sig .tc := ⟨.hbm, 959, rfl⟩
abbrev main_call3_call0_v128 : Ref sig .tc := ⟨.hbm, 960, rfl⟩
abbrev main_call3_call0_v129 : Ref sig .tc := ⟨.hbm, 961, rfl⟩
abbrev main_call3_call0_c_33 : Ref sig .tc := ⟨.hbm, 962, rfl⟩
abbrev main_call3_call0_v130 : Ref sig .tc := ⟨.hbm, 963, rfl⟩
abbrev main_call3_call0_v131 : Ref sig .tc := ⟨.hbm, 964, rfl⟩
abbrev main_call3_call0_c_34 : Ref sig .tc := ⟨.hbm, 965, rfl⟩
abbrev main_call3_call0_v132 : Ref sig .tc := ⟨.hbm, 966, rfl⟩
abbrev main_call3_call0_v133 : Ref sig .tc := ⟨.hbm, 967, rfl⟩
abbrev main_call3_call0_v134 : Ref sig .tc := ⟨.hbm, 968, rfl⟩
abbrev main_call3_call0_v135 : Ref sig .tc := ⟨.hbm, 969, rfl⟩
abbrev main_call3_call0_v136 : Ref sig .tc := ⟨.hbm, 970, rfl⟩
abbrev main_call3_call0_v137 : Ref sig .tc := ⟨.hbm, 971, rfl⟩
abbrev main_call3_call0_v138 : Ref sig .tc := ⟨.hbm, 972, rfl⟩
abbrev main_call3_call0_v139 : Ref sig .tc := ⟨.hbm, 973, rfl⟩
abbrev main_call3_call0_c_35 : Ref sig .tc := ⟨.hbm, 974, rfl⟩
abbrev main_call3_call0_v140 : Ref sig .tc := ⟨.hbm, 975, rfl⟩
abbrev main_call3_call0_v141 : Ref sig .tc := ⟨.hbm, 976, rfl⟩
abbrev main_call3_call0_v142 : Ref sig .tc := ⟨.hbm, 977, rfl⟩
abbrev main_call3_call0_c_36 : Ref sig .tc := ⟨.hbm, 978, rfl⟩
abbrev main_call3_call0_v143 : Ref sig .tc := ⟨.hbm, 979, rfl⟩
abbrev main_call3_call0_v144 : Ref sig .tc := ⟨.hbm, 980, rfl⟩
abbrev main_call3_call0_c_37 : Ref sig .tc := ⟨.hbm, 981, rfl⟩
abbrev main_call3_call0_v145 : Ref sig .tc := ⟨.hbm, 982, rfl⟩
abbrev main_call3_call0_v146 : Ref sig .tc := ⟨.hbm, 983, rfl⟩
abbrev main_call3_call0_v147 : Ref sig .tc := ⟨.hbm, 984, rfl⟩
abbrev main_call3_call0_v148 : Ref sig .tc := ⟨.hbm, 985, rfl⟩
abbrev main_call3_call0_v149 : Ref sig .tc := ⟨.hbm, 986, rfl⟩
abbrev main_call3_call0_c_38 : Ref sig .tc := ⟨.hbm, 987, rfl⟩
abbrev main_call3_call0_v150 : Ref sig .tc := ⟨.hbm, 988, rfl⟩
abbrev main_call3_call0_v151 : Ref sig .tc := ⟨.hbm, 989, rfl⟩
abbrev main_call3_call0_c_39 : Ref sig .tc := ⟨.hbm, 990, rfl⟩
abbrev main_call3_call0_v152 : Ref sig .tc := ⟨.hbm, 991, rfl⟩
abbrev main_call3_call0_v153 : Ref sig .tc := ⟨.hbm, 992, rfl⟩
abbrev main_call3_call0_v154 : Ref sig .tc := ⟨.hbm, 993, rfl⟩
abbrev main_call3_call0_v155 : Ref sig .tc := ⟨.hbm, 994, rfl⟩
abbrev main_call3_call0_v156 : Ref sig .tc := ⟨.hbm, 995, rfl⟩
abbrev main_call3_call0_c_40 : Ref sig .tc := ⟨.hbm, 996, rfl⟩
abbrev main_call3_call0_v157 : Ref sig .tc := ⟨.hbm, 997, rfl⟩
abbrev main_call3_call0_v158 : Ref sig .tc := ⟨.hbm, 998, rfl⟩
abbrev main_call3_call0_c_41 : Ref sig .tc := ⟨.hbm, 999, rfl⟩
abbrev main_call3_call0_v159 : Ref sig .tc := ⟨.hbm, 1000, rfl⟩
abbrev main_call3_call0_v160 : Ref sig .tc := ⟨.hbm, 1001, rfl⟩
abbrev main_call3_call0_v161 : Ref sig .tc := ⟨.hbm, 1002, rfl⟩
abbrev main_call3_call0_v162 : Ref sig .tc := ⟨.hbm, 1003, rfl⟩
abbrev main_call3_call0_v163 : Ref sig .tc := ⟨.hbm, 1004, rfl⟩
abbrev main_call3_call0_c_42 : Ref sig .tc := ⟨.hbm, 1005, rfl⟩
abbrev main_call3_call0_v164 : Ref sig .tc := ⟨.hbm, 1006, rfl⟩
abbrev main_call3_call0_v165 : Ref sig .tc := ⟨.hbm, 1007, rfl⟩
abbrev main_call3_call0_c_43 : Ref sig .tc := ⟨.hbm, 1008, rfl⟩
abbrev main_call3_call0_v166 : Ref sig .tc := ⟨.hbm, 1009, rfl⟩
abbrev main_call3_call0_v167 : Ref sig .tc := ⟨.hbm, 1010, rfl⟩
abbrev main_call3_call0_v168 : Ref sig .tc := ⟨.hbm, 1011, rfl⟩
abbrev main_call3_call0_v169 : Ref sig .tc := ⟨.hbm, 1012, rfl⟩
abbrev main_call3_call0_v170 : Ref sig .tc := ⟨.hbm, 1013, rfl⟩
abbrev main_call3_v23_0 : Ref sig .tc := ⟨.hbm, 1014, rfl⟩
abbrev main_call3_call0_v172 : Ref sig .tc := ⟨.hbm, 1015, rfl⟩
abbrev main_call3_call0_v173 : Ref sig .tc := ⟨.hbm, 1016, rfl⟩
abbrev main_call3_call0_c_44 : Ref sig .tc := ⟨.hbm, 1017, rfl⟩
abbrev main_call3_call0_v174 : Ref sig .tc := ⟨.hbm, 1018, rfl⟩
abbrev main_call3_v23_1 : Ref sig .tc := ⟨.hbm, 1019, rfl⟩
abbrev main_call3_v24 : Ref sig .tc := ⟨.hbm, 1020, rfl⟩
abbrev main_call3_c_3 : Ref sig .tc := ⟨.hbm, 1021, rfl⟩
abbrev main_call3_v25 : Ref sig .tc := ⟨.hbm, 1022, rfl⟩
abbrev main_call3_v26 : Ref sig .tc := ⟨.hbm, 1023, rfl⟩
abbrev main_call3_c_4 : Ref sig .tc := ⟨.hbm, 1024, rfl⟩
abbrev main_call3_v27 : Ref sig .tc := ⟨.hbm, 1025, rfl⟩
abbrev main_call3_v28 : Ref sig .tc := ⟨.hbm, 1026, rfl⟩
abbrev main_call3_v29 : Ref sig .tc := ⟨.hbm, 1027, rfl⟩
abbrev main_call3_cst : Ref sig .tc := ⟨.hbm, 1028, rfl⟩
abbrev main_call3_v30 : Ref sig .tc := ⟨.hbm, 1029, rfl⟩
abbrev main_call3_v31 : Ref sig .tc := ⟨.hbm, 1030, rfl⟩
abbrev main_call3_v32 : Ref sig .tc := ⟨.hbm, 1031, rfl⟩
abbrev main_call3_v33 : Ref sig .tc := ⟨.hbm, 1032, rfl⟩
abbrev main_call3_v34 : Ref sig .tc := ⟨.hbm, 1033, rfl⟩
abbrev main_call3_v35 : Ref sig .tc := ⟨.hbm, 1034, rfl⟩
abbrev main_call3_v36 : Ref sig .tc := ⟨.hbm, 1035, rfl⟩
abbrev main_call3_v37 : Ref sig .tc := ⟨.hbm, 1036, rfl⟩
abbrev main_v19 : Ref sig .tc := ⟨.hbm, 1037, rfl⟩
abbrev main_v20 : Ref sig .tc := ⟨.hbm, 1038, rfl⟩
abbrev main_v21 : Ref sig .tc := ⟨.hbm, 1039, rfl⟩
abbrev main_v22 : Ref sig .tc := ⟨.hbm, 1040, rfl⟩
abbrev main_v23 : Ref sig .tc := ⟨.hbm, 1041, rfl⟩
abbrev main_cst_8 : Ref sig .tc := ⟨.hbm, 1042, rfl⟩
abbrev main_v24 : Ref sig .tc := ⟨.hbm, 1043, rfl⟩
abbrev main_v25 : Ref sig .tc := ⟨.hbm, 1044, rfl⟩
abbrev main_v26 : Ref sig .tc := ⟨.hbm, 1045, rfl⟩
abbrev main_v27 : Ref sig .tc := ⟨.hbm, 1046, rfl⟩
abbrev main_v28 : Ref sig .tc := ⟨.hbm, 1047, rfl⟩
abbrev main_v29 : Ref sig .tc := ⟨.hbm, 1048, rfl⟩
abbrev main_v30_0 : Ref sig .tc := ⟨.hbm, 1049, rfl⟩
abbrev main_v30_1 : Ref sig .tc := ⟨.hbm, 1050, rfl⟩
abbrev main_v31 : Ref sig .tc := ⟨.hbm, 1051, rfl⟩
abbrev main_v32 : Ref sig .tc := ⟨.hbm, 1052, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

@[reducible] def k1_t1_loop : Scf.Loop 32 :=
  let c0_i32 : BitVec 32 := 0#32
  let c31_i32 : BitVec 32 := 31#32
  let v151 : BitVec 32 := Scalar.addi c0_i32 c31_i32
  let c1_i32 : BitVec 32 := 1#32
  ⟨c0_i32, v151, c1_i32⟩
@[reducible] def k1_t2_loop : Scf.Loop 32 :=
  let c0_i32_10 : BitVec 32 := 0#32
  let c31_i32_11 : BitVec 32 := 31#32
  let v303 : BitVec 32 := Scalar.addi c0_i32_10 c31_i32_11
  let c1_i32_12 : BitVec 32 := 1#32
  ⟨c0_i32_10, v303, c1_i32_12⟩
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc1_transform_2 (i : grid1.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S2048x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2x256x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1024x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S256x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== ReferenceIdeal.lean ====
abbrev S1x2048x1024 : Shape := ⟨3, ![1, 2048, 1024]⟩
abbrev S1024x1024 : Shape := ⟨2, ![1024, 1024]⟩
abbrev S1024x64 : Shape := ⟨2, ![1024, 64]⟩
abbrev S_ : Shape := ⟨0, ![]⟩
abbrev S1 : Shape := ⟨1, ![1]⟩
abbrev S2 : Shape := ⟨1, ![2]⟩
abbrev S1x2048x64 : Shape := ⟨3, ![1, 2048, 64]⟩
abbrev S1x2048x2048 : Shape := ⟨3, ![1, 2048, 2048]⟩
abbrev S1x1x1 : Shape := ⟨3, ![1, 1, 1]⟩
abbrev S1x2048x32 : Shape := ⟨3, ![1, 2048, 32]⟩
abbrev S1x2048x16x64 : Shape := ⟨4, ![1, 2048, 16, 64]⟩
abbrev S1x2048x32x1 : Shape := ⟨4, ![1, 2048, 32, 1]⟩
abbrev S1x2048x32x1024 : Shape := ⟨4, ![1, 2048, 32, 1024]⟩
abbrev S1x2048x32x16x64 : Shape := ⟨5, ![1, 2048, 32, 16, 64]⟩
abbrev S1x16x2048x32 : Shape := ⟨4, ![1, 16, 2048, 32]⟩
abbrev S1x16x2048 : Shape := ⟨3, ![1, 16, 2048]⟩
abbrev S1x16x2048x1 : Shape := ⟨4, ![1, 16, 2048, 1]⟩

abbrev nBuf : Space → Nat
  | .hbm => 1155
  | .vmem => 0
  | .smem => 0
  | _ => 0

abbrev hbmTy0_0 (i : Nat) : BufTy := match i % 128 with
  | 0 => ⟨S1x2048x1024, .f32⟩
  | 1 => ⟨S1024x1024, .f32⟩
  | 2 => ⟨S1024x1024, .f32⟩
  | 3 => ⟨S1024x1024, .f32⟩
  | 4 => ⟨S1024x1024, .f32⟩
  | 5 => ⟨S1024x64, .f32⟩
  | 6 => ⟨S_, .i32⟩
  | 7 => ⟨S_, .i32⟩
  | 8 => ⟨S_, .i32⟩
  | 9 => ⟨S_, .i32⟩
  | 10 => ⟨S1, .i32⟩
  | 11 => ⟨S_, .i32⟩
  | 12 => ⟨S_, .i32⟩
  | 13 => ⟨S_, .i32⟩
  | 14 => ⟨S1, .i32⟩
  | 15 => ⟨S2, .i32⟩
  | 16 => ⟨S_, .i32⟩
  | 17 => ⟨S_, .i32⟩
  | 18 => ⟨S_, .i32⟩
  | 19 => ⟨S1, .i32⟩
  | 20 => ⟨S_, .i32⟩
  | 21 => ⟨S_, .i32⟩
  | 22 => ⟨S1, .i32⟩
  | 23 => ⟨S2, .i32⟩
  | 24 => ⟨S1, .i32⟩
  | 25 => ⟨S_, .i32⟩
  | 26 => ⟨S1, .i32⟩
  | 27 => ⟨S_, .i32⟩
  | 28 => ⟨S1, .i32⟩
  | 29 => ⟨S1, .i32⟩
  | 30 => ⟨S_, .i32⟩
  | 31 => ⟨S_, .i32⟩
  | 32 => ⟨S_, .i32⟩
  | 33 => ⟨S1, .i32⟩
  | 34 => ⟨S1, .i32⟩
  | 35 => ⟨S1, .i32⟩
  | 36 => ⟨S1, .i32⟩
  | 37 => ⟨S1, .i32⟩
  | 38 => ⟨S_, .i32⟩
  | 39 => ⟨S1, .i32⟩
  | 40 => ⟨S1, .i32⟩
  | 41 => ⟨S_, .i32⟩
  | 42 => ⟨S1, .i32⟩
  | 43 => ⟨S1, .i32⟩
  | 44 => ⟨S1, .i32⟩
  | 45 => ⟨S1, .i32⟩
  | 46 => ⟨S1, .i32⟩
  | 47 => ⟨S_, .i32⟩
  | 48 => ⟨S1, .i32⟩
  | 49 => ⟨S1, .i32⟩
  | 50 => ⟨S_, .i32⟩
  | 51 => ⟨S1, .i32⟩
  | 52 => ⟨S1, .i32⟩
  | 53 => ⟨S1, .i32⟩
  | 54 => ⟨S1, .i32⟩
  | 55 => ⟨S1, .i32⟩
  | 56 => ⟨S_, .i32⟩
  | 57 => ⟨S1, .i32⟩
  | 58 => ⟨S1, .i32⟩
  | 59 => ⟨S_, .i32⟩
  | 60 => ⟨S1, .i32⟩
  | 61 => ⟨S1, .i32⟩
  | 62 => ⟨S1, .i32⟩
  | 63 => ⟨S1, .i32⟩
  | 64 => ⟨S1, .i32⟩
  | 65 => ⟨S_, .i32⟩
  | 66 => ⟨S1, .i32⟩
  | 67 => ⟨S1, .i32⟩
  | 68 => ⟨S_, .i32⟩
  | 69 => ⟨S1, .i32⟩
  | 70 => ⟨S1, .i32⟩
  | 71 => ⟨S1, .i32⟩
  | 72 => ⟨S1, .i32⟩
  | 73 => ⟨S1, .i32⟩
  | 74 => ⟨S1, .i32⟩
  | 75 => ⟨S1, .i32⟩
  | 76 => ⟨S1, .i32⟩
  | 77 => ⟨S_, .i32⟩
  | 78 => ⟨S1, .i32⟩
  | 79 => ⟨S1, .i32⟩
  | 80 => ⟨S1, .i32⟩
  | 81 => ⟨S_, .i32⟩
  | 82 => ⟨S1, .i32⟩
  | 83 => ⟨S1, .i32⟩
  | 84 => ⟨S_, .i32⟩
  | 85 => ⟨S1, .i32⟩
  | 86 => ⟨S1, .i32⟩
  | 87 => ⟨S1, .i32⟩
  | 88 => ⟨S1, .i32⟩
  | 89 => ⟨S1, .i32⟩
  | 90 => ⟨S_, .i32⟩
  | 91 => ⟨S1, .i32⟩
  | 92 => ⟨S1, .i32⟩
  | 93 => ⟨S_, .i32⟩
  | 94 => ⟨S1, .i32⟩
  | 95 => ⟨S1, .i32⟩
  | 96 => ⟨S1, .i32⟩
  | 97 => ⟨S1, .i32⟩
  | 98 => ⟨S1, .i32⟩
  | 99 => ⟨S_, .i32⟩
  | 100 => ⟨S1, .i32⟩
  | 101 => ⟨S1, .i32⟩
  | 102 => ⟨S_, .i32⟩
  | 103 => ⟨S1, .i32⟩
  | 104 => ⟨S1, .i32⟩
  | 105 => ⟨S1, .i32⟩
  | 106 => ⟨S1, .i32⟩
  | 107 => ⟨S1, .i32⟩
  | 108 => ⟨S_, .i32⟩
  | 109 => ⟨S1, .i32⟩
  | 110 => ⟨S1, .i32⟩
  | 111 => ⟨S_, .i32⟩
  | 112 => ⟨S1, .i32⟩
  | 113 => ⟨S1, .i32⟩
  | 114 => ⟨S1, .i32⟩
  | 115 => ⟨S1, .i32⟩
  | 116 => ⟨S1, .i32⟩
  | 117 => ⟨S1, .i32⟩
  | 118 => ⟨S1, .i32⟩
  | 119 => ⟨S1, .i32⟩
  | 120 => ⟨S_, .i32⟩
  | 121 => ⟨S1, .i32⟩
  | 122 => ⟨S1, .i32⟩
  | 123 => ⟨S1, .i32⟩
  | 124 => ⟨S_, .i32⟩
  | 125 => ⟨S1, .i32⟩
  | 126 => ⟨S1, .i32⟩
  | 127 => ⟨S_, .i32⟩
  | _ => ⟨S1x2048x1024, .f32⟩

abbrev hbmTy0_1 (i : Nat) : BufTy := match i % 128 with
  | 0 => ⟨S1, .i32⟩
  | 1 => ⟨S1, .i32⟩
  | 2 => ⟨S1, .i32⟩
  | 3 => ⟨S1, .i32⟩
  | 4 => ⟨S1, .i32⟩
  | 5 => ⟨S_, .i32⟩
  | 6 => ⟨S1, .i32⟩
  | 7 => ⟨S1, .i32⟩
  | 8 => ⟨S_, .i32⟩
  | 9 => ⟨S1, .i32⟩
  | 10 => ⟨S1, .i32⟩
  | 11 => ⟨S1, .i32⟩
  | 12 => ⟨S1, .i32⟩
  | 13 => ⟨S1, .i32⟩
  | 14 => ⟨S_, .i32⟩
  | 15 => ⟨S1, .i32⟩
  | 16 => ⟨S1, .i32⟩
  | 17 => ⟨S_, .i32⟩
  | 18 => ⟨S1, .i32⟩
  | 19 => ⟨S1, .i32⟩
  | 20 => ⟨S1, .i32⟩
  | 21 => ⟨S1, .i32⟩
  | 22 => ⟨S1, .i32⟩
  | 23 => ⟨S_, .i32⟩
  | 24 => ⟨S1, .i32⟩
  | 25 => ⟨S1, .i32⟩
  | 26 => ⟨S_, .i32⟩
  | 27 => ⟨S1, .i32⟩
  | 28 => ⟨S1, .i32⟩
  | 29 => ⟨S1, .i32⟩
  | 30 => ⟨S1, .i32⟩
  | 31 => ⟨S1, .i32⟩
  | 32 => ⟨S1, .i32⟩
  | 33 => ⟨S1, .i32⟩
  | 34 => ⟨S1, .i32⟩
  | 35 => ⟨S_, .i32⟩
  | 36 => ⟨S1, .i32⟩
  | 37 => ⟨S1, .i32⟩
  | 38 => ⟨S1, .i32⟩
  | 39 => ⟨S_, .i32⟩
  | 40 => ⟨S1, .i32⟩
  | 41 => ⟨S1, .i32⟩
  | 42 => ⟨S_, .i32⟩
  | 43 => ⟨S1, .i32⟩
  | 44 => ⟨S1, .i32⟩
  | 45 => ⟨S1, .i32⟩
  | 46 => ⟨S1, .i32⟩
  | 47 => ⟨S1, .i32⟩
  | 48 => ⟨S_, .i32⟩
  | 49 => ⟨S1, .i32⟩
  | 50 => ⟨S1, .i32⟩
  | 51 => ⟨S_, .i32⟩
  | 52 => ⟨S1, .i32⟩
  | 53 => ⟨S1, .i32⟩
  | 54 => ⟨S1, .i32⟩
  | 55 => ⟨S1, .i32⟩
  | 56 => ⟨S1, .i32⟩
  | 57 => ⟨S_, .i32⟩
  | 58 => ⟨S1, .i32⟩
  | 59 => ⟨S1, .i32⟩
  | 60 => ⟨S_, .i32⟩
  | 61 => ⟨S1, .i32⟩
  | 62 => ⟨S1, .i32⟩
  | 63 => ⟨S1, .i32⟩
  | 64 => ⟨S1, .i32⟩
  | 65 => ⟨S1, .i32⟩
  | 66 => ⟨S_, .i32⟩
  | 67 => ⟨S1, .i32⟩
  | 68 => ⟨S1, .i32⟩
  | 69 => ⟨S_, .i32⟩
  | 70 => ⟨S1, .i32⟩
  | 71 => ⟨S1, .i32⟩
  | 72 => ⟨S1, .i32⟩
  | 73 => ⟨S1, .i32⟩
  | 74 => ⟨S1, .i32⟩
  | 75 => ⟨S1, .i32⟩
  | 76 => ⟨S1, .i32⟩
  | 77 => ⟨S1, .i32⟩
  | 78 => ⟨S_, .i32⟩
  | 79 => ⟨S1, .i32⟩
  | 80 => ⟨S1, .i32⟩
  | 81 => ⟨S1, .i32⟩
  | 82 => ⟨S_, .i32⟩
  | 83 => ⟨S1, .i32⟩
  | 84 => ⟨S1, .i32⟩
  | 85 => ⟨S_, .i32⟩
  | 86 => ⟨S1, .i32⟩
  | 87 => ⟨S1, .i32⟩
  | 88 => ⟨S1, .i32⟩
  | 89 => ⟨S1, .i32⟩
  | 90 => ⟨S1, .i32⟩
  | 91 => ⟨S_, .i32⟩
  | 92 => ⟨S1, .i32⟩
  | 93 => ⟨S1, .i32⟩
  | 94 => ⟨S_, .i32⟩
  | 95 => ⟨S1, .i32⟩
  | 96 => ⟨S1, .i32⟩
  | 97 => ⟨S1, .i32⟩
  | 98 => ⟨S1, .i32⟩
  | 99 => ⟨S1, .i32⟩
  | 100 => ⟨S_, .i32⟩
  | 101 => ⟨S1, .i32⟩
  | 102 => ⟨S1, .i32⟩
  | 103 => ⟨S_, .i32⟩
  | 104 => ⟨S1, .i32⟩
  | 105 => ⟨S1, .i32⟩
  | 106 => ⟨S1, .i32⟩
  | 107 => ⟨S1, .i32⟩
  | 108 => ⟨S1, .i32⟩
  | 109 => ⟨S_, .i32⟩
  | 110 => ⟨S1, .i32⟩
  | 111 => ⟨S1, .i32⟩
  | 112 => ⟨S_, .i32⟩
  | 113 => ⟨S1, .i32⟩
  | 114 => ⟨S1, .i32⟩
  | 115 => ⟨S1, .i32⟩
  | 116 => ⟨S1, .i32⟩
  | 117 => ⟨S1, .i32⟩
  | 118 => ⟨S1, .i32⟩
  | 119 => ⟨S1, .i32⟩
  | 120 => ⟨S1, .i32⟩
  | 121 => ⟨S_, .i32⟩
  | 122 => ⟨S1, .i32⟩
  | 123 => ⟨S1, .i32⟩
  | 124 => ⟨S2, .i32⟩
  | 125 => ⟨S1x2048x64, .f32⟩
  | 126 => ⟨S1x2048x2048, .f32⟩
  | 127 => ⟨S_, .f32⟩
  | _ => ⟨S1x2048x1024, .f32⟩

abbrev hbmTy0_2 (i : Nat) : BufTy := match i % 128 with
  | 0 => ⟨S1x2048x2048, .f32⟩
  | 1 => ⟨S1x2048x2048, .f32⟩
  | 2 => ⟨S_, .f32⟩
  | 3 => ⟨S_, .f32⟩
  | 4 => ⟨S_, .f32⟩
  | 5 => ⟨S_, .f32⟩
  | 6 => ⟨S1x1x1, .f32⟩
  | 7 => ⟨S1x1x1, .f32⟩
  | 8 => ⟨S1, .i32⟩
  | 9 => ⟨S_, .i32⟩
  | 10 => ⟨S1, .i32⟩
  | 11 => ⟨S_, .i32⟩
  | 12 => ⟨S1x2048x2048, .i64⟩
  | 13 => ⟨S1x2048x2048, .i64⟩
  | 14 => ⟨S1x2048x2048, .i64⟩
  | 15 => ⟨S_, .i64⟩
  | 16 => ⟨S1x2048x2048, .i64⟩
  | 17 => ⟨S1x2048x2048, .i64⟩
  | 18 => ⟨S_, .i64⟩
  | 19 => ⟨S1x2048x2048, .i64⟩
  | 20 => ⟨S1x2048x2048, .i64⟩
  | 21 => ⟨S_, .i64⟩
  | 22 => ⟨S1x2048x2048, .i64⟩
  | 23 => ⟨S1x2048x2048, .i64⟩
  | 24 => ⟨S1x2048x2048, .i64⟩
  | 25 => ⟨S1x2048x2048, .i64⟩
  | 26 => ⟨S_, .i64⟩
  | 27 => ⟨S1x2048x2048, .i64⟩
  | 28 => ⟨S1x2048x2048, .i64⟩
  | 29 => ⟨S1x2048x2048, .i32⟩
  | 30 => ⟨S1x2048x2048, .i32⟩
  | 31 => ⟨S_, .i32⟩
  | 32 => ⟨S_, .i32⟩
  | 33 => ⟨S_, .i32⟩
  | 34 => ⟨S1x2048x2048, .i32⟩
  | 35 => ⟨S1x2048x2048, .i32⟩
  | 36 => ⟨S1x2048x2048, .i32⟩
  | 37 => ⟨S1x2048x2048, .i32⟩
  | 38 => ⟨S1x2048x2048, .i32⟩
  | 39 => ⟨S_, .i32⟩
  | 40 => ⟨S1x2048x2048, .i32⟩
  | 41 => ⟨S1x2048x2048, .i32⟩
  | 42 => ⟨S_, .i32⟩
  | 43 => ⟨S1x2048x2048, .i32⟩
  | 44 => ⟨S1x2048x2048, .i32⟩
  | 45 => ⟨S1x2048x2048, .i32⟩
  | 46 => ⟨S1x2048x2048, .i32⟩
  | 47 => ⟨S1x2048x2048, .i32⟩
  | 48 => ⟨S_, .i32⟩
  | 49 => ⟨S1x2048x2048, .i32⟩
  | 50 => ⟨S1x2048x2048, .i32⟩
  | 51 => ⟨S_, .i32⟩
  | 52 => ⟨S1x2048x2048, .i32⟩
  | 53 => ⟨S1x2048x2048, .i32⟩
  | 54 => ⟨S1x2048x2048, .i32⟩
  | 55 => ⟨S1x2048x2048, .i32⟩
  | 56 => ⟨S1x2048x2048, .i32⟩
  | 57 => ⟨S_, .i32⟩
  | 58 => ⟨S1x2048x2048, .i32⟩
  | 59 => ⟨S1x2048x2048, .i32⟩
  | 60 => ⟨S_, .i32⟩
  | 61 => ⟨S1x2048x2048, .i32⟩
  | 62 => ⟨S1x2048x2048, .i32⟩
  | 63 => ⟨S1x2048x2048, .i32⟩
  | 64 => ⟨S1x2048x2048, .i32⟩
  | 65 => ⟨S1x2048x2048, .i32⟩
  | 66 => ⟨S_, .i32⟩
  | 67 => ⟨S1x2048x2048, .i32⟩
  | 68 => ⟨S1x2048x2048, .i32⟩
  | 69 => ⟨S_, .i32⟩
  | 70 => ⟨S1x2048x2048, .i32⟩
  | 71 => ⟨S1x2048x2048, .i32⟩
  | 72 => ⟨S1x2048x2048, .i32⟩
  | 73 => ⟨S1x2048x2048, .i32⟩
  | 74 => ⟨S1x2048x2048, .i32⟩
  | 75 => ⟨S1x2048x2048, .i32⟩
  | 76 => ⟨S1x2048x2048, .i32⟩
  | 77 => ⟨S1x2048x2048, .i32⟩
  | 78 => ⟨S_, .i32⟩
  | 79 => ⟨S1x2048x2048, .i32⟩
  | 80 => ⟨S1x2048x2048, .i32⟩
  | 81 => ⟨S1x2048x2048, .i32⟩
  | 82 => ⟨S_, .i32⟩
  | 83 => ⟨S1x2048x2048, .i32⟩
  | 84 => ⟨S1x2048x2048, .i32⟩
  | 85 => ⟨S_, .i32⟩
  | 86 => ⟨S1x2048x2048, .i32⟩
  | 87 => ⟨S1x2048x2048, .i32⟩
  | 88 => ⟨S1x2048x2048, .i32⟩
  | 89 => ⟨S1x2048x2048, .i32⟩
  | 90 => ⟨S1x2048x2048, .i32⟩
  | 91 => ⟨S_, .i32⟩
  | 92 => ⟨S1x2048x2048, .i32⟩
  | 93 => ⟨S1x2048x2048, .i32⟩
  | 94 => ⟨S_, .i32⟩
  | 95 => ⟨S1x2048x2048, .i32⟩
  | 96 => ⟨S1x2048x2048, .i32⟩
  | 97 => ⟨S1x2048x2048, .i32⟩
  | 98 => ⟨S1x2048x2048, .i32⟩
  | 99 => ⟨S1x2048x2048, .i32⟩
  | 100 => ⟨S_, .i32⟩
  | 101 => ⟨S1x2048x2048, .i32⟩
  | 102 => ⟨S1x2048x2048, .i32⟩
  | 103 => ⟨S_, .i32⟩
  | 104 => ⟨S1x2048x2048, .i32⟩
  | 105 => ⟨S1x2048x2048, .i32⟩
  | 106 => ⟨S1x2048x2048, .i32⟩
  | 107 => ⟨S1x2048x2048, .i32⟩
  | 108 => ⟨S1x2048x2048, .i32⟩
  | 109 => ⟨S_, .i32⟩
  | 110 => ⟨S1x2048x2048, .i32⟩
  | 111 => ⟨S1x2048x2048, .i32⟩
  | 112 => ⟨S_, .i32⟩
  | 113 => ⟨S1x2048x2048, .i32⟩
  | 114 => ⟨S1x2048x2048, .i32⟩
  | 115 => ⟨S1x2048x2048, .i32⟩
  | 116 => ⟨S1x2048x2048, .i32⟩
  | 117 => ⟨S1x2048x2048, .i32⟩
  | 118 => ⟨S1x2048x2048, .i32⟩
  | 119 => ⟨S1x2048x2048, .i32⟩
  | 120 => ⟨S1x2048x2048, .i32⟩
  | 121 => ⟨S_, .i32⟩
  | 122 => ⟨S1x2048x2048, .i32⟩
  | 123 => ⟨S1x2048x2048, .i32⟩
  | 124 => ⟨S1x2048x2048, .i32⟩
  | 125 => ⟨S_, .i32⟩
  | 126 => ⟨S1x2048x2048, .i32⟩
  | 127 => ⟨S1x2048x2048, .i32⟩
  | _ => ⟨S1x2048x1024, .f32⟩

abbrev hbmTy0_3 (i : Nat) : BufTy := match i % 128 with
  | 0 => ⟨S_, .i32⟩
  | 1 => ⟨S1x2048x2048, .i32⟩
  | 2 => ⟨S1x2048x2048, .i32⟩
  | 3 => ⟨S1x2048x2048, .i32⟩
  | 4 => ⟨S1x2048x2048, .i32⟩
  | 5 => ⟨S1x2048x2048, .i32⟩
  | 6 => ⟨S_, .i32⟩
  | 7 => ⟨S1x2048x2048, .i32⟩
  | 8 => ⟨S1x2048x2048, .i32⟩
  | 9 => ⟨S_, .i32⟩
  | 10 => ⟨S1x2048x2048, .i32⟩
  | 11 => ⟨S1x2048x2048, .i32⟩
  | 12 => ⟨S1x2048x2048, .i32⟩
  | 13 => ⟨S1x2048x2048, .i32⟩
  | 14 => ⟨S1x2048x2048, .i32⟩
  | 15 => ⟨S_, .i32⟩
  | 16 => ⟨S1x2048x2048, .i32⟩
  | 17 => ⟨S1x2048x2048, .i32⟩
  | 18 => ⟨S_, .i32⟩
  | 19 => ⟨S1x2048x2048, .i32⟩
  | 20 => ⟨S1x2048x2048, .i32⟩
  | 21 => ⟨S1x2048x2048, .i32⟩
  | 22 => ⟨S1x2048x2048, .i32⟩
  | 23 => ⟨S1x2048x2048, .i32⟩
  | 24 => ⟨S_, .i32⟩
  | 25 => ⟨S1x2048x2048, .i32⟩
  | 26 => ⟨S1x2048x2048, .i32⟩
  | 27 => ⟨S_, .i32⟩
  | 28 => ⟨S1x2048x2048, .i32⟩
  | 29 => ⟨S1x2048x2048, .i32⟩
  | 30 => ⟨S1x2048x2048, .i32⟩
  | 31 => ⟨S1x2048x2048, .i32⟩
  | 32 => ⟨S1x2048x2048, .i32⟩
  | 33 => ⟨S1x2048x2048, .i32⟩
  | 34 => ⟨S1x2048x2048, .i32⟩
  | 35 => ⟨S1x2048x2048, .i32⟩
  | 36 => ⟨S_, .i32⟩
  | 37 => ⟨S1x2048x2048, .i32⟩
  | 38 => ⟨S1x2048x2048, .i32⟩
  | 39 => ⟨S1x2048x2048, .i32⟩
  | 40 => ⟨S_, .i32⟩
  | 41 => ⟨S1x2048x2048, .i32⟩
  | 42 => ⟨S1x2048x2048, .i32⟩
  | 43 => ⟨S_, .i32⟩
  | 44 => ⟨S1x2048x2048, .i32⟩
  | 45 => ⟨S1x2048x2048, .i32⟩
  | 46 => ⟨S1x2048x2048, .i32⟩
  | 47 => ⟨S1x2048x2048, .i32⟩
  | 48 => ⟨S1x2048x2048, .i32⟩
  | 49 => ⟨S_, .i32⟩
  | 50 => ⟨S1x2048x2048, .i32⟩
  | 51 => ⟨S1x2048x2048, .i32⟩
  | 52 => ⟨S_, .i32⟩
  | 53 => ⟨S1x2048x2048, .i32⟩
  | 54 => ⟨S1x2048x2048, .i32⟩
  | 55 => ⟨S1x2048x2048, .i32⟩
  | 56 => ⟨S1x2048x2048, .i32⟩
  | 57 => ⟨S1x2048x2048, .i32⟩
  | 58 => ⟨S_, .i32⟩
  | 59 => ⟨S1x2048x2048, .i32⟩
  | 60 => ⟨S1x2048x2048, .i32⟩
  | 61 => ⟨S_, .i32⟩
  | 62 => ⟨S1x2048x2048, .i32⟩
  | 63 => ⟨S1x2048x2048, .i32⟩
  | 64 => ⟨S1x2048x2048, .i32⟩
  | 65 => ⟨S1x2048x2048, .i32⟩
  | 66 => ⟨S1x2048x2048, .i32⟩
  | 67 => ⟨S_, .i32⟩
  | 68 => ⟨S1x2048x2048, .i32⟩
  | 69 => ⟨S1x2048x2048, .i32⟩
  | 70 => ⟨S_, .i32⟩
  | 71 => ⟨S1x2048x2048, .i32⟩
  | 72 => ⟨S1x2048x2048, .i32⟩
  | 73 => ⟨S1x2048x2048, .i32⟩
  | 74 => ⟨S1x2048x2048, .i32⟩
  | 75 => ⟨S1x2048x2048, .i32⟩
  | 76 => ⟨S1x2048x2048, .i32⟩
  | 77 => ⟨S1x2048x2048, .i32⟩
  | 78 => ⟨S1x2048x2048, .i32⟩
  | 79 => ⟨S_, .i32⟩
  | 80 => ⟨S1x2048x2048, .i32⟩
  | 81 => ⟨S1x2048x2048, .i32⟩
  | 82 => ⟨S1x2048x2048, .i32⟩
  | 83 => ⟨S_, .i32⟩
  | 84 => ⟨S1x2048x2048, .i32⟩
  | 85 => ⟨S1x2048x2048, .i32⟩
  | 86 => ⟨S_, .i32⟩
  | 87 => ⟨S1x2048x2048, .i32⟩
  | 88 => ⟨S1x2048x2048, .i32⟩
  | 89 => ⟨S1x2048x2048, .i32⟩
  | 90 => ⟨S1x2048x2048, .i32⟩
  | 91 => ⟨S1x2048x2048, .i32⟩
  | 92 => ⟨S_, .i32⟩
  | 93 => ⟨S1x2048x2048, .i32⟩
  | 94 => ⟨S1x2048x2048, .i32⟩
  | 95 => ⟨S_, .i32⟩
  | 96 => ⟨S1x2048x2048, .i32⟩
  | 97 => ⟨S1x2048x2048, .i32⟩
  | 98 => ⟨S1x2048x2048, .i32⟩
  | 99 => ⟨S1x2048x2048, .i32⟩
  | 100 => ⟨S1x2048x2048, .i32⟩
  | 101 => ⟨S_, .i32⟩
  | 102 => ⟨S1x2048x2048, .i32⟩
  | 103 => ⟨S1x2048x2048, .i32⟩
  | 104 => ⟨S_, .i32⟩
  | 105 => ⟨S1x2048x2048, .i32⟩
  | 106 => ⟨S1x2048x2048, .i32⟩
  | 107 => ⟨S1x2048x2048, .i32⟩
  | 108 => ⟨S1x2048x2048, .i32⟩
  | 109 => ⟨S1x2048x2048, .i32⟩
  | 110 => ⟨S_, .i32⟩
  | 111 => ⟨S1x2048x2048, .i32⟩
  | 112 => ⟨S1x2048x2048, .i32⟩
  | 113 => ⟨S_, .i32⟩
  | 114 => ⟨S1x2048x2048, .i32⟩
  | 115 => ⟨S1x2048x2048, .i32⟩
  | 116 => ⟨S1x2048x2048, .i32⟩
  | 117 => ⟨S1x2048x2048, .i32⟩
  | 118 => ⟨S1x2048x2048, .i32⟩
  | 119 => ⟨S1x2048x2048, .i32⟩
  | 120 => ⟨S1x2048x2048, .i32⟩
  | 121 => ⟨S1x2048x2048, .i32⟩
  | 122 => ⟨S_, .i32⟩
  | 123 => ⟨S1x2048x2048, .i32⟩
  | 124 => ⟨S1x2048x2048, .i32⟩
  | 125 => ⟨S1x2048x2048, .i32⟩
  | 126 => ⟨S_, .i32⟩
  | 127 => ⟨S1x2048x2048, .i32⟩
  | _ => ⟨S1x2048x1024, .f32⟩

abbrev hbmTy0_4 (i : Nat) : BufTy := match i % 128 with
  | 0 => ⟨S1x2048x2048, .i32⟩
  | 1 => ⟨S_, .i32⟩
  | 2 => ⟨S1x2048x2048, .i32⟩
  | 3 => ⟨S1x2048x2048, .i32⟩
  | 4 => ⟨S1x2048x2048, .f32⟩
  | 5 => ⟨S_, .f32⟩
  | 6 => ⟨S1x2048x2048, .f32⟩
  | 7 => ⟨S1x2048x2048, .f32⟩
  | 8 => ⟨S1x1x1, .f32⟩
  | 9 => ⟨S1x2048x2048, .f32⟩
  | 10 => ⟨S1x2048x2048, .f32⟩
  | 11 => ⟨S1x2048x2048, .f32⟩
  | 12 => ⟨S1x2048x2048, .f32⟩
  | 13 => ⟨S1x2048x2048, .f32⟩
  | 14 => ⟨S1x2048x2048, .f32⟩
  | 15 => ⟨S1x2048x2048, .f32⟩
  | 16 => ⟨S1x2048x2048, .f32⟩
  | 17 => ⟨S1x2048x2048, .f32⟩
  | 18 => ⟨S1x2048x2048, .f32⟩
  | 19 => ⟨S_, .f32⟩
  | 20 => ⟨S1x2048x2048, .f32⟩
  | 21 => ⟨S1x2048x2048, .f32⟩
  | 22 => ⟨S1x2048x2048, .f32⟩
  | 23 => ⟨S1x2048x32, .f32⟩
  | 24 => ⟨S1x2048x32, .i32⟩
  | 25 => ⟨S1x2048x1024, .f32⟩
  | 26 => ⟨S1x2048x16x64, .f32⟩
  | 27 => ⟨S1x2048x1024, .f32⟩
  | 28 => ⟨S1x2048x1024, .f32⟩
  | 29 => ⟨S_, .i32⟩
  | 30 => ⟨S1x2048x32, .i32⟩
  | 31 => ⟨S1x2048x32, .i1⟩
  | 32 => ⟨S_, .i32⟩
  | 33 => ⟨S1x2048x32, .i32⟩
  | 34 => ⟨S1x2048x32, .i32⟩
  | 35 => ⟨S1x2048x32, .i32⟩
  | 36 => ⟨S1x2048x32x1, .i32⟩
  | 37 => ⟨S1x2048x32x1024, .f32⟩
  | 38 => ⟨S1x2048x32x16x64, .f32⟩
  | 39 => ⟨S_, .i32⟩
  | 40 => ⟨S1x2048x32, .i32⟩
  | 41 => ⟨S1x2048x32, .i1⟩
  | 42 => ⟨S_, .i32⟩
  | 43 => ⟨S1x2048x32, .i32⟩
  | 44 => ⟨S1x2048x32, .i32⟩
  | 45 => ⟨S1x2048x32, .i32⟩
  | 46 => ⟨S1x2048x32x1, .i32⟩
  | 47 => ⟨S1x2048x32x1024, .f32⟩
  | 48 => ⟨S1x2048x32x16x64, .f32⟩
  | 49 => ⟨S1x16x2048x32, .f32⟩
  | 50 => ⟨S_, .f32⟩
  | 51 => ⟨S1x16x2048x32, .f32⟩
  | 52 => ⟨S1x16x2048x32, .f32⟩
  | 53 => ⟨S_, .f32⟩
  | 54 => ⟨S1x16x2048, .f32⟩
  | 55 => ⟨S_, .f32⟩
  | 56 => ⟨S1x16x2048, .f32⟩
  | 57 => ⟨S1x16x2048, .f32⟩
  | 58 => ⟨S1x16x2048x1, .f32⟩
  | 59 => ⟨S1x16x2048x32, .f32⟩
  | 60 => ⟨S1x16x2048x32, .f32⟩
  | 61 => ⟨S1x16x2048x32, .f32⟩
  | 62 => ⟨S_, .f32⟩
  | 63 => ⟨S1x16x2048, .f32⟩
  | 64 => ⟨S1x16x2048x1, .f32⟩
  | 65 => ⟨S1x16x2048x32, .f32⟩
  | 66 => ⟨S1x16x2048x32, .f32⟩
  | 67 => ⟨S1x2048x16x64, .f32⟩
  | 68 => ⟨S1x2048x1024, .f32⟩
  | 69 => ⟨S1x2048x1024, .f32⟩
  | 70 => ⟨S_, .f32⟩
  | 71 => ⟨S1x2048x1024, .f32⟩
  | 72 => ⟨S1x2048x1024, .f32⟩
  | 73 => ⟨S_, .i32⟩
  | 74 => ⟨S_, .i32⟩
  | 75 => ⟨S_, .i32⟩
  | 76 => ⟨S1, .i32⟩
  | 77 => ⟨S_, .i32⟩
  | 78 => ⟨S_, .i32⟩
  | 79 => ⟨S1, .i32⟩
  | 80 => ⟨S2, .i32⟩
  | 81 => ⟨S1, .i32⟩
  | 82 => ⟨S_, .i32⟩
  | 83 => ⟨S1, .i32⟩
  | 84 => ⟨S_, .i32⟩
  | 85 => ⟨S1, .i32⟩
  | 86 => ⟨S1, .i32⟩
  | 87 => ⟨S_, .i32⟩
  | 88 => ⟨S_, .i32⟩
  | 89 => ⟨S_, .i32⟩
  | 90 => ⟨S1, .i32⟩
  | 91 => ⟨S1, .i32⟩
  | 92 => ⟨S1, .i32⟩
  | 93 => ⟨S1, .i32⟩
  | 94 => ⟨S1, .i32⟩
  | 95 => ⟨S_, .i32⟩
  | 96 => ⟨S1, .i32⟩
  | 97 => ⟨S1, .i32⟩
  | 98 => ⟨S_, .i32⟩
  | 99 => ⟨S1, .i32⟩
  | 100 => ⟨S1, .i32⟩
  | 101 => ⟨S1, .i32⟩
  | 102 => ⟨S1, .i32⟩
  | 103 => ⟨S1, .i32⟩
  | 104 => ⟨S_, .i32⟩
  | 105 => ⟨S1, .i32⟩
  | 106 => ⟨S1, .i32⟩
  | 107 => ⟨S_, .i32⟩
  | 108 => ⟨S1, .i32⟩
  | 109 => ⟨S1, .i32⟩
  | 110 => ⟨S1, .i32⟩
  | 111 => ⟨S1, .i32⟩
  | 112 => ⟨S1, .i32⟩
  | 113 => ⟨S_, .i32⟩
  | 114 => ⟨S1, .i32⟩
  | 115 => ⟨S1, .i32⟩
  | 116 => ⟨S_, .i32⟩
  | 117 => ⟨S1, .i32⟩
  | 118 => ⟨S1, .i32⟩
  | 119 => ⟨S1, .i32⟩
  | 120 => ⟨S1, .i32⟩
  | 121 => ⟨S1, .i32⟩
  | 122 => ⟨S_, .i32⟩
  | 123 => ⟨S1, .i32⟩
  | 124 => ⟨S1, .i32⟩
  | 125 => ⟨S_, .i32⟩
  | 126 => ⟨S1, .i32⟩
  | 127 => ⟨S1, .i32⟩
  | _ => ⟨S1x2048x1024, .f32⟩

abbrev hbmTy0_5 (i : Nat) : BufTy := match i % 128 with
  | 0 => ⟨S1, .i32⟩
  | 1 => ⟨S1, .i32⟩
  | 2 => ⟨S1, .i32⟩
  | 3 => ⟨S1, .i32⟩
  | 4 => ⟨S1, .i32⟩
  | 5 => ⟨S1, .i32⟩
  | 6 => ⟨S_, .i32⟩
  | 7 => ⟨S1, .i32⟩
  | 8 => ⟨S1, .i32⟩
  | 9 => ⟨S1, .i32⟩
  | 10 => ⟨S_, .i32⟩
  | 11 => ⟨S1, .i32⟩
  | 12 => ⟨S1, .i32⟩
  | 13 => ⟨S_, .i32⟩
  | 14 => ⟨S1, .i32⟩
  | 15 => ⟨S1, .i32⟩
  | 16 => ⟨S1, .i32⟩
  | 17 => ⟨S1, .i32⟩
  | 18 => ⟨S1, .i32⟩
  | 19 => ⟨S_, .i32⟩
  | 20 => ⟨S1, .i32⟩
  | 21 => ⟨S1, .i32⟩
  | 22 => ⟨S_, .i32⟩
  | 23 => ⟨S1, .i32⟩
  | 24 => ⟨S1, .i32⟩
  | 25 => ⟨S1, .i32⟩
  | 26 => ⟨S1, .i32⟩
  | 27 => ⟨S1, .i32⟩
  | 28 => ⟨S_, .i32⟩
  | 29 => ⟨S1, .i32⟩
  | 30 => ⟨S1, .i32⟩
  | 31 => ⟨S_, .i32⟩
  | 32 => ⟨S1, .i32⟩
  | 33 => ⟨S1, .i32⟩
  | 34 => ⟨S1, .i32⟩
  | 35 => ⟨S1, .i32⟩
  | 36 => ⟨S1, .i32⟩
  | 37 => ⟨S_, .i32⟩
  | 38 => ⟨S1, .i32⟩
  | 39 => ⟨S1, .i32⟩
  | 40 => ⟨S_, .i32⟩
  | 41 => ⟨S1, .i32⟩
  | 42 => ⟨S1, .i32⟩
  | 43 => ⟨S1, .i32⟩
  | 44 => ⟨S1, .i32⟩
  | 45 => ⟨S1, .i32⟩
  | 46 => ⟨S1, .i32⟩
  | 47 => ⟨S1, .i32⟩
  | 48 => ⟨S1, .i32⟩
  | 49 => ⟨S_, .i32⟩
  | 50 => ⟨S1, .i32⟩
  | 51 => ⟨S1, .i32⟩
  | 52 => ⟨S1, .i32⟩
  | 53 => ⟨S_, .i32⟩
  | 54 => ⟨S1, .i32⟩
  | 55 => ⟨S1, .i32⟩
  | 56 => ⟨S_, .i32⟩
  | 57 => ⟨S1, .i32⟩
  | 58 => ⟨S1, .i32⟩
  | 59 => ⟨S1, .i32⟩
  | 60 => ⟨S1, .i32⟩
  | 61 => ⟨S1, .i32⟩
  | 62 => ⟨S_, .i32⟩
  | 63 => ⟨S1, .i32⟩
  | 64 => ⟨S1, .i32⟩
  | 65 => ⟨S_, .i32⟩
  | 66 => ⟨S1, .i32⟩
  | 67 => ⟨S1, .i32⟩
  | 68 => ⟨S1, .i32⟩
  | 69 => ⟨S1, .i32⟩
  | 70 => ⟨S1, .i32⟩
  | 71 => ⟨S_, .i32⟩
  | 72 => ⟨S1, .i32⟩
  | 73 => ⟨S1, .i32⟩
  | 74 => ⟨S_, .i32⟩
  | 75 => ⟨S1, .i32⟩
  | 76 => ⟨S1, .i32⟩
  | 77 => ⟨S1, .i32⟩
  | 78 => ⟨S1, .i32⟩
  | 79 => ⟨S1, .i32⟩
  | 80 => ⟨S_, .i32⟩
  | 81 => ⟨S1, .i32⟩
  | 82 => ⟨S1, .i32⟩
  | 83 => ⟨S_, .i32⟩
  | 84 => ⟨S1, .i32⟩
  | 85 => ⟨S1, .i32⟩
  | 86 => ⟨S1, .i32⟩
  | 87 => ⟨S1, .i32⟩
  | 88 => ⟨S1, .i32⟩
  | 89 => ⟨S1, .i32⟩
  | 90 => ⟨S1, .i32⟩
  | 91 => ⟨S1, .i32⟩
  | 92 => ⟨S_, .i32⟩
  | 93 => ⟨S1, .i32⟩
  | 94 => ⟨S1, .i32⟩
  | 95 => ⟨S1, .i32⟩
  | 96 => ⟨S_, .i32⟩
  | 97 => ⟨S1, .i32⟩
  | 98 => ⟨S1, .i32⟩
  | 99 => ⟨S_, .i32⟩
  | 100 => ⟨S1, .i32⟩
  | 101 => ⟨S1, .i32⟩
  | 102 => ⟨S1, .i32⟩
  | 103 => ⟨S1, .i32⟩
  | 104 => ⟨S1, .i32⟩
  | 105 => ⟨S_, .i32⟩
  | 106 => ⟨S1, .i32⟩
  | 107 => ⟨S1, .i32⟩
  | 108 => ⟨S_, .i32⟩
  | 109 => ⟨S1, .i32⟩
  | 110 => ⟨S1, .i32⟩
  | 111 => ⟨S1, .i32⟩
  | 112 => ⟨S1, .i32⟩
  | 113 => ⟨S1, .i32⟩
  | 114 => ⟨S_, .i32⟩
  | 115 => ⟨S1, .i32⟩
  | 116 => ⟨S1, .i32⟩
  | 117 => ⟨S_, .i32⟩
  | 118 => ⟨S1, .i32⟩
  | 119 => ⟨S1, .i32⟩
  | 120 => ⟨S1, .i32⟩
  | 121 => ⟨S1, .i32⟩
  | 122 => ⟨S1, .i32⟩
  | 123 => ⟨S_, .i32⟩
  | 124 => ⟨S1, .i32⟩
  | 125 => ⟨S1, .i32⟩
  | 126 => ⟨S_, .i32⟩
  | 127 => ⟨S1, .i32⟩
  | _ => ⟨S1x2048x1024, .f32⟩

abbrev hbmTy0_6 (i : Nat) : BufTy := match i % 128 with
  | 0 => ⟨S1, .i32⟩
  | 1 => ⟨S1, .i32⟩
  | 2 => ⟨S1, .i32⟩
  | 3 => ⟨S1, .i32⟩
  | 4 => ⟨S1, .i32⟩
  | 5 => ⟨S1, .i32⟩
  | 6 => ⟨S1, .i32⟩
  | 7 => ⟨S_, .i32⟩
  | 8 => ⟨S1, .i32⟩
  | 9 => ⟨S1, .i32⟩
  | 10 => ⟨S1, .i32⟩
  | 11 => ⟨S_, .i32⟩
  | 12 => ⟨S1, .i32⟩
  | 13 => ⟨S1, .i32⟩
  | 14 => ⟨S_, .i32⟩
  | 15 => ⟨S1, .i32⟩
  | 16 => ⟨S1, .i32⟩
  | 17 => ⟨S1, .i32⟩
  | 18 => ⟨S1, .i32⟩
  | 19 => ⟨S1, .i32⟩
  | 20 => ⟨S_, .i32⟩
  | 21 => ⟨S1, .i32⟩
  | 22 => ⟨S1, .i32⟩
  | 23 => ⟨S_, .i32⟩
  | 24 => ⟨S1, .i32⟩
  | 25 => ⟨S1, .i32⟩
  | 26 => ⟨S1, .i32⟩
  | 27 => ⟨S1, .i32⟩
  | 28 => ⟨S1, .i32⟩
  | 29 => ⟨S_, .i32⟩
  | 30 => ⟨S1, .i32⟩
  | 31 => ⟨S1, .i32⟩
  | 32 => ⟨S_, .i32⟩
  | 33 => ⟨S1, .i32⟩
  | 34 => ⟨S1, .i32⟩
  | 35 => ⟨S1, .i32⟩
  | 36 => ⟨S1, .i32⟩
  | 37 => ⟨S1, .i32⟩
  | 38 => ⟨S_, .i32⟩
  | 39 => ⟨S1, .i32⟩
  | 40 => ⟨S1, .i32⟩
  | 41 => ⟨S_, .i32⟩
  | 42 => ⟨S1, .i32⟩
  | 43 => ⟨S1, .i32⟩
  | 44 => ⟨S1, .i32⟩
  | 45 => ⟨S1, .i32⟩
  | 46 => ⟨S1, .i32⟩
  | 47 => ⟨S1, .i32⟩
  | 48 => ⟨S1, .i32⟩
  | 49 => ⟨S1, .i32⟩
  | 50 => ⟨S_, .i32⟩
  | 51 => ⟨S1, .i32⟩
  | 52 => ⟨S1, .i32⟩
  | 53 => ⟨S2, .i32⟩
  | 54 => ⟨S1x2048x64, .f32⟩
  | 55 => ⟨S1x2048x2048, .f32⟩
  | 56 => ⟨S_, .f32⟩
  | 57 => ⟨S1x2048x2048, .f32⟩
  | 58 => ⟨S1x2048x2048, .f32⟩
  | 59 => ⟨S_, .f32⟩
  | 60 => ⟨S_, .f32⟩
  | 61 => ⟨S_, .f32⟩
  | 62 => ⟨S_, .f32⟩
  | 63 => ⟨S1x1x1, .f32⟩
  | 64 => ⟨S1x1x1, .f32⟩
  | 65 => ⟨S1, .i32⟩
  | 66 => ⟨S_, .i32⟩
  | 67 => ⟨S1, .i32⟩
  | 68 => ⟨S_, .i32⟩
  | 69 => ⟨S1x2048x2048, .i64⟩
  | 70 => ⟨S1x2048x2048, .i64⟩
  | 71 => ⟨S1x2048x2048, .i64⟩
  | 72 => ⟨S_, .i64⟩
  | 73 => ⟨S1x2048x2048, .i64⟩
  | 74 => ⟨S1x2048x2048, .i64⟩
  | 75 => ⟨S_, .i64⟩
  | 76 => ⟨S1x2048x2048, .i64⟩
  | 77 => ⟨S1x2048x2048, .i64⟩
  | 78 => ⟨S_, .i64⟩
  | 79 => ⟨S1x2048x2048, .i64⟩
  | 80 => ⟨S1x2048x2048, .i64⟩
  | 81 => ⟨S1x2048x2048, .i64⟩
  | 82 => ⟨S1x2048x2048, .i64⟩
  | 83 => ⟨S_, .i64⟩
  | 84 => ⟨S1x2048x2048, .i64⟩
  | 85 => ⟨S1x2048x2048, .i64⟩
  | 86 => ⟨S1x2048x2048, .i32⟩
  | 87 => ⟨S1x2048x2048, .i32⟩
  | 88 => ⟨S_, .i32⟩
  | 89 => ⟨S_, .i32⟩
  | 90 => ⟨S_, .i32⟩
  | 91 => ⟨S1x2048x2048, .i32⟩
  | 92 => ⟨S1x2048x2048, .i32⟩
  | 93 => ⟨S1x2048x2048, .i32⟩
  | 94 => ⟨S1x2048x2048, .i32⟩
  | 95 => ⟨S1x2048x2048, .i32⟩
  | 96 => ⟨S_, .i32⟩
  | 97 => ⟨S1x2048x2048, .i32⟩
  | 98 => ⟨S1x2048x2048, .i32⟩
  | 99 => ⟨S_, .i32⟩
  | 100 => ⟨S1x2048x2048, .i32⟩
  | 101 => ⟨S1x2048x2048, .i32⟩
  | 102 => ⟨S1x2048x2048, .i32⟩
  | 103 => ⟨S1x2048x2048, .i32⟩
  | 104 => ⟨S1x2048x2048, .i32⟩
  | 105 => ⟨S_, .i32⟩
  | 106 => ⟨S1x2048x2048, .i32⟩
  | 107 => ⟨S1x2048x2048, .i32⟩
  | 108 => ⟨S_, .i32⟩
  | 109 => ⟨S1x2048x2048, .i32⟩
  | 110 => ⟨S1x2048x2048, .i32⟩
  | 111 => ⟨S1x2048x2048, .i32⟩
  | 112 => ⟨S1x2048x2048, .i32⟩
  | 113 => ⟨S1x2048x2048, .i32⟩
  | 114 => ⟨S_, .i32⟩
  | 115 => ⟨S1x2048x2048, .i32⟩
  | 116 => ⟨S1x2048x2048, .i32⟩
  | 117 => ⟨S_, .i32⟩
  | 118 => ⟨S1x2048x2048, .i32⟩
  | 119 => ⟨S1x2048x2048, .i32⟩
  | 120 => ⟨S1x2048x2048, .i32⟩
  | 121 => ⟨S1x2048x2048, .i32⟩
  | 122 => ⟨S1x2048x2048, .i32⟩
  | 123 => ⟨S_, .i32⟩
  | 124 => ⟨S1x2048x2048, .i32⟩
  | 125 => ⟨S1x2048x2048, .i32⟩
  | 126 => ⟨S_, .i32⟩
  | 127 => ⟨S1x2048x2048, .i32⟩
  | _ => ⟨S1x2048x1024, .f32⟩

abbrev hbmTy0_7 (i : Nat) : BufTy := match i % 128 with
  | 0 => ⟨S1x2048x2048, .i32⟩
  | 1 => ⟨S1x2048x2048, .i32⟩
  | 2 => ⟨S1x2048x2048, .i32⟩
  | 3 => ⟨S1x2048x2048, .i32⟩
  | 4 => ⟨S1x2048x2048, .i32⟩
  | 5 => ⟨S1x2048x2048, .i32⟩
  | 6 => ⟨S1x2048x2048, .i32⟩
  | 7 => ⟨S_, .i32⟩
  | 8 => ⟨S1x2048x2048, .i32⟩
  | 9 => ⟨S1x2048x2048, .i32⟩
  | 10 => ⟨S1x2048x2048, .i32⟩
  | 11 => ⟨S_, .i32⟩
  | 12 => ⟨S1x2048x2048, .i32⟩
  | 13 => ⟨S1x2048x2048, .i32⟩
  | 14 => ⟨S_, .i32⟩
  | 15 => ⟨S1x2048x2048, .i32⟩
  | 16 => ⟨S1x2048x2048, .i32⟩
  | 17 => ⟨S1x2048x2048, .i32⟩
  | 18 => ⟨S1x2048x2048, .i32⟩
  | 19 => ⟨S1x2048x2048, .i32⟩
  | 20 => ⟨S_, .i32⟩
  | 21 => ⟨S1x2048x2048, .i32⟩
  | 22 => ⟨S1x2048x2048, .i32⟩
  | 23 => ⟨S_, .i32⟩
  | 24 => ⟨S1x2048x2048, .i32⟩
  | 25 => ⟨S1x2048x2048, .i32⟩
  | 26 => ⟨S1x2048x2048, .i32⟩
  | 27 => ⟨S1x2048x2048, .i32⟩
  | 28 => ⟨S1x2048x2048, .i32⟩
  | 29 => ⟨S_, .i32⟩
  | 30 => ⟨S1x2048x2048, .i32⟩
  | 31 => ⟨S1x2048x2048, .i32⟩
  | 32 => ⟨S_, .i32⟩
  | 33 => ⟨S1x2048x2048, .i32⟩
  | 34 => ⟨S1x2048x2048, .i32⟩
  | 35 => ⟨S1x2048x2048, .i32⟩
  | 36 => ⟨S1x2048x2048, .i32⟩
  | 37 => ⟨S1x2048x2048, .i32⟩
  | 38 => ⟨S_, .i32⟩
  | 39 => ⟨S1x2048x2048, .i32⟩
  | 40 => ⟨S1x2048x2048, .i32⟩
  | 41 => ⟨S_, .i32⟩
  | 42 => ⟨S1x2048x2048, .i32⟩
  | 43 => ⟨S1x2048x2048, .i32⟩
  | 44 => ⟨S1x2048x2048, .i32⟩
  | 45 => ⟨S1x2048x2048, .i32⟩
  | 46 => ⟨S1x2048x2048, .i32⟩
  | 47 => ⟨S1x2048x2048, .i32⟩
  | 48 => ⟨S1x2048x2048, .i32⟩
  | 49 => ⟨S1x2048x2048, .i32⟩
  | 50 => ⟨S_, .i32⟩
  | 51 => ⟨S1x2048x2048, .i32⟩
  | 52 => ⟨S1x2048x2048, .i32⟩
  | 53 => ⟨S1x2048x2048, .i32⟩
  | 54 => ⟨S_, .i32⟩
  | 55 => ⟨S1x2048x2048, .i32⟩
  | 56 => ⟨S1x2048x2048, .i32⟩
  | 57 => ⟨S_, .i32⟩
  | 58 => ⟨S1x2048x2048, .i32⟩
  | 59 => ⟨S1x2048x2048, .i32⟩
  | 60 => ⟨S1x2048x2048, .i32⟩
  | 61 => ⟨S1x2048x2048, .i32⟩
  | 62 => ⟨S1x2048x2048, .i32⟩
  | 63 => ⟨S_, .i32⟩
  | 64 => ⟨S1x2048x2048, .i32⟩
  | 65 => ⟨S1x2048x2048, .i32⟩
  | 66 => ⟨S_, .i32⟩
  | 67 => ⟨S1x2048x2048, .i32⟩
  | 68 => ⟨S1x2048x2048, .i32⟩
  | 69 => ⟨S1x2048x2048, .i32⟩
  | 70 => ⟨S1x2048x2048, .i32⟩
  | 71 => ⟨S1x2048x2048, .i32⟩
  | 72 => ⟨S_, .i32⟩
  | 73 => ⟨S1x2048x2048, .i32⟩
  | 74 => ⟨S1x2048x2048, .i32⟩
  | 75 => ⟨S_, .i32⟩
  | 76 => ⟨S1x2048x2048, .i32⟩
  | 77 => ⟨S1x2048x2048, .i32⟩
  | 78 => ⟨S1x2048x2048, .i32⟩
  | 79 => ⟨S1x2048x2048, .i32⟩
  | 80 => ⟨S1x2048x2048, .i32⟩
  | 81 => ⟨S_, .i32⟩
  | 82 => ⟨S1x2048x2048, .i32⟩
  | 83 => ⟨S1x2048x2048, .i32⟩
  | 84 => ⟨S_, .i32⟩
  | 85 => ⟨S1x2048x2048, .i32⟩
  | 86 => ⟨S1x2048x2048, .i32⟩
  | 87 => ⟨S1x2048x2048, .i32⟩
  | 88 => ⟨S1x2048x2048, .i32⟩
  | 89 => ⟨S1x2048x2048, .i32⟩
  | 90 => ⟨S1x2048x2048, .i32⟩
  | 91 => ⟨S1x2048x2048, .i32⟩
  | 92 => ⟨S1x2048x2048, .i32⟩
  | 93 => ⟨S_, .i32⟩
  | 94 => ⟨S1x2048x2048, .i32⟩
  | 95 => ⟨S1x2048x2048, .i32⟩
  | 96 => ⟨S1x2048x2048, .i32⟩
  | 97 => ⟨S_, .i32⟩
  | 98 => ⟨S1x2048x2048, .i32⟩
  | 99 => ⟨S1x2048x2048, .i32⟩
  | 100 => ⟨S_, .i32⟩
  | 101 => ⟨S1x2048x2048, .i32⟩
  | 102 => ⟨S1x2048x2048, .i32⟩
  | 103 => ⟨S1x2048x2048, .i32⟩
  | 104 => ⟨S1x2048x2048, .i32⟩
  | 105 => ⟨S1x2048x2048, .i32⟩
  | 106 => ⟨S_, .i32⟩
  | 107 => ⟨S1x2048x2048, .i32⟩
  | 108 => ⟨S1x2048x2048, .i32⟩
  | 109 => ⟨S_, .i32⟩
  | 110 => ⟨S1x2048x2048, .i32⟩
  | 111 => ⟨S1x2048x2048, .i32⟩
  | 112 => ⟨S1x2048x2048, .i32⟩
  | 113 => ⟨S1x2048x2048, .i32⟩
  | 114 => ⟨S1x2048x2048, .i32⟩
  | 115 => ⟨S_, .i32⟩
  | 116 => ⟨S1x2048x2048, .i32⟩
  | 117 => ⟨S1x2048x2048, .i32⟩
  | 118 => ⟨S_, .i32⟩
  | 119 => ⟨S1x2048x2048, .i32⟩
  | 120 => ⟨S1x2048x2048, .i32⟩
  | 121 => ⟨S1x2048x2048, .i32⟩
  | 122 => ⟨S1x2048x2048, .i32⟩
  | 123 => ⟨S1x2048x2048, .i32⟩
  | 124 => ⟨S_, .i32⟩
  | 125 => ⟨S1x2048x2048, .i32⟩
  | 126 => ⟨S1x2048x2048, .i32⟩
  | 127 => ⟨S_, .i32⟩
  | _ => ⟨S1x2048x1024, .f32⟩

abbrev hbmTy0_8 (i : Nat) : BufTy := match i % 128 with
  | 0 => ⟨S1x2048x2048, .i32⟩
  | 1 => ⟨S1x2048x2048, .i32⟩
  | 2 => ⟨S1x2048x2048, .i32⟩
  | 3 => ⟨S1x2048x2048, .i32⟩
  | 4 => ⟨S1x2048x2048, .i32⟩
  | 5 => ⟨S1x2048x2048, .i32⟩
  | 6 => ⟨S1x2048x2048, .i32⟩
  | 7 => ⟨S1x2048x2048, .i32⟩
  | 8 => ⟨S_, .i32⟩
  | 9 => ⟨S1x2048x2048, .i32⟩
  | 10 => ⟨S1x2048x2048, .i32⟩
  | 11 => ⟨S1x2048x2048, .i32⟩
  | 12 => ⟨S_, .i32⟩
  | 13 => ⟨S1x2048x2048, .i32⟩
  | 14 => ⟨S1x2048x2048, .i32⟩
  | 15 => ⟨S_, .i32⟩
  | 16 => ⟨S1x2048x2048, .i32⟩
  | 17 => ⟨S1x2048x2048, .i32⟩
  | 18 => ⟨S1x2048x2048, .i32⟩
  | 19 => ⟨S1x2048x2048, .i32⟩
  | 20 => ⟨S1x2048x2048, .i32⟩
  | 21 => ⟨S_, .i32⟩
  | 22 => ⟨S1x2048x2048, .i32⟩
  | 23 => ⟨S1x2048x2048, .i32⟩
  | 24 => ⟨S_, .i32⟩
  | 25 => ⟨S1x2048x2048, .i32⟩
  | 26 => ⟨S1x2048x2048, .i32⟩
  | 27 => ⟨S1x2048x2048, .i32⟩
  | 28 => ⟨S1x2048x2048, .i32⟩
  | 29 => ⟨S1x2048x2048, .i32⟩
  | 30 => ⟨S_, .i32⟩
  | 31 => ⟨S1x2048x2048, .i32⟩
  | 32 => ⟨S1x2048x2048, .i32⟩
  | 33 => ⟨S_, .i32⟩
  | 34 => ⟨S1x2048x2048, .i32⟩
  | 35 => ⟨S1x2048x2048, .i32⟩
  | 36 => ⟨S1x2048x2048, .i32⟩
  | 37 => ⟨S1x2048x2048, .i32⟩
  | 38 => ⟨S1x2048x2048, .i32⟩
  | 39 => ⟨S_, .i32⟩
  | 40 => ⟨S1x2048x2048, .i32⟩
  | 41 => ⟨S1x2048x2048, .i32⟩
  | 42 => ⟨S_, .i32⟩
  | 43 => ⟨S1x2048x2048, .i32⟩
  | 44 => ⟨S1x2048x2048, .i32⟩
  | 45 => ⟨S1x2048x2048, .i32⟩
  | 46 => ⟨S1x2048x2048, .i32⟩
  | 47 => ⟨S1x2048x2048, .i32⟩
  | 48 => ⟨S1x2048x2048, .i32⟩
  | 49 => ⟨S1x2048x2048, .i32⟩
  | 50 => ⟨S1x2048x2048, .i32⟩
  | 51 => ⟨S_, .i32⟩
  | 52 => ⟨S1x2048x2048, .i32⟩
  | 53 => ⟨S1x2048x2048, .i32⟩
  | 54 => ⟨S1x2048x2048, .i32⟩
  | 55 => ⟨S_, .i32⟩
  | 56 => ⟨S1x2048x2048, .i32⟩
  | 57 => ⟨S1x2048x2048, .i32⟩
  | 58 => ⟨S_, .i32⟩
  | 59 => ⟨S1x2048x2048, .i32⟩
  | 60 => ⟨S1x2048x2048, .i32⟩
  | 61 => ⟨S1x2048x2048, .f32⟩
  | 62 => ⟨S_, .f32⟩
  | 63 => ⟨S1x2048x2048, .f32⟩
  | 64 => ⟨S1x2048x2048, .f32⟩
  | 65 => ⟨S1x1x1, .f32⟩
  | 66 => ⟨S1x2048x2048, .f32⟩
  | 67 => ⟨S1x2048x2048, .f32⟩
  | 68 => ⟨S1x2048x2048, .f32⟩
  | 69 => ⟨S1x2048x2048, .f32⟩
  | 70 => ⟨S1x2048x2048, .f32⟩
  | 71 => ⟨S1x2048x2048, .f32⟩
  | 72 => ⟨S1x2048x2048, .f32⟩
  | 73 => ⟨S1x2048x2048, .f32⟩
  | 74 => ⟨S1x2048x2048, .f32⟩
  | 75 => ⟨S1x2048x2048, .f32⟩
  | 76 => ⟨S_, .f32⟩
  | 77 => ⟨S1x2048x2048, .f32⟩
  | 78 => ⟨S1x2048x2048, .f32⟩
  | 79 => ⟨S1x2048x2048, .f32⟩
  | 80 => ⟨S1x2048x32, .f32⟩
  | 81 => ⟨S1x2048x32, .i32⟩
  | 82 => ⟨S1x2048x1024, .f32⟩
  | 83 => ⟨S1x2048x16x64, .f32⟩
  | 84 => ⟨S1x2048x1024, .f32⟩
  | 85 => ⟨S1x2048x1024, .f32⟩
  | 86 => ⟨S_, .i32⟩
  | 87 => ⟨S1x2048x32, .i32⟩
  | 88 => ⟨S1x2048x32, .i1⟩
  | 89 => ⟨S_, .i32⟩
  | 90 => ⟨S1x2048x32, .i32⟩
  | 91 => ⟨S1x2048x32, .i32⟩
  | 92 => ⟨S1x2048x32, .i32⟩
  | 93 => ⟨S1x2048x32x1, .i32⟩
  | 94 => ⟨S1x2048x32x1024, .f32⟩
  | 95 => ⟨S1x2048x32x16x64, .f32⟩
  | 96 => ⟨S_, .i32⟩
  | 97 => ⟨S1x2048x32, .i32⟩
  | 98 => ⟨S1x2048x32, .i1⟩
  | 99 => ⟨S_, .i32⟩
  | 100 => ⟨S1x2048x32, .i32⟩
  | 101 => ⟨S1x2048x32, .i32⟩
  | 102 => ⟨S1x2048x32, .i32⟩
  | 103 => ⟨S1x2048x32x1, .i32⟩
  | 104 => ⟨S1x2048x32x1024, .f32⟩
  | 105 => ⟨S1x2048x32x16x64, .f32⟩
  | 106 => ⟨S1x16x2048x32, .f32⟩
  | 107 => ⟨S_, .f32⟩
  | 108 => ⟨S1x16x2048x32, .f32⟩
  | 109 => ⟨S1x16x2048x32, .f32⟩
  | 110 => ⟨S_, .f32⟩
  | 111 => ⟨S1x16x2048, .f32⟩
  | 112 => ⟨S_, .f32⟩
  | 113 => ⟨S1x16x2048, .f32⟩
  | 114 => ⟨S1x16x2048, .f32⟩
  | 115 => ⟨S1x16x2048x1, .f32⟩
  | 116 => ⟨S1x16x2048x32, .f32⟩
  | 117 => ⟨S1x16x2048x32, .f32⟩
  | 118 => ⟨S1x16x2048x32, .f32⟩
  | 119 => ⟨S_, .f32⟩
  | 120 => ⟨S1x16x2048, .f32⟩
  | 121 => ⟨S1x16x2048x1, .f32⟩
  | 122 => ⟨S1x16x2048x32, .f32⟩
  | 123 => ⟨S1x16x2048x32, .f32⟩
  | 124 => ⟨S1x2048x16x64, .f32⟩
  | 125 => ⟨S1x2048x1024, .f32⟩
  | 126 => ⟨S1x2048x1024, .f32⟩
  | 127 => ⟨S_, .f32⟩
  | _ => ⟨S1x2048x1024, .f32⟩

abbrev hbmTy0_9 (i : Nat) : BufTy := match i % 128 with
  | 0 => ⟨S1x2048x1024, .f32⟩
  | 1 => ⟨S1x2048x1024, .f32⟩
  | 2 => ⟨S1x2048x1024, .f32⟩
  | _ => ⟨S1x2048x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_2 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_call0_v0 : Ref sig .tc := ⟨.hbm, 30, rfl⟩
abbrev main_call0_call0_c : Ref sig .tc := ⟨.hbm, 31, rfl⟩
abbrev main_call0_call0_v1 : Ref sig .tc := ⟨.hbm, 32, rfl⟩
abbrev main_call0_call0_v2 : Ref sig .tc := ⟨.hbm, 33, rfl⟩
abbrev main_call0_call0_v3 : Ref sig .tc := ⟨.hbm, 34, rfl⟩
abbrev main_call0_call0_v4 : Ref sig .tc := ⟨.hbm, 35, rfl⟩
abbrev main_call0_call0_v5 : Ref sig .tc := ⟨.hbm, 36, rfl⟩
abbrev main_call0_call0_v6 : Ref sig .tc := ⟨.hbm, 37, rfl⟩
abbrev main_call0_call0_c_0 : Ref sig .tc := ⟨.hbm, 38, rfl⟩
abbrev main_call0_call0_v7 : Ref sig .tc := ⟨.hbm, 39, rfl⟩
abbrev main_call0_call0_v8 : Ref sig .tc := ⟨.hbm, 40, rfl⟩
abbrev main_call0_call0_c_1 : Ref sig .tc := ⟨.hbm, 41, rfl⟩
abbrev main_call0_call0_v9 : Ref sig .tc := ⟨.hbm, 42, rfl⟩
abbrev main_call0_call0_v10 : Ref sig .tc := ⟨.hbm, 43, rfl⟩
abbrev main_call0_call0_v11 : Ref sig .tc := ⟨.hbm, 44, rfl⟩
abbrev main_call0_call0_v12 : Ref sig .tc := ⟨.hbm, 45, rfl⟩
abbrev main_call0_call0_v13 : Ref sig .tc := ⟨.hbm, 46, rfl⟩
abbrev main_call0_call0_c_2 : Ref sig .tc := ⟨.hbm, 47, rfl⟩
abbrev main_call0_call0_v14 : Ref sig .tc := ⟨.hbm, 48, rfl⟩
abbrev main_call0_call0_v15 : Ref sig .tc := ⟨.hbm, 49, rfl⟩
abbrev main_call0_call0_c_3 : Ref sig .tc := ⟨.hbm, 50, rfl⟩
abbrev main_call0_call0_v16 : Ref sig .tc := ⟨.hbm, 51, rfl⟩
abbrev main_call0_call0_v17 : Ref sig .tc := ⟨.hbm, 52, rfl⟩
abbrev main_call0_call0_v18 : Ref sig .tc := ⟨.hbm, 53, rfl⟩
abbrev main_call0_call0_v19 : Ref sig .tc := ⟨.hbm, 54, rfl⟩
abbrev main_call0_call0_v20 : Ref sig .tc := ⟨.hbm, 55, rfl⟩
abbrev main_call0_call0_c_4 : Ref sig .tc := ⟨.hbm, 56, rfl⟩
abbrev main_call0_call0_v21 : Ref sig .tc := ⟨.hbm, 57, rfl⟩
abbrev main_call0_call0_v22 : Ref sig .tc := ⟨.hbm, 58, rfl⟩
abbrev main_call0_call0_c_5 : Ref sig .tc := ⟨.hbm, 59, rfl⟩
abbrev main_call0_call0_v23 : Ref sig .tc := ⟨.hbm, 60, rfl⟩
abbrev main_call0_call0_v24 : Ref sig .tc := ⟨.hbm, 61, rfl⟩
abbrev main_call0_call0_v25 : Ref sig .tc := ⟨.hbm, 62, rfl⟩
abbrev main_call0_call0_v26 : Ref sig .tc := ⟨.hbm, 63, rfl⟩
abbrev main_call0_call0_v27 : Ref sig .tc := ⟨.hbm, 64, rfl⟩
abbrev main_call0_call0_c_6 : Ref sig .tc := ⟨.hbm, 65, rfl⟩
abbrev main_call0_call0_v28 : Ref sig .tc := ⟨.hbm, 66, rfl⟩
abbrev main_call0_call0_v29 : Ref sig .tc := ⟨.hbm, 67, rfl⟩
abbrev main_call0_call0_c_7 : Ref sig .tc := ⟨.hbm, 68, rfl⟩
abbrev main_call0_call0_v30 : Ref sig .tc := ⟨.hbm, 69, rfl⟩
abbrev main_call0_call0_v31 : Ref sig .tc := ⟨.hbm, 70, rfl⟩
abbrev main_call0_call0_v32 : Ref sig .tc := ⟨.hbm, 71, rfl⟩
abbrev main_call0_call0_v33 : Ref sig .tc := ⟨.hbm, 72, rfl⟩
abbrev main_call0_call0_v34 : Ref sig .tc := ⟨.hbm, 73, rfl⟩
abbrev main_call0_call0_v35 : Ref sig .tc := ⟨.hbm, 74, rfl⟩
abbrev main_call0_call0_v36 : Ref sig .tc := ⟨.hbm, 75, rfl⟩
abbrev main_call0_call0_v37 : Ref sig .tc := ⟨.hbm, 76, rfl⟩
abbrev main_call0_call0_c_8 : Ref sig .tc := ⟨.hbm, 77, rfl⟩
abbrev main_call0_call0_v38 : Ref sig .tc := ⟨.hbm, 78, rfl⟩
abbrev main_call0_call0_v39 : Ref sig .tc := ⟨.hbm, 79, rfl⟩
abbrev main_call0_call0_v40 : Ref sig .tc := ⟨.hbm, 80, rfl⟩
abbrev main_call0_call0_c_9 : Ref sig .tc := ⟨.hbm, 81, rfl⟩
abbrev main_call0_call0_v41 : Ref sig .tc := ⟨.hbm, 82, rfl⟩
abbrev main_call0_call0_v42 : Ref sig .tc := ⟨.hbm, 83, rfl⟩
abbrev main_call0_call0_c_10 : Ref sig .tc := ⟨.hbm, 84, rfl⟩
abbrev main_call0_call0_v43 : Ref sig .tc := ⟨.hbm, 85, rfl⟩
abbrev main_call0_call0_v44 : Ref sig .tc := ⟨.hbm, 86, rfl⟩
abbrev main_call0_call0_v45 : Ref sig .tc := ⟨.hbm, 87, rfl⟩
abbrev main_call0_call0_v46 : Ref sig .tc := ⟨.hbm, 88, rfl⟩
abbrev main_call0_call0_v47 : Ref sig .tc := ⟨.hbm, 89, rfl⟩
abbrev main_call0_call0_c_11 : Ref sig .tc := ⟨.hbm, 90, rfl⟩
abbrev main_call0_call0_v48 : Ref sig .tc := ⟨.hbm, 91, rfl⟩
abbrev main_call0_call0_v49 : Ref sig .tc := ⟨.hbm, 92, rfl⟩
abbrev main_call0_call0_c_12 : Ref sig .tc := ⟨.hbm, 93, rfl⟩
abbrev main_call0_call0_v50 : Ref sig .tc := ⟨.hbm, 94, rfl⟩
abbrev main_call0_call0_v51 : Ref sig .tc := ⟨.hbm, 95, rfl⟩
abbrev main_call0_call0_v52 : Ref sig .tc := ⟨.hbm, 96, rfl⟩
abbrev main_call0_call0_v53 : Ref sig .tc := ⟨.hbm, 97, rfl⟩
abbrev main_call0_call0_v54 : Ref sig .tc := ⟨.hbm, 98, rfl⟩
abbrev main_call0_call0_c_13 : Ref sig .tc := ⟨.hbm, 99, rfl⟩
abbrev main_call0_call0_v55 : Ref sig .tc := ⟨.hbm, 100, rfl⟩
abbrev main_call0_call0_v56 : Ref sig .tc := ⟨.hbm, 101, rfl⟩
abbrev main_call0_call0_c_14 : Ref sig .tc := ⟨.hbm, 102, rfl⟩
abbrev main_call0_call0_v57 : Ref sig .tc := ⟨.hbm, 103, rfl⟩
abbrev main_call0_call0_v58 : Ref sig .tc := ⟨.hbm, 104, rfl⟩
abbrev main_call0_call0_v59 : Ref sig .tc := ⟨.hbm, 105, rfl⟩
abbrev main_call0_call0_v60 : Ref sig .tc := ⟨.hbm, 106, rfl⟩
abbrev main_call0_call0_v61 : Ref sig .tc := ⟨.hbm, 107, rfl⟩
abbrev main_call0_call0_c_15 : Ref sig .tc := ⟨.hbm, 108, rfl⟩
abbrev main_call0_call0_v62 : Ref sig .tc := ⟨.hbm, 109, rfl⟩
abbrev main_call0_call0_v63 : Ref sig .tc := ⟨.hbm, 110, rfl⟩
abbrev main_call0_call0_c_16 : Ref sig .tc := ⟨.hbm, 111, rfl⟩
abbrev main_call0_call0_v64 : Ref sig .tc := ⟨.hbm, 112, rfl⟩
abbrev main_call0_call0_v65 : Ref sig .tc := ⟨.hbm, 113, rfl⟩
abbrev main_call0_call0_v66 : Ref sig .tc := ⟨.hbm, 114, rfl⟩
abbrev main_call0_call0_v67 : Ref sig .tc := ⟨.hbm, 115, rfl⟩
abbrev main_call0_call0_v68 : Ref sig .tc := ⟨.hbm, 116, rfl⟩
abbrev main_call0_call0_v69 : Ref sig .tc := ⟨.hbm, 117, rfl⟩
abbrev main_call0_call0_v70 : Ref sig .tc := ⟨.hbm, 118, rfl⟩
abbrev main_call0_call0_v71 : Ref sig .tc := ⟨.hbm, 119, rfl⟩
abbrev main_call0_call0_c_17 : Ref sig .tc := ⟨.hbm, 120, rfl⟩
abbrev main_call0_call0_v72 : Ref sig .tc := ⟨.hbm, 121, rfl⟩
abbrev main_call0_call0_v73 : Ref sig .tc := ⟨.hbm, 122, rfl⟩
abbrev main_call0_call0_v74 : Ref sig .tc := ⟨.hbm, 123, rfl⟩
abbrev main_call0_call0_c_18 : Ref sig .tc := ⟨.hbm, 124, rfl⟩
abbrev main_call0_call0_v75 : Ref sig .tc := ⟨.hbm, 125, rfl⟩
abbrev main_call0_call0_v76 : Ref sig .tc := ⟨.hbm, 126, rfl⟩
abbrev main_call0_call0_c_19 : Ref sig .tc := ⟨.hbm, 127, rfl⟩
abbrev main_call0_call0_v77 : Ref sig .tc := ⟨.hbm, 128, rfl⟩
abbrev main_call0_call0_v78 : Ref sig .tc := ⟨.hbm, 129, rfl⟩
abbrev main_call0_call0_v79 : Ref sig .tc := ⟨.hbm, 130, rfl⟩
abbrev main_call0_call0_v80 : Ref sig .tc := ⟨.hbm, 131, rfl⟩
abbrev main_call0_call0_v81 : Ref sig .tc := ⟨.hbm, 132, rfl⟩
abbrev main_call0_call0_c_20 : Ref sig .tc := ⟨.hbm, 133, rfl⟩
abbrev main_call0_call0_v82 : Ref sig .tc := ⟨.hbm, 134, rfl⟩
abbrev main_call0_call0_v83 : Ref sig .tc := ⟨.hbm, 135, rfl⟩
abbrev main_call0_call0_c_21 : Ref sig .tc := ⟨.hbm, 136, rfl⟩
abbrev main_call0_call0_v84 : Ref sig .tc := ⟨.hbm, 137, rfl⟩
abbrev main_call0_call0_v85 : Ref sig .tc := ⟨.hbm, 138, rfl⟩
abbrev main_call0_call0_v86 : Ref sig .tc := ⟨.hbm, 139, rfl⟩
abbrev main_call0_call0_v87 : Ref sig .tc := ⟨.hbm, 140, rfl⟩
abbrev main_call0_call0_v88 : Ref sig .tc := ⟨.hbm, 141, rfl⟩
abbrev main_call0_call0_c_22 : Ref sig .tc := ⟨.hbm, 142, rfl⟩
abbrev main_call0_call0_v89 : Ref sig .tc := ⟨.hbm, 143, rfl⟩
abbrev main_call0_call0_v90 : Ref sig .tc := ⟨.hbm, 144, rfl⟩
abbrev main_call0_call0_c_23 : Ref sig .tc := ⟨.hbm, 145, rfl⟩
abbrev main_call0_call0_v91 : Ref sig .tc := ⟨.hbm, 146, rfl⟩
abbrev main_call0_call0_v92 : Ref sig .tc := ⟨.hbm, 147, rfl⟩
abbrev main_call0_call0_v93 : Ref sig .tc := ⟨.hbm, 148, rfl⟩
abbrev main_call0_call0_v94 : Ref sig .tc := ⟨.hbm, 149, rfl⟩
abbrev main_call0_call0_v95 : Ref sig .tc := ⟨.hbm, 150, rfl⟩
abbrev main_call0_call0_c_24 : Ref sig .tc := ⟨.hbm, 151, rfl⟩
abbrev main_call0_call0_v96 : Ref sig .tc := ⟨.hbm, 152, rfl⟩
abbrev main_call0_call0_v97 : Ref sig .tc := ⟨.hbm, 153, rfl⟩
abbrev main_call0_call0_c_25 : Ref sig .tc := ⟨.hbm, 154, rfl⟩
abbrev main_call0_call0_v98 : Ref sig .tc := ⟨.hbm, 155, rfl⟩
abbrev main_call0_call0_v99 : Ref sig .tc := ⟨.hbm, 156, rfl⟩
abbrev main_call0_call0_v100 : Ref sig .tc := ⟨.hbm, 157, rfl⟩
abbrev main_call0_call0_v101 : Ref sig .tc := ⟨.hbm, 158, rfl⟩
abbrev main_call0_call0_v102 : Ref sig .tc := ⟨.hbm, 159, rfl⟩
abbrev main_call0_call0_v103 : Ref sig .tc := ⟨.hbm, 160, rfl⟩
abbrev main_call0_call0_v104 : Ref sig .tc := ⟨.hbm, 161, rfl⟩
abbrev main_call0_call0_v105 : Ref sig .tc := ⟨.hbm, 162, rfl⟩
abbrev main_call0_call0_c_26 : Ref sig .tc := ⟨.hbm, 163, rfl⟩
abbrev main_call0_call0_v106 : Ref sig .tc := ⟨.hbm, 164, rfl⟩
abbrev main_call0_call0_v107 : Ref sig .tc := ⟨.hbm, 165, rfl⟩
abbrev main_call0_call0_v108 : Ref sig .tc := ⟨.hbm, 166, rfl⟩
abbrev main_call0_call0_c_27 : Ref sig .tc := ⟨.hbm, 167, rfl⟩
abbrev main_call0_call0_v109 : Ref sig .tc := ⟨.hbm, 168, rfl⟩
abbrev main_call0_call0_v110 : Ref sig .tc := ⟨.hbm, 169, rfl⟩
abbrev main_call0_call0_c_28 : Ref sig .tc := ⟨.hbm, 170, rfl⟩
abbrev main_call0_call0_v111 : Ref sig .tc := ⟨.hbm, 171, rfl⟩
abbrev main_call0_call0_v112 : Ref sig .tc := ⟨.hbm, 172, rfl⟩
abbrev main_call0_call0_v113 : Ref sig .tc := ⟨.hbm, 173, rfl⟩
abbrev main_call0_call0_v114 : Ref sig .tc := ⟨.hbm, 174, rfl⟩
abbrev main_call0_call0_v115 : Ref sig .tc := ⟨.hbm, 175, rfl⟩
abbrev main_call0_call0_c_29 : Ref sig .tc := ⟨.hbm, 176, rfl⟩
abbrev main_call0_call0_v116 : Ref sig .tc := ⟨.hbm, 177, rfl⟩
abbrev main_call0_call0_v117 : Ref sig .tc := ⟨.hbm, 178, rfl⟩
abbrev main_call0_call0_c_30 : Ref sig .tc := ⟨.hbm, 179, rfl⟩
abbrev main_call0_call0_v118 : Ref sig .tc := ⟨.hbm, 180, rfl⟩
abbrev main_call0_call0_v119 : Ref sig .tc := ⟨.hbm, 181, rfl⟩
abbrev main_call0_call0_v120 : Ref sig .tc := ⟨.hbm, 182, rfl⟩
abbrev main_call0_call0_v121 : Ref sig .tc := ⟨.hbm, 183, rfl⟩
abbrev main_call0_call0_v122 : Ref sig .tc := ⟨.hbm, 184, rfl⟩
abbrev main_call0_call0_c_31 : Ref sig .tc := ⟨.hbm, 185, rfl⟩
abbrev main_call0_call0_v123 : Ref sig .tc := ⟨.hbm, 186, rfl⟩
abbrev main_call0_call0_v124 : Ref sig .tc := ⟨.hbm, 187, rfl⟩
abbrev main_call0_call0_c_32 : Ref sig .tc := ⟨.hbm, 188, rfl⟩
abbrev main_call0_call0_v125 : Ref sig .tc := ⟨.hbm, 189, rfl⟩
abbrev main_call0_call0_v126 : Ref sig .tc := ⟨.hbm, 190, rfl⟩
abbrev main_call0_call0_v127 : Ref sig .tc := ⟨.hbm, 191, rfl⟩
abbrev main_call0_call0_v128 : Ref sig .tc := ⟨.hbm, 192, rfl⟩
abbrev main_call0_call0_v129 : Ref sig .tc := ⟨.hbm, 193, rfl⟩
abbrev main_call0_call0_c_33 : Ref sig .tc := ⟨.hbm, 194, rfl⟩
abbrev main_call0_call0_v130 : Ref sig .tc := ⟨.hbm, 195, rfl⟩
abbrev main_call0_call0_v131 : Ref sig .tc := ⟨.hbm, 196, rfl⟩
abbrev main_call0_call0_c_34 : Ref sig .tc := ⟨.hbm, 197, rfl⟩
abbrev main_call0_call0_v132 : Ref sig .tc := ⟨.hbm, 198, rfl⟩
abbrev main_call0_call0_v133 : Ref sig .tc := ⟨.hbm, 199, rfl⟩
abbrev main_call0_call0_v134 : Ref sig .tc := ⟨.hbm, 200, rfl⟩
abbrev main_call0_call0_v135 : Ref sig .tc := ⟨.hbm, 201, rfl⟩
abbrev main_call0_call0_v136 : Ref sig .tc := ⟨.hbm, 202, rfl⟩
abbrev main_call0_call0_v137 : Ref sig .tc := ⟨.hbm, 203, rfl⟩
abbrev main_call0_call0_v138 : Ref sig .tc := ⟨.hbm, 204, rfl⟩
abbrev main_call0_call0_v139 : Ref sig .tc := ⟨.hbm, 205, rfl⟩
abbrev main_call0_call0_c_35 : Ref sig .tc := ⟨.hbm, 206, rfl⟩
abbrev main_call0_call0_v140 : Ref sig .tc := ⟨.hbm, 207, rfl⟩
abbrev main_call0_call0_v141 : Ref sig .tc := ⟨.hbm, 208, rfl⟩
abbrev main_call0_call0_v142 : Ref sig .tc := ⟨.hbm, 209, rfl⟩
abbrev main_call0_call0_c_36 : Ref sig .tc := ⟨.hbm, 210, rfl⟩
abbrev main_call0_call0_v143 : Ref sig .tc := ⟨.hbm, 211, rfl⟩
abbrev main_call0_call0_v144 : Ref sig .tc := ⟨.hbm, 212, rfl⟩
abbrev main_call0_call0_c_37 : Ref sig .tc := ⟨.hbm, 213, rfl⟩
abbrev main_call0_call0_v145 : Ref sig .tc := ⟨.hbm, 214, rfl⟩
abbrev main_call0_call0_v146 : Ref sig .tc := ⟨.hbm, 215, rfl⟩
abbrev main_call0_call0_v147 : Ref sig .tc := ⟨.hbm, 216, rfl⟩
abbrev main_call0_call0_v148 : Ref sig .tc := ⟨.hbm, 217, rfl⟩
abbrev main_call0_call0_v149 : Ref sig .tc := ⟨.hbm, 218, rfl⟩
abbrev main_call0_call0_c_38 : Ref sig .tc := ⟨.hbm, 219, rfl⟩
abbrev main_call0_call0_v150 : Ref sig .tc := ⟨.hbm, 220, rfl⟩
abbrev main_call0_call0_v151 : Ref sig .tc := ⟨.hbm, 221, rfl⟩
abbrev main_call0_call0_c_39 : Ref sig .tc := ⟨.hbm, 222, rfl⟩
abbrev main_call0_call0_v152 : Ref sig .tc := ⟨.hbm, 223, rfl⟩
abbrev main_call0_call0_v153 : Ref sig .tc := ⟨.hbm, 224, rfl⟩
abbrev main_call0_call0_v154 : Ref sig .tc := ⟨.hbm, 225, rfl⟩
abbrev main_call0_call0_v155 : Ref sig .tc := ⟨.hbm, 226, rfl⟩
abbrev main_call0_call0_v156 : Ref sig .tc := ⟨.hbm, 227, rfl⟩
abbrev main_call0_call0_c_40 : Ref sig .tc := ⟨.hbm, 228, rfl⟩
abbrev main_call0_call0_v157 : Ref sig .tc := ⟨.hbm, 229, rfl⟩
abbrev main_call0_call0_v158 : Ref sig .tc := ⟨.hbm, 230, rfl⟩
abbrev main_call0_call0_c_41 : Ref sig .tc := ⟨.hbm, 231, rfl⟩
abbrev main_call0_call0_v159 : Ref sig .tc := ⟨.hbm, 232, rfl⟩
abbrev main_call0_call0_v160 : Ref sig .tc := ⟨.hbm, 233, rfl⟩
abbrev main_call0_call0_v161 : Ref sig .tc := ⟨.hbm, 234, rfl⟩
abbrev main_call0_call0_v162 : Ref sig .tc := ⟨.hbm, 235, rfl⟩
abbrev main_call0_call0_v163 : Ref sig .tc := ⟨.hbm, 236, rfl⟩
abbrev main_call0_call0_c_42 : Ref sig .tc := ⟨.hbm, 237, rfl⟩
abbrev main_call0_call0_v164 : Ref sig .tc := ⟨.hbm, 238, rfl⟩
abbrev main_call0_call0_v165 : Ref sig .tc := ⟨.hbm, 239, rfl⟩
abbrev main_call0_call0_c_43 : Ref sig .tc := ⟨.hbm, 240, rfl⟩
abbrev main_call0_call0_v166 : Ref sig .tc := ⟨.hbm, 241, rfl⟩
abbrev main_call0_call0_v167 : Ref sig .tc := ⟨.hbm, 242, rfl⟩
abbrev main_call0_call0_v168 : Ref sig .tc := ⟨.hbm, 243, rfl⟩
abbrev main_call0_call0_v169 : Ref sig .tc := ⟨.hbm, 244, rfl⟩
abbrev main_call0_call0_v170 : Ref sig .tc := ⟨.hbm, 245, rfl⟩
abbrev main_call0_v11_0 : Ref sig .tc := ⟨.hbm, 246, rfl⟩
abbrev main_call0_call0_v172 : Ref sig .tc := ⟨.hbm, 247, rfl⟩
abbrev main_call0_call0_v173 : Ref sig .tc := ⟨.hbm, 248, rfl⟩
abbrev main_call0_call0_c_44 : Ref sig .tc := ⟨.hbm, 249, rfl⟩
abbrev main_call0_call0_v174 : Ref sig .tc := ⟨.hbm, 250, rfl⟩
abbrev main_call0_v11_1 : Ref sig .tc := ⟨.hbm, 251, rfl⟩
abbrev main_v7 : Ref sig .tc := ⟨.hbm, 252, rfl⟩
abbrev main_v8 : Ref sig .tc := ⟨.hbm, 253, rfl⟩
abbrev main_v9 : Ref sig .tc := ⟨.hbm, 254, rfl⟩
abbrev main_cst : Ref sig .tc := ⟨.hbm, 255, rfl⟩
abbrev main_v10 : Ref sig .tc := ⟨.hbm, 256, rfl⟩
abbrev main_v11 : Ref sig .tc := ⟨.hbm, 257, rfl⟩
abbrev main_cst_3 : Ref sig .tc := ⟨.hbm, 258, rfl⟩
abbrev main_cst_4 : Ref sig .tc := ⟨.hbm, 259, rfl⟩
abbrev main_call1_v0 : Ref sig .tc := ⟨.hbm, 260, rfl⟩
abbrev main_call1_v1 : Ref sig .tc := ⟨.hbm, 261, rfl⟩
abbrev main_call1_v2 : Ref sig .tc := ⟨.hbm, 262, rfl⟩
abbrev main_call1_v3 : Ref sig .tc := ⟨.hbm, 263, rfl⟩
abbrev main_call1_v4 : Ref sig .tc := ⟨.hbm, 264, rfl⟩
abbrev main_call1_v5 : Ref sig .tc := ⟨.hbm, 265, rfl⟩
abbrev main_call1_v6 : Ref sig .tc := ⟨.hbm, 266, rfl⟩
abbrev main_call1_v7 : Ref sig .tc := ⟨.hbm, 267, rfl⟩
abbrev main_call1_v8 : Ref sig .tc := ⟨.hbm, 268, rfl⟩
abbrev main_call1_v9 : Ref sig .tc := ⟨.hbm, 269, rfl⟩
abbrev main_call1_v10 : Ref sig .tc := ⟨.hbm, 270, rfl⟩
abbrev main_call1_c : Ref sig .tc := ⟨.hbm, 271, rfl⟩
abbrev main_call1_v11 : Ref sig .tc := ⟨.hbm, 272, rfl⟩
abbrev main_call1_v12 : Ref sig .tc := ⟨.hbm, 273, rfl⟩
abbrev main_call1_c_0 : Ref sig .tc := ⟨.hbm, 274, rfl⟩
abbrev main_call1_v13 : Ref sig .tc := ⟨.hbm, 275, rfl⟩
abbrev main_call1_v14 : Ref sig .tc := ⟨.hbm, 276, rfl⟩
abbrev main_call1_c_1 : Ref sig .tc := ⟨.hbm, 277, rfl⟩
abbrev main_call1_v15 : Ref sig .tc := ⟨.hbm, 278, rfl⟩
abbrev main_call1_v16 : Ref sig .tc := ⟨.hbm, 279, rfl⟩
abbrev main_call1_v17 : Ref sig .tc := ⟨.hbm, 280, rfl⟩
abbrev main_call1_v18 : Ref sig .tc := ⟨.hbm, 281, rfl⟩
abbrev main_call1_c_2 : Ref sig .tc := ⟨.hbm, 282, rfl⟩
abbrev main_call1_v19 : Ref sig .tc := ⟨.hbm, 283, rfl⟩
abbrev main_call1_v20 : Ref sig .tc := ⟨.hbm, 284, rfl⟩
abbrev main_call1_v21 : Ref sig .tc := ⟨.hbm, 285, rfl⟩
abbrev main_call1_v22 : Ref sig .tc := ⟨.hbm, 286, rfl⟩
abbrev main_call1_call0_v0 : Ref sig .tc := ⟨.hbm, 287, rfl⟩
abbrev main_call1_call0_c : Ref sig .tc := ⟨.hbm, 288, rfl⟩
abbrev main_call1_call0_v1 : Ref sig .tc := ⟨.hbm, 289, rfl⟩
abbrev main_call1_call0_v2 : Ref sig .tc := ⟨.hbm, 290, rfl⟩
abbrev main_call1_call0_v3 : Ref sig .tc := ⟨.hbm, 291, rfl⟩
abbrev main_call1_call0_v4 : Ref sig .tc := ⟨.hbm, 292, rfl⟩
abbrev main_call1_call0_v5 : Ref sig .tc := ⟨.hbm, 293, rfl⟩
abbrev main_call1_call0_v6 : Ref sig .tc := ⟨.hbm, 294, rfl⟩
abbrev main_call1_call0_c_0 : Ref sig .tc := ⟨.hbm, 295, rfl⟩
abbrev main_call1_call0_v7 : Ref sig .tc := ⟨.hbm, 296, rfl⟩
abbrev main_call1_call0_v8 : Ref sig .tc := ⟨.hbm, 297, rfl⟩
abbrev main_call1_call0_c_1 : Ref sig .tc := ⟨.hbm, 298, rfl⟩
abbrev main_call1_call0_v9 : Ref sig .tc := ⟨.hbm, 299, rfl⟩
abbrev main_call1_call0_v10 : Ref sig .tc := ⟨.hbm, 300, rfl⟩
abbrev main_call1_call0_v11 : Ref sig .tc := ⟨.hbm, 301, rfl⟩
abbrev main_call1_call0_v12 : Ref sig .tc := ⟨.hbm, 302, rfl⟩
abbrev main_call1_call0_v13 : Ref sig .tc := ⟨.hbm, 303, rfl⟩
abbrev main_call1_call0_c_2 : Ref sig .tc := ⟨.hbm, 304, rfl⟩
abbrev main_call1_call0_v14 : Ref sig .tc := ⟨.hbm, 305, rfl⟩
abbrev main_call1_call0_v15 : Ref sig .tc := ⟨.hbm, 306, rfl⟩
abbrev main_call1_call0_c_3 : Ref sig .tc := ⟨.hbm, 307, rfl⟩
abbrev main_call1_call0_v16 : Ref sig .tc := ⟨.hbm, 308, rfl⟩
abbrev main_call1_call0_v17 : Ref sig .tc := ⟨.hbm, 309, rfl⟩
abbrev main_call1_call0_v18 : Ref sig .tc := ⟨.hbm, 310, rfl⟩
abbrev main_call1_call0_v19 : Ref sig .tc := ⟨.hbm, 311, rfl⟩
abbrev main_call1_call0_v20 : Ref sig .tc := ⟨.hbm, 312, rfl⟩
abbrev main_call1_call0_c_4 : Ref sig .tc := ⟨.hbm, 313, rfl⟩
abbrev main_call1_call0_v21 : Ref sig .tc := ⟨.hbm, 314, rfl⟩
abbrev main_call1_call0_v22 : Ref sig .tc := ⟨.hbm, 315, rfl⟩
abbrev main_call1_call0_c_5 : Ref sig .tc := ⟨.hbm, 316, rfl⟩
abbrev main_call1_call0_v23 : Ref sig .tc := ⟨.hbm, 317, rfl⟩
abbrev main_call1_call0_v24 : Ref sig .tc := ⟨.hbm, 318, rfl⟩
abbrev main_call1_call0_v25 : Ref sig .tc := ⟨.hbm, 319, rfl⟩
abbrev main_call1_call0_v26 : Ref sig .tc := ⟨.hbm, 320, rfl⟩
abbrev main_call1_call0_v27 : Ref sig .tc := ⟨.hbm, 321, rfl⟩
abbrev main_call1_call0_c_6 : Ref sig .tc := ⟨.hbm, 322, rfl⟩
abbrev main_call1_call0_v28 : Ref sig .tc := ⟨.hbm, 323, rfl⟩
abbrev main_call1_call0_v29 : Ref sig .tc := ⟨.hbm, 324, rfl⟩
abbrev main_call1_call0_c_7 : Ref sig .tc := ⟨.hbm, 325, rfl⟩
abbrev main_call1_call0_v30 : Ref sig .tc := ⟨.hbm, 326, rfl⟩
abbrev main_call1_call0_v31 : Ref sig .tc := ⟨.hbm, 327, rfl⟩
abbrev main_call1_call0_v32 : Ref sig .tc := ⟨.hbm, 328, rfl⟩
abbrev main_call1_call0_v33 : Ref sig .tc := ⟨.hbm, 329, rfl⟩
abbrev main_call1_call0_v34 : Ref sig .tc := ⟨.hbm, 330, rfl⟩
abbrev main_call1_call0_v35 : Ref sig .tc := ⟨.hbm, 331, rfl⟩
abbrev main_call1_call0_v36 : Ref sig .tc := ⟨.hbm, 332, rfl⟩
abbrev main_call1_call0_v37 : Ref sig .tc := ⟨.hbm, 333, rfl⟩
abbrev main_call1_call0_c_8 : Ref sig .tc := ⟨.hbm, 334, rfl⟩
abbrev main_call1_call0_v38 : Ref sig .tc := ⟨.hbm, 335, rfl⟩
abbrev main_call1_call0_v39 : Ref sig .tc := ⟨.hbm, 336, rfl⟩
abbrev main_call1_call0_v40 : Ref sig .tc := ⟨.hbm, 337, rfl⟩
abbrev main_call1_call0_c_9 : Ref sig .tc := ⟨.hbm, 338, rfl⟩
abbrev main_call1_call0_v41 : Ref sig .tc := ⟨.hbm, 339, rfl⟩
abbrev main_call1_call0_v42 : Ref sig .tc := ⟨.hbm, 340, rfl⟩
abbrev main_call1_call0_c_10 : Ref sig .tc := ⟨.hbm, 341, rfl⟩
abbrev main_call1_call0_v43 : Ref sig .tc := ⟨.hbm, 342, rfl⟩
abbrev main_call1_call0_v44 : Ref sig .tc := ⟨.hbm, 343, rfl⟩
abbrev main_call1_call0_v45 : Ref sig .tc := ⟨.hbm, 344, rfl⟩
abbrev main_call1_call0_v46 : Ref sig .tc := ⟨.hbm, 345, rfl⟩
abbrev main_call1_call0_v47 : Ref sig .tc := ⟨.hbm, 346, rfl⟩
abbrev main_call1_call0_c_11 : Ref sig .tc := ⟨.hbm, 347, rfl⟩
abbrev main_call1_call0_v48 : Ref sig .tc := ⟨.hbm, 348, rfl⟩
abbrev main_call1_call0_v49 : Ref sig .tc := ⟨.hbm, 349, rfl⟩
abbrev main_call1_call0_c_12 : Ref sig .tc := ⟨.hbm, 350, rfl⟩
abbrev main_call1_call0_v50 : Ref sig .tc := ⟨.hbm, 351, rfl⟩
abbrev main_call1_call0_v51 : Ref sig .tc := ⟨.hbm, 352, rfl⟩
abbrev main_call1_call0_v52 : Ref sig .tc := ⟨.hbm, 353, rfl⟩
abbrev main_call1_call0_v53 : Ref sig .tc := ⟨.hbm, 354, rfl⟩
abbrev main_call1_call0_v54 : Ref sig .tc := ⟨.hbm, 355, rfl⟩
abbrev main_call1_call0_c_13 : Ref sig .tc := ⟨.hbm, 356, rfl⟩
abbrev main_call1_call0_v55 : Ref sig .tc := ⟨.hbm, 357, rfl⟩
abbrev main_call1_call0_v56 : Ref sig .tc := ⟨.hbm, 358, rfl⟩
abbrev main_call1_call0_c_14 : Ref sig .tc := ⟨.hbm, 359, rfl⟩
abbrev main_call1_call0_v57 : Ref sig .tc := ⟨.hbm, 360, rfl⟩
abbrev main_call1_call0_v58 : Ref sig .tc := ⟨.hbm, 361, rfl⟩
abbrev main_call1_call0_v59 : Ref sig .tc := ⟨.hbm, 362, rfl⟩
abbrev main_call1_call0_v60 : Ref sig .tc := ⟨.hbm, 363, rfl⟩
abbrev main_call1_call0_v61 : Ref sig .tc := ⟨.hbm, 364, rfl⟩
abbrev main_call1_call0_c_15 : Ref sig .tc := ⟨.hbm, 365, rfl⟩
abbrev main_call1_call0_v62 : Ref sig .tc := ⟨.hbm, 366, rfl⟩
abbrev main_call1_call0_v63 : Ref sig .tc := ⟨.hbm, 367, rfl⟩
abbrev main_call1_call0_c_16 : Ref sig .tc := ⟨.hbm, 368, rfl⟩
abbrev main_call1_call0_v64 : Ref sig .tc := ⟨.hbm, 369, rfl⟩
abbrev main_call1_call0_v65 : Ref sig .tc := ⟨.hbm, 370, rfl⟩
abbrev main_call1_call0_v66 : Ref sig .tc := ⟨.hbm, 371, rfl⟩
abbrev main_call1_call0_v67 : Ref sig .tc := ⟨.hbm, 372, rfl⟩
abbrev main_call1_call0_v68 : Ref sig .tc := ⟨.hbm, 373, rfl⟩
abbrev main_call1_call0_v69 : Ref sig .tc := ⟨.hbm, 374, rfl⟩
abbrev main_call1_call0_v70 : Ref sig .tc := ⟨.hbm, 375, rfl⟩
abbrev main_call1_call0_v71 : Ref sig .tc := ⟨.hbm, 376, rfl⟩
abbrev main_call1_call0_c_17 : Ref sig .tc := ⟨.hbm, 377, rfl⟩
abbrev main_call1_call0_v72 : Ref sig .tc := ⟨.hbm, 378, rfl⟩
abbrev main_call1_call0_v73 : Ref sig .tc := ⟨.hbm, 379, rfl⟩
abbrev main_call1_call0_v74 : Ref sig .tc := ⟨.hbm, 380, rfl⟩
abbrev main_call1_call0_c_18 : Ref sig .tc := ⟨.hbm, 381, rfl⟩
abbrev main_call1_call0_v75 : Ref sig .tc := ⟨.hbm, 382, rfl⟩
abbrev main_call1_call0_v76 : Ref sig .tc := ⟨.hbm, 383, rfl⟩
abbrev main_call1_call0_c_19 : Ref sig .tc := ⟨.hbm, 384, rfl⟩
abbrev main_call1_call0_v77 : Ref sig .tc := ⟨.hbm, 385, rfl⟩
abbrev main_call1_call0_v78 : Ref sig .tc := ⟨.hbm, 386, rfl⟩
abbrev main_call1_call0_v79 : Ref sig .tc := ⟨.hbm, 387, rfl⟩
abbrev main_call1_call0_v80 : Ref sig .tc := ⟨.hbm, 388, rfl⟩
abbrev main_call1_call0_v81 : Ref sig .tc := ⟨.hbm, 389, rfl⟩
abbrev main_call1_call0_c_20 : Ref sig .tc := ⟨.hbm, 390, rfl⟩
abbrev main_call1_call0_v82 : Ref sig .tc := ⟨.hbm, 391, rfl⟩
abbrev main_call1_call0_v83 : Ref sig .tc := ⟨.hbm, 392, rfl⟩
abbrev main_call1_call0_c_21 : Ref sig .tc := ⟨.hbm, 393, rfl⟩
abbrev main_call1_call0_v84 : Ref sig .tc := ⟨.hbm, 394, rfl⟩
abbrev main_call1_call0_v85 : Ref sig .tc := ⟨.hbm, 395, rfl⟩
abbrev main_call1_call0_v86 : Ref sig .tc := ⟨.hbm, 396, rfl⟩
abbrev main_call1_call0_v87 : Ref sig .tc := ⟨.hbm, 397, rfl⟩
abbrev main_call1_call0_v88 : Ref sig .tc := ⟨.hbm, 398, rfl⟩
abbrev main_call1_call0_c_22 : Ref sig .tc := ⟨.hbm, 399, rfl⟩
abbrev main_call1_call0_v89 : Ref sig .tc := ⟨.hbm, 400, rfl⟩
abbrev main_call1_call0_v90 : Ref sig .tc := ⟨.hbm, 401, rfl⟩
abbrev main_call1_call0_c_23 : Ref sig .tc := ⟨.hbm, 402, rfl⟩
abbrev main_call1_call0_v91 : Ref sig .tc := ⟨.hbm, 403, rfl⟩
abbrev main_call1_call0_v92 : Ref sig .tc := ⟨.hbm, 404, rfl⟩
abbrev main_call1_call0_v93 : Ref sig .tc := ⟨.hbm, 405, rfl⟩
abbrev main_call1_call0_v94 : Ref sig .tc := ⟨.hbm, 406, rfl⟩
abbrev main_call1_call0_v95 : Ref sig .tc := ⟨.hbm, 407, rfl⟩
abbrev main_call1_call0_c_24 : Ref sig .tc := ⟨.hbm, 408, rfl⟩
abbrev main_call1_call0_v96 : Ref sig .tc := ⟨.hbm, 409, rfl⟩
abbrev main_call1_call0_v97 : Ref sig .tc := ⟨.hbm, 410, rfl⟩
abbrev main_call1_call0_c_25 : Ref sig .tc := ⟨.hbm, 411, rfl⟩
abbrev main_call1_call0_v98 : Ref sig .tc := ⟨.hbm, 412, rfl⟩
abbrev main_call1_call0_v99 : Ref sig .tc := ⟨.hbm, 413, rfl⟩
abbrev main_call1_call0_v100 : Ref sig .tc := ⟨.hbm, 414, rfl⟩
abbrev main_call1_call0_v101 : Ref sig .tc := ⟨.hbm, 415, rfl⟩
abbrev main_call1_call0_v102 : Ref sig .tc := ⟨.hbm, 416, rfl⟩
abbrev main_call1_call0_v103 : Ref sig .tc := ⟨.hbm, 417, rfl⟩
abbrev main_call1_call0_v104 : Ref sig .tc := ⟨.hbm, 418, rfl⟩
abbrev main_call1_call0_v105 : Ref sig .tc := ⟨.hbm, 419, rfl⟩
abbrev main_call1_call0_c_26 : Ref sig .tc := ⟨.hbm, 420, rfl⟩
abbrev main_call1_call0_v106 : Ref sig .tc := ⟨.hbm, 421, rfl⟩
abbrev main_call1_call0_v107 : Ref sig .tc := ⟨.hbm, 422, rfl⟩
abbrev main_call1_call0_v108 : Ref sig .tc := ⟨.hbm, 423, rfl⟩
abbrev main_call1_call0_c_27 : Ref sig .tc := ⟨.hbm, 424, rfl⟩
abbrev main_call1_call0_v109 : Ref sig .tc := ⟨.hbm, 425, rfl⟩
abbrev main_call1_call0_v110 : Ref sig .tc := ⟨.hbm, 426, rfl⟩
abbrev main_call1_call0_c_28 : Ref sig .tc := ⟨.hbm, 427, rfl⟩
abbrev main_call1_call0_v111 : Ref sig .tc := ⟨.hbm, 428, rfl⟩
abbrev main_call1_call0_v112 : Ref sig .tc := ⟨.hbm, 429, rfl⟩
abbrev main_call1_call0_v113 : Ref sig .tc := ⟨.hbm, 430, rfl⟩
abbrev main_call1_call0_v114 : Ref sig .tc := ⟨.hbm, 431, rfl⟩
abbrev main_call1_call0_v115 : Ref sig .tc := ⟨.hbm, 432, rfl⟩
abbrev main_call1_call0_c_29 : Ref sig .tc := ⟨.hbm, 433, rfl⟩
abbrev main_call1_call0_v116 : Ref sig .tc := ⟨.hbm, 434, rfl⟩
abbrev main_call1_call0_v117 : Ref sig .tc := ⟨.hbm, 435, rfl⟩
abbrev main_call1_call0_c_30 : Ref sig .tc := ⟨.hbm, 436, rfl⟩
abbrev main_call1_call0_v118 : Ref sig .tc := ⟨.hbm, 437, rfl⟩
abbrev main_call1_call0_v119 : Ref sig .tc := ⟨.hbm, 438, rfl⟩
abbrev main_call1_call0_v120 : Ref sig .tc := ⟨.hbm, 439, rfl⟩
abbrev main_call1_call0_v121 : Ref sig .tc := ⟨.hbm, 440, rfl⟩
abbrev main_call1_call0_v122 : Ref sig .tc := ⟨.hbm, 441, rfl⟩
abbrev main_call1_call0_c_31 : Ref sig .tc := ⟨.hbm, 442, rfl⟩
abbrev main_call1_call0_v123 : Ref sig .tc := ⟨.hbm, 443, rfl⟩
abbrev main_call1_call0_v124 : Ref sig .tc := ⟨.hbm, 444, rfl⟩
abbrev main_call1_call0_c_32 : Ref sig .tc := ⟨.hbm, 445, rfl⟩
abbrev main_call1_call0_v125 : Ref sig .tc := ⟨.hbm, 446, rfl⟩
abbrev main_call1_call0_v126 : Ref sig .tc := ⟨.hbm, 447, rfl⟩
abbrev main_call1_call0_v127 : Ref sig .tc := ⟨.hbm, 448, rfl⟩
abbrev main_call1_call0_v128 : Ref sig .tc := ⟨.hbm, 449, rfl⟩
abbrev main_call1_call0_v129 : Ref sig .tc := ⟨.hbm, 450, rfl⟩
abbrev main_call1_call0_c_33 : Ref sig .tc := ⟨.hbm, 451, rfl⟩
abbrev main_call1_call0_v130 : Ref sig .tc := ⟨.hbm, 452, rfl⟩
abbrev main_call1_call0_v131 : Ref sig .tc := ⟨.hbm, 453, rfl⟩
abbrev main_call1_call0_c_34 : Ref sig .tc := ⟨.hbm, 454, rfl⟩
abbrev main_call1_call0_v132 : Ref sig .tc := ⟨.hbm, 455, rfl⟩
abbrev main_call1_call0_v133 : Ref sig .tc := ⟨.hbm, 456, rfl⟩
abbrev main_call1_call0_v134 : Ref sig .tc := ⟨.hbm, 457, rfl⟩
abbrev main_call1_call0_v135 : Ref sig .tc := ⟨.hbm, 458, rfl⟩
abbrev main_call1_call0_v136 : Ref sig .tc := ⟨.hbm, 459, rfl⟩
abbrev main_call1_call0_v137 : Ref sig .tc := ⟨.hbm, 460, rfl⟩
abbrev main_call1_call0_v138 : Ref sig .tc := ⟨.hbm, 461, rfl⟩
abbrev main_call1_call0_v139 : Ref sig .tc := ⟨.hbm, 462, rfl⟩
abbrev main_call1_call0_c_35 : Ref sig .tc := ⟨.hbm, 463, rfl⟩
abbrev main_call1_call0_v140 : Ref sig .tc := ⟨.hbm, 464, rfl⟩
abbrev main_call1_call0_v141 : Ref sig .tc := ⟨.hbm, 465, rfl⟩
abbrev main_call1_call0_v142 : Ref sig .tc := ⟨.hbm, 466, rfl⟩
abbrev main_call1_call0_c_36 : Ref sig .tc := ⟨.hbm, 467, rfl⟩
abbrev main_call1_call0_v143 : Ref sig .tc := ⟨.hbm, 468, rfl⟩
abbrev main_call1_call0_v144 : Ref sig .tc := ⟨.hbm, 469, rfl⟩
abbrev main_call1_call0_c_37 : Ref sig .tc := ⟨.hbm, 470, rfl⟩
abbrev main_call1_call0_v145 : Ref sig .tc := ⟨.hbm, 471, rfl⟩
abbrev main_call1_call0_v146 : Ref sig .tc := ⟨.hbm, 472, rfl⟩
abbrev main_call1_call0_v147 : Ref sig .tc := ⟨.hbm, 473, rfl⟩
abbrev main_call1_call0_v148 : Ref sig .tc := ⟨.hbm, 474, rfl⟩
abbrev main_call1_call0_v149 : Ref sig .tc := ⟨.hbm, 475, rfl⟩
abbrev main_call1_call0_c_38 : Ref sig .tc := ⟨.hbm, 476, rfl⟩
abbrev main_call1_call0_v150 : Ref sig .tc := ⟨.hbm, 477, rfl⟩
abbrev main_call1_call0_v151 : Ref sig .tc := ⟨.hbm, 478, rfl⟩
abbrev main_call1_call0_c_39 : Ref sig .tc := ⟨.hbm, 479, rfl⟩
abbrev main_call1_call0_v152 : Ref sig .tc := ⟨.hbm, 480, rfl⟩
abbrev main_call1_call0_v153 : Ref sig .tc := ⟨.hbm, 481, rfl⟩
abbrev main_call1_call0_v154 : Ref sig .tc := ⟨.hbm, 482, rfl⟩
abbrev main_call1_call0_v155 : Ref sig .tc := ⟨.hbm, 483, rfl⟩
abbrev main_call1_call0_v156 : Ref sig .tc := ⟨.hbm, 484, rfl⟩
abbrev main_call1_call0_c_40 : Ref sig .tc := ⟨.hbm, 485, rfl⟩
abbrev main_call1_call0_v157 : Ref sig .tc := ⟨.hbm, 486, rfl⟩
abbrev main_call1_call0_v158 : Ref sig .tc := ⟨.hbm, 487, rfl⟩
abbrev main_call1_call0_c_41 : Ref sig .tc := ⟨.hbm, 488, rfl⟩
abbrev main_call1_call0_v159 : Ref sig .tc := ⟨.hbm, 489, rfl⟩
abbrev main_call1_call0_v160 : Ref sig .tc := ⟨.hbm, 490, rfl⟩
abbrev main_call1_call0_v161 : Ref sig .tc := ⟨.hbm, 491, rfl⟩
abbrev main_call1_call0_v162 : Ref sig .tc := ⟨.hbm, 492, rfl⟩
abbrev main_call1_call0_v163 : Ref sig .tc := ⟨.hbm, 493, rfl⟩
abbrev main_call1_call0_c_42 : Ref sig .tc := ⟨.hbm, 494, rfl⟩
abbrev main_call1_call0_v164 : Ref sig .tc := ⟨.hbm, 495, rfl⟩
abbrev main_call1_call0_v165 : Ref sig .tc := ⟨.hbm, 496, rfl⟩
abbrev main_call1_call0_c_43 : Ref sig .tc := ⟨.hbm, 497, rfl⟩
abbrev main_call1_call0_v166 : Ref sig .tc := ⟨.hbm, 498, rfl⟩
abbrev main_call1_call0_v167 : Ref sig .tc := ⟨.hbm, 499, rfl⟩
abbrev main_call1_call0_v168 : Ref sig .tc := ⟨.hbm, 500, rfl⟩
abbrev main_call1_call0_v169 : Ref sig .tc := ⟨.hbm, 501, rfl⟩
abbrev main_call1_call0_v170 : Ref sig .tc := ⟨.hbm, 502, rfl⟩
abbrev main_call1_v23_0 : Ref sig .tc := ⟨.hbm, 503, rfl⟩
abbrev main_call1_call0_v172 : Ref sig .tc := ⟨.hbm, 504, rfl⟩
abbrev main_call1_call0_v173 : Ref sig .tc := ⟨.hbm, 505, rfl⟩
abbrev main_call1_call0_c_44 : Ref sig .tc := ⟨.hbm, 506, rfl⟩
abbrev main_call1_call0_v174 : Ref sig .tc := ⟨.hbm, 507, rfl⟩
abbrev main_call1_v23_1 : Ref sig .tc := ⟨.hbm, 508, rfl⟩
abbrev main_call1_v24 : Ref sig .tc := ⟨.hbm, 509, rfl⟩
abbrev main_call1_c_3 : Ref sig .tc := ⟨.hbm, 510, rfl⟩
abbrev main_call1_v25 : Ref sig .tc := ⟨.hbm, 511, rfl⟩
abbrev main_call1_v26 : Ref sig .tc := ⟨.hbm, 512, rfl⟩
abbrev main_call1_c_4 : Ref sig .tc := ⟨.hbm, 513, rfl⟩
abbrev main_call1_v27 : Ref sig .tc := ⟨.hbm, 514, rfl⟩
abbrev main_call1_v28 : Ref sig .tc := ⟨.hbm, 515, rfl⟩
abbrev main_call1_v29 : Ref sig .tc := ⟨.hbm, 516, rfl⟩
abbrev main_call1_cst : Ref sig .tc := ⟨.hbm, 517, rfl⟩
abbrev main_call1_v30 : Ref sig .tc := ⟨.hbm, 518, rfl⟩
abbrev main_call1_v31 : Ref sig .tc := ⟨.hbm, 519, rfl⟩
abbrev main_call1_v32 : Ref sig .tc := ⟨.hbm, 520, rfl⟩
abbrev main_call1_v33 : Ref sig .tc := ⟨.hbm, 521, rfl⟩
abbrev main_call1_v34 : Ref sig .tc := ⟨.hbm, 522, rfl⟩
abbrev main_call1_v35 : Ref sig .tc := ⟨.hbm, 523, rfl⟩
abbrev main_call1_v36 : Ref sig .tc := ⟨.hbm, 524, rfl⟩
abbrev main_call1_v37 : Ref sig .tc := ⟨.hbm, 525, rfl⟩
abbrev main_v12 : Ref sig .tc := ⟨.hbm, 526, rfl⟩
abbrev main_v13 : Ref sig .tc := ⟨.hbm, 527, rfl⟩
abbrev main_v14 : Ref sig .tc := ⟨.hbm, 528, rfl⟩
abbrev main_v15 : Ref sig .tc := ⟨.hbm, 529, rfl⟩
abbrev main_v16 : Ref sig .tc := ⟨.hbm, 530, rfl⟩
abbrev main_cst_5 : Ref sig .tc := ⟨.hbm, 531, rfl⟩
abbrev main_v17 : Ref sig .tc := ⟨.hbm, 532, rfl⟩
abbrev main_v18 : Ref sig .tc := ⟨.hbm, 533, rfl⟩
abbrev main_v19 : Ref sig .tc := ⟨.hbm, 534, rfl⟩
abbrev main_values : Ref sig .tc := ⟨.hbm, 535, rfl⟩
abbrev main_indices : Ref sig .tc := ⟨.hbm, 536, rfl⟩
abbrev main_v20 : Ref sig .tc := ⟨.hbm, 537, rfl⟩
abbrev main_v21 : Ref sig .tc := ⟨.hbm, 538, rfl⟩
abbrev main_v22 : Ref sig .tc := ⟨.hbm, 539, rfl⟩
abbrev main_v23 : Ref sig .tc := ⟨.hbm, 540, rfl⟩
abbrev main_c_6 : Ref sig .tc := ⟨.hbm, 541, rfl⟩
abbrev main_v24 : Ref sig .tc := ⟨.hbm, 542, rfl⟩
abbrev main_v25 : Ref sig .tc := ⟨.hbm, 543, rfl⟩
abbrev main_c_7 : Ref sig .tc := ⟨.hbm, 544, rfl⟩
abbrev main_v26 : Ref sig .tc := ⟨.hbm, 545, rfl⟩
abbrev main_v27 : Ref sig .tc := ⟨.hbm, 546, rfl⟩
abbrev main_v28 : Ref sig .tc := ⟨.hbm, 547, rfl⟩
abbrev main_v29 : Ref sig .tc := ⟨.hbm, 548, rfl⟩
abbrev main_v30 : Ref sig .tc := ⟨.hbm, 549, rfl⟩
abbrev main_v31 : Ref sig .tc := ⟨.hbm, 550, rfl⟩
abbrev main_c_8 : Ref sig .tc := ⟨.hbm, 551, rfl⟩
abbrev main_v32 : Ref sig .tc := ⟨.hbm, 552, rfl⟩
abbrev main_v33 : Ref sig .tc := ⟨.hbm, 553, rfl⟩
abbrev main_c_9 : Ref sig .tc := ⟨.hbm, 554, rfl⟩
abbrev main_v34 : Ref sig .tc := ⟨.hbm, 555, rfl⟩
abbrev main_v35 : Ref sig .tc := ⟨.hbm, 556, rfl⟩
abbrev main_v36 : Ref sig .tc := ⟨.hbm, 557, rfl⟩
abbrev main_v37 : Ref sig .tc := ⟨.hbm, 558, rfl⟩
abbrev main_v38 : Ref sig .tc := ⟨.hbm, 559, rfl⟩
abbrev main_v39 : Ref sig .tc := ⟨.hbm, 560, rfl⟩
abbrev main_v40 : Ref sig .tc := ⟨.hbm, 561, rfl⟩
abbrev main_cst_10 : Ref sig .tc := ⟨.hbm, 562, rfl⟩
abbrev main_v41 : Ref sig .tc := ⟨.hbm, 563, rfl⟩
abbrev main_v42 : Ref sig .tc := ⟨.hbm, 564, rfl⟩
abbrev main_cst_11 : Ref sig .tc := ⟨.hbm, 565, rfl⟩
abbrev main_v43 : Ref sig .tc := ⟨.hbm, 566, rfl⟩
abbrev main_cst_12 : Ref sig .tc := ⟨.hbm, 567, rfl⟩
abbrev main_v44 : Ref sig .tc := ⟨.hbm, 568, rfl⟩
abbrev main_v45 : Ref sig .tc := ⟨.hbm, 569, rfl⟩
abbrev main_v46 : Ref sig .tc := ⟨.hbm, 570, rfl⟩
abbrev main_v47 : Ref sig .tc := ⟨.hbm, 571, rfl⟩
abbrev main_v48 : Ref sig .tc := ⟨.hbm, 572, rfl⟩
abbrev main_v49 : Ref sig .tc := ⟨.hbm, 573, rfl⟩
abbrev main_cst_13 : Ref sig .tc := ⟨.hbm, 574, rfl⟩
abbrev main_v50 : Ref sig .tc := ⟨.hbm, 575, rfl⟩
abbrev main_v51 : Ref sig .tc := ⟨.hbm, 576, rfl⟩
abbrev main_v52 : Ref sig .tc := ⟨.hbm, 577, rfl⟩
abbrev main_v53 : Ref sig .tc := ⟨.hbm, 578, rfl⟩
abbrev main_v54 : Ref sig .tc := ⟨.hbm, 579, rfl⟩
abbrev main_v55 : Ref sig .tc := ⟨.hbm, 580, rfl⟩
abbrev main_v56 : Ref sig .tc := ⟨.hbm, 581, rfl⟩
abbrev main_cst_14 : Ref sig .tc := ⟨.hbm, 582, rfl⟩
abbrev main_v57 : Ref sig .tc := ⟨.hbm, 583, rfl⟩
abbrev main_v58 : Ref sig .tc := ⟨.hbm, 584, rfl⟩
abbrev main_c_15 : Ref sig .tc := ⟨.hbm, 585, rfl⟩
abbrev main_call2_c : Ref sig .tc := ⟨.hbm, 586, rfl⟩
abbrev main_call2_v0 : Ref sig .tc := ⟨.hbm, 587, rfl⟩
abbrev main_call2_v1 : Ref sig .tc := ⟨.hbm, 588, rfl⟩
abbrev main_call2_c_0 : Ref sig .tc := ⟨.hbm, 589, rfl⟩
abbrev main_call2_v2 : Ref sig .tc := ⟨.hbm, 590, rfl⟩
abbrev main_call2_v3 : Ref sig .tc := ⟨.hbm, 591, rfl⟩
abbrev main_call2_v4 : Ref sig .tc := ⟨.hbm, 592, rfl⟩
abbrev main_call2_v5 : Ref sig .tc := ⟨.hbm, 593, rfl⟩
abbrev main_call2_v6 : Ref sig .tc := ⟨.hbm, 594, rfl⟩
abbrev main_call2_v7 : Ref sig .tc := ⟨.hbm, 595, rfl⟩
abbrev main_call2_v8 : Ref sig .tc := ⟨.hbm, 596, rfl⟩
abbrev main_call2_v9 : Ref sig .tc := ⟨.hbm, 597, rfl⟩
abbrev main_call2_v10 : Ref sig .tc := ⟨.hbm, 598, rfl⟩
abbrev main_call2_call0_v0 : Ref sig .tc := ⟨.hbm, 599, rfl⟩
abbrev main_call2_call0_c : Ref sig .tc := ⟨.hbm, 600, rfl⟩
abbrev main_call2_call0_v1 : Ref sig .tc := ⟨.hbm, 601, rfl⟩
abbrev main_call2_call0_v2 : Ref sig .tc := ⟨.hbm, 602, rfl⟩
abbrev main_call2_call0_v3 : Ref sig .tc := ⟨.hbm, 603, rfl⟩
abbrev main_call2_call0_v4 : Ref sig .tc := ⟨.hbm, 604, rfl⟩
abbrev main_call2_call0_v5 : Ref sig .tc := ⟨.hbm, 605, rfl⟩
abbrev main_call2_call0_v6 : Ref sig .tc := ⟨.hbm, 606, rfl⟩
abbrev main_call2_call0_c_0 : Ref sig .tc := ⟨.hbm, 607, rfl⟩
abbrev main_call2_call0_v7 : Ref sig .tc := ⟨.hbm, 608, rfl⟩
abbrev main_call2_call0_v8 : Ref sig .tc := ⟨.hbm, 609, rfl⟩
abbrev main_call2_call0_c_1 : Ref sig .tc := ⟨.hbm, 610, rfl⟩
abbrev main_call2_call0_v9 : Ref sig .tc := ⟨.hbm, 611, rfl⟩
abbrev main_call2_call0_v10 : Ref sig .tc := ⟨.hbm, 612, rfl⟩
abbrev main_call2_call0_v11 : Ref sig .tc := ⟨.hbm, 613, rfl⟩
abbrev main_call2_call0_v12 : Ref sig .tc := ⟨.hbm, 614, rfl⟩
abbrev main_call2_call0_v13 : Ref sig .tc := ⟨.hbm, 615, rfl⟩
abbrev main_call2_call0_c_2 : Ref sig .tc := ⟨.hbm, 616, rfl⟩
abbrev main_call2_call0_v14 : Ref sig .tc := ⟨.hbm, 617, rfl⟩
abbrev main_call2_call0_v15 : Ref sig .tc := ⟨.hbm, 618, rfl⟩
abbrev main_call2_call0_c_3 : Ref sig .tc := ⟨.hbm, 619, rfl⟩
abbrev main_call2_call0_v16 : Ref sig .tc := ⟨.hbm, 620, rfl⟩
abbrev main_call2_call0_v17 : Ref sig .tc := ⟨.hbm, 621, rfl⟩
abbrev main_call2_call0_v18 : Ref sig .tc := ⟨.hbm, 622, rfl⟩
abbrev main_call2_call0_v19 : Ref sig .tc := ⟨.hbm, 623, rfl⟩
abbrev main_call2_call0_v20 : Ref sig .tc := ⟨.hbm, 624, rfl⟩
abbrev main_call2_call0_c_4 : Ref sig .tc := ⟨.hbm, 625, rfl⟩
abbrev main_call2_call0_v21 : Ref sig .tc := ⟨.hbm, 626, rfl⟩
abbrev main_call2_call0_v22 : Ref sig .tc := ⟨.hbm, 627, rfl⟩
abbrev main_call2_call0_c_5 : Ref sig .tc := ⟨.hbm, 628, rfl⟩
abbrev main_call2_call0_v23 : Ref sig .tc := ⟨.hbm, 629, rfl⟩
abbrev main_call2_call0_v24 : Ref sig .tc := ⟨.hbm, 630, rfl⟩
abbrev main_call2_call0_v25 : Ref sig .tc := ⟨.hbm, 631, rfl⟩
abbrev main_call2_call0_v26 : Ref sig .tc := ⟨.hbm, 632, rfl⟩
abbrev main_call2_call0_v27 : Ref sig .tc := ⟨.hbm, 633, rfl⟩
abbrev main_call2_call0_c_6 : Ref sig .tc := ⟨.hbm, 634, rfl⟩
abbrev main_call2_call0_v28 : Ref sig .tc := ⟨.hbm, 635, rfl⟩
abbrev main_call2_call0_v29 : Ref sig .tc := ⟨.hbm, 636, rfl⟩
abbrev main_call2_call0_c_7 : Ref sig .tc := ⟨.hbm, 637, rfl⟩
abbrev main_call2_call0_v30 : Ref sig .tc := ⟨.hbm, 638, rfl⟩
abbrev main_call2_call0_v31 : Ref sig .tc := ⟨.hbm, 639, rfl⟩
abbrev main_call2_call0_v32 : Ref sig .tc := ⟨.hbm, 640, rfl⟩
abbrev main_call2_call0_v33 : Ref sig .tc := ⟨.hbm, 641, rfl⟩
abbrev main_call2_call0_v34 : Ref sig .tc := ⟨.hbm, 642, rfl⟩
abbrev main_call2_call0_v35 : Ref sig .tc := ⟨.hbm, 643, rfl⟩
abbrev main_call2_call0_v36 : Ref sig .tc := ⟨.hbm, 644, rfl⟩
abbrev main_call2_call0_v37 : Ref sig .tc := ⟨.hbm, 645, rfl⟩
abbrev main_call2_call0_c_8 : Ref sig .tc := ⟨.hbm, 646, rfl⟩
abbrev main_call2_call0_v38 : Ref sig .tc := ⟨.hbm, 647, rfl⟩
abbrev main_call2_call0_v39 : Ref sig .tc := ⟨.hbm, 648, rfl⟩
abbrev main_call2_call0_v40 : Ref sig .tc := ⟨.hbm, 649, rfl⟩
abbrev main_call2_call0_c_9 : Ref sig .tc := ⟨.hbm, 650, rfl⟩
abbrev main_call2_call0_v41 : Ref sig .tc := ⟨.hbm, 651, rfl⟩
abbrev main_call2_call0_v42 : Ref sig .tc := ⟨.hbm, 652, rfl⟩
abbrev main_call2_call0_c_10 : Ref sig .tc := ⟨.hbm, 653, rfl⟩
abbrev main_call2_call0_v43 : Ref sig .tc := ⟨.hbm, 654, rfl⟩
abbrev main_call2_call0_v44 : Ref sig .tc := ⟨.hbm, 655, rfl⟩
abbrev main_call2_call0_v45 : Ref sig .tc := ⟨.hbm, 656, rfl⟩
abbrev main_call2_call0_v46 : Ref sig .tc := ⟨.hbm, 657, rfl⟩
abbrev main_call2_call0_v47 : Ref sig .tc := ⟨.hbm, 658, rfl⟩
abbrev main_call2_call0_c_11 : Ref sig .tc := ⟨.hbm, 659, rfl⟩
abbrev main_call2_call0_v48 : Ref sig .tc := ⟨.hbm, 660, rfl⟩
abbrev main_call2_call0_v49 : Ref sig .tc := ⟨.hbm, 661, rfl⟩
abbrev main_call2_call0_c_12 : Ref sig .tc := ⟨.hbm, 662, rfl⟩
abbrev main_call2_call0_v50 : Ref sig .tc := ⟨.hbm, 663, rfl⟩
abbrev main_call2_call0_v51 : Ref sig .tc := ⟨.hbm, 664, rfl⟩
abbrev main_call2_call0_v52 : Ref sig .tc := ⟨.hbm, 665, rfl⟩
abbrev main_call2_call0_v53 : Ref sig .tc := ⟨.hbm, 666, rfl⟩
abbrev main_call2_call0_v54 : Ref sig .tc := ⟨.hbm, 667, rfl⟩
abbrev main_call2_call0_c_13 : Ref sig .tc := ⟨.hbm, 668, rfl⟩
abbrev main_call2_call0_v55 : Ref sig .tc := ⟨.hbm, 669, rfl⟩
abbrev main_call2_call0_v56 : Ref sig .tc := ⟨.hbm, 670, rfl⟩
abbrev main_call2_call0_c_14 : Ref sig .tc := ⟨.hbm, 671, rfl⟩
abbrev main_call2_call0_v57 : Ref sig .tc := ⟨.hbm, 672, rfl⟩
abbrev main_call2_call0_v58 : Ref sig .tc := ⟨.hbm, 673, rfl⟩
abbrev main_call2_call0_v59 : Ref sig .tc := ⟨.hbm, 674, rfl⟩
abbrev main_call2_call0_v60 : Ref sig .tc := ⟨.hbm, 675, rfl⟩
abbrev main_call2_call0_v61 : Ref sig .tc := ⟨.hbm, 676, rfl⟩
abbrev main_call2_call0_c_15 : Ref sig .tc := ⟨.hbm, 677, rfl⟩
abbrev main_call2_call0_v62 : Ref sig .tc := ⟨.hbm, 678, rfl⟩
abbrev main_call2_call0_v63 : Ref sig .tc := ⟨.hbm, 679, rfl⟩
abbrev main_call2_call0_c_16 : Ref sig .tc := ⟨.hbm, 680, rfl⟩
abbrev main_call2_call0_v64 : Ref sig .tc := ⟨.hbm, 681, rfl⟩
abbrev main_call2_call0_v65 : Ref sig .tc := ⟨.hbm, 682, rfl⟩
abbrev main_call2_call0_v66 : Ref sig .tc := ⟨.hbm, 683, rfl⟩
abbrev main_call2_call0_v67 : Ref sig .tc := ⟨.hbm, 684, rfl⟩
abbrev main_call2_call0_v68 : Ref sig .tc := ⟨.hbm, 685, rfl⟩
abbrev main_call2_call0_v69 : Ref sig .tc := ⟨.hbm, 686, rfl⟩
abbrev main_call2_call0_v70 : Ref sig .tc := ⟨.hbm, 687, rfl⟩
abbrev main_call2_call0_v71 : Ref sig .tc := ⟨.hbm, 688, rfl⟩
abbrev main_call2_call0_c_17 : Ref sig .tc := ⟨.hbm, 689, rfl⟩
abbrev main_call2_call0_v72 : Ref sig .tc := ⟨.hbm, 690, rfl⟩
abbrev main_call2_call0_v73 : Ref sig .tc := ⟨.hbm, 691, rfl⟩
abbrev main_call2_call0_v74 : Ref sig .tc := ⟨.hbm, 692, rfl⟩
abbrev main_call2_call0_c_18 : Ref sig .tc := ⟨.hbm, 693, rfl⟩
abbrev main_call2_call0_v75 : Ref sig .tc := ⟨.hbm, 694, rfl⟩
abbrev main_call2_call0_v76 : Ref sig .tc := ⟨.hbm, 695, rfl⟩
abbrev main_call2_call0_c_19 : Ref sig .tc := ⟨.hbm, 696, rfl⟩
abbrev main_call2_call0_v77 : Ref sig .tc := ⟨.hbm, 697, rfl⟩
abbrev main_call2_call0_v78 : Ref sig .tc := ⟨.hbm, 698, rfl⟩
abbrev main_call2_call0_v79 : Ref sig .tc := ⟨.hbm, 699, rfl⟩
abbrev main_call2_call0_v80 : Ref sig .tc := ⟨.hbm, 700, rfl⟩
abbrev main_call2_call0_v81 : Ref sig .tc := ⟨.hbm, 701, rfl⟩
abbrev main_call2_call0_c_20 : Ref sig .tc := ⟨.hbm, 702, rfl⟩
abbrev main_call2_call0_v82 : Ref sig .tc := ⟨.hbm, 703, rfl⟩
abbrev main_call2_call0_v83 : Ref sig .tc := ⟨.hbm, 704, rfl⟩
abbrev main_call2_call0_c_21 : Ref sig .tc := ⟨.hbm, 705, rfl⟩
abbrev main_call2_call0_v84 : Ref sig .tc := ⟨.hbm, 706, rfl⟩
abbrev main_call2_call0_v85 : Ref sig .tc := ⟨.hbm, 707, rfl⟩
abbrev main_call2_call0_v86 : Ref sig .tc := ⟨.hbm, 708, rfl⟩
abbrev main_call2_call0_v87 : Ref sig .tc := ⟨.hbm, 709, rfl⟩
abbrev main_call2_call0_v88 : Ref sig .tc := ⟨.hbm, 710, rfl⟩
abbrev main_call2_call0_c_22 : Ref sig .tc := ⟨.hbm, 711, rfl⟩
abbrev main_call2_call0_v89 : Ref sig .tc := ⟨.hbm, 712, rfl⟩
abbrev main_call2_call0_v90 : Ref sig .tc := ⟨.hbm, 713, rfl⟩
abbrev main_call2_call0_c_23 : Ref sig .tc := ⟨.hbm, 714, rfl⟩
abbrev main_call2_call0_v91 : Ref sig .tc := ⟨.hbm, 715, rfl⟩
abbrev main_call2_call0_v92 : Ref sig .tc := ⟨.hbm, 716, rfl⟩
abbrev main_call2_call0_v93 : Ref sig .tc := ⟨.hbm, 717, rfl⟩
abbrev main_call2_call0_v94 : Ref sig .tc := ⟨.hbm, 718, rfl⟩
abbrev main_call2_call0_v95 : Ref sig .tc := ⟨.hbm, 719, rfl⟩
abbrev main_call2_call0_c_24 : Ref sig .tc := ⟨.hbm, 720, rfl⟩
abbrev main_call2_call0_v96 : Ref sig .tc := ⟨.hbm, 721, rfl⟩
abbrev main_call2_call0_v97 : Ref sig .tc := ⟨.hbm, 722, rfl⟩
abbrev main_call2_call0_c_25 : Ref sig .tc := ⟨.hbm, 723, rfl⟩
abbrev main_call2_call0_v98 : Ref sig .tc := ⟨.hbm, 724, rfl⟩
abbrev main_call2_call0_v99 : Ref sig .tc := ⟨.hbm, 725, rfl⟩
abbrev main_call2_call0_v100 : Ref sig .tc := ⟨.hbm, 726, rfl⟩
abbrev main_call2_call0_v101 : Ref sig .tc := ⟨.hbm, 727, rfl⟩
abbrev main_call2_call0_v102 : Ref sig .tc := ⟨.hbm, 728, rfl⟩
abbrev main_call2_call0_v103 : Ref sig .tc := ⟨.hbm, 729, rfl⟩
abbrev main_call2_call0_v104 : Ref sig .tc := ⟨.hbm, 730, rfl⟩
abbrev main_call2_call0_v105 : Ref sig .tc := ⟨.hbm, 731, rfl⟩
abbrev main_call2_call0_c_26 : Ref sig .tc := ⟨.hbm, 732, rfl⟩
abbrev main_call2_call0_v106 : Ref sig .tc := ⟨.hbm, 733, rfl⟩
abbrev main_call2_call0_v107 : Ref sig .tc := ⟨.hbm, 734, rfl⟩
abbrev main_call2_call0_v108 : Ref sig .tc := ⟨.hbm, 735, rfl⟩
abbrev main_call2_call0_c_27 : Ref sig .tc := ⟨.hbm, 736, rfl⟩
abbrev main_call2_call0_v109 : Ref sig .tc := ⟨.hbm, 737, rfl⟩
abbrev main_call2_call0_v110 : Ref sig .tc := ⟨.hbm, 738, rfl⟩
abbrev main_call2_call0_c_28 : Ref sig .tc := ⟨.hbm, 739, rfl⟩
abbrev main_call2_call0_v111 : Ref sig .tc := ⟨.hbm, 740, rfl⟩
abbrev main_call2_call0_v112 : Ref sig .tc := ⟨.hbm, 741, rfl⟩
abbrev main_call2_call0_v113 : Ref sig .tc := ⟨.hbm, 742, rfl⟩
abbrev main_call2_call0_v114 : Ref sig .tc := ⟨.hbm, 743, rfl⟩
abbrev main_call2_call0_v115 : Ref sig .tc := ⟨.hbm, 744, rfl⟩
abbrev main_call2_call0_c_29 : Ref sig .tc := ⟨.hbm, 745, rfl⟩
abbrev main_call2_call0_v116 : Ref sig .tc := ⟨.hbm, 746, rfl⟩
abbrev main_call2_call0_v117 : Ref sig .tc := ⟨.hbm, 747, rfl⟩
abbrev main_call2_call0_c_30 : Ref sig .tc := ⟨.hbm, 748, rfl⟩
abbrev main_call2_call0_v118 : Ref sig .tc := ⟨.hbm, 749, rfl⟩
abbrev main_call2_call0_v119 : Ref sig .tc := ⟨.hbm, 750, rfl⟩
abbrev main_call2_call0_v120 : Ref sig .tc := ⟨.hbm, 751, rfl⟩
abbrev main_call2_call0_v121 : Ref sig .tc := ⟨.hbm, 752, rfl⟩
abbrev main_call2_call0_v122 : Ref sig .tc := ⟨.hbm, 753, rfl⟩
abbrev main_call2_call0_c_31 : Ref sig .tc := ⟨.hbm, 754, rfl⟩
abbrev main_call2_call0_v123 : Ref sig .tc := ⟨.hbm, 755, rfl⟩
abbrev main_call2_call0_v124 : Ref sig .tc := ⟨.hbm, 756, rfl⟩
abbrev main_call2_call0_c_32 : Ref sig .tc := ⟨.hbm, 757, rfl⟩
abbrev main_call2_call0_v125 : Ref sig .tc := ⟨.hbm, 758, rfl⟩
abbrev main_call2_call0_v126 : Ref sig .tc := ⟨.hbm, 759, rfl⟩
abbrev main_call2_call0_v127 : Ref sig .tc := ⟨.hbm, 760, rfl⟩
abbrev main_call2_call0_v128 : Ref sig .tc := ⟨.hbm, 761, rfl⟩
abbrev main_call2_call0_v129 : Ref sig .tc := ⟨.hbm, 762, rfl⟩
abbrev main_call2_call0_c_33 : Ref sig .tc := ⟨.hbm, 763, rfl⟩
abbrev main_call2_call0_v130 : Ref sig .tc := ⟨.hbm, 764, rfl⟩
abbrev main_call2_call0_v131 : Ref sig .tc := ⟨.hbm, 765, rfl⟩
abbrev main_call2_call0_c_34 : Ref sig .tc := ⟨.hbm, 766, rfl⟩
abbrev main_call2_call0_v132 : Ref sig .tc := ⟨.hbm, 767, rfl⟩
abbrev main_call2_call0_v133 : Ref sig .tc := ⟨.hbm, 768, rfl⟩
abbrev main_call2_call0_v134 : Ref sig .tc := ⟨.hbm, 769, rfl⟩
abbrev main_call2_call0_v135 : Ref sig .tc := ⟨.hbm, 770, rfl⟩
abbrev main_call2_call0_v136 : Ref sig .tc := ⟨.hbm, 771, rfl⟩
abbrev main_call2_call0_v137 : Ref sig .tc := ⟨.hbm, 772, rfl⟩
abbrev main_call2_call0_v138 : Ref sig .tc := ⟨.hbm, 773, rfl⟩
abbrev main_call2_call0_v139 : Ref sig .tc := ⟨.hbm, 774, rfl⟩
abbrev main_call2_call0_c_35 : Ref sig .tc := ⟨.hbm, 775, rfl⟩
abbrev main_call2_call0_v140 : Ref sig .tc := ⟨.hbm, 776, rfl⟩
abbrev main_call2_call0_v141 : Ref sig .tc := ⟨.hbm, 777, rfl⟩
abbrev main_call2_call0_v142 : Ref sig .tc := ⟨.hbm, 778, rfl⟩
abbrev main_call2_call0_c_36 : Ref sig .tc := ⟨.hbm, 779, rfl⟩
abbrev main_call2_call0_v143 : Ref sig .tc := ⟨.hbm, 780, rfl⟩
abbrev main_call2_call0_v144 : Ref sig .tc := ⟨.hbm, 781, rfl⟩
abbrev main_call2_call0_c_37 : Ref sig .tc := ⟨.hbm, 782, rfl⟩
abbrev main_call2_call0_v145 : Ref sig .tc := ⟨.hbm, 783, rfl⟩
abbrev main_call2_call0_v146 : Ref sig .tc := ⟨.hbm, 784, rfl⟩
abbrev main_call2_call0_v147 : Ref sig .tc := ⟨.hbm, 785, rfl⟩
abbrev main_call2_call0_v148 : Ref sig .tc := ⟨.hbm, 786, rfl⟩
abbrev main_call2_call0_v149 : Ref sig .tc := ⟨.hbm, 787, rfl⟩
abbrev main_call2_call0_c_38 : Ref sig .tc := ⟨.hbm, 788, rfl⟩
abbrev main_call2_call0_v150 : Ref sig .tc := ⟨.hbm, 789, rfl⟩
abbrev main_call2_call0_v151 : Ref sig .tc := ⟨.hbm, 790, rfl⟩
abbrev main_call2_call0_c_39 : Ref sig .tc := ⟨.hbm, 791, rfl⟩
abbrev main_call2_call0_v152 : Ref sig .tc := ⟨.hbm, 792, rfl⟩
abbrev main_call2_call0_v153 : Ref sig .tc := ⟨.hbm, 793, rfl⟩
abbrev main_call2_call0_v154 : Ref sig .tc := ⟨.hbm, 794, rfl⟩
abbrev main_call2_call0_v155 : Ref sig .tc := ⟨.hbm, 795, rfl⟩
abbrev main_call2_call0_v156 : Ref sig .tc := ⟨.hbm, 796, rfl⟩
abbrev main_call2_call0_c_40 : Ref sig .tc := ⟨.hbm, 797, rfl⟩
abbrev main_call2_call0_v157 : Ref sig .tc := ⟨.hbm, 798, rfl⟩
abbrev main_call2_call0_v158 : Ref sig .tc := ⟨.hbm, 799, rfl⟩
abbrev main_call2_call0_c_41 : Ref sig .tc := ⟨.hbm, 800, rfl⟩
abbrev main_call2_call0_v159 : Ref sig .tc := ⟨.hbm, 801, rfl⟩
abbrev main_call2_call0_v160 : Ref sig .tc := ⟨.hbm, 802, rfl⟩
abbrev main_call2_call0_v161 : Ref sig .tc := ⟨.hbm, 803, rfl⟩
abbrev main_call2_call0_v162 : Ref sig .tc := ⟨.hbm, 804, rfl⟩
abbrev main_call2_call0_v163 : Ref sig .tc := ⟨.hbm, 805, rfl⟩
abbrev main_call2_call0_c_42 : Ref sig .tc := ⟨.hbm, 806, rfl⟩
abbrev main_call2_call0_v164 : Ref sig .tc := ⟨.hbm, 807, rfl⟩
abbrev main_call2_call0_v165 : Ref sig .tc := ⟨.hbm, 808, rfl⟩
abbrev main_call2_call0_c_43 : Ref sig .tc := ⟨.hbm, 809, rfl⟩
abbrev main_call2_call0_v166 : Ref sig .tc := ⟨.hbm, 810, rfl⟩
abbrev main_call2_call0_v167 : Ref sig .tc := ⟨.hbm, 811, rfl⟩
abbrev main_call2_call0_v168 : Ref sig .tc := ⟨.hbm, 812, rfl⟩
abbrev main_call2_call0_v169 : Ref sig .tc := ⟨.hbm, 813, rfl⟩
abbrev main_call2_call0_v170 : Ref sig .tc := ⟨.hbm, 814, rfl⟩
abbrev main_call2_v11_0 : Ref sig .tc := ⟨.hbm, 815, rfl⟩
abbrev main_call2_call0_v172 : Ref sig .tc := ⟨.hbm, 816, rfl⟩
abbrev main_call2_call0_v173 : Ref sig .tc := ⟨.hbm, 817, rfl⟩
abbrev main_call2_call0_c_44 : Ref sig .tc := ⟨.hbm, 818, rfl⟩
abbrev main_call2_call0_v174 : Ref sig .tc := ⟨.hbm, 819, rfl⟩
abbrev main_call2_v11_1 : Ref sig .tc := ⟨.hbm, 820, rfl⟩
abbrev main_v59 : Ref sig .tc := ⟨.hbm, 821, rfl⟩
abbrev main_v60 : Ref sig .tc := ⟨.hbm, 822, rfl⟩
abbrev main_v61 : Ref sig .tc := ⟨.hbm, 823, rfl⟩
abbrev main_cst_16 : Ref sig .tc := ⟨.hbm, 824, rfl⟩
abbrev main_v62 : Ref sig .tc := ⟨.hbm, 825, rfl⟩
abbrev main_v63 : Ref sig .tc := ⟨.hbm, 826, rfl⟩
abbrev main_cst_17 : Ref sig .tc := ⟨.hbm, 827, rfl⟩
abbrev main_cst_18 : Ref sig .tc := ⟨.hbm, 828, rfl⟩
abbrev main_call3_v0 : Ref sig .tc := ⟨.hbm, 829, rfl⟩
abbrev main_call3_v1 : Ref sig .tc := ⟨.hbm, 830, rfl⟩
abbrev main_call3_v2 : Ref sig .tc := ⟨.hbm, 831, rfl⟩
abbrev main_call3_v3 : Ref sig .tc := ⟨.hbm, 832, rfl⟩
abbrev main_call3_v4 : Ref sig .tc := ⟨.hbm, 833, rfl⟩
abbrev main_call3_v5 : Ref sig .tc := ⟨.hbm, 834, rfl⟩
abbrev main_call3_v6 : Ref sig .tc := ⟨.hbm, 835, rfl⟩
abbrev main_call3_v7 : Ref sig .tc := ⟨.hbm, 836, rfl⟩
abbrev main_call3_v8 : Ref sig .tc := ⟨.hbm, 837, rfl⟩
abbrev main_call3_v9 : Ref sig .tc := ⟨.hbm, 838, rfl⟩
abbrev main_call3_v10 : Ref sig .tc := ⟨.hbm, 839, rfl⟩
abbrev main_call3_c : Ref sig .tc := ⟨.hbm, 840, rfl⟩
abbrev main_call3_v11 : Ref sig .tc := ⟨.hbm, 841, rfl⟩
abbrev main_call3_v12 : Ref sig .tc := ⟨.hbm, 842, rfl⟩
abbrev main_call3_c_0 : Ref sig .tc := ⟨.hbm, 843, rfl⟩
abbrev main_call3_v13 : Ref sig .tc := ⟨.hbm, 844, rfl⟩
abbrev main_call3_v14 : Ref sig .tc := ⟨.hbm, 845, rfl⟩
abbrev main_call3_c_1 : Ref sig .tc := ⟨.hbm, 846, rfl⟩
abbrev main_call3_v15 : Ref sig .tc := ⟨.hbm, 847, rfl⟩
abbrev main_call3_v16 : Ref sig .tc := ⟨.hbm, 848, rfl⟩
abbrev main_call3_v17 : Ref sig .tc := ⟨.hbm, 849, rfl⟩
abbrev main_call3_v18 : Ref sig .tc := ⟨.hbm, 850, rfl⟩
abbrev main_call3_c_2 : Ref sig .tc := ⟨.hbm, 851, rfl⟩
abbrev main_call3_v19 : Ref sig .tc := ⟨.hbm, 852, rfl⟩
abbrev main_call3_v20 : Ref sig .tc := ⟨.hbm, 853, rfl⟩
abbrev main_call3_v21 : Ref sig .tc := ⟨.hbm, 854, rfl⟩
abbrev main_call3_v22 : Ref sig .tc := ⟨.hbm, 855, rfl⟩
abbrev main_call3_call0_v0 : Ref sig .tc := ⟨.hbm, 856, rfl⟩
abbrev main_call3_call0_c : Ref sig .tc := ⟨.hbm, 857, rfl⟩
abbrev main_call3_call0_v1 : Ref sig .tc := ⟨.hbm, 858, rfl⟩
abbrev main_call3_call0_v2 : Ref sig .tc := ⟨.hbm, 859, rfl⟩
abbrev main_call3_call0_v3 : Ref sig .tc := ⟨.hbm, 860, rfl⟩
abbrev main_call3_call0_v4 : Ref sig .tc := ⟨.hbm, 861, rfl⟩
abbrev main_call3_call0_v5 : Ref sig .tc := ⟨.hbm, 862, rfl⟩
abbrev main_call3_call0_v6 : Ref sig .tc := ⟨.hbm, 863, rfl⟩
abbrev main_call3_call0_c_0 : Ref sig .tc := ⟨.hbm, 864, rfl⟩
abbrev main_call3_call0_v7 : Ref sig .tc := ⟨.hbm, 865, rfl⟩
abbrev main_call3_call0_v8 : Ref sig .tc := ⟨.hbm, 866, rfl⟩
abbrev main_call3_call0_c_1 : Ref sig .tc := ⟨.hbm, 867, rfl⟩
abbrev main_call3_call0_v9 : Ref sig .tc := ⟨.hbm, 868, rfl⟩
abbrev main_call3_call0_v10 : Ref sig .tc := ⟨.hbm, 869, rfl⟩
abbrev main_call3_call0_v11 : Ref sig .tc := ⟨.hbm, 870, rfl⟩
abbrev main_call3_call0_v12 : Ref sig .tc := ⟨.hbm, 871, rfl⟩
abbrev main_call3_call0_v13 : Ref sig .tc := ⟨.hbm, 872, rfl⟩
abbrev main_call3_call0_c_2 : Ref sig .tc := ⟨.hbm, 873, rfl⟩
abbrev main_call3_call0_v14 : Ref sig .tc := ⟨.hbm, 874, rfl⟩
abbrev main_call3_call0_v15 : Ref sig .tc := ⟨.hbm, 875, rfl⟩
abbrev main_call3_call0_c_3 : Ref sig .tc := ⟨.hbm, 876, rfl⟩
abbrev main_call3_call0_v16 : Ref sig .tc := ⟨.hbm, 877, rfl⟩
abbrev main_call3_call0_v17 : Ref sig .tc := ⟨.hbm, 878, rfl⟩
abbrev main_call3_call0_v18 : Ref sig .tc := ⟨.hbm, 879, rfl⟩
abbrev main_call3_call0_v19 : Ref sig .tc := ⟨.hbm, 880, rfl⟩
abbrev main_call3_call0_v20 : Ref sig .tc := ⟨.hbm, 881, rfl⟩
abbrev main_call3_call0_c_4 : Ref sig .tc := ⟨.hbm, 882, rfl⟩
abbrev main_call3_call0_v21 : Ref sig .tc := ⟨.hbm, 883, rfl⟩
abbrev main_call3_call0_v22 : Ref sig .tc := ⟨.hbm, 884, rfl⟩
abbrev main_call3_call0_c_5 : Ref sig .tc := ⟨.hbm, 885, rfl⟩
abbrev main_call3_call0_v23 : Ref sig .tc := ⟨.hbm, 886, rfl⟩
abbrev main_call3_call0_v24 : Ref sig .tc := ⟨.hbm, 887, rfl⟩
abbrev main_call3_call0_v25 : Ref sig .tc := ⟨.hbm, 888, rfl⟩
abbrev main_call3_call0_v26 : Ref sig .tc := ⟨.hbm, 889, rfl⟩
abbrev main_call3_call0_v27 : Ref sig .tc := ⟨.hbm, 890, rfl⟩
abbrev main_call3_call0_c_6 : Ref sig .tc := ⟨.hbm, 891, rfl⟩
abbrev main_call3_call0_v28 : Ref sig .tc := ⟨.hbm, 892, rfl⟩
abbrev main_call3_call0_v29 : Ref sig .tc := ⟨.hbm, 893, rfl⟩
abbrev main_call3_call0_c_7 : Ref sig .tc := ⟨.hbm, 894, rfl⟩
abbrev main_call3_call0_v30 : Ref sig .tc := ⟨.hbm, 895, rfl⟩
abbrev main_call3_call0_v31 : Ref sig .tc := ⟨.hbm, 896, rfl⟩
abbrev main_call3_call0_v32 : Ref sig .tc := ⟨.hbm, 897, rfl⟩
abbrev main_call3_call0_v33 : Ref sig .tc := ⟨.hbm, 898, rfl⟩
abbrev main_call3_call0_v34 : Ref sig .tc := ⟨.hbm, 899, rfl⟩
abbrev main_call3_call0_v35 : Ref sig .tc := ⟨.hbm, 900, rfl⟩
abbrev main_call3_call0_v36 : Ref sig .tc := ⟨.hbm, 901, rfl⟩
abbrev main_call3_call0_v37 : Ref sig .tc := ⟨.hbm, 902, rfl⟩
abbrev main_call3_call0_c_8 : Ref sig .tc := ⟨.hbm, 903, rfl⟩
abbrev main_call3_call0_v38 : Ref sig .tc := ⟨.hbm, 904, rfl⟩
abbrev main_call3_call0_v39 : Ref sig .tc := ⟨.hbm, 905, rfl⟩
abbrev main_call3_call0_v40 : Ref sig .tc := ⟨.hbm, 906, rfl⟩
abbrev main_call3_call0_c_9 : Ref sig .tc := ⟨.hbm, 907, rfl⟩
abbrev main_call3_call0_v41 : Ref sig .tc := ⟨.hbm, 908, rfl⟩
abbrev main_call3_call0_v42 : Ref sig .tc := ⟨.hbm, 909, rfl⟩
abbrev main_call3_call0_c_10 : Ref sig .tc := ⟨.hbm, 910, rfl⟩
abbrev main_call3_call0_v43 : Ref sig .tc := ⟨.hbm, 911, rfl⟩
abbrev main_call3_call0_v44 : Ref sig .tc := ⟨.hbm, 912, rfl⟩
abbrev main_call3_call0_v45 : Ref sig .tc := ⟨.hbm, 913, rfl⟩
abbrev main_call3_call0_v46 : Ref sig .tc := ⟨.hbm, 914, rfl⟩
abbrev main_call3_call0_v47 : Ref sig .tc := ⟨.hbm, 915, rfl⟩
abbrev main_call3_call0_c_11 : Ref sig .tc := ⟨.hbm, 916, rfl⟩
abbrev main_call3_call0_v48 : Ref sig .tc := ⟨.hbm, 917, rfl⟩
abbrev main_call3_call0_v49 : Ref sig .tc := ⟨.hbm, 918, rfl⟩
abbrev main_call3_call0_c_12 : Ref sig .tc := ⟨.hbm, 919, rfl⟩
abbrev main_call3_call0_v50 : Ref sig .tc := ⟨.hbm, 920, rfl⟩
abbrev main_call3_call0_v51 : Ref sig .tc := ⟨.hbm, 921, rfl⟩
abbrev main_call3_call0_v52 : Ref sig .tc := ⟨.hbm, 922, rfl⟩
abbrev main_call3_call0_v53 : Ref sig .tc := ⟨.hbm, 923, rfl⟩
abbrev main_call3_call0_v54 : Ref sig .tc := ⟨.hbm, 924, rfl⟩
abbrev main_call3_call0_c_13 : Ref sig .tc := ⟨.hbm, 925, rfl⟩
abbrev main_call3_call0_v55 : Ref sig .tc := ⟨.hbm, 926, rfl⟩
abbrev main_call3_call0_v56 : Ref sig .tc := ⟨.hbm, 927, rfl⟩
abbrev main_call3_call0_c_14 : Ref sig .tc := ⟨.hbm, 928, rfl⟩
abbrev main_call3_call0_v57 : Ref sig .tc := ⟨.hbm, 929, rfl⟩
abbrev main_call3_call0_v58 : Ref sig .tc := ⟨.hbm, 930, rfl⟩
abbrev main_call3_call0_v59 : Ref sig .tc := ⟨.hbm, 931, rfl⟩
abbrev main_call3_call0_v60 : Ref sig .tc := ⟨.hbm, 932, rfl⟩
abbrev main_call3_call0_v61 : Ref sig .tc := ⟨.hbm, 933, rfl⟩
abbrev main_call3_call0_c_15 : Ref sig .tc := ⟨.hbm, 934, rfl⟩
abbrev main_call3_call0_v62 : Ref sig .tc := ⟨.hbm, 935, rfl⟩
abbrev main_call3_call0_v63 : Ref sig .tc := ⟨.hbm, 936, rfl⟩
abbrev main_call3_call0_c_16 : Ref sig .tc := ⟨.hbm, 937, rfl⟩
abbrev main_call3_call0_v64 : Ref sig .tc := ⟨.hbm, 938, rfl⟩
abbrev main_call3_call0_v65 : Ref sig .tc := ⟨.hbm, 939, rfl⟩
abbrev main_call3_call0_v66 : Ref sig .tc := ⟨.hbm, 940, rfl⟩
abbrev main_call3_call0_v67 : Ref sig .tc := ⟨.hbm, 941, rfl⟩
abbrev main_call3_call0_v68 : Ref sig .tc := ⟨.hbm, 942, rfl⟩
abbrev main_call3_call0_v69 : Ref sig .tc := ⟨.hbm, 943, rfl⟩
abbrev main_call3_call0_v70 : Ref sig .tc := ⟨.hbm, 944, rfl⟩
abbrev main_call3_call0_v71 : Ref sig .tc := ⟨.hbm, 945, rfl⟩
abbrev main_call3_call0_c_17 : Ref sig .tc := ⟨.hbm, 946, rfl⟩
abbrev main_call3_call0_v72 : Ref sig .tc := ⟨.hbm, 947, rfl⟩
abbrev main_call3_call0_v73 : Ref sig .tc := ⟨.hbm, 948, rfl⟩
abbrev main_call3_call0_v74 : Ref sig .tc := ⟨.hbm, 949, rfl⟩
abbrev main_call3_call0_c_18 : Ref sig .tc := ⟨.hbm, 950, rfl⟩
abbrev main_call3_call0_v75 : Ref sig .tc := ⟨.hbm, 951, rfl⟩
abbrev main_call3_call0_v76 : Ref sig .tc := ⟨.hbm, 952, rfl⟩
abbrev main_call3_call0_c_19 : Ref sig .tc := ⟨.hbm, 953, rfl⟩
abbrev main_call3_call0_v77 : Ref sig .tc := ⟨.hbm, 954, rfl⟩
abbrev main_call3_call0_v78 : Ref sig .tc := ⟨.hbm, 955, rfl⟩
abbrev main_call3_call0_v79 : Ref sig .tc := ⟨.hbm, 956, rfl⟩
abbrev main_call3_call0_v80 : Ref sig .tc := ⟨.hbm, 957, rfl⟩
abbrev main_call3_call0_v81 : Ref sig .tc := ⟨.hbm, 958, rfl⟩
abbrev main_call3_call0_c_20 : Ref sig .tc := ⟨.hbm, 959, rfl⟩
abbrev main_call3_call0_v82 : Ref sig .tc := ⟨.hbm, 960, rfl⟩
abbrev main_call3_call0_v83 : Ref sig .tc := ⟨.hbm, 961, rfl⟩
abbrev main_call3_call0_c_21 : Ref sig .tc := ⟨.hbm, 962, rfl⟩
abbrev main_call3_call0_v84 : Ref sig .tc := ⟨.hbm, 963, rfl⟩
abbrev main_call3_call0_v85 : Ref sig .tc := ⟨.hbm, 964, rfl⟩
abbrev main_call3_call0_v86 : Ref sig .tc := ⟨.hbm, 965, rfl⟩
abbrev main_call3_call0_v87 : Ref sig .tc := ⟨.hbm, 966, rfl⟩
abbrev main_call3_call0_v88 : Ref sig .tc := ⟨.hbm, 967, rfl⟩
abbrev main_call3_call0_c_22 : Ref sig .tc := ⟨.hbm, 968, rfl⟩
abbrev main_call3_call0_v89 : Ref sig .tc := ⟨.hbm, 969, rfl⟩
abbrev main_call3_call0_v90 : Ref sig .tc := ⟨.hbm, 970, rfl⟩
abbrev main_call3_call0_c_23 : Ref sig .tc := ⟨.hbm, 971, rfl⟩
abbrev main_call3_call0_v91 : Ref sig .tc := ⟨.hbm, 972, rfl⟩
abbrev main_call3_call0_v92 : Ref sig .tc := ⟨.hbm, 973, rfl⟩
abbrev main_call3_call0_v93 : Ref sig .tc := ⟨.hbm, 974, rfl⟩
abbrev main_call3_call0_v94 : Ref sig .tc := ⟨.hbm, 975, rfl⟩
abbrev main_call3_call0_v95 : Ref sig .tc := ⟨.hbm, 976, rfl⟩
abbrev main_call3_call0_c_24 : Ref sig .tc := ⟨.hbm, 977, rfl⟩
abbrev main_call3_call0_v96 : Ref sig .tc := ⟨.hbm, 978, rfl⟩
abbrev main_call3_call0_v97 : Ref sig .tc := ⟨.hbm, 979, rfl⟩
abbrev main_call3_call0_c_25 : Ref sig .tc := ⟨.hbm, 980, rfl⟩
abbrev main_call3_call0_v98 : Ref sig .tc := ⟨.hbm, 981, rfl⟩
abbrev main_call3_call0_v99 : Ref sig .tc := ⟨.hbm, 982, rfl⟩
abbrev main_call3_call0_v100 : Ref sig .tc := ⟨.hbm, 983, rfl⟩
abbrev main_call3_call0_v101 : Ref sig .tc := ⟨.hbm, 984, rfl⟩
abbrev main_call3_call0_v102 : Ref sig .tc := ⟨.hbm, 985, rfl⟩
abbrev main_call3_call0_v103 : Ref sig .tc := ⟨.hbm, 986, rfl⟩
abbrev main_call3_call0_v104 : Ref sig .tc := ⟨.hbm, 987, rfl⟩
abbrev main_call3_call0_v105 : Ref sig .tc := ⟨.hbm, 988, rfl⟩
abbrev main_call3_call0_c_26 : Ref sig .tc := ⟨.hbm, 989, rfl⟩
abbrev main_call3_call0_v106 : Ref sig .tc := ⟨.hbm, 990, rfl⟩
abbrev main_call3_call0_v107 : Ref sig .tc := ⟨.hbm, 991, rfl⟩
abbrev main_call3_call0_v108 : Ref sig .tc := ⟨.hbm, 992, rfl⟩
abbrev main_call3_call0_c_27 : Ref sig .tc := ⟨.hbm, 993, rfl⟩
abbrev main_call3_call0_v109 : Ref sig .tc := ⟨.hbm, 994, rfl⟩
abbrev main_call3_call0_v110 : Ref sig .tc := ⟨.hbm, 995, rfl⟩
abbrev main_call3_call0_c_28 : Ref sig .tc := ⟨.hbm, 996, rfl⟩
abbrev main_call3_call0_v111 : Ref sig .tc := ⟨.hbm, 997, rfl⟩
abbrev main_call3_call0_v112 : Ref sig .tc := ⟨.hbm, 998, rfl⟩
abbrev main_call3_call0_v113 : Ref sig .tc := ⟨.hbm, 999, rfl⟩
abbrev main_call3_call0_v114 : Ref sig .tc := ⟨.hbm, 1000, rfl⟩
abbrev main_call3_call0_v115 : Ref sig .tc := ⟨.hbm, 1001, rfl⟩
abbrev main_call3_call0_c_29 : Ref sig .tc := ⟨.hbm, 1002, rfl⟩
abbrev main_call3_call0_v116 : Ref sig .tc := ⟨.hbm, 1003, rfl⟩
abbrev main_call3_call0_v117 : Ref sig .tc := ⟨.hbm, 1004, rfl⟩
abbrev main_call3_call0_c_30 : Ref sig .tc := ⟨.hbm, 1005, rfl⟩
abbrev main_call3_call0_v118 : Ref sig .tc := ⟨.hbm, 1006, rfl⟩
abbrev main_call3_call0_v119 : Ref sig .tc := ⟨.hbm, 1007, rfl⟩
abbrev main_call3_call0_v120 : Ref sig .tc := ⟨.hbm, 1008, rfl⟩
abbrev main_call3_call0_v121 : Ref sig .tc := ⟨.hbm, 1009, rfl⟩
abbrev main_call3_call0_v122 : Ref sig .tc := ⟨.hbm, 1010, rfl⟩
abbrev main_call3_call0_c_31 : Ref sig .tc := ⟨.hbm, 1011, rfl⟩
abbrev main_call3_call0_v123 : Ref sig .tc := ⟨.hbm, 1012, rfl⟩
abbrev main_call3_call0_v124 : Ref sig .tc := ⟨.hbm, 1013, rfl⟩
abbrev main_call3_call0_c_32 : Ref sig .tc := ⟨.hbm, 1014, rfl⟩
abbrev main_call3_call0_v125 : Ref sig .tc := ⟨.hbm, 1015, rfl⟩
abbrev main_call3_call0_v126 : Ref sig .tc := ⟨.hbm, 1016, rfl⟩
abbrev main_call3_call0_v127 : Ref sig .tc := ⟨.hbm, 1017, rfl⟩
abbrev main_call3_call0_v128 : Ref sig .tc := ⟨.hbm, 1018, rfl⟩
abbrev main_call3_call0_v129 : Ref sig .tc := ⟨.hbm, 1019, rfl⟩
abbrev main_call3_call0_c_33 : Ref sig .tc := ⟨.hbm, 1020, rfl⟩
abbrev main_call3_call0_v130 : Ref sig .tc := ⟨.hbm, 1021, rfl⟩
abbrev main_call3_call0_v131 : Ref sig .tc := ⟨.hbm, 1022, rfl⟩
abbrev main_call3_call0_c_34 : Ref sig .tc := ⟨.hbm, 1023, rfl⟩
abbrev main_call3_call0_v132 : Ref sig .tc := ⟨.hbm, 1024, rfl⟩
abbrev main_call3_call0_v133 : Ref sig .tc := ⟨.hbm, 1025, rfl⟩
abbrev main_call3_call0_v134 : Ref sig .tc := ⟨.hbm, 1026, rfl⟩
abbrev main_call3_call0_v135 : Ref sig .tc := ⟨.hbm, 1027, rfl⟩
abbrev main_call3_call0_v136 : Ref sig .tc := ⟨.hbm, 1028, rfl⟩
abbrev main_call3_call0_v137 : Ref sig .tc := ⟨.hbm, 1029, rfl⟩
abbrev main_call3_call0_v138 : Ref sig .tc := ⟨.hbm, 1030, rfl⟩
abbrev main_call3_call0_v139 : Ref sig .tc := ⟨.hbm, 1031, rfl⟩
abbrev main_call3_call0_c_35 : Ref sig .tc := ⟨.hbm, 1032, rfl⟩
abbrev main_call3_call0_v140 : Ref sig .tc := ⟨.hbm, 1033, rfl⟩
abbrev main_call3_call0_v141 : Ref sig .tc := ⟨.hbm, 1034, rfl⟩
abbrev main_call3_call0_v142 : Ref sig .tc := ⟨.hbm, 1035, rfl⟩
abbrev main_call3_call0_c_36 : Ref sig .tc := ⟨.hbm, 1036, rfl⟩
abbrev main_call3_call0_v143 : Ref sig .tc := ⟨.hbm, 1037, rfl⟩
abbrev main_call3_call0_v144 : Ref sig .tc := ⟨.hbm, 1038, rfl⟩
abbrev main_call3_call0_c_37 : Ref sig .tc := ⟨.hbm, 1039, rfl⟩
abbrev main_call3_call0_v145 : Ref sig .tc := ⟨.hbm, 1040, rfl⟩
abbrev main_call3_call0_v146 : Ref sig .tc := ⟨.hbm, 1041, rfl⟩
abbrev main_call3_call0_v147 : Ref sig .tc := ⟨.hbm, 1042, rfl⟩
abbrev main_call3_call0_v148 : Ref sig .tc := ⟨.hbm, 1043, rfl⟩
abbrev main_call3_call0_v149 : Ref sig .tc := ⟨.hbm, 1044, rfl⟩
abbrev main_call3_call0_c_38 : Ref sig .tc := ⟨.hbm, 1045, rfl⟩
abbrev main_call3_call0_v150 : Ref sig .tc := ⟨.hbm, 1046, rfl⟩
abbrev main_call3_call0_v151 : Ref sig .tc := ⟨.hbm, 1047, rfl⟩
abbrev main_call3_call0_c_39 : Ref sig .tc := ⟨.hbm, 1048, rfl⟩
abbrev main_call3_call0_v152 : Ref sig .tc := ⟨.hbm, 1049, rfl⟩
abbrev main_call3_call0_v153 : Ref sig .tc := ⟨.hbm, 1050, rfl⟩
abbrev main_call3_call0_v154 : Ref sig .tc := ⟨.hbm, 1051, rfl⟩
abbrev main_call3_call0_v155 : Ref sig .tc := ⟨.hbm, 1052, rfl⟩
abbrev main_call3_call0_v156 : Ref sig .tc := ⟨.hbm, 1053, rfl⟩
abbrev main_call3_call0_c_40 : Ref sig .tc := ⟨.hbm, 1054, rfl⟩
abbrev main_call3_call0_v157 : Ref sig .tc := ⟨.hbm, 1055, rfl⟩
abbrev main_call3_call0_v158 : Ref sig .tc := ⟨.hbm, 1056, rfl⟩
abbrev main_call3_call0_c_41 : Ref sig .tc := ⟨.hbm, 1057, rfl⟩
abbrev main_call3_call0_v159 : Ref sig .tc := ⟨.hbm, 1058, rfl⟩
abbrev main_call3_call0_v160 : Ref sig .tc := ⟨.hbm, 1059, rfl⟩
abbrev main_call3_call0_v161 : Ref sig .tc := ⟨.hbm, 1060, rfl⟩
abbrev main_call3_call0_v162 : Ref sig .tc := ⟨.hbm, 1061, rfl⟩
abbrev main_call3_call0_v163 : Ref sig .tc := ⟨.hbm, 1062, rfl⟩
abbrev main_call3_call0_c_42 : Ref sig .tc := ⟨.hbm, 1063, rfl⟩
abbrev main_call3_call0_v164 : Ref sig .tc := ⟨.hbm, 1064, rfl⟩
abbrev main_call3_call0_v165 : Ref sig .tc := ⟨.hbm, 1065, rfl⟩
abbrev main_call3_call0_c_43 : Ref sig .tc := ⟨.hbm, 1066, rfl⟩
abbrev main_call3_call0_v166 : Ref sig .tc := ⟨.hbm, 1067, rfl⟩
abbrev main_call3_call0_v167 : Ref sig .tc := ⟨.hbm, 1068, rfl⟩
abbrev main_call3_call0_v168 : Ref sig .tc := ⟨.hbm, 1069, rfl⟩
abbrev main_call3_call0_v169 : Ref sig .tc := ⟨.hbm, 1070, rfl⟩
abbrev main_call3_call0_v170 : Ref sig .tc := ⟨.hbm, 1071, rfl⟩
abbrev main_call3_v23_0 : Ref sig .tc := ⟨.hbm, 1072, rfl⟩
abbrev main_call3_call0_v172 : Ref sig .tc := ⟨.hbm, 1073, rfl⟩
abbrev main_call3_call0_v173 : Ref sig .tc := ⟨.hbm, 1074, rfl⟩
abbrev main_call3_call0_c_44 : Ref sig .tc := ⟨.hbm, 1075, rfl⟩
abbrev main_call3_call0_v174 : Ref sig .tc := ⟨.hbm, 1076, rfl⟩
abbrev main_call3_v23_1 : Ref sig .tc := ⟨.hbm, 1077, rfl⟩
abbrev main_call3_v24 : Ref sig .tc := ⟨.hbm, 1078, rfl⟩
abbrev main_call3_c_3 : Ref sig .tc := ⟨.hbm, 1079, rfl⟩
abbrev main_call3_v25 : Ref sig .tc := ⟨.hbm, 1080, rfl⟩
abbrev main_call3_v26 : Ref sig .tc := ⟨.hbm, 1081, rfl⟩
abbrev main_call3_c_4 : Ref sig .tc := ⟨.hbm, 1082, rfl⟩
abbrev main_call3_v27 : Ref sig .tc := ⟨.hbm, 1083, rfl⟩
abbrev main_call3_v28 : Ref sig .tc := ⟨.hbm, 1084, rfl⟩
abbrev main_call3_v29 : Ref sig .tc := ⟨.hbm, 1085, rfl⟩
abbrev main_call3_cst : Ref sig .tc := ⟨.hbm, 1086, rfl⟩
abbrev main_call3_v30 : Ref sig .tc := ⟨.hbm, 1087, rfl⟩
abbrev main_call3_v31 : Ref sig .tc := ⟨.hbm, 1088, rfl⟩
abbrev main_call3_v32 : Ref sig .tc := ⟨.hbm, 1089, rfl⟩
abbrev main_call3_v33 : Ref sig .tc := ⟨.hbm, 1090, rfl⟩
abbrev main_call3_v34 : Ref sig .tc := ⟨.hbm, 1091, rfl⟩
abbrev main_call3_v35 : Ref sig .tc := ⟨.hbm, 1092, rfl⟩
abbrev main_call3_v36 : Ref sig .tc := ⟨.hbm, 1093, rfl⟩
abbrev main_call3_v37 : Ref sig .tc := ⟨.hbm, 1094, rfl⟩
abbrev main_v64 : Ref sig .tc := ⟨.hbm, 1095, rfl⟩
abbrev main_v65 : Ref sig .tc := ⟨.hbm, 1096, rfl⟩
abbrev main_v66 : Ref sig .tc := ⟨.hbm, 1097, rfl⟩
abbrev main_v67 : Ref sig .tc := ⟨.hbm, 1098, rfl⟩
abbrev main_v68 : Ref sig .tc := ⟨.hbm, 1099, rfl⟩
abbrev main_cst_19 : Ref sig .tc := ⟨.hbm, 1100, rfl⟩
abbrev main_v69 : Ref sig .tc := ⟨.hbm, 1101, rfl⟩
abbrev main_v70 : Ref sig .tc := ⟨.hbm, 1102, rfl⟩
abbrev main_v71 : Ref sig .tc := ⟨.hbm, 1103, rfl⟩
abbrev main_values_20 : Ref sig .tc := ⟨.hbm, 1104, rfl⟩
abbrev main_indices_21 : Ref sig .tc := ⟨.hbm, 1105, rfl⟩
abbrev main_v72 : Ref sig .tc := ⟨.hbm, 1106, rfl⟩
abbrev main_v73 : Ref sig .tc := ⟨.hbm, 1107, rfl⟩
abbrev main_v74 : Ref sig .tc := ⟨.hbm, 1108, rfl⟩
abbrev main_v75 : Ref sig .tc := ⟨.hbm, 1109, rfl⟩
abbrev main_c_22 : Ref sig .tc := ⟨.hbm, 1110, rfl⟩
abbrev main_v76 : Ref sig .tc := ⟨.hbm, 1111, rfl⟩
abbrev main_v77 : Ref sig .tc := ⟨.hbm, 1112, rfl⟩
abbrev main_c_23 : Ref sig .tc := ⟨.hbm, 1113, rfl⟩
abbrev main_v78 : Ref sig .tc := ⟨.hbm, 1114, rfl⟩
abbrev main_v79 : Ref sig .tc := ⟨.hbm, 1115, rfl⟩
abbrev main_v80 : Ref sig .tc := ⟨.hbm, 1116, rfl⟩
abbrev main_v81 : Ref sig .tc := ⟨.hbm, 1117, rfl⟩
abbrev main_v82 : Ref sig .tc := ⟨.hbm, 1118, rfl⟩
abbrev main_v83 : Ref sig .tc := ⟨.hbm, 1119, rfl⟩
abbrev main_c_24 : Ref sig .tc := ⟨.hbm, 1120, rfl⟩
abbrev main_v84 : Ref sig .tc := ⟨.hbm, 1121, rfl⟩
abbrev main_v85 : Ref sig .tc := ⟨.hbm, 1122, rfl⟩
abbrev main_c_25 : Ref sig .tc := ⟨.hbm, 1123, rfl⟩
abbrev main_v86 : Ref sig .tc := ⟨.hbm, 1124, rfl⟩
abbrev main_v87 : Ref sig .tc := ⟨.hbm, 1125, rfl⟩
abbrev main_v88 : Ref sig .tc := ⟨.hbm, 1126, rfl⟩
abbrev main_v89 : Ref sig .tc := ⟨.hbm, 1127, rfl⟩
abbrev main_v90 : Ref sig .tc := ⟨.hbm, 1128, rfl⟩
abbrev main_v91 : Ref sig .tc := ⟨.hbm, 1129, rfl⟩
abbrev main_v92 : Ref sig .tc := ⟨.hbm, 1130, rfl⟩
abbrev main_cst_26 : Ref sig .tc := ⟨.hbm, 1131, rfl⟩
abbrev main_v93 : Ref sig .tc := ⟨.hbm, 1132, rfl⟩
abbrev main_v94 : Ref sig .tc := ⟨.hbm, 1133, rfl⟩
abbrev main_cst_27 : Ref sig .tc := ⟨.hbm, 1134, rfl⟩
abbrev main_v95 : Ref sig .tc := ⟨.hbm, 1135, rfl⟩
abbrev main_cst_28 : Ref sig .tc := ⟨.hbm, 1136, rfl⟩
abbrev main_v96 : Ref sig .tc := ⟨.hbm, 1137, rfl⟩
abbrev main_v97 : Ref sig .tc := ⟨.hbm, 1138, rfl⟩
abbrev main_v98 : Ref sig .tc := ⟨.hbm, 1139, rfl⟩
abbrev main_v99 : Ref sig .tc := ⟨.hbm, 1140, rfl⟩
abbrev main_v100 : Ref sig .tc := ⟨.hbm, 1141, rfl⟩
abbrev main_v101 : Ref sig .tc := ⟨.hbm, 1142, rfl⟩
abbrev main_cst_29 : Ref sig .tc := ⟨.hbm, 1143, rfl⟩
abbrev main_v102 : Ref sig .tc := ⟨.hbm, 1144, rfl⟩
abbrev main_v103 : Ref sig .tc := ⟨.hbm, 1145, rfl⟩
abbrev main_v104 : Ref sig .tc := ⟨.hbm, 1146, rfl⟩
abbrev main_v105 : Ref sig .tc := ⟨.hbm, 1147, rfl⟩
abbrev main_v106 : Ref sig .tc := ⟨.hbm, 1148, rfl⟩
abbrev main_v107 : Ref sig .tc := ⟨.hbm, 1149, rfl⟩
abbrev main_v108 : Ref sig .tc := ⟨.hbm, 1150, rfl⟩
abbrev main_cst_30 : Ref sig .tc := ⟨.hbm, 1151, rfl⟩
abbrev main_v109 : Ref sig .tc := ⟨.hbm, 1152, rfl⟩
abbrev main_v110 : Ref sig .tc := ⟨.hbm, 1153, rfl⟩
abbrev main_v111 : Ref sig .tc := ⟨.hbm, 1154, rfl⟩

abbrev nD : Nat := 1
abbrev τ : Topo := Topo.v7x

variable {F : FTy → Type} [FloatOps F]
-- ==== Proof.Net.lean ====
/-
  The bitonic sorting network on sixteen wires, over any pair of operations (`lo`, `hi`), and the fact the kernel needs of it:
  run with `and` and `or` on sixteen truth values of which at most six hold, the last six wires carry all of them. The proof
  sorts the two halves by checking the 256 inputs of each, merges by checking the 81 pairs of sorted halves, and counts: a
  comparator keeps the number of wires that hold.
-/
module

public import Idealize.ShloMosaic.PureOps.Ideal.Laws
public import Mathlib.Algebra.BigOperators.Fin

@[expose] public section

namespace Cert.Net

/-- Bit `j` (a power of two) of the wire's number is clear. -/
def clear (j : ℕ) (i : Fin 16) : Bool := Nat.beq (i.val / j % 2) 0

/-- The wire a comparator of stride `j` pairs with wire `i`. -/
def mate (j : ℕ) (i : Fin 16) : Fin 16 := ⟨(bif clear j i then i.val + j else i.val - j) % 16, Nat.mod_lt _ (by decide)⟩

/-- One layer of the network, of block `k` and stride `j`: each wire is compared with its mate, the lower of the two wires first;
    in a block whose bit `k` is clear the lower wire takes `lo`, in the other blocks `hi`. -/
def layer {α : Type} (lo hi : α → α → α) (k j : ℕ) (a : Fin 16 → α) : Fin 16 → α := fun i =>
  bif clear j i then (bif clear k i then lo (a i) (a (mate j i)) else hi (a i) (a (mate j i)))
  else (bif clear k i then hi (a (mate j i)) (a i) else lo (a (mate j i)) (a i))

/-- The first six layers: they sort the first eight wires upwards and the last eight downwards. -/
def halves {α : Type} (lo hi : α → α → α) (a : Fin 16 → α) : Fin 16 → α :=
  layer lo hi 8 1 <| layer lo hi 8 2 <| layer lo hi 8 4 <| layer lo hi 4 1 <| layer lo hi 4 2 <| layer lo hi 2 1 a

/-- The last four layers: the bitonic merge. -/
def merge {α : Type} (lo hi : α → α → α) (a : Fin 16 → α) : Fin 16 → α :=
  layer lo hi 16 1 <| layer lo hi 16 2 <| layer lo hi 16 4 <| layer lo hi 16 8 a

/-- The whole network. -/
def net {α : Type} (lo hi : α → α → α) (a : Fin 16 → α) : Fin 16 → α := merge lo hi (halves lo hi a)

section Map
variable {α β : Type} {lo hi : α → α → α} {lo' hi' : β → β → β} (f : α → β)
  (hlo : ∀ x y, f (lo x y) = lo' (f x) (f y)) (hhi : ∀ x y, f (hi x y) = hi' (f x) (f y))
include hlo hhi

/-- A map that carries the two operations along carries a layer along. -/
theorem layer_map (k j : ℕ) (a : Fin 16 → α) :
    (fun i => f (layer lo hi k j a i)) = layer lo' hi' k j (fun i => f (a i)) := by
  funext i
  unfold layer
  cases clear j i <;> cases clear k i <;> simp [hlo, hhi]

/-- A map that carries the two operations along carries the network along. -/
theorem net_map (a : Fin 16 → α) (i : Fin 16) : f (net lo hi a i) = net lo' hi' (fun i => f (a i)) i := by
  have h := layer_map f hlo hhi
  refine congrFun (f := fun i => f (net lo hi a i)) ?_ i
  unfold net merge halves
  simp only [h]

end Map

/-- The number of wires that hold. -/
def count (b : Fin 16 → Bool) : ℕ := ∑ i, (b i).toNat

/-- A layer keeps the number of wires that hold, when its stride pairs the wires off inside a block. -/
theorem count_layer (k j : ℕ) (h₁ : ∀ i, mate j (mate j i) = i) (h₂ : ∀ i, clear j (mate j i) = !clear j i)
    (h₃ : ∀ i, clear k (mate j i) = clear k i) (b : Fin 16 → Bool) : count (layer and or k j b) = count b := by
  have e : ∀ c : Fin 16 → Bool, ∑ i, (c (mate j i)).toNat = count c := fun c =>
    Equiv.sum_comp (⟨mate j, mate j, h₁, h₁⟩ : Equiv.Perm (Fin 16)) fun i => (c i).toNat
  have hp : ∀ i, (layer and or k j b i).toNat + (layer and or k j b (mate j i)).toNat = (b i).toNat + (b (mate j i)).toNat := by
    intro i
    unfold layer
    rw [h₂, h₃, h₁]
    cases clear j i <;> cases clear k i <;> cases b i <;> cases b (mate j i) <;> rfl
  have hs : count (layer and or k j b) + count (layer and or k j b) = count b + count b := by
    calc count (layer and or k j b) + count (layer and or k j b)
        = count (layer and or k j b) + ∑ i, (layer and or k j b (mate j i)).toNat := by rw [e]
      _ = count b + ∑ i, (b (mate j i)).toNat := by
          unfold count
          rw [← Finset.sum_add_distrib, ← Finset.sum_add_distrib]
          exact Finset.sum_congr rfl fun i _ => hp i
      _ = count b + count b := by rw [e]
  omega

/-- The network keeps the number of wires that hold. -/
theorem count_net (b : Fin 16 → Bool) : count (net and or b) = count b := by
  unfold net merge halves
  rw [count_layer 16 1 (by decide) (by decide) (by decide), count_layer 16 2 (by decide) (by decide) (by decide),
    count_layer 16 4 (by decide) (by decide) (by decide), count_layer 16 8 (by decide) (by decide) (by decide),
    count_layer 8 1 (by decide) (by decide) (by decide), count_layer 8 2 (by decide) (by decide) (by decide),
    count_layer 8 4 (by decide) (by decide) (by decide), count_layer 4 1 (by decide) (by decide) (by decide),
    count_layer 4 2 (by decide) (by decide) (by decide), count_layer 2 1 (by decide) (by decide) (by decide)]

/-- Wires of one half depend on that half only, for a stride below eight. -/
theorem layer_half {α : Type} {lo hi : α → α → α} (k j : ℕ) (s : Bool) (h : ∀ i, clear 8 (mate j i) = clear 8 i)
    {a b : Fin 16 → α} (hab : ∀ i, clear 8 i = s → a i = b i) :
    ∀ i, clear 8 i = s → layer lo hi k j a i = layer lo hi k j b i := by
  intro i hi
  unfold layer
  rw [hab i hi, hab (mate j i) ((h i).trans hi)]

/-- Each half of `halves` depends on that half only. -/
theorem halves_half {α : Type} {lo hi : α → α → α} (s : Bool) {a b : Fin 16 → α} (hab : ∀ i, clear 8 i = s → a i = b i) :
    ∀ i, clear 8 i = s → halves lo hi a i = halves lo hi b i := by
  unfold halves
  exact layer_half 8 1 s (by decide) <| layer_half 8 2 s (by decide) <| layer_half 8 4 s (by decide) <|
    layer_half 4 1 s (by decide) <| layer_half 4 2 s (by decide) <| layer_half 2 1 s (by decide) hab

/-- The first half after six layers, on every input: `p` wires hold, the last ones. -/
theorem first_sorted : ∀ b0 b1 b2 b3 b4 b5 b6 b7 : Bool, ∃ p : Fin 9, ∀ i : Fin 16, clear 8 i = true →
    halves and or ![b0, b1, b2, b3, b4, b5, b6, b7, false, false, false, false, false, false, false, false] i
      = decide (8 - p.val ≤ i.val) := by
  decide +kernel

/-- The second half after six layers, on every input: `q` wires hold, the first ones. -/
theorem second_sorted : ∀ b0 b1 b2 b3 b4 b5 b6 b7 : Bool, ∃ q : Fin 9, ∀ i : Fin 16, clear 8 i = false →
    halves and or ![false, false, false, false, false, false, false, false, b0, b1, b2, b3, b4, b5, b6, b7] i
      = decide (i.val < 8 + q.val) := by
  decide +kernel

/-- The merge sorts an upward half followed by a downward one. -/
theorem merge_sorted : ∀ p q : Fin 9, ∀ i j : Fin 16, i ≤ j →
    merge and or (fun i => bif clear 8 i then decide (8 - p.val ≤ i.val) else decide (i.val < 8 + q.val)) i = true →
    merge and or (fun i => bif clear 8 i then decide (8 - p.val ≤ i.val) else decide (i.val < 8 + q.val)) j = true := by
  decide +kernel

/-- The network sorts truth values: a wire after one that holds holds. -/
theorem net_sorted (b : Fin 16 → Bool) (i j : Fin 16) (hij : i ≤ j) (h : net and or b i = true) : net and or b j = true := by
  obtain ⟨p, hp⟩ := first_sorted (b 0) (b 1) (b 2) (b 3) (b 4) (b 5) (b 6) (b 7)
  obtain ⟨q, hq⟩ := second_sorted (b 8) (b 9) (b 10) (b 11) (b 12) (b 13) (b 14) (b 15)
  have e : halves and or b = fun i => bif clear 8 i then decide (8 - p.val ≤ i.val) else decide (i.val < 8 + q.val) := by
    funext i
    cases hi : clear 8 i
    · rw [cond_false, ← hq i hi]
      refine halves_half false (fun i hi => ?_) i hi
      fin_cases i <;> first | rfl | exact absurd hi (by decide)
    · rw [cond_true, ← hp i hi]
      refine halves_half true (fun i hi => ?_) i hi
      fin_cases i <;> first | rfl | exact absurd hi (by decide)
  unfold net at h ⊢
  rw [e] at h ⊢
  exact merge_sorted p q i j hij h

/-- The wire of place `k` among the last six. -/
def last (k : Fin 6) : Fin 16 := ⟨10 + k.val, by omega⟩

/-- THE SORT'S USE: when at most six wires hold, the last six wires of the sorted network carry all of them. -/
theorem last_count (b : Fin 16 → Bool) (h : count b ≤ 6) : ∑ k, (net and or b (last k)).toNat = count b := by
  rw [← count_net b] at h ⊢
  have hs := net_sorted b
  generalize net and or b = c at h hs ⊢
  have hsum : count c = ∑ k : Fin 10, (c (Fin.castAdd 6 k)).toNat + ∑ k, (c (last k)).toNat :=
    Fin.sum_univ_add (a := 10) (b := 6) fun i => (c i).toNat
  cases h10 : c 10
  · have hz : ∑ k : Fin 10, (c (Fin.castAdd 6 k)).toNat = 0 := by
      refine Finset.sum_eq_zero fun k _ => ?_
      cases hk : c (Fin.castAdd 6 k)
      · rfl
      · have := hs _ 10 (by rw [Fin.le_def]; show k.val ≤ 10; omega) hk
        rw [h10] at this; exact absurd this (by decide)
    omega
  · have h6 : ∑ k, (c (last k)).toNat = 6 := by
      have : ∀ k, (c (last k)).toNat = 1 := fun k => by
        rw [hs 10 (last k) (by rw [Fin.le_def]; show 10 ≤ 10 + k.val; omega) h10]; rfl
      simp only [this]; rfl
    omega

end Cert.Net
-- ==== Proof.Block.lean ====
/-
  What the attention kernel computes for one block of 256 rows, in the kernel's own vector operations, and that this is what a
  grid point leaves in its block of the result.
-/
module

public import proofs.«01_k».proof.Proof.Gen.KernelIdeal.Frame
public import Idealize.ShloMosaic.Lib.Pipeline.Value
public import proofs.«01_k».proof.Proof.Net

@[expose] public section

noncomputable section

namespace Cert.Block

open Idealize.ShloMosaic Idealize.ShloMosaic.TcCoe Idealize.ShloMosaic.Tactic
open Cert.KernelIdeal Cert.KernelIdeal.Gen

variable {F : FTy → Type} [FloatOps F]

/-- The similarity scores of the block's rows: projected rows against all projected rows, times 1/8. -/
def scores (a : Vec F S256x64 .f32) (b : Vec F S2048x64 .f32) : FVec F S256x2048 .f32 :=
  mulf (matmul dot_S256x64_S2048x64_S256x2048_1_1_0_0_n_n none (shapeCast S256x64 a shapeCasts_S256x64_S256x64)
    (shapeCast S2048x64 b shapeCasts_S2048x64_S2048x64) (constant S256x2048 .f32 0x00000000#32))
    (broadcast S256x2048 (Scalar.ofBits .f32 0x3E000000#32))

/-- The scores with a sample's noise added. -/
def noisy (s : FVec F S256x2048 .f32) (g : Vec F S1x256x2048 .f32) : FVec F S256x2048 .f32 :=
  addf s (shapeCast S256x2048 g shapeCasts_S1x256x2048_S256x2048)

/-- Each of the sixteen slabs of 128 columns lies inside. -/
theorem slab_fits (c : Fin 16) : S256x2048.Slices ![0, 128 * c.val] S256x128 := by
  revert c; decide

/-- Slab `c`: columns `128 * c` up to `128 * c + 127`. -/
def slab (p : FVec F S256x2048 .f32) (c : Fin 16) : FVec F S256x128 .f32 :=
  extractStridedSlice S256x128 ![0, 128 * c.val] p (slab_fits c)

/-- The candidates: the six top slabs of the network run on the sixteen slabs, side by side. -/
def candidates (p : FVec F S256x2048 .f32) : FVec F S256x768 .f32 :=
  concatenate S256x768 1 (List.ofFn fun k : Fin 6 => ⟨S256x128, Net.net minimumf maximumf (slab p) (Net.last k)⟩)
    concatenates_S256x128_S256x128_S256x128_S256x128_S256x128_S256x128_S256x768_d1

/-- Each row's maximum, as a column. -/
def rowMax (a : FVec F S256x768 .f32) : FVec F S256x1 .f32 :=
  shapeCast S256x1 (multiReduction .maximumf [1] S256 a 0xFF800000#32 reduces_S256x768_S256 (.inl rfl) rfl) shapeCasts_S256_S256x1

/-- One removal: every entry equal to its row's maximum becomes minus infinity. -/
def remove (a : FVec F S256x768 .f32) : FVec F S256x768 .f32 :=
  select (cmpf .oeq a (broadcastTo S256x768 (rowMax a) broadcasts_S256x1_S256x768))
    (broadcast S256x768 (Scalar.ofBits .f32 0xFF800000#32)) a

/-- What 31 removals leave of the candidates. -/
def remaining (p : FVec F S256x2048 .f32) : FVec F S256x768 .f32 :=
  Scf.fold (n := k1_t1_loop.trips) (fun _ a => remove a) (candidates p)

/-- The chosen columns of each row: 1 where the noisy score is at least the largest remaining candidate, else 0. -/
def mask (p : FVec F S256x2048 .f32) : FVec F S256x2048 .f32 :=
  sitofp .f32 (extui 32 (cmpf .oge p (broadcastTo S256x2048 (rowMax (remaining p)) broadcasts_S256x1_S256x2048)) natLt_1_32)

/-- The exponentials of one head's logits. -/
def expo (q : Vec F S256x64 .f32) (k : Vec F S2048x64 .f32) : FVec F S256x2048 .f32 := exp (scores q k)

/-- Exponentials cut to a sample's chosen columns and weighted by one half over their row sum. -/
def share (e : FVec F S256x2048 .f32) (m : FVec F S256x2048 .f32) : FVec F S256x2048 .f32 :=
  mulf (mulf e m) (broadcastTo S256x2048 (divf (broadcast S256x1 (Scalar.ofBits .f32 0x3F000000#32))
    (shapeCast S256x1 (multiReduction .add [1] S256 (mulf e m) 0x00000000#32 reduces_S256x2048_S256 (.inl rfl) rfl)
      shapeCasts_S256_S256x1)) broadcasts_S256x1_S256x2048)

/-- One head: both samples' shares added, times the head's value columns. -/
def head (q : Vec F S256x64 .f32) (k v : Vec F S2048x64 .f32) (m₀ m₁ : FVec F S256x2048 .f32) : FVec F S256x64 .f32 :=
  matmul dot_S256x2048_S2048x64_S256x64_1_0_0_1_n_n none (addf (share (expo q k) m₀) (share (expo q k) m₁))
    (shapeCast S2048x64 v shapeCasts_S2048x64_S2048x64) (constant S256x64 .f32 0x00000000#32)

/-- A head's 64 columns lie inside the query block. -/
theorem cols_fit (h : Fin 16) : ∀ a, (![0, 64 * h.val] : Fin 2 → Nat) a + S256x64.size a ≤ S256x1024.size a := by
  revert h; decide

/-- A head's 64 columns lie inside the key and value blocks. -/
theorem rows_fit (h : Fin 16) : ∀ a, (![0, 64 * h.val] : Fin 2 → Nat) a + S2048x64.size a ≤ S2048x1024.size a := by
  revert h; decide

/-- Head `h`'s columns of the query block. -/
def cols (x : Vec F S256x1024 .f32) (h : Fin 16) : Vec F S256x64 .f32 :=
  View.ld x (Rect.unit (s := S256x1024) ![0, 64 * h.val] S256x64.size (cols_fit h))

/-- Head `h`'s columns of the key block or of the value block. -/
def rows (x : Vec F S2048x1024 .f32) (h : Fin 16) : Vec F S2048x64 .f32 :=
  View.ld x (Rect.unit (s := S2048x1024) ![0, 64 * h.val] S2048x64.size (rows_fit h))

/-- The sixteen heads side by side. -/
def heads (q : Vec F S256x1024 .f32) (k v : Vec F S2048x1024 .f32) (m₀ m₁ : FVec F S256x2048 .f32) : FVec F S256x1024 .f32 :=
  concatenate S256x1024 1 (List.ofFn fun h : Fin 16 => ⟨S256x64, head (cols q h) (rows k h) (rows v h) m₀ m₁⟩)
    concatenates_S256x64_S256x64_S256x64_S256x64_S256x64_S256x64_S256x64_S256x64_S256x64_S256x64_S256x64_S256x64_S256x64_S256x64_S256x64_S256x64_S256x1024_d1

/-- The first sample's noise. -/
def noise₀ (g : Vec F S2x256x2048 .f32) : Vec F S1x256x2048 .f32 :=
  View.ld g (Rect.unit (s := S2x256x2048) ![0, 0, 0] S1x256x2048.size inb_S2x256x2048_S1x256x2048_0_0_0)

/-- The second sample's noise. -/
def noise₁ (g : Vec F S2x256x2048 .f32) : Vec F S1x256x2048 .f32 :=
  View.ld g (Rect.unit (s := S2x256x2048) ![1, 0, 0] S1x256x2048.size inb_S2x256x2048_S1x256x2048_1_0_0)

/-- The block's scores from its blocks of the projected rows. -/
def blockScores (a : Vec F S256x64 .f32) (b : Vec F S2048x64 .f32) : FVec F S256x2048 .f32 :=
  scores (View.ld a (Rect.unit (s := S256x64) ![0, 0] S256x64.size inb_S256x64_S256x64_0_0))
    (View.ld b (Rect.unit (s := S2048x64) ![0, 0] S2048x64.size inb_S2048x64_S2048x64_0_0))

/-- The block of the result: all heads through the output weights. -/
def block (q : Vec F S256x1024 .f32) (k v : Vec F S2048x1024 .f32) (a : Vec F S256x64 .f32) (b : Vec F S2048x64 .f32)
    (g : Vec F S2x256x2048 .f32) (wo : Vec F S1024x1024 .f32) : FVec F S256x1024 .f32 :=
  matmul dot_S256x1024_S1024x1024_S256x1024_1_0_0_1_n_n none
    (heads q k v (mask (noisy (blockScores a b) (noise₀ g))) (mask (noisy (blockScores a b) (noise₁ g))))
    (View.ld wo (Rect.unit (s := S1024x1024) ![0, 0] S1024x1024.size inb_S1024x1024_S1024x1024_0_0))
    (constant S256x1024 .f32 0x00000000#32)

variable (V : (c : Dev nD) → (b : Ref sig .tc) → b.ty.shape.Idx → Elt F b.ty.elt)

set_option maxRecDepth 65536 in
/-- A grid point leaves the block of its input blocks in its block of the result. -/
theorem outsAt1_eq (c : Dev nD) (t : Fin cfg1.N) :
    outsAt1 V c t = block (iblk1 V c 0 t) (iblk1 V c 1 t) (iblk1 V c 2 t) (iblk1 V c 3 t) (iblk1 V c 4 t) (iblk1 V c 5 t)
      (iblk1 V c 6 t) := by
  unfold outsAt1 out1_A_7
  rw [View.read_writes_eq_canon _ _ _ (cover1_A_7 c (grid1.coords t) (ms1_0 t) (hs1_0 t) (ms1_1 t) (hs1_1 t) (ms1_2 t) (hs1_2 t)
    (ms1_3 t) (hs1_3 t) (ms1_4 t) (hs1_4 t) (ms1_5 t) (hs1_5 t) (ms1_6 t) (hs1_6 t) (ms1_7 t) (hs1_7 t) (iblk1 V c 0 t)
    (iblk1 V c 1 t) (iblk1 V c 2 t) (iblk1 V c 3 t) (iblk1 V c 4 t) (iblk1 V c 5 t) (iblk1 V c 6 t))]
  unfold kernelRun1_A; dsimp only
  sl_unfold_words
  simp only [View.readAt_eq_ld, (hs1_0 t).read_unread, (hs1_1 t).read_unread, (hs1_2 t).read_unread, (hs1_3 t).read_unread,
    (hs1_4 t).read_unread, (hs1_5 t).read_unread, (hs1_6 t).read_unread]
  refine (View.canon_unit_zero (by funext a; fin_cases a <;> rfl) _ _).trans ?_
  sl_kernel_rfl

end Cert.Block
-- ==== Proof.Select.lean ====
/-
  The threshold of a row: from 2048 entries of which exactly 32 are at least `t`, pairwise different, at most six of them in
  one lane (columns congruent modulo 128), the network keeps six candidates of each lane, 31 rounds remove the largest
  candidate, and the largest one left is `t`.
-/
module

public import proofs.«01_k».proof.Proof.Net

@[expose] public section

noncomputable section

namespace Cert.Select

open Cert.Net

variable {ι : Type} [Fintype ι]

/-- The largest entry. -/
def top (w : ι → EReal) : EReal := Finset.univ.fold max ⊥ w

/-- One round: every entry equal to the largest becomes −∞. -/
def drop (w : ι → EReal) : ι → EReal := fun c => if w c = top w then ⊥ else w c

/-- No entry exceeds the largest. -/
theorem le_top (w : ι → EReal) (c : ι) : w c ≤ top w := Finset.le_fold_max _ |>.mpr (Or.inr ⟨c, Finset.mem_univ _, le_rfl⟩)

/-- The largest entry is below `u` when every entry is. -/
theorem top_le (w : ι → EReal) (u : EReal) (h : ∀ c, w c ≤ u) : top w ≤ u :=
  Finset.fold_max_le u |>.mpr ⟨bot_le, fun c _ => h c⟩

/-- The largest entry, when it is not −∞, is an entry. -/
theorem exists_top (w : ι → EReal) (h : ⊥ < top w) : ∃ c, w c = top w := by
  by_contra hn
  have : top w < top w := Finset.fold_max_lt _ |>.mpr ⟨h, fun c _ => lt_of_le_of_ne (le_top w c) fun e => hn ⟨c, e⟩⟩
  exact lt_irrefl _ this

/-- The rounds leave `t` as the largest: `n + 1` entries are at least `t`, pairwise different, and `t` is one of them. -/
theorem top_drop (t : EReal) (ht : ⊥ < t) (n : ℕ) : ∀ w : ι → EReal, (Finset.univ.filter fun c => t ≤ w c).card = n + 1 →
    (∀ c d, t ≤ w c → w c = w d → c = d) → (∃ c, w c = t) → top (drop^[n] w) = t := by
  classical
  induction n with
  | zero =>
    intro w hn hinj ⟨c, hc⟩
    refine le_antisymm (top_le w t fun d => ?_) (hc ▸ le_top w c)
    by_contra hd
    have hd := not_le.mp hd
    have hle := Finset.card_le_one.mp (le_of_eq hn) d (by simp [hd.le]) c (by simp [hc])
    rw [hle, hc] at hd
    exact lt_irrefl _ hd
  | succ n ih =>
    intro w hn hinj ⟨c, hc⟩
    obtain ⟨m, hm⟩ := exists_top w (lt_of_lt_of_le ht (hc ▸ le_top w c))
    have htm : t ≤ w m := by rw [hm, ← hc]; exact le_top w c
    have hdrop : ∀ d, drop w d = if d = m then ⊥ else w d := by
      intro d
      unfold drop
      by_cases hd : d = m
      · rw [if_pos hd, if_pos (hd ▸ hm)]
      · rw [if_neg hd, if_neg fun e => hd (hinj m d htm (hm.trans e.symm)).symm]
    have hset : (Finset.univ.filter fun d => t ≤ drop w d) = (Finset.univ.filter fun d => t ≤ w d).erase m := by
      ext d
      simp only [Finset.mem_filter, Finset.mem_univ, true_and, Finset.mem_erase, hdrop]
      by_cases hd : d = m
      · simp [hd, ht.ne']
      · simp [hd]
    have hmem : m ∈ Finset.univ.filter fun d => t ≤ w d := by simp [htm]
    have hcm : c ≠ m := by
      intro e
      have h2 : 1 < (Finset.univ.filter fun d => t ≤ w d).card := by omega
      obtain ⟨d, hd, hdm⟩ := Finset.exists_mem_ne h2 m
      have hd := (Finset.mem_filter.mp hd).2
      refine hdm (hinj d m hd (le_antisymm ?_ ?_))
      · rw [hm]; exact le_top w d
      · rw [← e, hc]; exact hd
    rw [Function.iterate_succ_apply]
    refine ih (drop w) (by rw [hset, Finset.card_erase_of_mem hmem, hn]; rfl) ?_ ⟨c, by rw [hdrop, if_neg hcm, hc]⟩
    intro a b ha hab
    rw [hdrop] at ha hab
    rw [hdrop] at hab
    by_cases ham : a = m
    · rw [if_pos ham] at ha; exact absurd ha (not_le.mpr ht)
    · rw [if_neg ham] at ha hab
      by_cases hbm : b = m
      · rw [if_pos hbm] at hab; rw [hab] at ha; exact absurd ha (not_le.mpr ht)
      · rw [if_neg hbm] at hab; exact hinj a b ha hab

/-- The candidates of the lanes: place `k` of lane `l` is wire `10 + k` of the network run on the lane. -/
def cand (p : Fin 16 → Fin 128 → EReal) (q : Fin 6 × Fin 128) : EReal := net min max (fun c => p c q.2) (last q.1)

/-- A threshold test that respects `min` and `max` and passes at most six entries of each lane passes as many candidates as
    entries. -/
theorem sum_cand (p : Fin 16 → Fin 128 → EReal) (f : EReal → Bool) (hmin : ∀ x y, f (min x y) = (f x && f y))
    (hmax : ∀ x y, f (max x y) = (f x || f y)) (h : ∀ l, count (fun c => f (p c l)) ≤ 6) :
    ∑ q, (f (cand p q)).toNat = ∑ x : Fin 16 × Fin 128, (f (p x.1 x.2)).toNat := by
  rw [Fintype.sum_prod_type_right, Fintype.sum_prod_type_right]
  refine Finset.sum_congr rfl fun l _ => ?_
  rw [← count, ← last_count _ (h l)]
  refine Finset.sum_congr rfl fun k _ => ?_
  unfold cand
  rw [net_map f hmin hmax]

/-- A sum of truth values is the size of the set they hold on. -/
theorem sum_toNat {κ : Type} [Fintype κ] (b : κ → Bool) : ∑ x, (b x).toNat = (Finset.univ.filter fun x => b x = true).card := by
  rw [Finset.card_filter]
  exact Finset.sum_congr rfl fun x _ => by cases b x <;> rfl

/-- Entries passing a closed test minus entries passing the strict one: the entries equal to the threshold. -/
theorem card_eq {κ : Type} [Fintype κ] (w : κ → EReal) (v : EReal) :
    (Finset.univ.filter fun x => w x = v).card + (Finset.univ.filter fun x => v < w x).card
      = (Finset.univ.filter fun x => v ≤ w x).card := by
  classical
  rw [← Finset.card_union_of_disjoint]
  · congr 1
    ext x
    simp only [Finset.mem_union, Finset.mem_filter, Finset.mem_univ, true_and]
    exact ⟨fun h => h.elim (fun e => e ▸ le_rfl) le_of_lt, fun h => (eq_or_lt_of_le h).imp Eq.symm id⟩
  · exact Finset.disjoint_filter.mpr fun x _ h h' => absurd h' (by rw [h]; exact lt_irrefl v)

/-- THE THRESHOLD: 32 entries at least `t`, pairwise different, `t` among them, at most six to a lane: after the network and 31
    rounds the largest candidate is `t`. -/
theorem threshold (p : Fin 16 → Fin 128 → EReal) (t : EReal) (ht : ⊥ < t)
    (hcard : (Finset.univ.filter fun x : Fin 16 × Fin 128 => t ≤ p x.1 x.2).card = 32)
    (hinj : ∀ x y : Fin 16 × Fin 128, t ≤ p x.1 x.2 → p x.1 x.2 = p y.1 y.2 → x = y)
    (hex : ∃ x : Fin 16 × Fin 128, p x.1 x.2 = t)
    (hlane : ∀ l, (Finset.univ.filter fun c => t ≤ p c l).card ≤ 6) :
    top (drop^[31] (cand p)) = t := by
  classical
  have hle : ∀ v, t ≤ v → (Finset.univ.filter fun q => v ≤ cand p q).card
      = (Finset.univ.filter fun x : Fin 16 × Fin 128 => v ≤ p x.1 x.2).card := by
    intro v hv
    have h := sum_cand p (fun x => decide (v ≤ x)) (fun x y => by simp [Bool.decide_and]) (fun x y => by simp [Bool.decide_or])
      (fun l => by
        unfold count
        rw [sum_toNat]
        refine le_trans (Finset.card_le_card fun c => ?_) (hlane l)
        simp only [Finset.mem_filter, Finset.mem_univ, true_and, decide_eq_true_eq]
        exact le_trans hv)
    rw [sum_toNat, sum_toNat] at h
    simpa only [decide_eq_true_eq] using h
  have hlt : ∀ v, t ≤ v → (Finset.univ.filter fun q => v < cand p q).card
      = (Finset.univ.filter fun x : Fin 16 × Fin 128 => v < p x.1 x.2).card := by
    intro v hv
    have h := sum_cand p (fun x => decide (v < x)) (fun x y => by simp [Bool.decide_and]) (fun x y => by simp [Bool.decide_or])
      (fun l => by
        unfold count
        rw [sum_toNat]
        refine le_trans (Finset.card_le_card fun c => ?_) (hlane l)
        simp only [Finset.mem_filter, Finset.mem_univ, true_and, decide_eq_true_eq]
        exact fun h => le_trans hv h.le)
    rw [sum_toNat, sum_toNat] at h
    simpa only [decide_eq_true_eq] using h
  have heq : ∀ v, t ≤ v → (Finset.univ.filter fun q => cand p q = v).card
      = (Finset.univ.filter fun x : Fin 16 × Fin 128 => p x.1 x.2 = v).card := by
    intro v hv
    have h1 := card_eq (cand p) v
    have h2 := card_eq (fun x : Fin 16 × Fin 128 => p x.1 x.2) v
    have h3 := hle v hv
    have h4 := hlt v hv
    omega
  refine top_drop t ht 31 (cand p) (by rw [hle t le_rfl, hcard]) ?_ ?_
  · intro a b ha hab
    have h1 : (Finset.univ.filter fun q => cand p q = cand p a).card ≤ 1 := by
      rw [heq _ ha]
      refine Finset.card_le_one.mpr fun x hx y hy => ?_
      have hx := (Finset.mem_filter.mp hx).2
      have hy := (Finset.mem_filter.mp hy).2
      exact hinj x y (by rw [hx]; exact ha) (hx.trans hy.symm)
    exact Finset.card_le_one.mp h1 a (by simp) b (by simp [hab])
  · obtain ⟨x, hx⟩ := hex
    have h1 : 0 < (Finset.univ.filter fun q => cand p q = t).card := by
      rw [heq t le_rfl]
      exact Finset.card_pos.mpr ⟨x, by simp [hx]⟩
    obtain ⟨q, hq⟩ := Finset.card_pos.mp h1
    exact ⟨q, (Finset.mem_filter.mp hq).2⟩

end Cert.Select

end
-- ==== Proof.Order.lean ====
/-
  The order `top_k` sorts a row of 2048 entries in, and what strict separation of the 33 largest gives: the 32 positions sorted
  first are exactly the columns whose entry is at least the 32nd largest.
-/
module

public import Idealize.ShloMosaic.Lib.SortFacts
public import Idealize.ShloMosaic.Lib.ValueIdx
public import Idealize.ShloMosaic.PureOps.Ideal.Laws

@[expose] public section

noncomputable section

namespace Cert.Order

open Idealize.ShloMosaic Idealize.ShloMosaic.ValueIdx

/-- The column of the row's entry of rank `j`, greatest first, equal entries in column order. -/
def ord (row : Fin 2048 → EReal) : Fin 2048 → Fin 2048 :=
  sortedFrom fun k k' => Ideal.cmp .ogt (row k) (row k') == 1#1

/-- The test of the sort, read. -/
theorem gt_iff (x y : EReal) : (Ideal.cmp .ogt x y == 1#1) = decide (y < x) := by
  unfold Ideal.cmp
  by_cases h : y < x <;> simp [h]

/-- A later rank holds no greater entry. -/
theorem ord_anti (row : Fin 2048 → EReal) {i j : Fin 2048} (h : i ≤ j) : row (ord row j) ≤ row (ord row i) := by
  rcases eq_or_lt_of_le h with e | h
  · rw [e]
  · have := sortedFrom_noInversion (fun k k' => Ideal.cmp .ogt (row k) (row k') == 1#1)
      (fun k k' => Ideal.cmp .ogt (row k) (row k') == 1#1)
      (fun a b h => by rw [gt_iff] at h ⊢; simp only [decide_eq_true_eq, decide_eq_false_iff_not] at h ⊢; exact not_lt.mpr h.le)
      (fun a b h => h)
      (fun a b c h h' => by
        rw [gt_iff] at h h' ⊢
        simp only [decide_eq_false_iff_not, not_lt] at h h' ⊢
        exact le_trans h h') i j h
    rw [gt_iff] at this
    simp only [decide_eq_false_iff_not, not_lt] at this
    exact this

/-- Different ranks hold different columns. -/
theorem ord_inj (row : Fin 2048 → EReal) : Function.Injective (ord row) := sortedFrom_injective _

/-- Every column has a rank. -/
theorem ord_surj (row : Fin 2048 → EReal) : Function.Surjective (ord row) := sortedFrom_surjective _

/-- Rank `k` of the first 32. -/
def rank (k : Fin 32) : Fin 2048 := ⟨k.val, by omega⟩

/-- The 32nd largest entry. -/
def cut (row : Fin 2048 → EReal) : EReal := row (ord row 31)

/-- The 33 largest entries are pairwise different. -/
def Sep (row : Fin 2048 → EReal) : Prop :=
  ∀ k : Fin 32, row (ord row ⟨k.val + 1, by omega⟩) < row (ord row ⟨k.val, by omega⟩)

variable {row : Fin 2048 → EReal}

/-- The 32nd largest entry is not −∞. -/
theorem cut_pos (h : Sep row) : ⊥ < cut row := lt_of_le_of_lt bot_le (h 31)

/-- An entry is at least the 32nd largest exactly when its rank is among the first 32. -/
theorem cut_le_iff (h : Sep row) (j : Fin 2048) : cut row ≤ row (ord row j) ↔ j.val < 32 := by
  constructor
  · intro hj
    by_contra hn
    have h1 : row (ord row j) ≤ row (ord row 32) := ord_anti row (by rw [Fin.le_def]; show 32 ≤ j.val; omega)
    exact absurd (lt_of_le_of_lt (le_trans hj h1) (h 31)) (lt_irrefl _)
  · intro hj
    exact ord_anti row (by rw [Fin.le_def]; show j.val ≤ 31; omega)

/-- Entries of rank below 32 are strictly above every later one. -/
theorem strict (h : Sep row) {i j : Fin 2048} (hi : i.val < 32) (hij : i < j) : row (ord row j) < row (ord row i) :=
  lt_of_le_of_lt (ord_anti row (i := ⟨i.val + 1, by omega⟩) (by rw [Fin.le_def]; show i.val + 1 ≤ j.val; omega)) (h ⟨i.val, hi⟩)

/-- The selected columns are those of the first 32 ranks. -/
theorem image_rank (h : Sep row) :
    (Finset.univ.filter fun c => cut row ≤ row c) = Finset.univ.image fun k => ord row (rank k) := by
  ext c
  simp only [Finset.mem_filter, Finset.mem_univ, true_and, Finset.mem_image]
  obtain ⟨j, rfl⟩ := ord_surj row c
  rw [cut_le_iff h]
  constructor
  · intro hj
    exact ⟨⟨j.val, hj⟩, rfl⟩
  · rintro ⟨k, hk⟩
    rw [← ord_inj row hk]
    exact k.isLt

/-- The first 32 ranks name 32 columns. -/
theorem rank_inj : Function.Injective fun k => ord row (rank k) := fun k l e => by
  have := ord_inj row e
  exact Fin.ext (Fin.mk.inj this)

/-- A sum over the selected columns is the sum over the first 32 ranks. -/
theorem sum_selected (h : Sep row) {M : Type} [AddCommMonoid M] (f : Fin 2048 → M) :
    ∑ c, (if cut row ≤ row c then f c else 0) = ∑ k, f (ord row (rank k)) := by
  rw [← Finset.sum_filter, image_rank h, Finset.sum_image fun k _ l _ e => rank_inj e]

/-- Exactly 32 columns are selected. -/
theorem card_selected (h : Sep row) : (Finset.univ.filter fun c => cut row ≤ row c).card = 32 := by
  rw [image_rank h, Finset.card_image_of_injective _ rank_inj]
  rfl

/-- Selected entries are pairwise different. -/
theorem selected_inj (h : Sep row) (c d : Fin 2048) (hc : cut row ≤ row c) (e : row c = row d) : c = d := by
  obtain ⟨i, rfl⟩ := ord_surj row c
  obtain ⟨j, rfl⟩ := ord_surj row d
  have hi := (cut_le_iff h i).mp hc
  have hj := (cut_le_iff h j).mp (e ▸ hc)
  rcases lt_trichotomy i j with hij | hij | hij
  · exact absurd e (strict h hi hij).ne'
  · rw [hij]
  · exact absurd e (strict h hj hij).ne

/-! ### `top_k` read -/

/-- An index of a rank-3 array with one leading plane. -/
abbrev S3 (n : ℕ) : Shape := ⟨3, ![1, 2048, n]⟩

/-- Moving along the last axis. -/
theorem along_last (r c k : Fin 2048) : (ix3 0 r c : (S3 2048).Idx).along 2 k = ix3 0 r k := by
  funext a
  unfold Shape.Idx.along
  match a with
  | ⟨0, _⟩ => rfl
  | ⟨1, _⟩ => rfl
  | ⟨2, _⟩ => rfl

/-- The index of the sorted array a result index reads. -/
theorem slice_idx {α : Type} (n : ℕ) (hn : n ≤ 2048) (y : (S3 2048).Idx → α) (h : (S3 2048).Slices (fun _ => 0) (S3 n))
    (r : Fin 2048) (j : Fin n) :
    extractStridedSlice (S3 n) (fun _ => 0) y h (ix3 0 r j) = y (ix3 0 r ⟨j.val, by omega⟩) := by
  unfold extractStridedSlice
  congr 1
  funext a
  match a with
  | ⟨0, _⟩ => rfl
  | ⟨1, _⟩ => exact Fin.ext (Nat.zero_add _)
  | ⟨2, _⟩ => exact Fin.ext (Nat.zero_add _)

/-- The sorting permutation of the line through an index is the row's. -/
theorem sorted_row (x : (S3 2048).Idx → EReal) (r c : Fin 2048) :
    sortedFrom (n := 2048) (fun k k' => Ideal.cmp .ogt (x ((ix3 0 r c : (S3 2048).Idx).along 2 k))
        (x ((ix3 0 r c : (S3 2048).Idx).along 2 k')) == 1#1) c
      = ord (fun t => x (ix3 0 r t)) c := by
  unfold ord
  simp only [along_last]

/-- The value of rank `j` in row `r`. -/
theorem topK_value (n : ℕ) (hn : n ≤ 2048) (x : (S3 2048).Idx → EReal) (h : (S3 2048).Slices (fun _ => 0) (S3 n))
    (r : Fin 2048) (j : Fin n) :
    (Host.topK (S3 n) 2 (Ideal.cmp .ogt) x h).1 (ix3 0 r j)
      = x (ix3 0 r (ord (fun t => x (ix3 0 r t)) ⟨j.val, by omega⟩)) := by
  unfold Host.topK; dsimp only
  refine (slice_idx n hn _ h r j).trans ?_
  unfold Host.sort2; dsimp only
  rw [dif_pos (show 2 < (S3 2048).rank by decide)]
  exact (congrArg x (along_last r _ _)).trans (congrArg (fun c => x (ix3 0 r c)) (sorted_row x r _))

/-- The column of rank `j` in row `r`, as a word. -/
theorem topK_index (n : ℕ) (hn : n ≤ 2048) (x : (S3 2048).Idx → EReal) (h : (S3 2048).Slices (fun _ => 0) (S3 n))
    (r : Fin 2048) (j : Fin n) :
    (Host.topK (S3 n) 2 (Ideal.cmp .ogt) x h).2 (ix3 0 r j)
      = BitVec.ofNat 32 (ord (fun t => x (ix3 0 r t)) ⟨j.val, by omega⟩).val := by
  unfold Host.topK; dsimp only
  refine (slice_idx n hn _ h r j).trans ?_
  unfold Host.sort2; dsimp only
  rw [dif_pos (show 2 < (S3 2048).rank by decide)]
  exact (congrArg (fun i : (S3 2048).Idx => BitVec.ofNat 32 (i 2).val) (along_last r _ _)).trans
    (congrArg (fun c : Fin 2048 => BitVec.ofNat 32 c.val) (sorted_row x r _))

end Cert.Order

end
-- ==== Proof.Scores.lean ====
/-
  The attention kernel's selection read at an element: noisy scores, the candidates of a row, the 31 removals and the mask.
-/
module

public import proofs.«01_k».proof.Proof.Block
public import proofs.«01_k».proof.Proof.Select
public import proofs.«01_k».proof.Proof.Order
public import Idealize.ShloMosaic.Lib.Pointwise

@[expose] public section

noncomputable section

namespace Cert.Block

open Idealize.ShloMosaic Idealize.ShloMosaic.TcCoe
open Cert.KernelIdeal Cert.KernelIdeal.Gen

/-- The word of minus infinity. -/
theorem ofBits_neg_inf : Ideal.ofBits .f32 0xFF800000#32 = ⊥ := by
  simp [Ideal.ofBits, Ideal.ieee]

/-- The word of one eighth. -/
theorem ofBits_eighth : Ideal.ofBits .f32 0x3E000000#32 = ((1 / 8 : ℝ) : EReal) := by
  simp [Ideal.ofBits, Ideal.ieee, -EReal.coe_mul]; norm_num

/-- The word of one half. -/
theorem ofBits_half : Ideal.ofBits .f32 0x3F000000#32 = ((1 / 2 : ℝ) : EReal) := by
  simp [Ideal.ofBits, Ideal.ieee, -EReal.coe_mul]; norm_num

/-- A score: the product of a row and a column's row over 64 places, times one eighth. -/
theorem scores_apply (a : FVec Ideal S256x64 .f32) (b : FVec Ideal S2048x64 .f32) (r : Fin 256) (t : Fin 2048) :
    scores (F := Ideal) a b (ix2 r t) = (∑ e : Fin 64, a (ix2 r e) * b (ix2 t e)) * ((1 / 8 : ℝ) : EReal) := by
  rw [← ofBits_eighth]
  pointwise [scores]

/-- A noisy score. -/
theorem noisy_apply (s : FVec Ideal S256x2048 .f32) (g : FVec Ideal S1x256x2048 .f32) (r : Fin 256) (t : Fin 2048) :
    noisy (F := Ideal) s g (ix2 r t) = s (ix2 r t) + g (ix3 0 r t) := by
  pointwise [noisy]

/-- Row `r` of the slabs: entry `l` of slab `c`. -/
def lanes (p : FVec Ideal S256x2048 .f32) (r : Fin 256) (c : Fin 16) (l : Fin 128) : EReal := p (ix2 r ⟨128 * c + l, by omega⟩)

/-- One of the sixteen slabs of 128 columns, at an element. -/
theorem slab_apply (p : FVec Ideal S256x2048 .f32) (c : Fin 16) (r : Fin 256) (l : Fin 128) :
    slab (F := Ideal) p c (ix2 r l) = lanes p r c l := by
  pointwise [slab, lanes]

/-- The place and the lane of a candidate's column. -/
def place (j : Fin 768) : Fin 6 × Fin 128 := (⟨j / 128, by omega⟩, ⟨j % 128, by omega⟩)

/-- A candidate is the network's result on its lane. -/
theorem candidates_apply (p : FVec Ideal S256x2048 .f32) (r : Fin 256) (j : Fin 768) :
    candidates (F := Ideal) p (ix2 r j) = Select.cand (lanes p r) (place j) := by
  unfold candidates
  refine (concatenate_ofFn_apply (t := S256x768) (s₁ := S256x128) 1 _ _ rfl 128 rfl (ix2 r j) (place j).1 rfl
    (ix2 r (place j).2) rfl (fun b hb => by fin_cases b; rfl; exact absurd rfl hb)).trans ?_
  refine (Net.net_map (fun v : FVec Ideal S256x128 .f32 => v (ix2 r (place j).2)) (lo' := min) (hi' := max)
    (fun x y => rfl) (fun x y => rfl) _ _).trans ?_
  unfold Select.cand
  congr 1
  funext c
  exact slab_apply p c r _

/-- The row maximum. -/
theorem rowMax_apply (a : FVec Ideal S256x768 .f32) (r : Fin 256) (z : Fin 1) :
    rowMax (F := Ideal) a (ix2 r z) = Finset.univ.fold max ⊥ fun j => a (ix2 r j) := by
  rw [← ofBits_neg_inf]
  pointwise [rowMax]

/-- Every place and lane is a candidate's. -/
theorem place_surj : Function.Surjective place := fun q =>
  ⟨⟨128 * q.1 + q.2, by omega⟩, Prod.ext (Fin.ext (by simp only [place]; omega)) (Fin.ext (by simp only [place]; omega))⟩

/-- The largest entry does not depend on how the entries are listed. -/
theorem top_comp (w : Fin 6 × Fin 128 → EReal) : Select.top (fun j => w (place j)) = Select.top w :=
  le_antisymm (Select.top_le _ _ fun j => Select.le_top w (place j))
    (Select.top_le _ _ fun q => by
      obtain ⟨j, rfl⟩ := place_surj q
      exact Select.le_top (fun j => w (place j)) j)

/-- One removal on a row whose entries are listed by place and lane. -/
theorem remove_row (a : FVec Ideal S256x768 .f32) (r : Fin 256) (w : Fin 6 × Fin 128 → EReal)
    (h : ∀ j, a (ix2 r j) = w (place j)) (j : Fin 768) : remove (F := Ideal) a (ix2 r j) = Select.drop w (place j) := by
  have e : remove (F := Ideal) a (ix2 r j)
      = Scalar.select (Ideal.cmp .oeq (a (ix2 r j)) (rowMax (F := Ideal) a (ix2 r 0))) ⊥ (a (ix2 r j)) := by
    rw [← ofBits_neg_inf]
    pointwise [remove]
  have m : rowMax (F := Ideal) a (ix2 r 0) = Select.top w := by
    rw [rowMax_apply, ← top_comp]
    simp only [h]
    rfl
  rw [e, m, h]
  unfold Select.drop Ideal.cmp Scalar.select
  by_cases hc : w (place j) = Select.top w <;> simp [hc]

/-- All the removals on a row. -/
theorem remaining_row (p : FVec Ideal S256x2048 .f32) (r : Fin 256) (j : Fin 768) :
    remaining (F := Ideal) p (ix2 r j) = Select.drop^[31] (Select.cand (lanes p r)) (place j) := by
  have key : ∀ (l : List (Fin k1_t1_loop.trips)) (a : FVec Ideal S256x768 .f32) (w : Fin 6 × Fin 128 → EReal),
      (∀ j, a (ix2 r j) = w (place j)) →
        ∀ j, l.foldl (fun a _ => remove (F := Ideal) a) a (ix2 r j) = Select.drop^[l.length] w (place j) := by
    intro l
    induction l with
    | nil => exact fun a w h j => h j
    | cons x l ih => exact fun a w h j => ih _ _ (remove_row a r w h) j
  unfold remaining
  rw [Scf.fold_eq]
  refine (key _ _ _ (candidates_apply p r) j).trans ?_
  rw [List.length_finRange]
  rfl

/-- Row `r` of the noisy scores, under the two conditions on the row: the mask marks the columns of the 32 largest. -/
theorem mask_apply (p : FVec Ideal S256x2048 .f32) (r : Fin 256) (row : Fin 2048 → EReal) (hrow : ∀ t, p (ix2 r t) = row t)
    (hsep : Order.Sep row)
    (hlane : ∀ l : Fin 128, (Finset.univ.filter fun c : Fin 16 => Order.cut row ≤ row ⟨128 * c + l, by omega⟩).card ≤ 6)
    (t : Fin 2048) : mask (F := Ideal) p (ix2 r t) = if Order.cut row ≤ row t then 1 else 0 := by
  have hl : ∀ c l, lanes p r c l = row ⟨128 * c + l, by omega⟩ := fun c l => hrow _
  have top : rowMax (F := Ideal) (remaining (F := Ideal) p) (ix2 r 0) = Order.cut row := by
    rw [rowMax_apply]
    refine (congrArg (fun f => Finset.univ.fold max ⊥ f) (funext (remaining_row p r))).trans ?_
    refine (top_comp _).trans ?_
    have hcol : ∀ s : Fin 2048, ∃ x : Fin 16 × Fin 128, s = ⟨128 * x.1 + x.2, by omega⟩ := fun s =>
      ⟨(⟨s / 128, by omega⟩, ⟨s % 128, by omega⟩), Fin.ext (by simp only []; omega)⟩
    refine Select.threshold (lanes p r) (Order.cut row) (Order.cut_pos hsep) ?_ ?_ ?_ ?_
    · rw [← Order.card_selected hsep]
      refine Finset.card_bij (fun x _ => (⟨128 * x.1 + x.2, by omega⟩ : Fin 2048)) ?_ ?_ ?_
      · intro x hx
        simpa [hl] using hx
      · intro x _ y _ h
        have h := Fin.mk.inj h
        exact Prod.ext (Fin.ext (by omega)) (Fin.ext (by omega))
      · intro s hs
        obtain ⟨x, rfl⟩ := hcol s
        exact ⟨x, by simpa [hl] using hs, rfl⟩
    · intro x y hx hxy
      rw [hl] at hx
      rw [hl, hl] at hxy
      have h := Fin.mk.inj (Order.selected_inj hsep _ _ hx hxy)
      exact Prod.ext (Fin.ext (by omega)) (Fin.ext (by omega))
    · obtain ⟨x, hx⟩ := hcol (Order.ord row 31)
      exact ⟨x, by rw [hl, ← hx]; rfl⟩
    · intro l
      simpa [hl] using hlane l
  have e : mask (F := Ideal) p (ix2 r t)
      = FloatOps.sitofp (F := Ideal) .f32 (BitVec.setWidth 32 (BitVec.ofBool
        (decide (rowMax (F := Ideal) (remaining (F := Ideal) p) (ix2 r 0) ≤ p (ix2 r t))))) := by
    pointwise [mask]
  have word : ∀ b : BitVec 32, FloatOps.sitofp (F := Ideal) .f32 b = ((b.toInt : ℝ) : EReal) := fun _ => rfl
  rw [e, top, hrow, word]
  by_cases h : Order.cut row ≤ row t <;> simp [h]

end Cert.Block
-- ==== Proof.Attend.lean ====
/-
  Attention over a chosen set of keys, over the real numbers: softmax with the maximum taken off (or any other number), and
  exponentials weighted by one half over their sum, are the same average of the values.
-/
module

public import Idealize.ShloMosaic.PureOps.Ideal.Laws

@[expose] public section

namespace Cert.Attend

open Finset

noncomputable section

/-- One head's logit of query row `s` against key row `t`: the product over the head's 64 columns, divided by 8. -/
def logit (Q K : Fin 2048 → Fin 1024 → ℝ) (h : Fin 16) (s t : Fin 2048) : ℝ :=
  (∑ e : Fin 64, Q s ⟨64 * h + e, by omega⟩ * K t ⟨64 * h + e, by omega⟩) / 8

/-- The average of `v` at the chosen places `sel`, with weights the exponentials of `l`. -/
def avg (l v : Fin 2048 → ℝ) (sel : Fin 32 → Fin 2048) : ℝ :=
  (∑ k, Real.exp (l (sel k)) * v (sel k)) / ∑ k, Real.exp (l (sel k))

/-- A sum of exponentials over a non-empty family is positive. -/
theorem sum_exp_pos (f : Fin 32 → ℝ) : 0 < ∑ k, Real.exp (f k) :=
  Finset.sum_pos (s := Finset.univ) (f := fun k => Real.exp (f k)) (fun k _ => Real.exp_pos (f k)) Finset.univ_nonempty

/-- Softmax after subtracting any number `m` from the logits gives the average. -/
theorem softmax_avg (l v : Fin 2048 → ℝ) (sel : Fin 32 → Fin 2048) (m : ℝ) :
    ∑ k, Real.exp (l (sel k) - m) / (∑ j, Real.exp (l (sel j) - m)) * v (sel k) = avg l v sel := by
  have hm : Real.exp m ≠ 0 := (Real.exp_pos m).ne'
  have hs := (sum_exp_pos fun k => l (sel k)).ne'
  have e : ∑ j, Real.exp (l (sel j) - m) = (∑ j, Real.exp (l (sel j))) / Real.exp m := by
    rw [Finset.sum_div]
    exact Finset.sum_congr rfl fun j _ => Real.exp_sub _ _
  rw [e, avg]
  generalize (∑ j, Real.exp (l (sel j))) = S at hs ⊢
  rw [Finset.sum_div]
  refine Finset.sum_congr rfl fun k _ => ?_
  rw [Real.exp_sub]
  field_simp

/-- Two samples' masked exponentials, each weighted by one half over its own sum, give half the sum of the averages. -/
theorem mixed_avg (l v : Fin 2048 → ℝ) (sel₀ sel₁ : Fin 32 → Fin 2048) (b₀ b₁ : Fin 2048 → Prop)
    [DecidablePred b₀] [DecidablePred b₁]
    (h₀ : ∀ f : Fin 2048 → ℝ, ∑ t, (if b₀ t then f t else 0) = ∑ k, f (sel₀ k))
    (h₁ : ∀ f : Fin 2048 → ℝ, ∑ t, (if b₁ t then f t else 0) = ∑ k, f (sel₁ k)) :
    ∑ t, ((if b₀ t then Real.exp (l t) else 0) * (1 / 2 / ∑ u, if b₀ u then Real.exp (l u) else 0)
        + (if b₁ t then Real.exp (l t) else 0) * (1 / 2 / ∑ u, if b₁ u then Real.exp (l u) else 0)) * v t
      = (avg l v sel₀ + avg l v sel₁) / 2 := by
  have e₀ := h₀ fun t => Real.exp (l t)
  have e₁ := h₁ fun t => Real.exp (l t)
  have f₀ := h₀ fun t => Real.exp (l t) * v t
  have f₁ := h₁ fun t => Real.exp (l t) * v t
  rw [e₀, e₁]
  simp only [avg, ← f₀, ← f₁]
  have q : ∀ t, ((if b₀ t then Real.exp (l t) else 0) * (1 / 2 / ∑ k, Real.exp (l (sel₀ k)))
        + (if b₁ t then Real.exp (l t) else 0) * (1 / 2 / ∑ k, Real.exp (l (sel₁ k)))) * v t
      = (1 / 2 / ∑ k, Real.exp (l (sel₀ k))) * (if b₀ t then Real.exp (l t) * v t else 0)
        + (1 / 2 / ∑ k, Real.exp (l (sel₁ k))) * (if b₁ t then Real.exp (l t) * v t else 0) := by
    intro t
    split_ifs <;> ring
  simp only [q, Finset.sum_add_distrib, ← Finset.mul_sum]
  ring

/-- The result at row `s` and column `n`: every head's average of the value rows under each of the two samples' choices,
halved and added, through the output weights. -/
def out (Q K V : Fin 2048 → Fin 1024 → ℝ) (Wo : Fin 1024 → Fin 1024 → ℝ)
    (sel₀ sel₁ : Fin 2048 → Fin 32 → Fin 2048) (s : Fin 2048) (n : Fin 1024) : ℝ :=
  ∑ d : Fin 1024, (avg (logit Q K ⟨d / 64, by omega⟩ s) (fun t => V t d) (sel₀ s)
    + avg (logit Q K ⟨d / 64, by omega⟩ s) (fun t => V t d) (sel₁ s)) / 2 * Wo d n

/-- Taking each sample through the output weights first and halving afterwards is the same. -/
theorem out_eq_halves (Q K V : Fin 2048 → Fin 1024 → ℝ) (Wo : Fin 1024 → Fin 1024 → ℝ)
    (sel₀ sel₁ : Fin 2048 → Fin 32 → Fin 2048) (s : Fin 2048) (n : Fin 1024) :
    out Q K V Wo sel₀ sel₁ s n
      = (∑ d : Fin 1024, avg (logit Q K ⟨d / 64, by omega⟩ s) (fun t => V t d) (sel₀ s) * Wo d n) / 2
        + (∑ d : Fin 1024, avg (logit Q K ⟨d / 64, by omega⟩ s) (fun t => V t d) (sel₁ s) * Wo d n) / 2 := by
  rw [out, Finset.sum_div, Finset.sum_div, ← Finset.sum_add_distrib]
  refine Finset.sum_congr rfl fun d _ => ?_
  ring

/-- A finite sum of real numbers, taken over the extended reals. -/
theorem sum_coe {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- A product of two lists of real numbers, taken over the extended reals. -/
theorem dot_coe {n : ℕ} {a b : Fin n → EReal} {A B : Fin n → ℝ} (ha : ∀ k, a k = (A k : EReal)) (hb : ∀ k, b k = (B k : EReal)) :
    ∑ k, a k * b k = ((∑ k, A k * B k : ℝ) : EReal) := by
  rw [← sum_coe]
  exact Finset.sum_congr rfl fun k _ => by rw [ha, hb, EReal.coe_mul]

end

end Cert.Attend
-- ==== Proof.Heads.lean ====
/-
  The attention kernel's block read at an element, when its projected rows and its output weights are finite: the average over
  each sample's chosen columns, halved, added, and taken through the output weights.
-/
module

public import proofs.«01_k».proof.Proof.Scores
public import proofs.«01_k».proof.Proof.Attend

@[expose] public section

noncomputable section

namespace Cert.Block

open Idealize.ShloMosaic Idealize.ShloMosaic.TcCoe
open Cert.KernelIdeal Cert.KernelIdeal.Gen

/-- An exponential of a finite logit. -/
theorem expo_apply (q : FVec Ideal S256x64 .f32) (k : FVec Ideal S2048x64 .f32) (r : Fin 256) (t : Fin 2048) (Q K : Fin 64 → ℝ)
    (hq : ∀ e, q (ix2 r e) = (Q e : EReal)) (hk : ∀ e, k (ix2 t e) = (K e : EReal)) :
    expo (F := Ideal) q k (ix2 r t) = (Real.exp ((∑ e, Q e * K e) / 8) : EReal) := by
  have h : expo (F := Ideal) q k (ix2 r t) = Ideal.exp (scores (F := Ideal) q k (ix2 r t)) := rfl
  rw [h, scores_apply, Attend.dot_coe hq hk, ← EReal.coe_mul, Ideal.exp_coe, mul_one_div]

/-- An exponential cut to the chosen columns. -/
theorem cut_apply (e m : FVec Ideal S256x2048 .f32) (r : Fin 256) (E : Fin 2048 → ℝ) (b : Fin 2048 → Prop) [DecidablePred b]
    (he : ∀ t, e (ix2 r t) = (E t : EReal)) (hm : ∀ t, m (ix2 r t) = if b t then 1 else 0) (t : Fin 2048) :
    e (ix2 r t) * m (ix2 r t) = ((if b t then E t else 0 : ℝ) : EReal) := by
  rw [he, hm]
  split_ifs <;> simp

/-- A share: the cut exponential times one half over the row's sum of cut exponentials. -/
theorem share_apply (e m : FVec Ideal S256x2048 .f32) (r : Fin 256) (E : Fin 2048 → ℝ) (b : Fin 2048 → Prop) [DecidablePred b]
    (he : ∀ t, e (ix2 r t) = (E t : EReal)) (hm : ∀ t, m (ix2 r t) = if b t then 1 else 0)
    (hs : (∑ u, if b u then E u else 0) ≠ 0) (t : Fin 2048) :
    share (F := Ideal) e m (ix2 r t)
      = (((if b t then E t else 0) * (1 / 2 / ∑ u, if b u then E u else 0) : ℝ) : EReal) := by
  have h : share (F := Ideal) e m (ix2 r t)
      = e (ix2 r t) * m (ix2 r t) * Ideal.div (Ideal.ofBits .f32 0x3F000000#32) (∑ u : Fin 2048, e (ix2 r u) * m (ix2 r u)) := by
    pointwise [share]
  rw [h, ofBits_half]
  simp only [cut_apply e m r E b he hm]
  rw [Attend.sum_coe, Ideal.div_coe hs, ← EReal.coe_mul, ← EReal.coe_mul, mul_one_div]

/-- A head's element. -/
theorem head_apply (q : FVec Ideal S256x64 .f32) (k v : FVec Ideal S2048x64 .f32) (m₀ m₁ : FVec Ideal S256x2048 .f32) (r : Fin 256)
    (e : Fin 64) : head (F := Ideal) q k v m₀ m₁ (ix2 r e)
      = ∑ t : Fin 2048, (share (F := Ideal) (expo (F := Ideal) q k) m₀ (ix2 r t) + share (F := Ideal) (expo (F := Ideal) q k) m₁ (ix2 r t))
        * v (ix2 t e) := by
  unfold head
  pointwise

/-- A head's columns of a block of rows, at an element. -/
theorem cols_apply (x : FVec Ideal S256x1024 .f32) (h : Fin 16) (r : Fin 256) (e : Fin 64) :
    cols (F := Ideal) x h (ix2 r e) = x (ix2 r ⟨64 * h + e, by omega⟩) := by
  pointwise [cols]

/-- A head's columns of all rows, at an element. -/
theorem rows_apply (x : FVec Ideal S2048x1024 .f32) (h : Fin 16) (t : Fin 2048) (e : Fin 64) :
    rows (F := Ideal) x h (ix2 t e) = x (ix2 t ⟨64 * h + e, by omega⟩) := by
  pointwise [rows]

/-- The heads side by side: column `d` belongs to head `d / 64`. -/
theorem heads_apply (q : FVec Ideal S256x1024 .f32) (k v : FVec Ideal S2048x1024 .f32) (m₀ m₁ : FVec Ideal S256x2048 .f32)
    (r : Fin 256) (d : Fin 1024) : heads (F := Ideal) q k v m₀ m₁ (ix2 r d)
      = head (F := Ideal) (cols (F := Ideal) q ⟨d / 64, by omega⟩) (rows (F := Ideal) k ⟨d / 64, by omega⟩)
        (rows (F := Ideal) v ⟨d / 64, by omega⟩) m₀ m₁ (ix2 r ⟨d % 64, by omega⟩) := by
  unfold heads
  exact concatenate_ofFn_apply (t := S256x1024) (s₁ := S256x64) 1 _ _ rfl 64 rfl (ix2 r d) ⟨d / 64, by omega⟩ rfl
    (ix2 r ⟨d % 64, by omega⟩) rfl (fun b hb => by fin_cases b; rfl; exact absurd rfl hb)

/-- The block of the result at row `r`, which is row `s` of the whole, and column `n`. -/
theorem block_apply (q : FVec Ideal S256x1024 .f32) (k v : FVec Ideal S2048x1024 .f32) (a : FVec Ideal S256x64 .f32)
    (b : FVec Ideal S2048x64 .f32) (g : FVec Ideal S2x256x2048 .f32) (wo : FVec Ideal S1024x1024 .f32)
    (Q K U : Fin 2048 → Fin 1024 → ℝ) (W : Fin 1024 → Fin 1024 → ℝ) (row₀ row₁ : Fin 2048 → EReal) (r : Fin 256) (s : Fin 2048)
    (hq : ∀ d, q (ix2 r d) = (Q s d : EReal)) (hk : ∀ t d, k (ix2 t d) = (K t d : EReal)) (hv : ∀ t d, v (ix2 t d) = (U t d : EReal))
    (hw : ∀ d n, wo (ix2 d n) = (W d n : EReal))
    (h₀ : ∀ t, (∑ e : Fin 64, a (ix2 r e) * b (ix2 t e)) * ((1 / 8 : ℝ) : EReal) + g (ix3 0 r t) = row₀ t)
    (h₁ : ∀ t, (∑ e : Fin 64, a (ix2 r e) * b (ix2 t e)) * ((1 / 8 : ℝ) : EReal) + g (ix3 1 r t) = row₁ t)
    (s₀ : Order.Sep row₀) (s₁ : Order.Sep row₁)
    (l₀ : ∀ l : Fin 128, (Finset.univ.filter fun c : Fin 16 => Order.cut row₀ ≤ row₀ ⟨128 * c + l, by omega⟩).card ≤ 6)
    (l₁ : ∀ l : Fin 128, (Finset.univ.filter fun c : Fin 16 => Order.cut row₁ ≤ row₁ ⟨128 * c + l, by omega⟩).card ≤ 6)
    (n : Fin 1024) : block (F := Ideal) q k v a b g wo (ix2 r n)
      = (Attend.out Q K U W (fun _ i => Order.ord row₀ (Order.rank i)) (fun _ i => Order.ord row₁ (Order.rank i)) s n : EReal) := by
  have p₀ : ∀ t, noisy (F := Ideal) (blockScores (F := Ideal) a b) (noise₀ g) (ix2 r t) = row₀ t := fun t => by
    rw [noisy_apply, ← h₀]
    unfold blockScores
    rw [scores_apply]
    pointwise [noise₀]
  have p₁ : ∀ t, noisy (F := Ideal) (blockScores (F := Ideal) a b) (noise₁ g) (ix2 r t) = row₁ t := fun t => by
    rw [noisy_apply, ← h₁]
    unfold blockScores
    rw [scores_apply]
    pointwise [noise₁]
  have m₀ := mask_apply _ r row₀ p₀ s₀ l₀
  have m₁ := mask_apply _ r row₁ p₁ s₁ l₁
  have e : block (F := Ideal) q k v a b g wo (ix2 r n)
      = ∑ d : Fin 1024, heads (F := Ideal) q k v (mask (F := Ideal) (noisy (F := Ideal) (blockScores (F := Ideal) a b) (noise₀ g)))
          (mask (F := Ideal) (noisy (F := Ideal) (blockScores (F := Ideal) a b) (noise₁ g))) (ix2 r d) * wo (ix2 d n) := by
    unfold block
    pointwise
  rw [e]
  refine Attend.dot_coe (fun d => ?_) (fun d => hw d n)
  have x : ∀ t, expo (F := Ideal) (cols (F := Ideal) q ⟨d / 64, by omega⟩) (rows (F := Ideal) k ⟨d / 64, by omega⟩) (ix2 r t)
      = (Real.exp (Attend.logit Q K ⟨d / 64, by omega⟩ s t) : EReal) := fun t => by
    refine expo_apply _ _ r t (fun e => Q s ⟨64 * (d.val / 64) + e, by omega⟩) (fun e => K t ⟨64 * (d.val / 64) + e, by omega⟩)
      (fun e => ?_) (fun e => ?_)
    · rw [cols_apply, hq]
    · rw [rows_apply, hk]
  have z : ∀ row : Fin 2048 → EReal, Order.Sep row →
      (∑ t, if Order.cut row ≤ row t then Real.exp (Attend.logit Q K ⟨d / 64, by omega⟩ s t) else 0) ≠ 0 := fun row h => by
    rw [Order.sum_selected h]
    exact (Attend.sum_exp_pos _).ne'
  rw [heads_apply, head_apply, ← Attend.mixed_avg _ _ _ _ (fun t => Order.cut row₀ ≤ row₀ t) (fun t => Order.cut row₁ ≤ row₁ t)
    (fun f => Order.sum_selected s₀ f) (fun f => Order.sum_selected s₁ f)]
  refine Attend.dot_coe (fun t => ?_) (fun t => ?_)
  · rw [share_apply _ _ r _ _ x m₀ (z _ s₀), share_apply _ _ r _ _ x m₁ (z _ s₁), EReal.coe_add]
  · rw [rows_apply, hv]
    exact congrArg (fun j => (U t j : EReal)) (Fin.ext (Nat.div_add_mod d.val 64))

end Cert.Block
-- ==== Proof.Model.lean ====
/-
  The problem's mathematics at an element, from its argument arrays: the noisy similarity of two rows, the columns a sample
  chooses, and the answer over the real numbers. Both the kernel and the reference are shown equal to `answer`.
-/
module

public import proofs.«01_k».proof.Proof.Order
public import proofs.«01_k».proof.Proof.Attend
public import Idealize.ShloMosaic.Lib.Pointwise

@[expose] public section

noncomputable section

namespace Cert.Model

open Idealize.ShloMosaic

/-- The input rows. -/
abbrev Rows := FVec Ideal (⟨3, ![1, 2048, 1024]⟩ : Shape) .f32
/-- A square weight. -/
abbrev Weight := FVec Ideal (⟨2, ![1024, 1024]⟩ : Shape) .f32
/-- The similarity weight. -/
abbrev Sim := FVec Ideal (⟨2, ![1024, 64]⟩ : Shape) .f32
/-- The uniform draws. -/
abbrev Draws := FVec Ideal (⟨4, ![2, 1, 2048, 2048]⟩ : Shape) .f32

/-- The word of 8. -/
theorem ofBits_eight : Ideal.ofBits .f32 0x41000000#32 = ((8 : ℝ) : EReal) := by
  simp [Ideal.ofBits, Ideal.ieee, -EReal.coe_mul]; norm_num

/-- The rows projected for the similarity. -/
def proj (x : Rows) (ws : Sim) (s : Fin 2048) (e : Fin 64) : EReal := ∑ k : Fin 1024, x (ix3 0 s k) * ws (ix2 k e)

/-- Sample `i`'s noise of row `s` against column `t`. -/
def gumbel (u : Draws) (i : Fin 2) (s t : Fin 2048) : EReal :=
  -Ideal.log (-Ideal.log (u (ix4 i 0 s t))) * ((1 / 8 : ℝ) : EReal)

/-- Sample `i`'s noisy similarity of row `s` and column `t`. -/
def pert (x : Rows) (ws : Sim) (u : Draws) (i : Fin 2) (s t : Fin 2048) : EReal :=
  (∑ e : Fin 64, proj x ws s e * proj x ws t e) * ((1 / 8 : ℝ) : EReal) + gumbel u i s t

/-- The columns sample `i` chooses for row `s`: the 32 largest noisy similarities, in their order. -/
def chosen (x : Rows) (ws : Sim) (u : Draws) (i : Fin 2) (s : Fin 2048) (k : Fin 32) : Fin 2048 :=
  Order.ord (pert x ws u i s) (Order.rank k)

/-- The rows through a weight, as real numbers. -/
def lin (x : Rows) (w : Weight) (s : Fin 2048) (d : Fin 1024) : ℝ :=
  ∑ k : Fin 1024, (x (ix3 0 s k)).toReal * (w (ix2 k d)).toReal

/-- Row `s`, column `n` of the answer. -/
def answer (x : Rows) (wq wk wv wo : Weight) (ws : Sim) (u : Draws) (s : Fin 2048) (n : Fin 1024) : ℝ :=
  Attend.out (lin x wq) (lin x wk) (lin x wv) (fun d n => (wo (ix2 d n)).toReal) (chosen x ws u 0) (chosen x ws u 1) s n

/-- The answer's row only looks at the columns chosen for that row. -/
theorem answer_eq (x : Rows) (wq wk wv wo : Weight) (ws : Sim) (u : Draws) (s : Fin 2048) (n : Fin 1024) :
    answer x wq wk wv wo ws u s n = Attend.out (lin x wq) (lin x wk) (lin x wv) (fun d n => (wo (ix2 d n)).toReal)
      (fun _ i => Order.ord (pert x ws u 0 s) (Order.rank i)) (fun _ i => Order.ord (pert x ws u 1 s) (Order.rank i)) s n := by
  unfold answer Attend.out
  rfl

/-- What is asked of the arguments: the input and the four square weights are finite, the 33 largest noisy similarities of a
    row are different, and of the 32 largest no more than six have columns that agree modulo 128. -/
structure Good (x : Rows) (wq wk wv wo : Weight) (ws : Sim) (u : Draws) : Prop where
  fx : ∀ s d, x (ix3 0 s d) = ((x (ix3 0 s d)).toReal : EReal)
  fq : ∀ k d, wq (ix2 k d) = ((wq (ix2 k d)).toReal : EReal)
  fk : ∀ k d, wk (ix2 k d) = ((wk (ix2 k d)).toReal : EReal)
  fv : ∀ k d, wv (ix2 k d) = ((wv (ix2 k d)).toReal : EReal)
  fo : ∀ k d, wo (ix2 k d) = ((wo (ix2 k d)).toReal : EReal)
  sep : ∀ i s, Order.Sep (pert x ws u i s)
  lanes : ∀ (i : Fin 2) (s : Fin 2048) (l : Fin 128), (Finset.univ.filter fun c : Fin 16 =>
    Order.cut (pert x ws u i s) ≤ pert x ws u i s ⟨128 * c + l, by omega⟩).card ≤ 6

/-- Finite rows through a finite weight are the real numbers `lin`. -/
theorem lin_coe (x : Rows) (w : Weight) (hx : ∀ s d, x (ix3 0 s d) = ((x (ix3 0 s d)).toReal : EReal))
    (hw : ∀ k d, w (ix2 k d) = ((w (ix2 k d)).toReal : EReal)) (s : Fin 2048) (d : Fin 1024) :
    ∑ k : Fin 1024, x (ix3 0 s k) * w (ix2 k d) = (lin x w s d : EReal) :=
  Attend.dot_coe (fun k => hx s k) (fun k => hw k d)

end Cert.Model

end
-- ==== Proof.Uniform.lean ====
/-
  The uniform draws: what the kernel, the reference and the precondition all compute from the key 42, a square of numbers per sample.
  Nothing about the numbers is used but that the three compute the same.
-/
module

public import proofs.«01_k».proof.Proof.Gen.Pre_separated
public import proofs.«01_k».proof.Proof.Model
public import Idealize.ShloMosaic.Lib.Tactic

@[expose] public section

noncomputable section

namespace Cert.Uniform

open Idealize.ShloMosaic
open Cert.Pre_separated Cert.Pre_separated.Gen

/-- The key made of the number 42. -/
def seed : IVec S2 32 :=
  concatenate S2 0 [⟨S1, broadcastInDim S1 ![] bcast_S_S1 (Host.shrui (constantI S_ 32 42#32) (constantI S_ 32 32#32))⟩,
    ⟨S1, broadcastInDim S1 ![] bcast_S_S1 (andi (constantI S_ 32 42#32) (constantI S_ 32 4294967295#32))⟩] concatenates_S1_S1_S2_d0

/-- The draws of the sample with this number: uniform between a millionth and one less a millionth, from the key with the number folded in. -/
def draw (i : BitVec 32) : FVec Ideal S1x2048x2048 .f32 :=
  fn_uniform (fn_threefry_fold_in (F := Ideal) seed (constantI S_ 32 i)) (constant S_ .f32 0x358637BD#32) (constant S_ .f32 0x3F7FFFEF#32)

/-- Two samples' numbers as one array. -/
def pile (a b : FVec Ideal S1x2048x2048 .f32) : Model.Draws := fun j => if (j 0).val = 0 then a (ix3 0 (j 2) (j 3)) else b (ix3 0 (j 2) (j 3))

/-- The first sample of the two. -/
theorem pile_first (a b : FVec Ideal S1x2048x2048 .f32) (s t : Fin 2048) : a (ix3 0 s t) = pile a b (ix4 0 0 s t) := rfl
/-- The second sample of the two. -/
theorem pile_second (a b : FVec Ideal S1x2048x2048 .f32) (s t : Fin 2048) : b (ix3 0 s t) = pile a b (ix4 1 0 s t) := rfl

/-- The draws of both samples. -/
def draws : Model.Draws := pile (draw 0#32) (draw 1#32)

/-- The first sample's draws. -/
theorem draws_first : ∀ s t : Fin 2048, draw 0#32 (ix3 0 s t) = draws (ix4 0 0 s t) := pile_first _ _
/-- The second sample's draws. -/
theorem draws_second : ∀ s t : Fin 2048, draw 1#32 (ix3 0 s t) = draws (ix4 1 0 s t) := pile_second _ _

end Cert.Uniform

end
-- ==== Proof.Entry.lean ====
/-
  What the kernel's host operations hand to the first launch: the rows, the three weights side by side, the similarity weights and
  the noise made of the draws.
-/
module

public import proofs.«01_k».proof.Proof.Gen.KernelIdeal.Frame
public import proofs.«01_k».proof.Proof.Uniform
public import Idealize.ShloMosaic.Lib.Pipeline.ValueKit

@[expose] public section

noncomputable section

namespace Cert.Entry

open Idealize.ShloMosaic Idealize.ShloMosaic.TcCoe Idealize.ShloMosaic.Tactic
open Idealize.SL.Sem
open Cert.KernelIdeal Cert.KernelIdeal.Gen

variable (m : (ℓ : Loc nD τ sig) → Buf (Elt Ideal) ℓ) (ρ : Dev nD → PrngReg) (c : Dev nD)

/-- The input rows. -/
abbrev argX : FVec Ideal S1x2048x1024 .f32 := m ((c : Thread nD τ).loc main_arg0)
/-- The query weights. -/
abbrev argQ : FVec Ideal S1024x1024 .f32 := m ((c : Thread nD τ).loc main_arg1)
/-- The key weights. -/
abbrev argK : FVec Ideal S1024x1024 .f32 := m ((c : Thread nD τ).loc main_arg2)
/-- The value weights. -/
abbrev argV : FVec Ideal S1024x1024 .f32 := m ((c : Thread nD τ).loc main_arg3)
/-- The output weights. -/
abbrev argO : FVec Ideal S1024x1024 .f32 := m ((c : Thread nD τ).loc main_arg4)
/-- The similarity weights. -/
abbrev argS : FVec Ideal S1024x64 .f32 := m ((c : Thread nD τ).loc main_arg5)

/-- The input rows as the first launch is given them. -/
theorem entry_x (s : Fin 2048) (d : Fin 1024) : V9 m ρ c main_v0 (ix2 s d) = argX m c (ix3 0 s d) := by
  have h : V9 m ρ c main_v0 = shapeCast S2048x1024 (argX m c) shapeCasts_S1x2048x1024_S2048x1024 := by
    sl_kernel_rfl
  rw [h]
  pointwise

/-- The three weights side by side. -/
def side (k : Fin 1024) (j : Fin 3072) : EReal :=
  if h : j.val < 1024 then argQ m c (ix2 k ⟨j, h⟩)
  else if h' : j.val < 2048 then argK m c (ix2 k ⟨j - 1024, by omega⟩) else argV m c (ix2 k ⟨j - 2048, by omega⟩)

/-- The weights as the first launch is given them. -/
theorem entry_w (k : Fin 1024) (j : Fin 3072) : V9 m ρ c main_v1 (ix2 k j) = side m c k j := by
  have h : V9 m ρ c main_v1 = concatenate S1024x3072 1 [⟨S1024x1024, argQ m c⟩, ⟨S1024x1024, argK m c⟩, ⟨S1024x1024, argV m c⟩]
      concatenates_S1024x1024_S1024x1024_S1024x1024_S1024x3072_d1 := by
    sl_kernel_rfl
  rw [h]
  pointwise
  unfold side
  by_cases h₁ : j.val < 1024
  · rw [dif_pos h₁, dif_pos h₁]
  · rw [dif_neg h₁, dif_neg h₁]
    by_cases h₂ : j.val < 2048
    · rw [dif_pos (show j.val - 1024 < 1024 by omega), dif_pos h₂]
    · rw [dif_neg (show ¬ j.val - 1024 < 1024 by omega), dif_neg h₂]
      simp only [show j.val - 1024 - 1024 = j.val - 2048 by omega]

/-- The noise of one sample, as the kernel computes it from the sample's draws. -/
def noise (u : FVec Ideal S1x2048x2048 .f32) : FVec Ideal S2048x2048 .f32 :=
  shapeCast S2048x2048 (Host.divf (Host.negf (Host.log (Host.negf (Host.log u))))
    (broadcastInDim S1x2048x2048 ![] bcast_S_S1x2048x2048 (constant S_ .f32 0x41000000#32))) shapeCasts_S1x2048x2048_S2048x2048

/-- At an element. -/
theorem noise_apply (u : FVec Ideal S1x2048x2048 .f32) (i : Fin 2) (v : Model.Draws) (hv : ∀ s t, u (ix3 0 s t) = v (ix4 i 0 s t)) (s t : Fin 2048) :
    noise u (ix2 s t) = Model.gumbel v i s t := by
  unfold noise
  pointwise
  rw [Model.ofBits_eight, Ideal.div_coe (by norm_num), hv]
  rfl

/-- Two squares, one above the other. -/
def piled (a b : FVec Ideal S2048x2048 .f32) : FVec Ideal S2x2048x2048 .f32 :=
  concatenate S2x2048x2048 0 [⟨S1x2048x2048, broadcastInDim S1x2048x2048 ![1, 2] bcast_S2048x2048_S1x2048x2048_1_2 a⟩,
    ⟨S1x2048x2048, broadcastInDim S1x2048x2048 ![1, 2] bcast_S2048x2048_S1x2048x2048_1_2 b⟩] concatenates_S1x2048x2048_S1x2048x2048_S2x2048x2048_d0

/-- At an element of the first. -/
theorem piled_first (a b : FVec Ideal S2048x2048 .f32) (s t : Fin 2048) : piled a b (ix3 0 s t) = a (ix2 s t) := by
  unfold piled
  pointwise
/-- At an element of the second. -/
theorem piled_second (a b : FVec Ideal S2048x2048 .f32) (s t : Fin 2048) : piled a b (ix3 1 s t) = b (ix2 s t) := by
  unfold piled
  pointwise

section Stretches

variable (σ : Valuation τ sig (Elt Ideal))

/-- The first stretch leaves the key. -/
theorem key_after : StableHlo.after hostOps0 σ (Proc.devRef .tc main_v8) = Uniform.seed := by sl_kernel_rfl
/-- And the number to fold in first. -/
theorem zero_after : StableHlo.after hostOps0 σ (Proc.devRef .tc main_c_2) = constantI S_ 32 0#32 := by sl_kernel_rfl
/-- The first folding. -/
theorem fold_first : StableHlo.after hostOps0_1 σ (Proc.devRef .tc main_v9)
    = Cert.Pre_separated.fn_threefry_fold_in (F := Ideal) (σ (Proc.devRef .tc main_v8)) (σ (Proc.devRef .tc main_c_2)) := by sl_kernel_rfl
/-- The bounds of the first drawing: the lower. -/
theorem low_first : StableHlo.after hostOps0_2 σ (Proc.devRef .tc main_cst) = constant (F := Ideal) S_ .f32 0x358637BD#32 := by sl_kernel_rfl
/-- The upper. -/
theorem high_first : StableHlo.after hostOps0_2 σ (Proc.devRef .tc main_cst_3) = constant (F := Ideal) S_ .f32 0x3F7FFFEF#32 := by sl_kernel_rfl
/-- The first drawing. -/
theorem uniform_first : StableHlo.after hostOps0_3 σ (Proc.devRef .tc main_v10)
    = Cert.Pre_separated.fn_uniform (F := Ideal) (σ (Proc.devRef .tc main_v9)) (σ (Proc.devRef .tc main_cst)) (σ (Proc.devRef .tc main_cst_3)) := by
  sl_kernel_rfl
/-- The first noise. -/
theorem noise_first : StableHlo.after hostOps0_4 σ (Proc.devRef .tc main_v17) = noise (σ (Proc.devRef .tc main_v10)) := by sl_kernel_rfl
/-- The number to fold in second. -/
theorem one_after : StableHlo.after hostOps0_4 σ (Proc.devRef .tc main_c_5) = constantI S_ 32 1#32 := by sl_kernel_rfl
/-- The second folding. -/
theorem fold_second : StableHlo.after hostOps0_5 σ (Proc.devRef .tc main_v18)
    = Cert.Pre_separated.fn_threefry_fold_in (F := Ideal) (σ (Proc.devRef .tc main_v8)) (σ (Proc.devRef .tc main_c_5)) := by sl_kernel_rfl
/-- The bounds of the second drawing: the lower. -/
theorem low_second : StableHlo.after hostOps0_6 σ (Proc.devRef .tc main_cst_6) = constant (F := Ideal) S_ .f32 0x358637BD#32 := by sl_kernel_rfl
/-- The upper. -/
theorem high_second : StableHlo.after hostOps0_6 σ (Proc.devRef .tc main_cst_7) = constant (F := Ideal) S_ .f32 0x3F7FFFEF#32 := by sl_kernel_rfl
/-- The second drawing. -/
theorem uniform_second : StableHlo.after hostOps0_7 σ (Proc.devRef .tc main_v19)
    = Cert.Pre_separated.fn_uniform (F := Ideal) (σ (Proc.devRef .tc main_v18)) (σ (Proc.devRef .tc main_cst_6)) (σ (Proc.devRef .tc main_cst_7)) := by
  sl_kernel_rfl
/-- Both noises, one above the other. -/
theorem noise_both : StableHlo.after hostOps0_8 σ (Proc.devRef .tc main_v29)
    = piled (σ (Proc.devRef .tc main_v17)) (noise (σ (Proc.devRef .tc main_v19))) := by sl_kernel_rfl

end Stretches

/-- The key before the second folding is still the key. -/
theorem key_second : W5 m ρ c (Proc.devRef .tc main_v8) = Uniform.seed :=
  (W5_of m ρ c main_v8 (by decide +kernel)).trans <| (W4_of m ρ c main_v8 (by decide +kernel)).trans <|
    (W3_of m ρ c main_v8 (by decide +kernel)).trans <| (W2_of m ρ c main_v8 (by decide +kernel)).trans (key_after _)

/-- The first sample's draws. -/
theorem draw_first : W4 m ρ c (Proc.devRef .tc main_v10) = Uniform.draw 0#32 := by
  refine (uniform_first (W3 m ρ c)).trans ?_
  have hk : W3 m ρ c (Proc.devRef .tc main_v9) = Cert.Pre_separated.fn_threefry_fold_in (F := Ideal) Uniform.seed (constantI S_ 32 0#32) :=
    (W3_of m ρ c main_v9 (by decide +kernel)).trans ((fold_first (W1 m ρ c)).trans
      (congrArg₂ (Cert.Pre_separated.fn_threefry_fold_in (F := Ideal)) (key_after (W0 m ρ c)) (zero_after (W0 m ρ c))))
  unfold Uniform.draw
  exact (congr (congr (congrArg (Cert.Pre_separated.fn_uniform (F := Ideal)) hk) (low_first (W2 m ρ c))) (high_first (W2 m ρ c)))

/-- The second sample's draws. -/
theorem draw_second : W8 m ρ c (Proc.devRef .tc main_v19) = Uniform.draw 1#32 := by
  refine (uniform_second (W7 m ρ c)).trans ?_
  have hk : W7 m ρ c (Proc.devRef .tc main_v18) = Cert.Pre_separated.fn_threefry_fold_in (F := Ideal) Uniform.seed (constantI S_ 32 1#32) :=
    (W7_of m ρ c main_v18 (by decide +kernel)).trans ((fold_second (W5 m ρ c)).trans
      (congrArg₂ (Cert.Pre_separated.fn_threefry_fold_in (F := Ideal)) (key_second m ρ c) (one_after (W4 m ρ c))))
  unfold Uniform.draw
  exact (congr (congr (congrArg (Cert.Pre_separated.fn_uniform (F := Ideal)) hk) (low_second (W6 m ρ c))) (high_second (W6 m ρ c)))

/-- The kernel's noise comes from the draws. -/
theorem entry_noises : V9 m ρ c main_v29 = piled (noise (Uniform.draw 0#32)) (noise (Uniform.draw 1#32)) := by
  refine (noise_both (W8 m ρ c)).trans (congrArg₂ piled ?_ (congrArg noise (draw_second m ρ c)))
  exact (W8_of m ρ c main_v17 (by decide +kernel)).trans <| (W7_of m ρ c main_v17 (by decide +kernel)).trans <|
    (W6_of m ρ c main_v17 (by decide +kernel)).trans <| (noise_first (W4 m ρ c)).trans (congrArg noise (draw_first m ρ c))

/-- The noise as the second launch is given it. -/
theorem entry_g (i : Fin 2) (s t : Fin 2048) : V9 m ρ c main_v29 (ix3 i s t) = Model.gumbel Uniform.draws i s t := by
  refine (congrFun (entry_noises m ρ c) (ix3 i s t)).trans ?_
  fin_cases i
  · exact (piled_first _ _ s t).trans (noise_apply _ 0 Uniform.draws Uniform.draws_first s t)
  · exact (piled_second _ _ s t).trans (noise_apply _ 1 Uniform.draws Uniform.draws_second s t)

/-- The similarity weights as the first launch is given them. -/
theorem entry_s : V9 m ρ c main_arg5 = argS m c := by
  sl_kernel_rfl

/-- The output weights as the launches are given them. -/
theorem entry_o : V9 m ρ c main_arg4 = argO m c := by
  sl_kernel_rfl

end Cert.Entry

end
-- ==== Proof.Arrays.lean ====
/-
  The arrays the kernel's two launches read and write, at an element, from the argument arrays.
-/
module

public import proofs.«01_k».proof.Proof.Heads
public import proofs.«01_k».proof.Proof.Entry
public import proofs.«01_k».proof.Proof.Uniform
public import Idealize.ShloMosaic.Lib.Pipeline.ValueKit

@[expose] public section

noncomputable section

namespace Cert.Arrays

open Idealize.ShloMosaic Idealize.ShloMosaic.TcCoe Idealize.ShloMosaic.Tactic
open Idealize.SL.Sem
open Cert.KernelIdeal Cert.KernelIdeal.Gen Cert.Entry

variable (m : (ℓ : Loc nD τ sig) → Buf (Elt Ideal) ℓ) (ρ : Dev nD → PrngReg) (c : Dev nD)

/-- The rows against the three weights side by side: queries, keys and values. -/
def qkv (s : Fin 2048) (j : Fin 3072) : EReal := ∑ k : Fin 1024, argX m c (ix3 0 s k) * side m c k j

/-- The first launch's blocks: which block of each array a grid point reads or writes. -/
theorem idx0 : ∀ t : Fin cfg0.N, win0_0.index t = ![(grid0.coords t 0).val, 0] ∧ win0_1.index t = ![0, 0]
    ∧ win0_2.index t = ![0, 0] ∧ win0_3.index t = ![(grid0.coords t 0).val, 0] ∧ win0_4.index t = ![(grid0.coords t 0).val, 0] :=
  (by decide +kernel : ∀ t : Fin grid0.N, win0_0.index t = ![(grid0.coords t 0).val, 0] ∧ win0_1.index t = ![0, 0]
    ∧ win0_2.index t = ![0, 0] ∧ win0_3.index t = ![(grid0.coords t 0).val, 0] ∧ win0_4.index t = ![(grid0.coords t 0).val, 0])

/-- What one block of the first launch computes: rows against the weights. -/
theorem pay2_apply (x : Vec Ideal S256x1024 .f32) (w : Vec Ideal S1024x3072 .f32) (r : Fin 256) (j : Fin 3072) :
    k0_pay2 x w (ix2 r j) = ∑ k : Fin 1024, x (ix2 r k) * w (ix2 k j) := by
  unfold_payloads
  pointwise

/-- And against the similarity weights. -/
theorem pay3_apply (x : Vec Ideal S256x1024 .f32) (w : Vec Ideal S1024x64 .f32) (r : Fin 256) (j : Fin 64) :
    k0_pay3 x w (ix2 r j) = ∑ k : Fin 1024, x (ix2 r k) * w (ix2 k j) := by
  unfold_payloads
  pointwise

/-- Row `r` of the block a grid point of the first launch works on. -/
def row0 (t : Fin cfg0.N) (r : Fin 256) : Fin 2048 :=
  ⟨(grid0.coords t 0).val * 256 + r, by have h : (grid0.coords t 0).val < 8 := (grid0.coords t 0).isLt; omega⟩

/-- Rows against weights, as an array. -/
def times {n : Nat} (X : Fin 2048 → Fin 1024 → EReal) (w : Fin 1024 → Fin n → EReal) : FVec Ideal ⟨2, ![2048, n]⟩ .f32 :=
  fun i => ∑ k : Fin 1024, X (i 0) k * w k (i 1)

/-- What the first launch leaves in the projected rows, from what it is given. -/
theorem qkv_gen (V : (c : Dev nD) → (b : Ref sig .tc) → Buf (Elt Ideal) ((c : Thread nD τ).loc b)) (X : Fin 2048 → Fin 1024 → EReal)
    (w : Fin 1024 → Fin 3072 → EReal) (hX : ∀ s d, V c main_v0 (ix2 s d) = X s d) (hW : ∀ k j, V c main_v1 (ix2 k j) = w k j)
    (s : Fin 2048) (j : Fin 3072) : (dat0 V c).arrAt 3 cfg0.N (ix2 s j) = ∑ k : Fin 1024, X s k * w k j := by
  refine congrFun ((dat0 V c).arrAt_eq_of_covers 3 (times X w) (by decide +kernel) fun t hf y => ?_) (ix2 s j)
  obtain ⟨e0, e1, e2, e3, e4⟩ := idx0 t
  rw [after0_3]
  frame_out
  blk_simp
  obtain ⟨r, n, rfl⟩ : ∃ (r : Fin 256) (n : Fin 3072), y = ix2 r n := ⟨y 0, y 1, by funext a; fin_cases a <;> rfl⟩
  refine (pay2_apply _ _ r n).trans (Finset.sum_congr rfl fun k _ => ?_)
  have hx : iblk0 V c 0 t (ix2 r k) = V c main_v0 (ix2 (row0 t r) k) := by
    blk_ext [iblk0, e0, row0]
  have hw : iblk0 V c 1 t (ix2 k n) = V c main_v1 (ix2 k n) := by
    blk_ext [iblk0, e1]
  have hr : (win0_3.blk t).view.emb (ix2 r n : S256x3072.Idx) = ix2 (row0 t r) n := by
    blk_ext [e3, row0]
  rw [hx, hw, hr, hX, hW]
  rfl

/-- And in the rows projected for the similarity. -/
theorem proj_gen (V : (c : Dev nD) → (b : Ref sig .tc) → Buf (Elt Ideal) ((c : Thread nD τ).loc b)) (X : Fin 2048 → Fin 1024 → EReal)
    (w : Fin 1024 → Fin 64 → EReal) (hX : ∀ s d, V c main_v0 (ix2 s d) = X s d) (hW : ∀ k j, V c main_arg5 (ix2 k j) = w k j)
    (s : Fin 2048) (e : Fin 64) : (dat0 V c).arrAt 4 cfg0.N (ix2 s e) = ∑ k : Fin 1024, X s k * w k e := by
  refine congrFun ((dat0 V c).arrAt_eq_of_covers 4 (times X w) (by decide +kernel) fun t hf y => ?_) (ix2 s e)
  obtain ⟨e0, e1, e2, e3, e4⟩ := idx0 t
  rw [after0_4]
  frame_out
  blk_simp
  obtain ⟨r, n, rfl⟩ : ∃ (r : Fin 256) (n : Fin 64), y = ix2 r n := ⟨y 0, y 1, by funext a; fin_cases a <;> rfl⟩
  refine (pay3_apply _ _ r n).trans (Finset.sum_congr rfl fun k _ => ?_)
  have hx : iblk0 V c 0 t (ix2 r k) = V c main_v0 (ix2 (row0 t r) k) := by
    blk_ext [iblk0, e0, row0]
  have hw : iblk0 V c 2 t (ix2 k n) = V c main_arg5 (ix2 k n) := by
    blk_ext [iblk0, e2]
  have hr : (win0_4.blk t).view.emb (ix2 r n : S256x64.Idx) = ix2 (row0 t r) n := by
    blk_ext [e4, row0]
  rw [hx, hw, hr, hX, hW]
  rfl

/-- The first launch leaves the projected rows. -/
theorem qkv_arr (s : Fin 2048) (j : Fin 3072) : (dat0 (V9 m ρ) c).arrAt 3 cfg0.N (ix2 s j) = qkv m c s j :=
  qkv_gen c (V9 m ρ) (fun s d => argX m c (ix3 0 s d)) (side m c) (entry_x m ρ c) (entry_w m ρ c) s j

/-- The first launch leaves the rows projected for the similarity. -/
theorem proj_arr (s : Fin 2048) (e : Fin 64) :
    (dat0 (V9 m ρ) c).arrAt 4 cfg0.N (ix2 s e) = Model.proj (argX m c) (argS m c) s e :=
  proj_gen c (V9 m ρ) (fun s d => argX m c (ix3 0 s d)) (fun k e => argS m c (ix2 k e)) (entry_x m ρ c)
    (fun k e => congrFun (entry_s m ρ c) (ix2 k e)) s e

/-- What the second launch is given: the projected rows. -/
theorem mid_qkv (s : Fin 2048) (j : Fin 3072) : V10 m ρ c main_v30_0 (ix2 s j) = qkv m c s j :=
  (congrFun (hF0 m ρ c 3).symm (ix2 s j)).trans (qkv_arr m ρ c s j)

/-- The rows projected for the similarity. -/
theorem mid_proj (s : Fin 2048) (e : Fin 64) : V10 m ρ c main_v30_1 (ix2 s e) = Model.proj (argX m c) (argS m c) s e :=
  (congrFun (hF0 m ρ c 4).symm (ix2 s e)).trans (proj_arr m ρ c s e)

/-- The noise. -/
theorem mid_g (i : Fin 2) (s t : Fin 2048) : V10 m ρ c main_v29 (ix3 i s t) = Model.gumbel Uniform.draws i s t :=
  (congrFun (W10_of m ρ c main_v29 (by decide +kernel)) (ix3 i s t)).trans (entry_g m ρ c i s t)

/-- The output weights. -/
theorem mid_o : V10 m ρ c main_arg4 = argO m c := (W10_of m ρ c main_arg4 (by decide +kernel)).trans (entry_o m ρ c)

/-- The second launch's blocks. -/
theorem idx1 : ∀ t : Fin cfg1.N, win1_0.index t = ![(grid1.coords t 0).val, 0] ∧ win1_1.index t = ![0, 1]
    ∧ win1_2.index t = ![0, 2] ∧ win1_3.index t = ![(grid1.coords t 0).val, 0] ∧ win1_4.index t = ![0, 0]
    ∧ win1_5.index t = ![0, (grid1.coords t 0).val, 0] ∧ win1_6.index t = ![0, 0]
    ∧ win1_7.index t = ![(grid1.coords t 0).val, 0] :=
  (by decide +kernel : ∀ t : Fin grid1.N, win1_0.index t = ![(grid1.coords t 0).val, 0] ∧ win1_1.index t = ![0, 1]
    ∧ win1_2.index t = ![0, 2] ∧ win1_3.index t = ![(grid1.coords t 0).val, 0] ∧ win1_4.index t = ![0, 0]
    ∧ win1_5.index t = ![0, (grid1.coords t 0).val, 0] ∧ win1_6.index t = ![0, 0]
    ∧ win1_7.index t = ![(grid1.coords t 0).val, 0])

/-- Row `r` of the block a grid point of the second launch works on. -/
def row1 (t : Fin cfg1.N) (r : Fin 256) : Fin 2048 :=
  ⟨(grid1.coords t 0).val * 256 + r, by have h : (grid1.coords t 0).val < 8 := (grid1.coords t 0).isLt; omega⟩

section Reads

variable (V : (c : Dev nD) → (b : Ref sig .tc) → Buf (Elt Ideal) ((c : Thread nD τ).loc b))

/-- A block of rows of the projected rows: the queries. -/
theorem read_q (t : Fin cfg1.N) (r : Fin 256) (d : Fin 1024) :
    iblk1 V c 0 t (ix2 r d) = V c main_v30_0 (ix2 (row1 t r) ⟨d.val, by omega⟩) := by
  have e := (idx1 t).1
  blk_ext [iblk1, e, row1]

/-- The keys of every row. -/
theorem read_k (t : Fin cfg1.N) (k : Fin 2048) (d : Fin 1024) :
    iblk1 V c 1 t (ix2 k d) = V c main_v30_0 (ix2 k ⟨1024 + d.val, by omega⟩) := by
  have e := (idx1 t).2.1
  blk_ext [iblk1, e]

/-- The values of every row. -/
theorem read_v (t : Fin cfg1.N) (k : Fin 2048) (d : Fin 1024) :
    iblk1 V c 2 t (ix2 k d) = V c main_v30_0 (ix2 k ⟨2048 + d.val, by omega⟩) := by
  have e := (idx1 t).2.2.1
  blk_ext [iblk1, e]

/-- A block of rows of the similarity's projection. -/
theorem read_a (t : Fin cfg1.N) (r : Fin 256) (d : Fin 64) :
    iblk1 V c 3 t (ix2 r d) = V c main_v30_1 (ix2 (row1 t r) d) := by
  have e := (idx1 t).2.2.2.1
  blk_ext [iblk1, e, row1]

/-- The similarity's projection of every row. -/
theorem read_b (t : Fin cfg1.N) (k : Fin 2048) (d : Fin 64) :
    iblk1 V c 4 t (ix2 k d) = V c main_v30_1 (ix2 k d) := by
  have e := (idx1 t).2.2.2.2.1
  blk_ext [iblk1, e]

/-- A block of rows of the noise. -/
theorem read_g (t : Fin cfg1.N) (i : Fin 2) (r : Fin 256) (k : Fin 2048) :
    iblk1 V c 5 t (ix3 i r k) = V c main_v29 (ix3 i (row1 t r) k) := by
  have e := (idx1 t).2.2.2.2.2.1
  blk_ext [iblk1, e, row1]

/-- The output weights. -/
theorem read_o (t : Fin cfg1.N) (k d : Fin 1024) : iblk1 V c 6 t (ix2 k d) = V c main_arg4 (ix2 k d) := by
  have e := (idx1 t).2.2.2.2.2.2.1
  blk_ext [iblk1, e]

end Reads

/-- The noisy similarities of a block, as the second launch adds them. -/
theorem read_pert (t : Fin cfg1.N) (i : Fin 2) (r : Fin 256) (k : Fin 2048) (a : FVec Ideal S256x64 .f32)
    (b : FVec Ideal S2048x64 .f32) (g : FVec Ideal S2x256x2048 .f32) (ha : a = iblk1 (V10 m ρ) c 3 t)
    (hb : b = iblk1 (V10 m ρ) c 4 t) (hg : g = iblk1 (V10 m ρ) c 5 t) :
    (∑ e : Fin 64, a (ix2 r e) * b (ix2 k e)) * ((1 / 8 : ℝ) : EReal) + g (ix3 i r k)
      = Model.pert (argX m c) (argS m c) Uniform.draws i (row1 t r) k := by
  subst ha hb hg
  rw [read_g, mid_g]
  unfold Model.pert
  refine congrArg (fun z : EReal => z * ((1 / 8 : ℝ) : EReal) + _) (Finset.sum_congr rfl fun e _ => ?_)
  rw [read_a, read_b, mid_proj, mid_proj]

variable (good : Model.Good (argX m c) (argQ m c) (argK m c) (argV m c) (argO m c) (argS m c) Uniform.draws)
include good

/-- The first 1024 columns are the queries. -/
theorem qkv_q (s : Fin 2048) (d : Fin 1024) (j : Fin 3072) (h : j.val = d.val) :
    qkv m c s j = (Model.lin (argX m c) (argQ m c) s d : EReal) := by
  rw [← Model.lin_coe _ _ good.fx good.fq]
  refine Finset.sum_congr rfl fun k _ => congrArg _ ?_
  unfold side
  rw [dif_pos (by omega)]
  exact congrArg (fun d => argQ m c (ix2 k d)) (Fin.ext h)

/-- The next 1024 are the keys. -/
theorem qkv_k (s : Fin 2048) (d : Fin 1024) (j : Fin 3072) (h : j.val = 1024 + d.val) :
    qkv m c s j = (Model.lin (argX m c) (argK m c) s d : EReal) := by
  rw [← Model.lin_coe _ _ good.fx good.fk]
  refine Finset.sum_congr rfl fun k _ => congrArg _ ?_
  unfold side
  rw [dif_neg (by omega), dif_pos (by omega)]
  exact congrArg (fun d => argK m c (ix2 k d)) (Fin.ext (by simp [h]))

/-- The last 1024 are the values. -/
theorem qkv_v (s : Fin 2048) (d : Fin 1024) (j : Fin 3072) (h : j.val = 2048 + d.val) :
    qkv m c s j = (Model.lin (argX m c) (argV m c) s d : EReal) := by
  rw [← Model.lin_coe _ _ good.fx good.fv]
  refine Finset.sum_congr rfl fun k _ => congrArg _ ?_
  unfold side
  rw [dif_neg (by omega), dif_neg (by omega)]
  exact congrArg (fun d => argV m c (ix2 k d)) (Fin.ext (by simp [h]))

/-- The second launch leaves the answer. -/
theorem answer_arr (s : Fin 2048) (n : Fin 1024) : (dat1 (V10 m ρ) c).arrAt 7 cfg1.N (ix2 s n)
    = (Model.answer (argX m c) (argQ m c) (argK m c) (argV m c) (argO m c) (argS m c) Uniform.draws s n : EReal) := by
  refine congrFun ((dat1 (V10 m ρ) c).arrAt_eq_of_covers 7
    (fun i => ((Model.answer (argX m c) (argQ m c) (argK m c) (argV m c) (argO m c) (argS m c) Uniform.draws (i 0) (i 1) : ℝ) : EReal))
    (by decide +kernel) fun t hf y => ?_) (ix2 s n)
  have e7 := (idx1 t).2.2.2.2.2.2.2
  rw [after1_7, Block.outsAt1_eq]
  blk_simp
  obtain ⟨r, j, rfl⟩ : ∃ (r : Fin 256) (j : Fin 1024), y = ix2 r j := ⟨y 0, y 1, by funext a; fin_cases a <;> rfl⟩
  have hr : (win1_7.blk t).view.emb (ix2 r j : S256x1024.Idx) = ix2 (row1 t r) j := by
    blk_ext [e7, row1]
  rw [hr]
  change _ = (Model.answer (argX m c) (argQ m c) (argK m c) (argV m c) (argO m c) (argS m c) Uniform.draws (row1 t r) j : EReal)
  refine (Block.block_apply _ _ _ _ _ _ _ (Model.lin (argX m c) (argQ m c)) (Model.lin (argX m c) (argK m c))
    (Model.lin (argX m c) (argV m c)) (fun d n => (argO m c (ix2 d n)).toReal) _ _ r (row1 t r)
    (fun d => (read_q c (V10 m ρ) t r d).trans ((mid_qkv m ρ c _ _).trans (qkv_q m c good _ d _ rfl)))
    (fun k d => (read_k c (V10 m ρ) t k d).trans ((mid_qkv m ρ c _ _).trans (qkv_k m c good _ d _ rfl)))
    (fun k d => (read_v c (V10 m ρ) t k d).trans ((mid_qkv m ρ c _ _).trans (qkv_v m c good _ d _ rfl)))
    (fun d n => (read_o c (V10 m ρ) t d n).trans ((congrFun (mid_o m ρ c) (ix2 d n)).trans (good.fo d n)))
    (fun k => read_pert m ρ c t 0 r k _ _ _ rfl rfl rfl) (fun k => read_pert m ρ c t 1 r k _ _ _ rfl rfl rfl)
    (good.sep 0 _) (good.sep 1 _) (good.lanes 0 _) (good.lanes 1 _) j).trans ?_
  exact congrArg (fun z : ℝ => (z : EReal)) (Model.answer_eq _ _ _ _ _ _ _ _ _).symm

end Cert.Arrays
-- ==== Proof.RunKernel.lean ====
/-
  The kernel's run with its result: every fair execution ends with the answer in the result array and the arguments as they were.
-/
module

public import proofs.«01_k».proof.Proof.Arrays

@[expose] public section

noncomputable section

namespace Cert.RunKernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Arrays Cert.Entry

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every fair execution of the kernel ends, without fault, with the result array and the arguments as the host operations
    after the second launch leave them. -/
theorem ends : θ_run defs (onTc (τ := τ) (main (F := Ideal))) ⟨m, fun _ => 0, ρ⟩ (fun r => ∀ c : Dev nD,
      r.2.mem ((c.tc : Thread nD τ).loc main_v32) = W12 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h _ c =>
      ⟨h c _ (mem_uc main_v32 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c)⟩)

/-- A leading axis of length one reads through. -/
theorem flat_rows (A : FVec Ideal S2048x1024 .f32) (s : Fin 2048) (n : Fin 1024) :
    shapeCast S1x2048x1024 A shapeCasts_S2048x1024_S1x2048x1024 (ix3 0 s n) = A (ix2 s n) := by
  pointwise

/-- The result array is the second launch's, under a leading axis of length one. -/
theorem result_read (c : Dev nD) (s : Fin 2048) (n : Fin 1024) :
    (W12 m ρ c (Proc.devRef .tc main_v32) : FVec Ideal S1x2048x1024 .f32) (ix3 0 s n) = (dat1 (V10 m ρ) c).arrAt 7 cfg1.N (ix2 s n) := by
  have h : W12 m ρ c (Proc.devRef .tc main_v32)
      = shapeCast S1x2048x1024 ((dat1 (V10 m ρ) c).arrAt 7 cfg1.N : FVec Ideal S2048x1024 .f32) shapeCasts_S2048x1024_S1x2048x1024 := by
    rw [← W11_arr m ρ c 7]
    unfold_abbrev_sides
    after_results
    rfl
  rw [h]
  generalize (dat1 (V10 m ρ) c).arrAt 7 cfg1.N = A
  exact flat_rows A s n

end Cert.RunKernel

end
-- ==== Proof.Lines.lean ====
/-
  The reference as one list of operations. Its main function calls the drawing functions, and those call the mixing function, whose text
  is cut in parts: the list of a sequence is put together from the lists of what it calls.
-/
module

public import proofs.«01_k».proof.Proof.Gen.ReferenceIdeal
public import Idealize.ShloMosaic.Lib.StableHlo.RunHlo
public import Idealize.ShloMosaic.Lib.Tactic

@[expose] public section

-- a part of the main function has sixty operations, one instance each
set_option synthInstance.maxHeartbeats 4000000
set_option maxHeartbeats 40000000

noncomputable section

namespace Cert.Lines

open Idealize.ShloMosaic Idealize.ShloMosaic.StableHlo Idealize.SL.Sem
open Cert.ReferenceIdeal Cert.ReferenceIdeal.Gen

variable {F : FTy → Type} [FloatOps F]

/-- A program of the reference's signature. -/
abbrev Code (F : FTy → Type) [FloatOps F] := Prog (TpuEff nD τ sig (Elt F) (Pipeline.Sig Λ₀ (Fin 0) fun p => (pcfgs (F := F) p).Adm) .tc) PUnit

/-- The program runs these operations one after the other, each on the buffers of the core and with a result it determines. -/
structure Line (p : Code F) (l : List (HloOp τ sig (Elt F))) : Prop where
  /-- The program is the operations in a row. -/
  is : IsSeq p l
  /-- They touch buffers of the core only. -/
  bufs : ∀ op ∈ l, op.bufs ⊆ tcRefs τ sig
  /-- None leaves its result open. -/
  fresh : ∀ op ∈ l, op.fresh = ∅

/-- The empty program. -/
theorem Line.nil : Line (F := F) (pure ⟨⟩) [] := ⟨IsSeq.nil, nofun, nofun⟩

/-- One operation, then more. -/
theorem Line.cons {op : HloOp τ sig (Elt F)} {k : Code F} {l : List (HloOp τ sig (Elt F))} (hb : op.bufs ⊆ tcRefs τ sig) (hf : op.fresh = ∅)
    (h : Line k l) : Line ((hlo rfl op fun _ => .ret (⟨⟩ : PUnit)) >>= fun _ => k) (op :: l) :=
  ⟨IsSeq.cons h.is, fun o ho => (List.mem_cons.mp ho).elim (fun e => e ▸ hb) (h.bufs o), fun o ho => (List.mem_cons.mp ho).elim (fun e => e ▸ hf) (h.fresh o)⟩

/-- One operation, and nothing after it. -/
theorem Line.last {op : HloOp τ sig (Elt F)} (hb : op.bufs ⊆ tcRefs τ sig) (hf : op.fresh = ∅) :
    Line (F := F) (hlo rfl op fun _ => .ret (⟨⟩ : PUnit)) [op] := by
  have h := Line.cons hb hf (Line.nil (F := F))
  rwa [bind_pure_unit] at h

/-- A call, then more. -/
theorem Line.bind {p k : Code F} {l l' : List (HloOp τ sig (Elt F))} (h : Line p l) (h' : Line k l') : Line (p >>= fun _ => k) (l ++ l') :=
  ⟨by unfold IsSeq; rw [h.is, h'.is, seq_append], fun o ho => (List.mem_append.mp ho).elim (h.bufs o) (h'.bufs o),
    fun o ho => (List.mem_append.mp ho).elim (h.fresh o) (h'.fresh o)⟩

/-- An operation that touches buffers of the core only and leaves no result open. -/
class Plain (op : HloOp τ sig (Elt F)) : Prop where
  /-- The buffers are the core's. -/
  bufs : op.bufs ⊆ tcRefs τ sig
  /-- The result is determined. -/
  fresh : op.fresh = ∅

/-- A constant is plain. -/
instance (y : Ref sig .tc) (v : y.ty.Contents (Elt F)) (hy) : Plain (StableHlo.nullary (τ := τ) y v hy) := ⟨nullary_bufs_sub .., rfl⟩
/-- A function of one array is plain. -/
instance (x y : Ref sig .tc) (f : x.ty.Contents (Elt F) → y.ty.Contents (Elt F)) (hx hy) : Plain (StableHlo.unary (τ := τ) x y f hx hy) :=
  ⟨unary_bufs_sub .., rfl⟩
/-- A function of two arrays is plain. -/
instance (a b y : Ref sig .tc) (f : a.ty.Contents (Elt F) → b.ty.Contents (Elt F) → y.ty.Contents (Elt F)) (ha hb hy) :
    Plain (StableHlo.binary (τ := τ) a b y f ha hb hy) := ⟨binary_bufs_sub .., rfl⟩
/-- A function of three arrays is plain. -/
instance (c a b y : Ref sig .tc) (f : c.ty.Contents (Elt F) → a.ty.Contents (Elt F) → b.ty.Contents (Elt F) → y.ty.Contents (Elt F)) (hc ha hb hy) :
    Plain (StableHlo.ternary (τ := τ) c a b y f hc ha hb hy) := ⟨ternary_bufs_sub .., rfl⟩
/-- A change of shape is plain. -/
instance (x y : Ref sig .tc) (he hn hx hy) : Plain (F := F) (StableHlo.reshape (τ := τ) x y he hn hx hy) := ⟨reshape_bufs_sub .., rfl⟩

/-- A program with the list of its operations. -/
class Lined (p : Code F) where
  /-- The operations. -/
  list : List (HloOp τ sig (Elt F))
  /-- The program runs them. -/
  line : Line p list

/-- The empty program has no operation. -/
instance : Lined (F := F) (pure ⟨⟩) := ⟨_, Line.nil⟩
/-- An operation goes before the operations of what follows. -/
instance (op : HloOp τ sig (Elt F)) [h : Plain op] (k : Code F) [Lined k] : Lined ((hlo rfl op fun _ => .ret (⟨⟩ : PUnit)) >>= fun _ => k) :=
  ⟨_, Line.cons h.bufs h.fresh (Lined.line (p := k))⟩
/-- An operation at the end stands alone. -/
instance (op : HloOp τ sig (Elt F)) [h : Plain op] : Lined (F := F) (hlo rfl op fun _ => .ret (⟨⟩ : PUnit)) := ⟨_, Line.last h.bufs h.fresh⟩
/-- The operations of a call go before those of what follows. -/
instance (p k : Code F) [Lined p] [Lined k] : Lined (p >>= fun _ => k) := ⟨_, Line.bind (Lined.line (p := p)) (Lined.line (p := k))⟩

section Words

variable (a b : TRef sig ⟨S_, .i32⟩) (x y : TRef sig ⟨S1, .i32⟩) (φ : fn_threefry2x32.Bufs)

/-- The first part of the mixing function on single words. -/
instance : Lined (F := F) (fn_threefry2x32.body_part0 a b x y φ) := by
  delta fn_threefry2x32.body_part0
  infer_instance

/-- The second part of the mixing function on single words. -/
instance : Lined (F := F) (fn_threefry2x32.body_part1 a b x y φ) := by
  delta fn_threefry2x32.body_part1
  infer_instance

/-- The third part of the mixing function on single words. -/
instance : Lined (F := F) (fn_threefry2x32.body_part2 a b x y φ) := by
  delta fn_threefry2x32.body_part2
  infer_instance

/-- The last part of the mixing function on single words. -/
instance : Lined (F := F) (fn_threefry2x32.body_part3 a b x y φ) := by
  delta fn_threefry2x32.body_part3
  infer_instance

/-- The mixing function on single words. -/
instance : Lined (F := F) (fn_threefry2x32.body a b x y φ) := by
  delta fn_threefry2x32.body
  infer_instance

end Words

section Squares

variable (a b : TRef sig ⟨S_, .i32⟩) (x y : TRef sig ⟨S1x2048x2048, .i32⟩) (φ : fn_threefry2x32_0.Bufs)

/-- The first part of the mixing function on a square of words. -/
instance : Lined (F := F) (fn_threefry2x32_0.body_part0 a b x y φ) := by
  delta fn_threefry2x32_0.body_part0
  infer_instance

/-- The second part of the mixing function on a square of words. -/
instance : Lined (F := F) (fn_threefry2x32_0.body_part1 a b x y φ) := by
  delta fn_threefry2x32_0.body_part1
  infer_instance

/-- The third part of the mixing function on a square of words. -/
instance : Lined (F := F) (fn_threefry2x32_0.body_part2 a b x y φ) := by
  delta fn_threefry2x32_0.body_part2
  infer_instance

/-- The last part of the mixing function on a square of words. -/
instance : Lined (F := F) (fn_threefry2x32_0.body_part3 a b x y φ) := by
  delta fn_threefry2x32_0.body_part3
  infer_instance

/-- The mixing function on a square of words. -/
instance : Lined (F := F) (fn_threefry2x32_0.body a b x y φ) := by
  delta fn_threefry2x32_0.body
  infer_instance

end Squares

/-- The function that makes a key from a key and a number. -/
instance (k : TRef sig ⟨S2, .i32⟩) (i : TRef sig ⟨S_, .i32⟩) (φ : fn_threefry_fold_in.Bufs) : Lined (F := F) (fn_threefry_fold_in.body k i φ) := by
  delta fn_threefry_fold_in.body
  infer_instance

/-- The function that draws a square of numbers from a key. -/
instance (k : TRef sig ⟨S2, .i32⟩) (lo hi : TRef sig ⟨S_, .f32⟩) (φ : fn_uniform.Bufs) : Lined (F := F) (fn_uniform.body k lo hi φ) := by
  delta fn_uniform.body
  infer_instance

/-- The first part of the main function. -/
instance (d : Dev nD) : Lined (main_part0 (F := F) d) := by
  delta main_part0
  infer_instance

/-- The second part of the main function. -/
instance (d : Dev nD) : Lined (main_part1 (F := F) d) := by
  delta main_part1
  infer_instance

/-- The last part of the main function. -/
instance (d : Dev nD) : Lined (main_part2 (F := F) d) := by
  delta main_part2
  infer_instance

/-- The main function. -/
instance (d : Dev nD) : Lined (main (F := F) d) := by
  delta main
  infer_instance

/-- The operations of the reference. -/
def ops : List (HloOp τ sig (Elt F)) := Lined.list (main (F := F) 0)

end Cert.Lines

end
-- ==== Proof.Sample.lean ====
/-
  One sample of the reference, from the columns its top-k names: the softmax attention of each row over its chosen columns,
  through the output weights and halved. The reference is the sum of two of them.
-/
module

public import proofs.«01_k».proof.Proof.Gen.ReferenceIdeal
public import proofs.«01_k».proof.Proof.Model
public import Idealize.ShloMosaic.Lib.Tactic

@[expose] public section

noncomputable section

namespace Cert.Sample

open Idealize.ShloMosaic
open Cert.ReferenceIdeal Cert.ReferenceIdeal.Gen

variable {F : FTy → Type} [FloatOps F]

/-- The rows through a weight. -/
def through (x : FVec F S1x2048x1024 .f32) (w : FVec F S1024x1024 .f32) : FVec F S1x2048x1024 .f32 :=
  Host.dotGeneral dot_S1x2048x1024_S1024x1024_S1x2048x1024_2_0_01_1_n_n none x w

/-- The chosen columns as the gather takes them: a negative one would count from the end. -/
def starts (idx : IVec S1x2048x32 32) : IVec S1x2048x32x1 32 :=
  broadcastInDim S1x2048x32x1 ![0, 1, 2] bcast_S1x2048x32_S1x2048x32x1_0_1_2
    (select (cmpi .slt idx (broadcastInDim S1x2048x32 ![] bcast_S_S1x2048x32 (constantI S_ 32 0#32)))
      (addi idx (broadcastInDim S1x2048x32 ![] bcast_S_S1x2048x32 (constantI S_ 32 2048#32))) idx)

/-- The chosen rows of an array, split into heads. -/
def picked (a : FVec F S1x2048x1024 .f32) (idx : IVec S1x2048x32 32) : FVec F S1x2048x32x16x64 .f32 :=
  shapeCast S1x2048x32x16x64
    (Host.gather gather_S1x2048x1024_S1x2048x32x1_S1x2048x32x1024_3_1_0_0_1_3_111024 a (starts idx))
    shapeCasts_S1x2048x32x1024_S1x2048x32x16x64

/-- The logits of each head, row and chosen column. -/
def logits (q k : FVec F S1x2048x1024 .f32) (idx : IVec S1x2048x32 32) : FVec F S1x16x2048x32 .f32 :=
  Host.divf (Host.dotGeneral dot_S1x2048x16x64_S1x2048x32x16x64_S1x16x2048x32_3_4_n_2_021_031 none
      (shapeCast S1x2048x16x64 q shapeCasts_S1x2048x1024_S1x2048x16x64) (picked k idx))
    (broadcastInDim S1x16x2048x32 ![] bcast_S_S1x16x2048x32 (constant S_ .f32 0x41000000#32))

/-- The largest logit of each head and row. -/
def peak (l : FVec F S1x16x2048x32 .f32) : FVec F S1x16x2048 .f32 :=
  maximumf (broadcastInDim S1x16x2048 ![] bcast_S_S1x16x2048 (constant S_ .f32 0xFF800000#32))
    (Host.reduce FloatOps.maximumf l (constant S_ .f32 0xFF800000#32) reducesTo_S1x16x2048x32_S1x16x2048_d3 h_S_)

/-- A value of each head and row, at every chosen column. -/
def spread (p : FVec F S1x16x2048 .f32) : FVec F S1x16x2048x32 .f32 :=
  broadcastInDim S1x16x2048x32 ![0, 1, 2, 3] bcast_S1x16x2048x1_S1x16x2048x32_0_1_2_3
    (broadcastInDim S1x16x2048x1 ![0, 1, 2] bcast_S1x16x2048_S1x16x2048x1_0_1_2 p)

/-- The exponentials of the logits above a level. -/
def raised (l : FVec F S1x16x2048x32 .f32) (p : FVec F S1x16x2048 .f32) : FVec F S1x16x2048x32 .f32 :=
  Host.exp (subf l (spread p))

/-- The softmax weights of exponentials. -/
def weights (e : FVec F S1x16x2048x32 .f32) : FVec F S1x16x2048x32 .f32 :=
  Host.divf e (spread (Host.reduceAdd e (constant S_ .f32 0x00000000#32) reducesTo_S1x16x2048x32_S1x16x2048_d3 h_S_))

/-- The weighted values, through the output weights, halved. -/
def mixed (w : FVec F S1x16x2048x32 .f32) (v : FVec F S1x2048x1024 .f32) (idx : IVec S1x2048x32 32) (wo : FVec F S1024x1024 .f32) :
    FVec F S1x2048x1024 .f32 :=
  Host.divf (through (shapeCast S1x2048x1024 (Host.dotGeneral dot_S1x16x2048x32_S1x2048x32x16x64_S1x2048x16x64_3_2_n_4_021_013 none
      w (picked v idx)) shapeCasts_S1x2048x16x64_S1x2048x1024) wo)
    (broadcastInDim S1x2048x1024 ![] bcast_S_S1x2048x1024 (constant S_ .f32 0x40000000#32))

/-- One sample of the reference. -/
def sample (x : FVec F S1x2048x1024 .f32) (wq wk wv wo : FVec F S1024x1024 .f32) (idx : IVec S1x2048x32 32) : FVec F S1x2048x1024 .f32 :=
  mixed (weights (raised (logits (through x wq) (through x wk) idx) (peak (logits (through x wq) (through x wk) idx)))) (through x wv) idx wo

/-- The reference's gather of rows: which axes it takes whole and which it looks up. -/
abbrev rowsDims := gather_S1x2048x1024_S1x2048x32x1_S1x2048x32x1024_3_1_0_0_1_3_111024

/-- A gathered row is the row that the index names. -/
theorem gather_apply {α : Type} (a : S1x2048x1024.Idx → α) (i : IVec S1x2048x32x1 32) (s : Fin 2048) (k : Fin 32) (d : Fin 1024)
    (t : Fin 2048) (h : i (ix4 0 s k 0) = BitVec.ofNat 32 t.val) :
    Host.gather rowsDims a i (ix4 0 s k d) = a (ix3 0 t d) := by
  unfold Host.gather
  refine congrArg a (funext fun b => Fin.ext ?_)
  show rowsDims.start (ix4 0 s k d) i b + rowsDims.batchCoord (ix4 0 s k d) b + rowsDims.offCoord (ix4 0 s k d) b = _
  match b with
  | ⟨0, hb⟩ =>
    have h0 : rowsDims.start (ix4 0 s k d) i ⟨0, hb⟩ + rowsDims.batchCoord (ix4 0 s k d) ⟨0, hb⟩
        + rowsDims.offCoord (ix4 0 s k d) ⟨0, hb⟩ < 1 := (rowsDims.operandIdx (ix4 0 s k d) i ⟨0, hb⟩).isLt
    exact Nat.lt_one_iff.mp h0
  | ⟨1, hb⟩ =>
    change rowsDims.start (ix4 0 s k d) i 1 + rowsDims.batchCoord (ix4 0 s k d) 1 + rowsDims.offCoord (ix4 0 s k d) 1 = t.val
    rw [GatherDims.batchCoord_eq_zero _ _ _ (show (1 : Fin 3) ∉ rowsDims.operandBatchingDims by decide),
      GatherDims.offCoord_eq_zero _ _ _ (show (1 : Fin 3) ∉ rowsDims.sKept by decide)]
    simp only [Nat.add_zero]
    unfold GatherDims.start
    rw [dif_pos (show (1 : Fin 3) ∈ rowsDims.startIndexMap by decide)]
    have hi : ∀ z, rowsDims.siIdx (ix4 0 s k d) z = ix4 0 s k 0 := by
      intro z
      funext b; refine Fin.ext ?_
      match b with
      | ⟨0, _⟩ => rfl
      | ⟨1, _⟩ => rfl
      | ⟨2, _⟩ => rfl
      | ⟨3, _⟩ => exact Nat.lt_one_iff.mp (rowsDims.siIdx (ix4 0 s k d) z 3).isLt
    rw [hi, h]
    have ht : (BitVec.ofNat 32 t.val).toInt.toNat = t.val := by
      rw [BitVec.toInt_eq_toNat_of_lt (by rw [BitVec.toNat_ofNat]; omega), BitVec.toNat_ofNat]; omega
    show min (BitVec.ofNat 32 t.val).toInt.toNat (2048 - 1) = t.val
    rw [ht]; omega
  | ⟨2, hb⟩ =>
    change rowsDims.start (ix4 0 s k d) i 2 + rowsDims.batchCoord (ix4 0 s k d) 2 + rowsDims.offCoord (ix4 0 s k d) 2 = d.val
    rw [GatherDims.batchCoord_eq_zero _ _ _ (show (2 : Fin 3) ∉ rowsDims.operandBatchingDims by decide)]
    have hs : rowsDims.start (ix4 0 s k d) i 2 = 0 := by
      unfold GatherDims.start
      rw [dif_neg (show (2 : Fin 3) ∉ rowsDims.startIndexMap by decide)]
    rw [hs]
    simp only [Nat.zero_add]
    rfl

/-- The rows through a weight, at an element. -/
theorem through_apply (x : FVec Ideal S1x2048x1024 .f32) (w : FVec Ideal S1024x1024 .f32) (s : Fin 2048) (n : Fin 1024) :
    through x w (ix3 0 s n) = ∑ k : Fin 1024, x (ix3 0 s k) * w (ix2 k n) := by
  pointwise [through]

/-- A column below 2048 is not negative: it is taken as it is. -/
theorem starts_apply (idx : IVec S1x2048x32 32) (s : Fin 2048) (k : Fin 32) (t : Fin 2048) (h : idx (ix3 0 s k) = BitVec.ofNat 32 t.val) :
    starts idx (ix4 0 s k 0) = BitVec.ofNat 32 t.val := by
  pointwise [starts]
  rw [h]
  have hn : IntOp.cmpi .slt (BitVec.ofNat 32 t.val) 0#32 = 0#1 := by
    have : ¬ (BitVec.ofNat 32 t.val).toInt < (0#32 : BitVec 32).toInt := by
      rw [BitVec.toInt_eq_toNat_of_lt (by rw [BitVec.toNat_ofNat]; omega)]
      exact not_lt.mpr (Int.natCast_nonneg _)
    show BitVec.ofBool (decide ((BitVec.ofNat 32 t.val).toInt < (0#32 : BitVec 32).toInt)) = 0#1
    rw [decide_eq_false this]
    rfl
  rw [hn]
  rfl

/-- The chosen rows, at an element. -/
theorem picked_apply (a : FVec Ideal S1x2048x1024 .f32) (idx : IVec S1x2048x32 32) (s : Fin 2048) (k : Fin 32) (t : Fin 2048)
    (h : idx (ix3 0 s k) = BitVec.ofNat 32 t.val) (c : Fin 16) (e : Fin 64) :
    picked a idx (ix5 0 s k c e) = a (ix3 0 t ⟨64 * c + e, by omega⟩) := by
  pointwise [picked]
  refine (gather_apply a (starts idx) s k _ t (starts_apply idx s k t h)).trans ?_
  simp only [Nat.mul_comm]

/-- The word of minus infinity. -/
theorem ofBits_least : Ideal.ofBits .f32 0xFF800000#32 = (⊥ : EReal) := by
  simp [Ideal.ofBits, Ideal.ieee]

/-- The word of 2. -/
theorem ofBits_two : Ideal.ofBits .f32 0x40000000#32 = ((2 : ℝ) : EReal) := by
  simp [Ideal.ofBits, Ideal.ieee, -EReal.coe_mul]; norm_num

/-- A quotient of real numbers. -/
theorem div_real (a b : ℝ) (h : b ≠ 0) : Ideal.div (a : EReal) (b : EReal) = ((a / b : ℝ) : EReal) := by
  rw [Ideal.div_coe h, ← EReal.coe_mul, mul_one_div]

/-- The largest of finitely many real numbers, started at minus infinity, is minus infinity for none of them and otherwise real. -/
theorem fold_max_real {ι : Type} (S : Finset ι) (f : ι → EReal) (r : ι → ℝ) (h : ∀ k, f k = (r k : EReal)) :
    (S = ∅ ∧ S.fold max (⊥ : EReal) f = ⊥) ∨ ∃ M : ℝ, S.fold max (⊥ : EReal) f = (M : EReal) := by
  classical
  induction S using Finset.induction_on with
  | empty => exact Or.inl ⟨rfl, rfl⟩
  | insert a S ha ih =>
    right
    rw [Finset.fold_insert ha, h]
    rcases ih with ⟨_, e⟩ | ⟨M, e⟩
    · exact ⟨r a, by rw [e]; exact max_eq_left bot_le⟩
    · rw [e]
      rcases le_total (r a) M with hl | hl
      · exact ⟨M, max_eq_right (EReal.coe_le_coe_iff.mpr hl)⟩
      · exact ⟨r a, max_eq_left (EReal.coe_le_coe_iff.mpr hl)⟩

/-- The logits are those of the attention, at the chosen columns. -/
theorem logits_apply (q k : FVec Ideal S1x2048x1024 .f32) (idx : IVec S1x2048x32 32) (Q K : Fin 2048 → Fin 1024 → ℝ)
    (hq : ∀ s d, q (ix3 0 s d) = (Q s d : EReal)) (hk : ∀ s d, k (ix3 0 s d) = (K s d : EReal)) (s : Fin 2048)
    (sel : Fin 32 → Fin 2048) (hs : ∀ j, idx (ix3 0 s j) = BitVec.ofNat 32 (sel j).val) (c : Fin 16) (j : Fin 32) :
    logits q k idx (ix4 0 c s j) = (Attend.logit Q K c s (sel j) : EReal) := by
  pointwise [logits]
  rw [Model.ofBits_eight, Attend.dot_coe (A := fun e => Q s ⟨64 * c + e, by omega⟩) (B := fun e => K (sel j) ⟨64 * c + e, by omega⟩)
    (fun e => by rw [hq]; simp only [Nat.mul_comm]) (fun e => by rw [picked_apply k idx s j (sel j) (hs j), hk]),
    div_real _ _ (by norm_num)]
  rfl

/-- The level taken off real logits is real. -/
theorem peak_real (l : FVec Ideal S1x16x2048x32 .f32) (c : Fin 16) (s : Fin 2048) (r : Fin 32 → ℝ)
    (h : ∀ j, l (ix4 0 c s j) = (r j : EReal)) : ∃ M : ℝ, peak l (ix3 0 c s) = (M : EReal) := by
  obtain ⟨he, _⟩ | ⟨M, hM⟩ := fold_max_real Finset.univ (fun j => l (ix4 0 c s j)) r h
  · exact absurd he Finset.univ_nonempty.ne_empty
  refine ⟨M, ?_⟩
  pointwise [peak]
  rw [ofBits_least, hM]
  exact max_eq_right bot_le

/-- The exponential of a logit above the level. -/
theorem raised_apply (l : FVec Ideal S1x16x2048x32 .f32) (p : FVec Ideal S1x16x2048 .f32) (c : Fin 16) (s : Fin 2048) (j : Fin 32)
    (r M : ℝ) (hl : l (ix4 0 c s j) = (r : EReal)) (hp : p (ix3 0 c s) = (M : EReal)) :
    raised l p (ix4 0 c s j) = (Real.exp (r - M) : EReal) := by
  pointwise [raised, spread]
  rw [hl, hp, ← EReal.coe_sub, Ideal.exp_coe]

/-- The softmax weight of an exponential. -/
theorem weights_apply (e : FVec Ideal S1x16x2048x32 .f32) (c : Fin 16) (s : Fin 2048) (j : Fin 32) (r : Fin 32 → ℝ)
    (h : ∀ j, e (ix4 0 c s j) = (Real.exp (r j) : EReal)) :
    weights e (ix4 0 c s j) = (Real.exp (r j) / ∑ i, Real.exp (r i) : ℝ) := by
  pointwise [weights, spread]
  rw [Finset.sum_congr rfl fun i _ => h i, Attend.sum_coe, h, div_real _ _ (Attend.sum_exp_pos r).ne']

/-- The weights of the logits, at a chosen column. -/
theorem softmax_apply (l : FVec Ideal S1x16x2048x32 .f32) (c : Fin 16) (s : Fin 2048) (r : Fin 32 → ℝ)
    (h : ∀ j, l (ix4 0 c s j) = (r j : EReal)) :
    ∃ M : ℝ, ∀ j, weights (raised l (peak l)) (ix4 0 c s j) = (Real.exp (r j - M) / ∑ i, Real.exp (r i - M) : ℝ) := by
  obtain ⟨M, hM⟩ := peak_real l c s r h
  exact ⟨M, fun j => weights_apply _ c s j (fun i => r i - M) fun i => raised_apply l _ c s i (r i) M (h i) hM⟩

/-- The weighted values through the output weights, halved, from the weighted values. -/
theorem mixed_apply (w : FVec Ideal S1x16x2048x32 .f32) (v : FVec Ideal S1x2048x1024 .f32) (idx : IVec S1x2048x32 32)
    (wo : FVec Ideal S1024x1024 .f32) (s : Fin 2048) (n : Fin 1024) (V : Fin 2048 → Fin 1024 → ℝ) (O : Fin 1024 → Fin 1024 → ℝ)
    (hv : ∀ s d, v (ix3 0 s d) = (V s d : EReal)) (ho : ∀ d n, wo (ix2 d n) = (O d n : EReal))
    (sel : Fin 32 → Fin 2048) (hs : ∀ j, idx (ix3 0 s j) = BitVec.ofNat 32 (sel j).val) (r : Fin 16 → Fin 32 → ℝ)
    (h : ∀ c j, w (ix4 0 c s j) = (r c j : EReal)) :
    mixed w v idx wo (ix3 0 s n) = ((∑ d : Fin 1024, (∑ j, r ⟨d / 64, by omega⟩ j * V (sel j) d) * O d n) / 2 : ℝ) := by
  pointwise [mixed, through]
  have e : ∀ d : Fin 1024, (⟨64 * (d.val / 64) + d.val % 64, by omega⟩ : Fin 1024) = d := fun d => Fin.ext (Nat.div_add_mod _ _)
  rw [ofBits_two, Attend.dot_coe (A := fun d => ∑ j, r ⟨d / 64, by omega⟩ j * V (sel j) d) (B := fun d => O d n)
    (fun d => Attend.dot_coe (fun j => h _ j) (fun j => by rw [picked_apply v idx s j (sel j) (hs j), hv, e]))
    (fun d => ho d n), div_real _ _ (by norm_num)]

/-- One sample of the reference at an element: half of each head's average of the chosen values, through the output weights. -/
theorem sample_apply (x : FVec Ideal S1x2048x1024 .f32) (wq wk wv wo : FVec Ideal S1024x1024 .f32) (idx : IVec S1x2048x32 32)
    (Q K V : Fin 2048 → Fin 1024 → ℝ) (O : Fin 1024 → Fin 1024 → ℝ)
    (hq : ∀ s d, ∑ k : Fin 1024, x (ix3 0 s k) * wq (ix2 k d) = (Q s d : EReal))
    (hk : ∀ s d, ∑ k : Fin 1024, x (ix3 0 s k) * wk (ix2 k d) = (K s d : EReal))
    (hv : ∀ s d, ∑ k : Fin 1024, x (ix3 0 s k) * wv (ix2 k d) = (V s d : EReal))
    (ho : ∀ d n, wo (ix2 d n) = (O d n : EReal)) (s : Fin 2048) (n : Fin 1024)
    (sel : Fin 32 → Fin 2048) (hs : ∀ j, idx (ix3 0 s j) = BitVec.ofNat 32 (sel j).val) :
    sample x wq wk wv wo idx (ix3 0 s n)
      = ((∑ d : Fin 1024, Attend.avg (Attend.logit Q K ⟨d / 64, by omega⟩ s) (fun t => V t d) sel * O d n) / 2 : ℝ) := by
  have hl := logits_apply (through x wq) (through x wk) idx Q K (fun s d => (through_apply x wq s d).trans (hq s d))
    (fun s d => (through_apply x wk s d).trans (hk s d)) s sel hs
  choose M hM using fun c => softmax_apply (logits (through x wq) (through x wk) idx) c s _ (hl c)
  refine (mixed_apply _ _ idx wo s n V O (fun s d => (through_apply x wv s d).trans (hv s d)) ho sel hs _ hM).trans ?_
  refine congrArg _ (congrArg (· / 2) (Finset.sum_congr rfl fun d _ => ?_))
  rw [Attend.softmax_avg (Attend.logit Q K ⟨d / 64, by omega⟩ s) (fun t => V t d) sel]

end Cert.Sample

end
-- ==== Proof.Separated.lean ====
/-
  What the precondition says, read at the elements: the input and the square weights are finite, the 33 largest noisy similarities
  of a row are different, and no more than six of the 32 largest lie in columns that agree modulo 128.
-/
module

public import proofs.«01_k».proof.Proof.Uniform
public import Idealize.ShloMosaic.Lib.Tactic

@[expose] public section

noncomputable section

namespace Cert.Separated

open Idealize.ShloMosaic
open Cert.Pre_separated Cert.Pre_separated.Gen Cert.Uniform

/-- Infinity, as the word the precondition compares with. -/
theorem ofBits_inf : Ideal.ofBits .f32 0x7F800000#32 = (⊤ : EReal) := by
  simp [Ideal.ofBits, Ideal.ieee]

/-- A magnitude below infinity belongs to a real number. -/
theorem finite_of (z : EReal) (h : max z (-z) < ⊤) : z = (z.toReal : EReal) := by
  refine (EReal.coe_toReal ?_ ?_).symm
  · rintro rfl; simp at h
  · rintro rfl; simp at h

/-- An extended real whose absolute value is below infinity is a real number. -/
theorem absf_lt (z : EReal) (h : BitVec.ofBool (decide (FloatOps.absf (F := Ideal) (φ := .f32) z < Ideal.ofBits .f32 0x7F800000#32)) = 1#1) :
    z = (z.toReal : EReal) := by
  rw [ofBits_inf] at h
  refine finite_of z ?_
  by_contra hc
  have : decide (FloatOps.absf (F := Ideal) (φ := .f32) z < (⊤ : EReal)) = false := decide_eq_false hc
  rw [this] at h
  exact absurd h (by decide)

/-- The input is finite. -/
theorem finite_x (x : FVec Ideal S1x2048x1024 .f32)
    (h : cmpf .olt (Host.absf x) (broadcastInDim S1x2048x1024 ![] bcast_S_S1x2048x1024 (constant S_ .f32 0x7F800000#32)) = fun _ => 1#1)
    (s : Fin 2048) (d : Fin 1024) : x (ix3 0 s d) = ((x (ix3 0 s d)).toReal : EReal) := by
  have h := congrFun h (ix3 0 s d)
  revert h
  pointwise
  exact absf_lt _

/-- A square weight is finite. -/
theorem finite_w (x : FVec Ideal S1024x1024 .f32)
    (h : cmpf .olt (Host.absf x) (broadcastInDim S1024x1024 ![] bcast_S_S1024x1024 (constant S_ .f32 0x7F800000#32)) = fun _ => 1#1)
    (s d : Fin 1024) : x (ix2 s d) = ((x (ix2 s d)).toReal : EReal) := by
  have h := congrFun h (ix2 s d)
  revert h
  pointwise
  exact absf_lt _

/-- A true comparison is a proof. -/
theorem of_bit {P : Prop} [Decidable P] (h : BitVec.ofBool (decide P) = 1#1) : P := by
  by_contra hc
  rw [decide_eq_false hc] at h
  exact absurd h (by decide)

/-- The values of ranks 0 to 31 against those of ranks 1 to 32. -/
theorem gaps (p : FVec Ideal S1x2048x2048 .f32)
    (h : cmpf .ogt (extractStridedSlice S1x2048x32 ![0, 0, 0] (Host.topK S1x2048x33 2 (FloatOps.cmpfTotal .gt) p sliceFits_S1x2048x2048_S1x2048x33).1 slices_S1x2048x33_S1x2048x32_0_0_0)
      (extractStridedSlice S1x2048x32 ![0, 0, 1] (Host.topK S1x2048x33 2 (FloatOps.cmpfTotal .gt) p sliceFits_S1x2048x2048_S1x2048x33).1 slices_S1x2048x33_S1x2048x32_0_0_1) = fun _ => 1#1)
    (s : Fin 2048) : Order.Sep fun t => p (ix3 0 s t) := by
  intro k
  have h := congrFun h (ix3 0 s k)
  revert h
  generalize hv : (Host.topK S1x2048x33 2 (FloatOps.cmpfTotal .gt) p sliceFits_S1x2048x2048_S1x2048x33).1 = v
  pointwise
  intro h
  have h := of_bit h
  subst hv
  have e (j : Fin 33) := Order.topK_value 33 (by decide) p sliceFits_S1x2048x2048_S1x2048x33 s j
  have a := e ⟨1 + k, by omega⟩
  have b := e ⟨k, by omega⟩
  simp only [Nat.add_comm 1] at h a
  exact lt_of_eq_of_lt a.symm (lt_of_lt_of_eq h b)

/-- Ones and zeros added as words count the ones. -/
theorem fold_bits {ι : Type} (S : Finset ι) (P : ι → Prop) [DecidablePred P] :
    S.fold IntOp.addi (0#32) (fun x => BitVec.setWidth 32 (BitVec.ofBool (decide (P x)))) = BitVec.ofNat 32 (S.filter P).card := by
  classical
  induction S using Finset.induction_on with
  | empty => rfl
  | insert a S ha ih =>
    rw [Finset.fold_insert ha, ih, Finset.filter_insert]
    by_cases hp : P a
    · rw [if_pos hp, Finset.card_insert_of_notMem (by simp [ha]), decide_eq_true hp]
      show 1#32 + _ = _
      rw [Nat.add_comm, ← BitVec.ofNat_add]
    · rw [if_neg hp, decide_eq_false hp]
      show 0#32 + _ = _
      rw [BitVec.zero_add]

/-- For each class of columns modulo 128, whether no more than six reach the value of rank 31. -/
def counts (p : FVec Ideal S1x2048x2048 .f32) (v : FVec Ideal S1x2048x33 .f32) : IVec S1x2048x128 1 :=
  cmpi .sle (Host.reduce IntOp.addi (shapeCast S1x2048x16x128 (extui 32 (cmpf .oge p (broadcastInDim S1x2048x2048 ![0, 1, 2] bcast_S1x2048x1_S1x2048x2048_0_1_2
        (extractStridedSlice S1x2048x1 ![0, 0, 31] v slices_S1x2048x33_S1x2048x1_0_0_31))) natLt_1_32) shapeCasts_S1x2048x2048_S1x2048x16x128)
        (constantI S_ 32 0#32) reducesTo_S1x2048x16x128_S1x2048x128_d2 h_S_)
      (broadcastInDim S1x2048x128 ![] bcast_S_S1x2048x128 (constantI S_ 32 6#32))

/-- No more than six of the columns that agree modulo 128 reach the value of rank 31. -/
theorem count (p : FVec Ideal S1x2048x2048 .f32) (v : FVec Ideal S1x2048x33 .f32)
    (h : counts p v = fun _ => 1#1)
    (s : Fin 2048) (l : Fin 128) :
    (Finset.univ.filter fun c : Fin 16 => v (ix3 0 s 31) ≤ p (ix3 0 s ⟨128 * c + l, by omega⟩)).card ≤ 6 := by
  have h := congrFun h (ix3 0 s l)
  unfold counts at h
  revert h
  pointwise
  rw [fold_bits]
  simp only [Nat.mul_comm _ 128]
  have hc := Finset.card_le_univ (Finset.univ.filter fun c : Fin 16 => v (ix3 0 s 31) ≤ p (ix3 0 s ⟨128 * c + l, by omega⟩))
  rw [Fintype.card_fin] at hc
  revert hc
  generalize (Finset.univ.filter fun c : Fin 16 => v (ix3 0 s 31) ≤ p (ix3 0 s ⟨128 * c + l, by omega⟩)).card = n
  revert n
  have key : ∀ n : Fin 17, IntOp.cmpi .sle (BitVec.ofNat 32 n.val) 6#32 = 1#1 → n.val ≤ 6 := by decide
  exact fun n hn => key ⟨n, by omega⟩

/-- The value of rank 31 is the 32nd largest. -/
theorem rank31 (p : FVec Ideal S1x2048x2048 .f32) (s : Fin 2048) :
    (Host.topK S1x2048x33 2 (FloatOps.cmpfTotal .gt) p sliceFits_S1x2048x2048_S1x2048x33).1 (ix3 0 s 31)
      = Order.cut (fun t => p (ix3 0 s t)) := by
  have h := Order.topK_value 33 (by decide) p sliceFits_S1x2048x2048_S1x2048x33 s 31
  exact h

/-- Sample `i`'s noisy similarities as the precondition computes them. -/
def noisy (u : FVec Ideal S1x2048x2048 .f32) (x : FVec Ideal S1x2048x1024 .f32) (ws : FVec Ideal S1024x64 .f32) :
    FVec Ideal S1x2048x2048 .f32 :=
  addf (Host.divf (Host.dotGeneral dot_S1x2048x64_S1x2048x64_S1x2048x2048_2_2_1_1_0_0 none
      (Host.dotGeneral dot_S1x2048x1024_S1024x64_S1x2048x64_2_0_01_1_n_n none x ws)
      (Host.dotGeneral dot_S1x2048x1024_S1024x64_S1x2048x64_2_0_01_1_n_n none x ws))
      (broadcastInDim S1x2048x2048 ![] bcast_S_S1x2048x2048 (constant S_ .f32 0x41000000#32)))
    (Host.divf (Host.negf (Host.log (Host.negf (Host.log u))))
      (broadcastInDim S1x2048x2048 ![] bcast_S_S1x2048x2048 (constant S_ .f32 0x41000000#32)))

/-- They are the model's. -/
theorem noisy_apply (u : Model.Draws) (i : Fin 2) (v : FVec Ideal S1x2048x2048 .f32) (hv : ∀ s t, v (ix3 0 s t) = u (ix4 i 0 s t))
    (x : FVec Ideal S1x2048x1024 .f32) (ws : FVec Ideal S1024x64 .f32) (s t : Fin 2048) :
    noisy v x ws (ix3 0 s t) = Model.pert x ws u i s t := by
  unfold noisy
  pointwise
  rw [Model.ofBits_eight, Ideal.div_coe (by norm_num), Ideal.div_coe (by norm_num), hv]
  rfl

/-- The counts of sample 0. -/
theorem counts₀ (x : FVec Ideal S1x2048x1024 .f32) (wq wk wv wo : FVec Ideal S1024x1024 .f32) (ws : FVec Ideal S1024x64 .f32) : (fn (F := Ideal) x wq wk wv wo ws).2.2.2.2.2.2.1
      = counts (noisy (draw 0#32) x ws)
        (Host.topK S1x2048x33 2 (FloatOps.cmpfTotal .gt) (noisy (draw 0#32) x ws) sliceFits_S1x2048x2048_S1x2048x33).1 := by
  sl_kernel_rfl

/-- The counts of sample 1. -/
theorem counts₁ (x : FVec Ideal S1x2048x1024 .f32) (wq wk wv wo : FVec Ideal S1024x1024 .f32) (ws : FVec Ideal S1024x64 .f32) : (fn (F := Ideal) x wq wk wv wo ws).2.2.2.2.2.2.2.2
      = counts (noisy (draw 1#32) x ws)
        (Host.topK S1x2048x33 2 (FloatOps.cmpfTotal .gt) (noisy (draw 1#32) x ws) sliceFits_S1x2048x2048_S1x2048x33).1 := by
  sl_kernel_rfl

/-- The precondition, read. -/
theorem good (x : FVec Ideal S1x2048x1024 .f32) (wq wk wv wo : FVec Ideal S1024x1024 .f32) (ws : FVec Ideal S1024x64 .f32)
    (h : (fn (F := Ideal) x wq wk wv wo ws).1 = (fun _ => 1#1)
      ∧ (fn (F := Ideal) x wq wk wv wo ws).2.1 = (fun _ => 1#1)
      ∧ (fn (F := Ideal) x wq wk wv wo ws).2.2.1 = (fun _ => 1#1)
      ∧ (fn (F := Ideal) x wq wk wv wo ws).2.2.2.1 = (fun _ => 1#1)
      ∧ (fn (F := Ideal) x wq wk wv wo ws).2.2.2.2.1 = (fun _ => 1#1)
      ∧ (fn (F := Ideal) x wq wk wv wo ws).2.2.2.2.2.1 = (fun _ => 1#1)
      ∧ (fn (F := Ideal) x wq wk wv wo ws).2.2.2.2.2.2.1 = (fun _ => 1#1)
      ∧ (fn (F := Ideal) x wq wk wv wo ws).2.2.2.2.2.2.2.1 = (fun _ => 1#1)
      ∧ (fn (F := Ideal) x wq wk wv wo ws).2.2.2.2.2.2.2.2 = (fun _ => 1#1)) :
    Model.Good x wq wk wv wo ws draws := by
  obtain ⟨hx, hq, hk, hv, ho, g₀, c₀, g₁, c₁⟩ := h
  have e₀ (s : Fin 2048) : (fun t => noisy (draw 0#32) x ws (ix3 0 s t)) = Model.pert x ws draws 0 s :=
    funext fun t => noisy_apply draws 0 _ draws_first x ws s t
  have e₁ (s : Fin 2048) : (fun t => noisy (draw 1#32) x ws (ix3 0 s t)) = Model.pert x ws draws 1 s :=
    funext fun t => noisy_apply draws 1 _ draws_second x ws s t
  have s₀ := gaps (noisy (draw 0#32) x ws) g₀
  have s₁ := gaps (noisy (draw 1#32) x ws) g₁
  have l₀ := count (noisy (draw 0#32) x ws)
    (Host.topK S1x2048x33 2 (FloatOps.cmpfTotal .gt) (noisy (draw 0#32) x ws) sliceFits_S1x2048x2048_S1x2048x33).1 ((counts₀ x wq wk wv wo ws).symm.trans c₀)
  have l₁ := count (noisy (draw 1#32) x ws)
    (Host.topK S1x2048x33 2 (FloatOps.cmpfTotal .gt) (noisy (draw 1#32) x ws) sliceFits_S1x2048x2048_S1x2048x33).1 ((counts₁ x wq wk wv wo ws).symm.trans c₁)
  have v₀ (s : Fin 2048) := rank31 (noisy (draw 0#32) x ws) s
  have v₁ (s : Fin 2048) := rank31 (noisy (draw 1#32) x ws) s
  refine ⟨finite_x x hx, finite_w wq hq, finite_w wk hk, finite_w wv hv, finite_w wo ho, fun i s => ?_, fun i s l => ?_⟩
  · fin_cases i
    · exact e₀ s ▸ s₀ s
    · exact e₁ s ▸ s₁ s
  · fin_cases i
    · show (Finset.univ.filter fun c : Fin 16 => Order.cut (Model.pert x ws draws 0 s) ≤ Model.pert x ws draws 0 s _).card ≤ 6
      have := l₀ s l
      rw [← e₀ s]
      refine le_of_eq_of_le (congrArg Finset.card (Finset.filter_congr fun c _ => ?_)) this
      exact Iff.of_eq (congrArg (· ≤ _) (v₀ s).symm)
    · show (Finset.univ.filter fun c : Fin 16 => Order.cut (Model.pert x ws draws 1 s) ≤ Model.pert x ws draws 1 s _).card ≤ 6
      have := l₁ s l
      rw [← e₁ s]
      refine le_of_eq_of_le (congrArg Finset.card (Finset.filter_congr fun c _ => ?_)) this
      exact Iff.of_eq (congrArg (· ≤ _) (v₁ s).symm)

end Cert.Separated

end
-- ==== Proof.Reference.lean ====
/-
  The reference's result at an element: the sum of its two samples is the model's answer.
-/
module

public import proofs.«01_k».proof.Proof.Gen.ReferenceIdeal
public import proofs.«01_k».proof.Proof.Sample
public import proofs.«01_k».proof.Proof.Separated

@[expose] public section

noncomputable section

namespace Cert.Reference

open Idealize.ShloMosaic Idealize.SL.Sem
open Cert.ReferenceIdeal Cert.ReferenceIdeal.Gen

/-- The columns of the 32 largest entries of each row. -/
def best (p : FVec Ideal S1x2048x2048 .f32) : IVec S1x2048x32 32 :=
  (Host.topK S1x2048x32 2 (FloatOps.cmpfTotal .gt) p sliceFits_S1x2048x2048_S1x2048x32).2

/-- They are the row's columns in descending order of their entries. -/
theorem best_apply (p : FVec Ideal S1x2048x2048 .f32) (s : Fin 2048) (j : Fin 32) :
    best p (ix3 0 s j) = BitVec.ofNat 32 (Order.ord (fun t => p (ix3 0 s t)) (Order.rank j)).val :=
  Order.topK_index 32 (by decide) p sliceFits_S1x2048x2048_S1x2048x32 s j

/-- Both samples, added. -/
def both (x : FVec Ideal S1x2048x1024 .f32) (wq wk wv wo : FVec Ideal S1024x1024 .f32) (ws : FVec Ideal S1024x64 .f32) : FVec Ideal S1x2048x1024 .f32 :=
  addf (Sample.sample x wq wk wv wo (best (Separated.noisy (Uniform.draw 0#32) x ws)))
    (Sample.sample x wq wk wv wo (best (Separated.noisy (Uniform.draw 1#32) x ws)))

/-- The columns of one sample are the model's. -/
theorem best_noisy (x : FVec Ideal S1x2048x1024 .f32) (ws : FVec Ideal S1024x64 .f32) (u : Model.Draws) (i : Fin 2)
    (v : FVec Ideal S1x2048x2048 .f32) (hv : ∀ s t, v (ix3 0 s t) = u (ix4 i 0 s t)) (s : Fin 2048) (j : Fin 32) :
    best (Separated.noisy v x ws) (ix3 0 s j) = BitVec.ofNat 32 (Model.chosen x ws u i s j).val := by
  have e : (fun t => Separated.noisy v x ws (ix3 0 s t)) = Model.pert x ws u i s :=
    funext fun t => Separated.noisy_apply u i v hv x ws s t
  refine (best_apply (Separated.noisy v x ws) s j).trans ?_
  rw [e]
  rfl

/-- At an element, both samples added are the answer. -/
theorem both_apply (x : FVec Ideal S1x2048x1024 .f32) (wq wk wv wo : FVec Ideal S1024x1024 .f32) (ws : FVec Ideal S1024x64 .f32)
    (good : Model.Good x wq wk wv wo ws Uniform.draws) (s : Fin 2048) (n : Fin 1024) :
    both x wq wk wv wo ws (ix3 0 s n) = (Model.answer x wq wk wv wo ws Uniform.draws s n : EReal) := by
  have h (i : Fin 2) (v : FVec Ideal S1x2048x2048 .f32) (hv : ∀ s t, v (ix3 0 s t) = Uniform.draws (ix4 i 0 s t)) :=
    Sample.sample_apply x wq wk wv wo (best (Separated.noisy v x ws)) (Model.lin x wq) (Model.lin x wk) (Model.lin x wv)
      (fun d n => (wo (ix2 d n)).toReal) (Model.lin_coe x wq good.fx good.fq) (Model.lin_coe x wk good.fx good.fk)
      (Model.lin_coe x wv good.fx good.fv) good.fo s n (Model.chosen x ws Uniform.draws i s) (best_noisy x ws Uniform.draws i v hv s)
  have h₀ := h 0 (Uniform.draw 0#32) Uniform.draws_first
  have h₁ := h 1 (Uniform.draw 1#32) Uniform.draws_second
  unfold Model.answer
  rw [Attend.out_eq_halves, EReal.coe_add, ← h₀, ← h₁]
  rfl

end Cert.Reference

end
-- ==== Proof.Stretches.lean ====
/-
  The reference's operations in short stretches, and what a sample computes in its stretches, stated once for both samples. The calls of the drawing functions are stretches of their own, so
  that what surrounds them is read without going through them.
-/
module

public import proofs.«01_k».proof.Proof.Lines
public import proofs.«01_k».proof.Proof.Reference

@[expose] public section

noncomputable section

namespace Cert.RunReference

open Idealize.ShloMosaic Idealize.ShloMosaic.StableHlo Idealize.SL.Sem
open Cert.ReferenceIdeal Cert.ReferenceIdeal.Gen Cert.Lines

/-- A valuation of the reference's buffers. -/
abbrev Val := Valuation τ sig (Elt Ideal)

/-- The operations from number `i` on, `n` of them. -/
def stretch (i n : Nat) : List (HloOp τ sig (Elt Ideal)) := ((ops (F := Ideal)).drop i).take n

/-- The contents before operation number `i`. -/
def upto (σ : Val) (i : Nat) : Val := after ((ops (F := Ideal)).take i) σ

/-- A list of operations acts as its first part and then the others. -/
theorem after_parts (n : Nat) : ∀ (l : List (HloOp τ sig (Elt Ideal))) (σ : Val), after l σ = after (l.drop n) (after (l.take n) σ) := by
  induction n with
  | zero => intro l σ; rfl
  | succ n ih =>
    intro l σ
    cases l with
    | nil => rfl
    | cons o l => exact ih l (o.result σ)

/-- The contents after a stretch come from those before it. -/
theorem upto_add (σ : Val) (i n : Nat) : upto σ (i + n) = after (stretch i n) (upto σ i) := by
  unfold upto stretch
  rw [after_parts i, List.take_take, List.drop_take, Nat.min_eq_left (Nat.le_add_right i n), Nat.add_sub_cancel_left]

/-- Whether no operation of a list writes any of these buffers. -/
def spared (l : List (HloOp τ sig (Elt Ideal))) (R : List (Ref sig .tc)) : Bool :=
  l.all fun op => R.all fun r => decide (Proc.devRef (τ := τ) .tc r ∉ op.writes)

/-- A buffer that no operation writes keeps its contents. -/
theorem after_spared {l : List (HloOp τ sig (Elt Ideal))} {R : List (Ref sig .tc)} (h : spared l R = true) {r : Ref sig .tc} (hr : r ∈ R)
    (σ : Val) : after l σ (Proc.devRef .tc r) = σ (Proc.devRef .tc r) :=
  after_of_forall_not_mem l σ fun op ho => of_decide_eq_true (List.all_eq_true.mp (List.all_eq_true.mp h op ho) r hr)

/-- A buffer that no operation of a stretch writes is after it what it was before. -/
theorem kept (σ : Val) (i n : Nat) (r : Ref sig .tc) (h : spared (stretch i n) [r] = true) :
    upto σ (i + n) (Proc.devRef .tc r) = upto σ i (Proc.devRef .tc r) :=
  (congrFun (upto_add σ i n) _).trans (after_spared h List.mem_cons_self _)

/-- The arguments. -/
def inputs : List (Ref sig .tc) := [main_arg0, main_arg1, main_arg2, main_arg3, main_arg4, main_arg5]

/-- No operation writes an argument. -/
theorem inputs_spared : spared (ops (F := Ideal)) inputs = true := by sl_kernel_rfl

/-- An argument is as it was, at the end. -/
theorem input_end (σ : Val) (r : Ref sig .tc) (hr : r ∈ inputs) : after (ops (F := Ideal)) σ (Proc.devRef .tc r) = σ (Proc.devRef .tc r) :=
  after_spared inputs_spared hr σ

/-- And before any operation. -/
theorem input_upto (σ : Val) (i : Nat) (r : Ref sig .tc) (hr : r ∈ inputs) : upto σ i (Proc.devRef .tc r) = σ (Proc.devRef .tc r) :=
  after_of_forall_not_mem _ σ fun op ho =>
    of_decide_eq_true (List.all_eq_true.mp (List.all_eq_true.mp inputs_spared op (List.mem_of_mem_take ho)) r hr)

section Parts

/-- The similarities before the noise. -/
def scores (x : FVec Ideal S1x2048x1024 .f32) (ws : FVec Ideal S1024x64 .f32) : FVec Ideal S1x2048x2048 .f32 :=
  Host.divf (Host.dotGeneral dot_S1x2048x64_S1x2048x64_S1x2048x2048_2_2_1_1_0_0 none
      (Host.dotGeneral dot_S1x2048x1024_S1024x64_S1x2048x64_2_0_01_1_n_n none x ws)
      (Host.dotGeneral dot_S1x2048x1024_S1024x64_S1x2048x64_2_0_01_1_n_n none x ws))
    (broadcastInDim S1x2048x2048 ![] bcast_S_S1x2048x2048 (constant S_ .f32 0x41000000#32))

/-- The noise made of the draws, added. -/
def stirred (a u : FVec Ideal S1x2048x2048 .f32) : FVec Ideal S1x2048x2048 .f32 :=
  addf a (Host.divf (Host.negf (Host.log (Host.negf (Host.log u))))
    (broadcastInDim S1x2048x2048 ![] bcast_S_S1x2048x2048 (constant S_ .f32 0x41000000#32)))

/-- Together they are the noisy similarities. -/
theorem stirred_scores (x : FVec Ideal S1x2048x1024 .f32) (ws : FVec Ideal S1024x64 .f32) (u : FVec Ideal S1x2048x2048 .f32) :
    stirred (scores x ws) u = Separated.noisy u x ws := by sl_kernel_rfl

/-- Rows split into heads. -/
def split (q : FVec Ideal S1x2048x1024 .f32) : FVec Ideal S1x2048x16x64 .f32 := shapeCast S1x2048x16x64 q shapeCasts_S1x2048x1024_S1x2048x16x64

/-- Split queries against picked keys. -/
def crossed (q : FVec Ideal S1x2048x16x64 .f32) (k : FVec Ideal S1x2048x32x16x64 .f32) : FVec Ideal S1x16x2048x32 .f32 :=
  Host.divf (Host.dotGeneral dot_S1x2048x16x64_S1x2048x32x16x64_S1x16x2048x32_3_4_n_2_021_031 none q k)
    (broadcastInDim S1x16x2048x32 ![] bcast_S_S1x16x2048x32 (constant S_ .f32 0x41000000#32))

/-- Picked values weighted, through the output weights, halved. -/
def blended (w : FVec Ideal S1x16x2048x32 .f32) (v : FVec Ideal S1x2048x32x16x64 .f32) (wo : FVec Ideal S1024x1024 .f32) :
    FVec Ideal S1x2048x1024 .f32 :=
  Host.divf (Sample.through (shapeCast S1x2048x1024 (Host.dotGeneral dot_S1x16x2048x32_S1x2048x32x16x64_S1x2048x16x64_3_2_n_4_021_013 none
      w v) shapeCasts_S1x2048x16x64_S1x2048x1024) wo)
    (broadcastInDim S1x2048x1024 ![] bcast_S_S1x2048x1024 (constant S_ .f32 0x40000000#32))

/-- The parts of a sample, put together. -/
theorem assemble {x : FVec Ideal S1x2048x1024 .f32} {wq wk wv wo : FVec Ideal S1024x1024 .f32} {idx : IVec S1x2048x32 32}
    {q : FVec Ideal S1x2048x16x64 .f32} {k v : FVec Ideal S1x2048x32x16x64 .f32} {l e w : FVec Ideal S1x16x2048x32 .f32}
    {p : FVec Ideal S1x16x2048 .f32} {o : FVec Ideal S1x2048x1024 .f32} (hq : q = split (Sample.through x wq))
    (hk : k = Sample.picked (Sample.through x wk) idx) (hv : v = Sample.picked (Sample.through x wv) idx) (hl : l = crossed q k)
    (hp : p = Sample.peak l) (he : e = Sample.raised l p) (hw : w = Sample.weights e) (ho : o = blended w v wo) :
    o = Sample.sample x wq wk wv wo idx := by
  subst hq hk hv hl hp he hw ho
  rfl

end Parts

/-- One sample in the operations from number `j` on: where its values lie, and what each stretch makes of what lies there before it. -/
structure Sampling (j : Nat) where
  /-- The key. -/
  key : Val → IVec S2 32
  /-- The sample's number. -/
  number : Val → IVec S_ 32
  /-- The sample's own key. -/
  own : Val → IVec S2 32
  /-- The lower bound of the draws. -/
  low : Val → FVec Ideal S_ .f32
  /-- The upper bound of the draws. -/
  high : Val → FVec Ideal S_ .f32
  /-- The similarities. -/
  sim : Val → FVec Ideal S1x2048x2048 .f32
  /-- The draws. -/
  draw : Val → FVec Ideal S1x2048x2048 .f32
  /-- The chosen columns. -/
  idx : Val → IVec S1x2048x32 32
  /-- The queries, split. -/
  q : Val → FVec Ideal S1x2048x16x64 .f32
  /-- The keys. -/
  k : Val → FVec Ideal S1x2048x1024 .f32
  /-- The values. -/
  v : Val → FVec Ideal S1x2048x1024 .f32
  /-- The picked keys. -/
  pk : Val → FVec Ideal S1x2048x32x16x64 .f32
  /-- The picked values. -/
  pv : Val → FVec Ideal S1x2048x32x16x64 .f32
  /-- The logits. -/
  l : Val → FVec Ideal S1x16x2048x32 .f32
  /-- The largest logits. -/
  p : Val → FVec Ideal S1x16x2048 .f32
  /-- The exponentials. -/
  e : Val → FVec Ideal S1x16x2048x32 .f32
  /-- The softmax weights. -/
  w : Val → FVec Ideal S1x16x2048x32 .f32
  /-- The sample. -/
  out : Val → FVec Ideal S1x2048x1024 .f32
  /-- The first call folds the number in. -/
  own_is : ∀ V, own (after (stretch j 236) V) = Cert.Pre_separated.fn_threefry_fold_in (F := Ideal) (key V) (number V)
  /-- The similarities are computed. -/
  sim_is : ∀ V, sim (after (stretch (j + 236) 7) V) = scores (V (Proc.devRef .tc main_arg0)) (V (Proc.devRef .tc main_arg5))
  /-- The lower bound is set. -/
  low_is : ∀ V, low (after (stretch (j + 236) 7) V) = constant S_ .f32 0x358637BD#32
  /-- The upper bound is set. -/
  high_is : ∀ V, high (after (stretch (j + 236) 7) V) = constant S_ .f32 0x3F7FFFEF#32
  /-- Meanwhile the key stays. -/
  own_stays : ∀ V, own (after (stretch (j + 236) 7) V) = own V
  /-- The second call draws. -/
  draw_is : ∀ V, draw (after (stretch (j + 243) 267) V) = Cert.Pre_separated.fn_uniform (F := Ideal) (own V) (low V) (high V)
  /-- Meanwhile the similarities stay. -/
  sim_stays : ∀ V, sim (after (stretch (j + 243) 267) V) = sim V
  /-- The columns are chosen. -/
  idx_is : ∀ V, idx (after (stretch (j + 510) 10) V) = Reference.best (stirred (sim V) (draw V))
  /-- The queries are computed. -/
  q_is : ∀ V, q (after (stretch (j + 520) 4) V) = split (Sample.through (V (Proc.devRef .tc main_arg0)) (V (Proc.devRef .tc main_arg1)))
  /-- The keys are computed. -/
  k_is : ∀ V, k (after (stretch (j + 520) 4) V) = Sample.through (V (Proc.devRef .tc main_arg0)) (V (Proc.devRef .tc main_arg2))
  /-- The values are computed. -/
  v_is : ∀ V, v (after (stretch (j + 520) 4) V) = Sample.through (V (Proc.devRef .tc main_arg0)) (V (Proc.devRef .tc main_arg3))
  /-- Meanwhile the columns stay. -/
  idx_stays : ∀ V, idx (after (stretch (j + 520) 4) V) = idx V
  /-- The keys are picked. -/
  pk_is : ∀ V, pk (after (stretch (j + 524) 10) V) = Sample.picked (k V) (idx V)
  /-- Meanwhile the columns stay. -/
  idx_stays' : ∀ V, idx (after (stretch (j + 524) 10) V) = idx V
  /-- And the values. -/
  v_stays : ∀ V, v (after (stretch (j + 524) 10) V) = v V
  /-- And the queries. -/
  q_stays : ∀ V, q (after (stretch (j + 524) 20) V) = q V
  /-- The values are picked. -/
  pv_is : ∀ V, pv (after (stretch (j + 534) 10) V) = Sample.picked (v V) (idx V)
  /-- Meanwhile the picked keys stay. -/
  pk_stays : ∀ V, pk (after (stretch (j + 534) 10) V) = pk V
  /-- The logits are computed. -/
  l_is : ∀ V, l (after (stretch (j + 544) 4) V) = crossed (q V) (pk V)
  /-- The largest are found. -/
  p_is : ∀ V, p (after (stretch (j + 548) 5) V) = Sample.peak (l V)
  /-- Meanwhile the logits stay. -/
  l_stays : ∀ V, l (after (stretch (j + 548) 5) V) = l V
  /-- The exponentials are taken. -/
  e_is : ∀ V, e (after (stretch (j + 553) 4) V) = Sample.raised (l V) (p V)
  /-- The weights are computed. -/
  w_is : ∀ V, w (after (stretch (j + 557) 5) V) = Sample.weights (e V)
  /-- Meanwhile the picked values stay. -/
  pv_stays : ∀ V, pv (after (stretch (j + 544) 18) V) = pv V
  /-- The sample is put together. -/
  out_is : ∀ V, out (after (stretch (j + 562) 6) V) = blended (w V) (pv V) (V (Proc.devRef .tc main_arg4))

/-- What a stretch leaves in a place. -/
theorem step {α : Type} {g f : Val → α} {i n : Nat} (h : ∀ V, g (after (stretch i n) V) = f V) (σ : Val) : g (upto σ (i + n)) = f (upto σ i) :=
  (congrArg g (upto_add σ i n)).trans (h _)

namespace Sampling

variable {j : Nat} (P : Sampling j) (σ : Val) {n : BitVec 32} (hk : P.key (upto σ j) = Uniform.seed)
  (hn : P.number (upto σ j) = constantI S_ 32 n)

include hk hn

/-- The draws are the sample's. -/
theorem drawn : P.draw (upto σ (j + 510)) = Uniform.draw n := by
  refine (step P.draw_is σ).trans ?_
  unfold Uniform.draw
  have ho : P.own (upto σ (j + 243)) = Cert.Pre_separated.fn_threefry_fold_in (F := Ideal) Uniform.seed (constantI S_ 32 n) :=
    (step P.own_stays σ).trans ((step P.own_is σ).trans (congrArg₂ (Cert.Pre_separated.fn_threefry_fold_in (F := Ideal)) hk hn))
  exact congr (congr (congrArg (Cert.Pre_separated.fn_uniform (F := Ideal)) ho) (step P.low_is σ)) (step P.high_is σ)

/-- The chosen columns are those of the largest noisy similarities. -/
theorem chosen : P.idx (upto σ (j + 520))
    = Reference.best (Separated.noisy (Uniform.draw n) (σ (Proc.devRef .tc main_arg0)) (σ (Proc.devRef .tc main_arg5))) := by
  refine (step P.idx_is σ).trans (congrArg Reference.best ((congrArg₂ stirred ?_ (drawn P σ hk hn)).trans (stirred_scores _ _ _)))
  exact (step P.sim_stays σ).trans ((step P.sim_is σ).trans
    (congrArg₂ scores (input_upto σ _ main_arg0 (by decide)) (input_upto σ _ main_arg5 (by decide))))

/-- The sample is the reference's sample of the arguments. -/
theorem sampled : P.out (upto σ (j + 568))
    = Sample.sample (F := Ideal) (σ (Proc.devRef .tc main_arg0)) (σ (Proc.devRef .tc main_arg1)) (σ (Proc.devRef .tc main_arg2))
      (σ (Proc.devRef .tc main_arg3)) (σ (Proc.devRef .tc main_arg4))
      (Reference.best (Separated.noisy (Uniform.draw n) (σ (Proc.devRef .tc main_arg0)) (σ (Proc.devRef .tc main_arg5)))) := by
  have hx := input_upto σ (j + 520) main_arg0 (by decide)
  have hi := (step P.idx_stays σ).trans (chosen P σ hk hn)
  refine assemble
    ((step P.q_is σ).trans (congrArg split (congrArg₂ (Sample.through (F := Ideal)) hx (input_upto σ _ main_arg1 (by decide)))))
    ((step P.pk_is σ).trans (congrArg₂ (Sample.picked (F := Ideal))
      ((step P.k_is σ).trans (congrArg₂ (Sample.through (F := Ideal)) hx (input_upto σ _ main_arg2 (by decide)))) hi))
    ((step P.pv_is σ).trans (congrArg₂ (Sample.picked (F := Ideal)) ((step P.v_stays σ).trans ((step P.v_is σ).trans
      (congrArg₂ (Sample.through (F := Ideal)) hx (input_upto σ _ main_arg3 (by decide))))) ((step P.idx_stays' σ).trans hi)))
    ((step P.l_is σ).trans (congrArg₂ crossed (step P.q_stays σ) (step P.pk_stays σ)))
    (step P.p_is σ)
    ((step P.e_is σ).trans (congrArg (fun l => Sample.raised (F := Ideal) l (P.p (upto σ (j + 553)))) (step P.l_stays σ)))
    (step P.w_is σ)
    ((step P.out_is σ).trans (congrArg₂ (blended (P.w (upto σ (j + 562)))) (step P.pv_stays σ) (input_upto σ _ main_arg4 (by decide))))

end Sampling

end Cert.RunReference

end
-- ==== Proof.RunReference.lean ====
/-
  The reference's run: where its two samples lie, the result at the end, and the arguments as they were.
-/
module

public import proofs.«01_k».proof.Proof.Stretches

@[expose] public section

noncomputable section

namespace Cert.RunReference

open Idealize.ShloMosaic Idealize.ShloMosaic.StableHlo Idealize.SL.Sem
open Cert.ReferenceIdeal Cert.ReferenceIdeal.Gen Cert.Lines

/-- Where the first sample is computed. -/
def first : Sampling 11 where
  key V := V (Proc.devRef .tc main_v6)
  number V := V (Proc.devRef .tc main_c_2)
  own V := V (Proc.devRef .tc main_v7)
  low V := V (Proc.devRef .tc main_cst_3)
  high V := V (Proc.devRef .tc main_cst_4)
  sim V := V (Proc.devRef .tc main_v11)
  draw V := V (Proc.devRef .tc main_v12)
  idx V := V (Proc.devRef .tc main_indices)
  q V := V (Proc.devRef .tc main_v21)
  k V := V (Proc.devRef .tc main_v22)
  v V := V (Proc.devRef .tc main_v23)
  pk V := V (Proc.devRef .tc main_v31)
  pv V := V (Proc.devRef .tc main_v39)
  l V := V (Proc.devRef .tc main_v42)
  p V := V (Proc.devRef .tc main_v45)
  e V := V (Proc.devRef .tc main_v49)
  w V := V (Proc.devRef .tc main_v53)
  out V := V (Proc.devRef .tc main_v58)
  own_is _ := by sl_kernel_rfl
  sim_is _ := by sl_kernel_rfl
  low_is _ := by sl_kernel_rfl
  high_is _ := by sl_kernel_rfl
  own_stays _ := by sl_kernel_rfl
  draw_is _ := by sl_kernel_rfl
  sim_stays _ := by sl_kernel_rfl
  idx_is _ := by sl_kernel_rfl
  q_is _ := by sl_kernel_rfl
  k_is _ := by sl_kernel_rfl
  v_is _ := by sl_kernel_rfl
  idx_stays _ := by sl_kernel_rfl
  pk_is _ := by sl_kernel_rfl
  idx_stays' _ := by sl_kernel_rfl
  v_stays _ := by sl_kernel_rfl
  q_stays _ := by sl_kernel_rfl
  pv_is _ := by sl_kernel_rfl
  pk_stays _ := by sl_kernel_rfl
  l_is _ := by sl_kernel_rfl
  p_is _ := by sl_kernel_rfl
  l_stays _ := by sl_kernel_rfl
  e_is _ := by sl_kernel_rfl
  w_is _ := by sl_kernel_rfl
  pv_stays _ := by sl_kernel_rfl
  out_is _ := by sl_kernel_rfl

/-- Where the second sample is computed. -/
def second : Sampling 580 where
  key V := V (Proc.devRef .tc main_v6)
  number V := V (Proc.devRef .tc main_c_15)
  own V := V (Proc.devRef .tc main_v59)
  low V := V (Proc.devRef .tc main_cst_17)
  high V := V (Proc.devRef .tc main_cst_18)
  sim V := V (Proc.devRef .tc main_v63)
  draw V := V (Proc.devRef .tc main_v64)
  idx V := V (Proc.devRef .tc main_indices_21)
  q V := V (Proc.devRef .tc main_v73)
  k V := V (Proc.devRef .tc main_v74)
  v V := V (Proc.devRef .tc main_v75)
  pk V := V (Proc.devRef .tc main_v83)
  pv V := V (Proc.devRef .tc main_v91)
  l V := V (Proc.devRef .tc main_v94)
  p V := V (Proc.devRef .tc main_v97)
  e V := V (Proc.devRef .tc main_v101)
  w V := V (Proc.devRef .tc main_v105)
  out V := V (Proc.devRef .tc main_v110)
  own_is _ := by sl_kernel_rfl
  sim_is _ := by sl_kernel_rfl
  low_is _ := by sl_kernel_rfl
  high_is _ := by sl_kernel_rfl
  own_stays _ := by sl_kernel_rfl
  draw_is _ := by sl_kernel_rfl
  sim_stays _ := by sl_kernel_rfl
  idx_is _ := by sl_kernel_rfl
  q_is _ := by sl_kernel_rfl
  k_is _ := by sl_kernel_rfl
  v_is _ := by sl_kernel_rfl
  idx_stays _ := by sl_kernel_rfl
  pk_is _ := by sl_kernel_rfl
  idx_stays' _ := by sl_kernel_rfl
  v_stays _ := by sl_kernel_rfl
  q_stays _ := by sl_kernel_rfl
  pv_is _ := by sl_kernel_rfl
  pk_stays _ := by sl_kernel_rfl
  l_is _ := by sl_kernel_rfl
  p_is _ := by sl_kernel_rfl
  l_stays _ := by sl_kernel_rfl
  e_is _ := by sl_kernel_rfl
  w_is _ := by sl_kernel_rfl
  pv_stays _ := by sl_kernel_rfl
  out_is _ := by sl_kernel_rfl

section Samples

variable (σ : Val)

/-- The key, before the first sample. -/
theorem key_first : first.key (upto σ 11) = Uniform.seed := by
  have h : ∀ V : Val, first.key (after (stretch 0 11) V) = Uniform.seed := fun V => by sl_kernel_rfl
  exact step (f := fun _ => Uniform.seed) h σ

/-- The first sample's number. -/
theorem number_first : first.number (upto σ 11) = constantI S_ 32 0#32 := by
  have h : ∀ V : Val, first.number (after (stretch 0 11) V) = constantI S_ 32 0#32 := fun V => by sl_kernel_rfl
  exact step (f := fun _ => constantI S_ 32 0#32) h σ

/-- The key is still there before the second. -/
theorem key_second : second.key (upto σ 580) = Uniform.seed := by
  have h : ∀ V : Val, second.key (after (stretch 11 569) V) = first.key V := fun V => by sl_kernel_rfl
  exact (step (f := first.key) h σ).trans (key_first σ)

/-- The second sample's number. -/
theorem number_second : second.number (upto σ 580) = constantI S_ 32 1#32 := by
  have h : ∀ V : Val, second.number (after (stretch 579 1) V) = constantI S_ 32 1#32 := fun V => by sl_kernel_rfl
  exact step (f := fun _ => constantI S_ 32 1#32) h σ

/-- The result is both samples, added. -/
theorem result_eq : after (ops (F := Ideal)) σ (Proc.devRef .tc main_v111)
    = Reference.both (σ (Proc.devRef .tc main_arg0)) (σ (Proc.devRef .tc main_arg1)) (σ (Proc.devRef .tc main_arg2))
      (σ (Proc.devRef .tc main_arg3)) (σ (Proc.devRef .tc main_arg4)) (σ (Proc.devRef .tc main_arg5)) := by
  have last : ∀ V : Val, after ((ops (F := Ideal)).drop 1148) V (Proc.devRef .tc main_v111)
      = addf (F := Ideal) (s := S1x2048x1024) (φ := .f32) (V (Proc.devRef .tc main_v58)) (V (Proc.devRef .tc main_v110)) := fun V => by
    sl_kernel_rfl
  refine (congrFun (after_parts 1148 (ops (F := Ideal)) σ) _).trans ((last (upto σ 1148)).trans ?_)
  exact congrArg₂ (addf (F := Ideal) (s := S1x2048x1024) (φ := .f32))
    ((kept σ 579 569 main_v58 (by sl_kernel_rfl)).trans (first.sampled σ (key_first σ) (number_first σ)))
    (second.sampled σ (key_second σ) (number_second σ))

end Samples

/-- The same operations run on every device. -/
theorem main_is (d : Dev nD) : Line (main (F := Ideal) d) (ops (F := Ideal)) := (inferInstance : Lined (main (F := Ideal) 0)).line

/-- The reference runs without fault to the sum of its two samples, its arguments as they were. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v111)
        = Reference.both (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
      ∧ ∀ a ∈ inputs, r.2.mem ((c.tc : Thread nD τ).loc a) = m ((c.tc : Thread nD τ).loc a) := by
  refine (θ_run (defs (F := Ideal)) _ _).mono (fun r h c => ⟨(h c main_v111).trans (result_eq _), fun a ha => (h c a).trans (input_end _ a ha)⟩)
    (run_hlo (defs (F := Ideal)) (main (F := Ideal)) (ops := ops (F := Ideal)) (fun d => (main_is d).is) (by decide) (by decide)
      (List.forall_iff_forall_mem.mpr (main_is 0).bufs) (main_is 0).fresh m ρ)

end Cert.RunReference

end
-- ==== Proof.lean ====
/-
  The claims. The kernel (as printed, and read over the extended reals) and the reference run without fault and leave their arguments
  as they were; the ideal kernel is the kernel's own text; and where the input and the square weights are finite, the 33 largest noisy
  similarities of every row are different and no more than six of the 32 largest lie in columns that agree modulo 128, the kernel's
  result is the reference's, element by element.

  The mathematics is in Proof/: `Order`, `Net`, `Select` (the selection of the 32 largest), `Attend` (the attention over the reals),
  `Model` (the answer), `Uniform` (the draws), `Block`, `Scores`, `Heads` (one grid step of the second launch), `Entry` (what the launches
  are given), `Arrays` (the result array), `RunKernel` (the kernel's run), `Separated` (the precondition), `Sample`, `Reference` (the
  reference's result), `Lines`, `Stretches`, `RunReference` (the reference's run).
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_separated
public import proofs.«01_k».proof.Proof.RunKernel
public import proofs.«01_k».proof.Proof.RunReference
public import Idealize.ShloMosaic.Adequacy
public import Idealize.ShloMosaic.Init

@[expose] public section

noncomputable section

namespace Cert.Proof

open Idealize.ShloMosaic Idealize.SL.Sem

/-- The facts that the kernel's operations state. -/
local instance : Cert.Kernel.Facts := Cert.Kernel.Gen.facts
/-- The facts that the ideal kernel's operations state. -/
local instance : Cert.KernelIdeal.Facts := Cert.KernelIdeal.Gen.facts
/-- The facts that the reference's operations state. -/
local instance : Cert.ReferenceIdeal.Facts := Cert.ReferenceIdeal.Gen.facts
/-- The facts that the precondition's operations state. -/
local instance : Cert.Pre_separated.Facts := Cert.Pre_separated.Gen.facts

/-- The kernel ends without fault, its arguments as they were and its semaphores at zero. -/
theorem kernel_ends : Cert.quiescent_Kernel := fun m ρ _ => Cert.Kernel.Gen.frame m ρ

/-- So does the kernel over the extended reals. -/
theorem ideal_ends : Cert.quiescent_KernelIdeal := fun m ρ _ => Cert.KernelIdeal.Gen.frame m ρ

/-- The reference's arguments, one by one. -/
theorem arguments_kept (m m' : (ℓ : Loc Cert.ReferenceIdeal.nD Cert.ReferenceIdeal.τ Cert.ReferenceIdeal.sig) → Buf (Elt Ideal) ℓ)
    (c : Dev Cert.ReferenceIdeal.nD)
    (h : ∀ a ∈ RunReference.inputs, m' ((c.tc : Thread Cert.ReferenceIdeal.nD Cert.ReferenceIdeal.τ).loc a)
      = m ((c.tc : Thread Cert.ReferenceIdeal.nD Cert.ReferenceIdeal.τ).loc a)) :
    let same (a : Ref Cert.ReferenceIdeal.sig .tc) : Prop := m' ((c.tc : Thread Cert.ReferenceIdeal.nD Cert.ReferenceIdeal.τ).loc a)
      = m ((c.tc : Thread Cert.ReferenceIdeal.nD Cert.ReferenceIdeal.τ).loc a)
    same Cert.ReferenceIdeal.main_arg0 ∧ same Cert.ReferenceIdeal.main_arg1 ∧ same Cert.ReferenceIdeal.main_arg2
      ∧ same Cert.ReferenceIdeal.main_arg3 ∧ same Cert.ReferenceIdeal.main_arg4 ∧ same Cert.ReferenceIdeal.main_arg5 :=
  ⟨h _ (by decide), h _ (by decide), h _ (by decide), h _ (by decide), h _ (by decide), h _ (by decide)⟩

/-- So does the reference, which declares no semaphore. -/
theorem reference_ends : Cert.quiescent_ReferenceIdeal := fun m ρ _ =>
  (θ_run Cert.ReferenceIdeal.defs _ _).mono (fun r h => ⟨fun c => arguments_kept m r.2.mem c (h c).2, sem_eq_zero_of_no_sems (by decide) r.2⟩)
    (RunReference.run m ρ)

/-- From memories that agree on the arguments, under the precondition, the reference's result is the kernel's. -/
theorem results_agree (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (good : Model.Good (Entry.argX m c) (Entry.argQ m c) (Entry.argK m c) (Entry.argV m c) (Entry.argO m c) (Entry.argS m c)
      Uniform.draws) :
    Reference.both (Entry.argX m c) (Entry.argQ m c) (Entry.argK m c) (Entry.argV m c) (Entry.argO m c) (Entry.argS m c)
      = Cert.KernelIdeal.Gen.W12 m ρ c (Proc.devRef .tc Cert.KernelIdeal.main_v32) := by
  funext i
  have e : i = ix3 0 (i 1) (i 2) := by
    funext a; refine Fin.ext ?_
    match a with
    | ⟨0, h⟩ => exact Nat.lt_one_iff.mp (i ⟨0, h⟩).isLt
    | ⟨1, _⟩ => rfl
    | ⟨2, _⟩ => rfl
  rw [e]
  exact (Reference.both_apply _ _ _ _ _ _ good (i 1) (i 2)).trans
    ((RunKernel.result_read m ρ c (i 1) (i 2)).trans (Arrays.answer_arr m ρ c good (i 1) (i 2))).symm

/-- The value claim: the kernel's result is the reference's. -/
theorem value : Cert.algebraic_KernelIdeal_ReferenceIdeal_pre_separated := by
  intro m ρ m' ρ' hpre hargs
  refine ⟨fun c => Cert.KernelIdeal.Gen.W12 m ρ c (Proc.devRef .tc Cert.KernelIdeal.main_v32), RunKernel.ends m ρ,
    (θ_run Cert.ReferenceIdeal.defs _ _).mono (fun r h c => ⟨(h c).1.trans ?_, arguments_kept m' r.2.mem c (h c).2⟩)
      (RunReference.run m' ρ')⟩
  obtain ⟨h0, h1, h2, h3, h4, h5⟩ := hargs c
  rw [h0, h1, h2, h3, h4, h5]
  exact results_agree m ρ c (Separated.good _ _ _ _ _ _ (hpre c))

/-- Every claim. -/
theorem claim : Cert.Claim :=
  ⟨Cert.Kernel.Gen.facts, Cert.KernelIdeal.Gen.facts, Cert.ReferenceIdeal.Gen.facts, Cert.Pre_separated.Gen.facts,
    kernel_ends, ideal_ends, fun m ρ _ => ideal_ends m ρ trivial, reference_ends, fun m ρ _ => reference_ends m ρ trivial,
    trivial, value⟩

end Cert.Proof

end
